-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v666) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S1x1024x7184 : Shape := ⟨3, ![1, 1024, 7184]⟩
abbrev S1x7184 : Shape := ⟨2, ![1, 7184]⟩
abbrev S1x31x1024 : Shape := ⟨3, ![1, 31, 1024]⟩
abbrev S1x1024 : Shape := ⟨2, ![1, 1024]⟩
abbrev S1x1024x1024 : Shape := ⟨3, ![1, 1024, 1024]⟩
abbrev S1x16x512 : Shape := ⟨3, ![1, 16, 512]⟩
abbrev S1x512 : Shape := ⟨2, ![1, 512]⟩
abbrev S1x4x256 : Shape := ⟨3, ![1, 4, 256]⟩
abbrev S1024x7184 : Shape := ⟨2, ![1024, 7184]⟩
abbrev S7184 : Shape := ⟨1, ![7184]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S16x512 : Shape := ⟨2, ![16, 512]⟩
abbrev S128x512 : Shape := ⟨2, ![128, 512]⟩
abbrev S512x128 : Shape := ⟨2, ![512, 128]⟩
abbrev S1024x2048 : Shape := ⟨2, ![1024, 2048]⟩
abbrev S2048 : Shape := ⟨1, ![2048]⟩
abbrev S1x2048 : Shape := ⟨2, ![1, 2048]⟩
abbrev S1x128 : Shape := ⟨2, ![1, 128]⟩
abbrev S31x1024 : Shape := ⟨2, ![31, 1024]⟩
abbrev S32x1024 : Shape := ⟨2, ![32, 1024]⟩
abbrev S32x8x128 : Shape := ⟨3, ![32, 8, 128]⟩
abbrev S8x32x128 : Shape := ⟨3, ![8, 32, 128]⟩
abbrev S1024 : Shape := ⟨1, ![1024]⟩
abbrev S1024x1024 : Shape := ⟨2, ![1024, 1024]⟩
abbrev S4x256 : Shape := ⟨2, ![4, 256]⟩
abbrev S16384x1024 : Shape := ⟨2, ![16384, 1024]⟩
abbrev S8x544x128 : Shape := ⟨3, ![8, 544, 128]⟩
abbrev S8x512x128 : Shape := ⟨3, ![8, 512, 128]⟩
abbrev S4x128x256 : Shape := ⟨3, ![4, 128, 256]⟩
abbrev S512x2560 : Shape := ⟨2, ![512, 2560]⟩
abbrev S32x128x256 : Shape := ⟨3, ![32, 128, 256]⟩
abbrev S512x2048 : Shape := ⟨2, ![512, 2048]⟩
abbrev S1x512x128 : Shape := ⟨3, ![1, 512, 128]⟩
abbrev S1x64x128 : Shape := ⟨3, ![1, 64, 128]⟩
abbrev S64x128 : Shape := ⟨2, ![64, 128]⟩
abbrev S1x1x128 : Shape := ⟨3, ![1, 1, 128]⟩
abbrev S256x256 : Shape := ⟨2, ![256, 256]⟩
abbrev S512x256 : Shape := ⟨2, ![512, 256]⟩
abbrev S128x128 : Shape := ⟨2, ![128, 128]⟩
abbrev S128x256 : Shape := ⟨2, ![128, 256]⟩
abbrev S1x128x256 : Shape := ⟨3, ![1, 128, 256]⟩
abbrev S128x1 : Shape := ⟨2, ![128, 1]⟩
abbrev S64x256 : Shape := ⟨2, ![64, 256]⟩
abbrev S64 : Shape := ⟨1, ![64]⟩
abbrev S64x1 : Shape := ⟨2, ![64, 1]⟩
abbrev S1x256 : Shape := ⟨2, ![1, 256]⟩

abbrev nBuf : Space → Nat
  | .hbm => 89
  | .vmem => 41
  | .smem => 0
  | _ => 0

abbrev bufTy : (tb : Table) → Fin (tcTables nBuf tb) → BufTy
  | .hbm, ⟨0, _⟩ => ⟨S8x2048x1024, .f32⟩
  | .hbm, ⟨1, _⟩ => ⟨S1x1024x7184, .f32⟩
  | .hbm, ⟨2, _⟩ => ⟨S1x7184, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x16x512, .f32⟩
  | .hbm, ⟨10, _⟩ => ⟨S1x512, .f32⟩
  | .hbm, ⟨11, _⟩ => ⟨S1x4x256, .f32⟩
  | .hbm, ⟨12, _⟩ => ⟨S1x1024x1024, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x7184, .f32⟩
  | .hbm, ⟨18, _⟩ => ⟨S7184, .f32⟩
  | .hbm, ⟨19, _⟩ => ⟨S1024x512, .f32⟩
  | .hbm, ⟨20, _⟩ => ⟨S512x1024, .f32⟩
  | .hbm, ⟨21, _⟩ => ⟨S512, .f32⟩
  | .hbm, ⟨22, _⟩ => ⟨S512x1, .f32⟩
  | .hbm, ⟨23, _⟩ => ⟨S512x512, .f32⟩
  | .hbm, ⟨24, _⟩ => ⟨S1024x16, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S16, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S16x512, .f32⟩
  | .hbm, ⟨33, _⟩ => ⟨S_, .i32⟩
  | .hbm, ⟨34, _⟩ => ⟨S_, .f32⟩
  | .hbm, ⟨35, _⟩ => ⟨S128x512, .f32⟩
  | .hbm, ⟨36, _⟩ => ⟨S512x128, .f32⟩
  | .hbm, ⟨37, _⟩ => ⟨S512, .f32⟩
  | .hbm, ⟨38, _⟩ => ⟨S512x1, .f32⟩
  | .hbm, ⟨39, _⟩ => ⟨S512x512, .f32⟩
  | .hbm, ⟨40, _⟩ => ⟨S1024x2048, .f32⟩
  | .hbm, ⟨41, _⟩ => ⟨S1024x2048, .bf16⟩
  | .hbm, ⟨42, _⟩ => ⟨S2048, .f32⟩
  | .hbm, ⟨43, _⟩ => ⟨S1x2048, .f32⟩
  | .hbm, ⟨44, _⟩ => ⟨S1024x512, .f32⟩
  | .hbm, ⟨45, _⟩ => ⟨S1024x512, .bf16⟩
  | .hbm, ⟨46, _⟩ => ⟨S512, .f32⟩
  | .hbm, ⟨47, _⟩ => ⟨S1x512, .f32⟩
  | .hbm, ⟨48, _⟩ => ⟨S1024x2048, .f32⟩
  | .hbm, ⟨49, _⟩ => ⟨S1024x2048, .bf16⟩
  | .hbm, ⟨50, _⟩ => ⟨S2048, .f32⟩
  | .hbm, ⟨51, _⟩ => ⟨S1x2048, .f32⟩
  | .hbm, ⟨52, _⟩ => ⟨S512x1024, .bf16⟩
  | .hbm, ⟨53, _⟩ => ⟨S1024x128, .bf16⟩
  | .hbm, ⟨54, _⟩ => ⟨S1x128, .f32⟩
  | .hbm, ⟨55, _⟩ => ⟨S1024x2048, .f32⟩
  | .hbm, ⟨56, _⟩ => ⟨S1024x2048, .bf16⟩
  | .hbm, ⟨57, _⟩ => ⟨S2048, .f32⟩
  | .hbm, ⟨58, _⟩ => ⟨S1x2048, .f32⟩
  | .hbm, ⟨59, _⟩ => ⟨S31x1024, .f32⟩
  | .hbm, ⟨60, _⟩ => ⟨S_, .i32⟩
  | .hbm, ⟨61, _⟩ => ⟨S_, .f32⟩
  | .hbm, ⟨62, _⟩ => ⟨S32x1024, .f32⟩
  | .hbm, ⟨63, _⟩ => ⟨S32x8x128, .f32⟩
  | .hbm, ⟨64, _⟩ => ⟨S8x32x128, .f32⟩
  | .hbm, ⟨65, _⟩ => ⟨S1024, .f32⟩
  | .hbm, ⟨66, _⟩ => ⟨S1x1024, .f32⟩
  | .hbm, ⟨67, _⟩ => ⟨S1024, .f32⟩
  | .hbm, ⟨68, _⟩ => ⟨S1x1024, .f32⟩
  | .hbm, ⟨69, _⟩ => ⟨S1024, .f32⟩
  | .hbm, ⟨70, _⟩ => ⟨S1x1024, .f32⟩
  | .hbm, ⟨71, _⟩ => ⟨S1024x1024, .f32⟩
  | .hbm, ⟨72, _⟩ => ⟨S1024x1024, .bf16⟩
  | .hbm, ⟨73, _⟩ => ⟨S1024, .f32⟩
  | .hbm, ⟨74, _⟩ => ⟨S1x1024, .f32⟩
  | .hbm, ⟨75, _⟩ => ⟨S512x128, .bf16⟩
  | .hbm, ⟨76, _⟩ => ⟨S4x256, .f32⟩
  | .hbm, ⟨77, _⟩ => ⟨S1024x1024, .f32⟩
  | .hbm, ⟨78, _⟩ => ⟨S1024x1024, .bf16⟩
  | .hbm, ⟨79, _⟩ => ⟨S1024x1024, .f32⟩
  | .hbm, ⟨80, _⟩ => ⟨S1024x1024, .bf16⟩
  | .hbm, ⟨81, _⟩ => ⟨S1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S1024, .f32⟩
  | .hbm, ⟨86, _⟩ => ⟨S1x1024, .f32⟩
  | .hbm, ⟨87, _⟩ => ⟨S16384x1024, .f32⟩
  | .hbm, ⟨88, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S1024x512, .bf16⟩
  | .local _ .vmem, ⟨5, _⟩ => ⟨S1x512, .f32⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x512, .f32⟩
  | .local _ .vmem, ⟨10, _⟩ => ⟨S1024x128, .bf16⟩
  | .local _ .vmem, ⟨11, _⟩ => ⟨S1x128, .f32⟩
  | .local _ .vmem, ⟨12, _⟩ => ⟨S1024x2048, .bf16⟩
  | .local _ .vmem, ⟨13, _⟩ => ⟨S1x2048, .f32⟩
  | .local _ .vmem, ⟨14, _⟩ => ⟨S8x32x128, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S512x128, .bf16⟩
  | .local _ .vmem, ⟨21, _⟩ => ⟨S512x512, .f32⟩
  | .local _ .vmem, ⟨22, _⟩ => ⟨S4x256, .f32⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S8x544x128, .f32⟩
  | .local _ .vmem, ⟨31, _⟩ => ⟨S8x512x128, .f32⟩
  | .local _ .vmem, ⟨32, _⟩ => ⟨S4x128x256, .f32⟩
  | .local _ .vmem, ⟨33, _⟩ => ⟨S512x2560, .f32⟩
  | .local _ .vmem, ⟨34, _⟩ => ⟨S512x512, .f32⟩
  | .local _ .vmem, ⟨35, _⟩ => ⟨S512x512, .f32⟩
  | .local _ .vmem, ⟨36, _⟩ => ⟨S32x128x256, .f32⟩
  | .local _ .vmem, ⟨37, _⟩ => ⟨S32x128x256, .bf16⟩
  | .local _ .vmem, ⟨38, _⟩ => ⟨S512x1024, .bf16⟩
  | .local _ .vmem, ⟨39, _⟩ => ⟨S512x1024, .f32⟩
  | .local _ .vmem, ⟨40, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_call1_v0 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_call2_v0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_2 : Ref sig .tc := ⟨.hbm, 60, rfl⟩
abbrev main_call3_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_22 : BitVec 32 := 0#32
  let c8_i32 : BitVec 32 := 8#32
  let v49 : BitVec 32 := Scalar.addi c0_i32_22 c8_i32
  let c1_i32 : BitVec 32 := 1#32
  ⟨c0_i32_22, v49, c1_i32⟩
def k0_off1 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1977 : Index := Scalar.indexCast arg41
  let c2_1300 : Index := 2#32
  let c0_1301 : Index := 0#32
  ![v1977.toNat, 2, 0]
def k0_off2 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1980 : Index := Scalar.indexCast arg41
  let c0_1302 : Index := 0#32
  let c0_1303 : Index := 0#32
  ![v1980.toNat, 0, 0]
def k0_off3 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1985 : Index := Scalar.indexCast arg41
  let c3_1304 : Index := 3#32
  let c0_1305 : Index := 0#32
  ![v1985.toNat, 3, 0]
def k0_off4 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1988 : Index := Scalar.indexCast arg41
  let c1_1306 : Index := 1#32
  let c0_1307 : Index := 0#32
  ![v1988.toNat, 1, 0]
def k0_off5 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1994 : Index := Scalar.indexCast arg41
  let c4_1308 : Index := 4#32
  let c0_1309 : Index := 0#32
  ![v1994.toNat, 4, 0]
def k0_off6 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v1997 : Index := Scalar.indexCast arg41
  let c2_1310 : Index := 2#32
  let c0_1311 : Index := 0#32
  ![v1997.toNat, 2, 0]
def k0_off7 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2003 : Index := Scalar.indexCast arg41
  let c5_1312 : Index := 5#32
  let c0_1313 : Index := 0#32
  ![v2003.toNat, 5, 0]
def k0_off8 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2006 : Index := Scalar.indexCast arg41
  let c3_1314 : Index := 3#32
  let c0_1315 : Index := 0#32
  ![v2006.toNat, 3, 0]
def k0_off9 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2012 : Index := Scalar.indexCast arg41
  let c6_1316 : Index := 6#32
  let c0_1317 : Index := 0#32
  ![v2012.toNat, 6, 0]
def k0_off10 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2015 : Index := Scalar.indexCast arg41
  let c4_1318 : Index := 4#32
  let c0_1319 : Index := 0#32
  ![v2015.toNat, 4, 0]
def k0_off11 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2021 : Index := Scalar.indexCast arg41
  let c7_1320 : Index := 7#32
  let c0_1321 : Index := 0#32
  ![v2021.toNat, 7, 0]
def k0_off12 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2024 : Index := Scalar.indexCast arg41
  let c5_1322 : Index := 5#32
  let c0_1323 : Index := 0#32
  ![v2024.toNat, 5, 0]
def k0_off13 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2030 : Index := Scalar.indexCast arg41
  let c8_1324 : Index := 8#32
  let c0_1325 : Index := 0#32
  ![v2030.toNat, 8, 0]
def k0_off14 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2033 : Index := Scalar.indexCast arg41
  let c6_1326 : Index := 6#32
  let c0_1327 : Index := 0#32
  ![v2033.toNat, 6, 0]
def k0_off15 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2039 : Index := Scalar.indexCast arg41
  let c9_1328 : Index := 9#32
  let c0_1329 : Index := 0#32
  ![v2039.toNat, 9, 0]
def k0_off16 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2042 : Index := Scalar.indexCast arg41
  let c7_1330 : Index := 7#32
  let c0_1331 : Index := 0#32
  ![v2042.toNat, 7, 0]
def k0_off17 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2048 : Index := Scalar.indexCast arg41
  let c10_1332 : Index := 10#32
  let c0_1333 : Index := 0#32
  ![v2048.toNat, 10, 0]
def k0_off18 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2051 : Index := Scalar.indexCast arg41
  let c8_1334 : Index := 8#32
  let c0_1335 : Index := 0#32
  ![v2051.toNat, 8, 0]
def k0_off19 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2057 : Index := Scalar.indexCast arg41
  let c11_1336 : Index := 11#32
  let c0_1337 : Index := 0#32
  ![v2057.toNat, 11, 0]
def k0_off20 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2060 : Index := Scalar.indexCast arg41
  let c9_1338 : Index := 9#32
  let c0_1339 : Index := 0#32
  ![v2060.toNat, 9, 0]
def k0_off21 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2066 : Index := Scalar.indexCast arg41
  let c12_1340 : Index := 12#32
  let c0_1341 : Index := 0#32
  ![v2066.toNat, 12, 0]
def k0_off22 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2069 : Index := Scalar.indexCast arg41
  let c10_1342 : Index := 10#32
  let c0_1343 : Index := 0#32
  ![v2069.toNat, 10, 0]
def k0_off23 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2075 : Index := Scalar.indexCast arg41
  let c13_1344 : Index := 13#32
  let c0_1345 : Index := 0#32
  ![v2075.toNat, 13, 0]
def k0_off24 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2078 : Index := Scalar.indexCast arg41
  let c11_1346 : Index := 11#32
  let c0_1347 : Index := 0#32
  ![v2078.toNat, 11, 0]
def k0_off25 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2084 : Index := Scalar.indexCast arg41
  let c14_1348 : Index := 14#32
  let c0_1349 : Index := 0#32
  ![v2084.toNat, 14, 0]
def k0_off26 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2087 : Index := Scalar.indexCast arg41
  let c12_1350 : Index := 12#32
  let c0_1351 : Index := 0#32
  ![v2087.toNat, 12, 0]
def k0_off27 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2093 : Index := Scalar.indexCast arg41
  let c15_1352 : Index := 15#32
  let c0_1353 : Index := 0#32
  ![v2093.toNat, 15, 0]
def k0_off28 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2096 : Index := Scalar.indexCast arg41
  let c13_1354 : Index := 13#32
  let c0_1355 : Index := 0#32
  ![v2096.toNat, 13, 0]
def k0_off29 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2102 : Index := Scalar.indexCast arg41
  let c16_1356 : Index := 16#32
  let c0_1357 : Index := 0#32
  ![v2102.toNat, 16, 0]
def k0_off30 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2105 : Index := Scalar.indexCast arg41
  let c14_1358 : Index := 14#32
  let c0_1359 : Index := 0#32
  ![v2105.toNat, 14, 0]
def k0_off31 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2111 : Index := Scalar.indexCast arg41
  let c17_1360 : Index := 17#32
  let c0_1361 : Index := 0#32
  ![v2111.toNat, 17, 0]
def k0_off32 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2114 : Index := Scalar.indexCast arg41
  let c15_1362 : Index := 15#32
  let c0_1363 : Index := 0#32
  ![v2114.toNat, 15, 0]
def k0_off33 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2120 : Index := Scalar.indexCast arg41
  let c18_1364 : Index := 18#32
  let c0_1365 : Index := 0#32
  ![v2120.toNat, 18, 0]
def k0_off34 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2123 : Index := Scalar.indexCast arg41
  let c16_1366 : Index := 16#32
  let c0_1367 : Index := 0#32
  ![v2123.toNat, 16, 0]
def k0_off35 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2129 : Index := Scalar.indexCast arg41
  let c19_1368 : Index := 19#32
  let c0_1369 : Index := 0#32
  ![v2129.toNat, 19, 0]
def k0_off36 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2132 : Index := Scalar.indexCast arg41
  let c17_1370 : Index := 17#32
  let c0_1371 : Index := 0#32
  ![v2132.toNat, 17, 0]
def k0_off37 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2138 : Index := Scalar.indexCast arg41
  let c20_1372 : Index := 20#32
  let c0_1373 : Index := 0#32
  ![v2138.toNat, 20, 0]
def k0_off38 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2141 : Index := Scalar.indexCast arg41
  let c18_1374 : Index := 18#32
  let c0_1375 : Index := 0#32
  ![v2141.toNat, 18, 0]
def k0_off39 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2147 : Index := Scalar.indexCast arg41
  let c21_1376 : Index := 21#32
  let c0_1377 : Index := 0#32
  ![v2147.toNat, 21, 0]
def k0_off40 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2150 : Index := Scalar.indexCast arg41
  let c19_1378 : Index := 19#32
  let c0_1379 : Index := 0#32
  ![v2150.toNat, 19, 0]
def k0_off41 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2156 : Index := Scalar.indexCast arg41
  let c22_1380 : Index := 22#32
  let c0_1381 : Index := 0#32
  ![v2156.toNat, 22, 0]
def k0_off42 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2159 : Index := Scalar.indexCast arg41
  let c20_1382 : Index := 20#32
  let c0_1383 : Index := 0#32
  ![v2159.toNat, 20, 0]
def k0_off43 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2165 : Index := Scalar.indexCast arg41
  let c23_1384 : Index := 23#32
  let c0_1385 : Index := 0#32
  ![v2165.toNat, 23, 0]
def k0_off44 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2168 : Index := Scalar.indexCast arg41
  let c21_1386 : Index := 21#32
  let c0_1387 : Index := 0#32
  ![v2168.toNat, 21, 0]
def k0_off45 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2174 : Index := Scalar.indexCast arg41
  let c24_1388 : Index := 24#32
  let c0_1389 : Index := 0#32
  ![v2174.toNat, 24, 0]
def k0_off46 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2177 : Index := Scalar.indexCast arg41
  let c22_1390 : Index := 22#32
  let c0_1391 : Index := 0#32
  ![v2177.toNat, 22, 0]
def k0_off47 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2183 : Index := Scalar.indexCast arg41
  let c25_1392 : Index := 25#32
  let c0_1393 : Index := 0#32
  ![v2183.toNat, 25, 0]
def k0_off48 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2186 : Index := Scalar.indexCast arg41
  let c23_1394 : Index := 23#32
  let c0_1395 : Index := 0#32
  ![v2186.toNat, 23, 0]
def k0_off49 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2192 : Index := Scalar.indexCast arg41
  let c26_1396 : Index := 26#32
  let c0_1397 : Index := 0#32
  ![v2192.toNat, 26, 0]
def k0_off50 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2195 : Index := Scalar.indexCast arg41
  let c24_1398 : Index := 24#32
  let c0_1399 : Index := 0#32
  ![v2195.toNat, 24, 0]
def k0_off51 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2201 : Index := Scalar.indexCast arg41
  let c27_1400 : Index := 27#32
  let c0_1401 : Index := 0#32
  ![v2201.toNat, 27, 0]
def k0_off52 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2204 : Index := Scalar.indexCast arg41
  let c25_1402 : Index := 25#32
  let c0_1403 : Index := 0#32
  ![v2204.toNat, 25, 0]
def k0_off53 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2210 : Index := Scalar.indexCast arg41
  let c28_1404 : Index := 28#32
  let c0_1405 : Index := 0#32
  ![v2210.toNat, 28, 0]
def k0_off54 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2213 : Index := Scalar.indexCast arg41
  let c26_1406 : Index := 26#32
  let c0_1407 : Index := 0#32
  ![v2213.toNat, 26, 0]
def k0_off55 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2219 : Index := Scalar.indexCast arg41
  let c29_1408 : Index := 29#32
  let c0_1409 : Index := 0#32
  ![v2219.toNat, 29, 0]
def k0_off56 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2222 : Index := Scalar.indexCast arg41
  let c27_1410 : Index := 27#32
  let c0_1411 : Index := 0#32
  ![v2222.toNat, 27, 0]
def k0_off57 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2228 : Index := Scalar.indexCast arg41
  let c30_1412 : Index := 30#32
  let c0_1413 : Index := 0#32
  ![v2228.toNat, 30, 0]
def k0_off58 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2231 : Index := Scalar.indexCast arg41
  let c28_1414 : Index := 28#32
  let c0_1415 : Index := 0#32
  ![v2231.toNat, 28, 0]
def k0_off59 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2237 : Index := Scalar.indexCast arg41
  let c31_1416 : Index := 31#32
  let c0_1417 : Index := 0#32
  ![v2237.toNat, 31, 0]
def k0_off60 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2240 : Index := Scalar.indexCast arg41
  let c29_1418 : Index := 29#32
  let c0_1419 : Index := 0#32
  ![v2240.toNat, 29, 0]
def k0_off61 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2246 : Index := Scalar.indexCast arg41
  let c32_1420 : Index := 32#32
  let c0_1421 : Index := 0#32
  ![v2246.toNat, 32, 0]
def k0_off62 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2249 : Index := Scalar.indexCast arg41
  let c30_1422 : Index := 30#32
  let c0_1423 : Index := 0#32
  ![v2249.toNat, 30, 0]
def k0_off63 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2255 : Index := Scalar.indexCast arg41
  let c0_1424 : Index := 0#32
  let c0_1425 : Index := 0#32
  ![v2255.toNat, 0, 0]
def k0_off64 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2259 : Index := Scalar.indexCast arg41
  let c66 : Index := 66#32
  let c0_1426 : Index := 0#32
  ![v2259.toNat, 66, 0]
def k0_off65 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2267 : Index := Scalar.indexCast arg41
  let c67 : Index := 67#32
  let c0_1429 : Index := 0#32
  ![v2267.toNat, 67, 0]
def k0_off66 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2276 : Index := Scalar.indexCast arg41
  let c68 : Index := 68#32
  let c0_1432 : Index := 0#32
  ![v2276.toNat, 68, 0]
def k0_off67 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2285 : Index := Scalar.indexCast arg41
  let c69 : Index := 69#32
  let c0_1435 : Index := 0#32
  ![v2285.toNat, 69, 0]
def k0_off68 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2294 : Index := Scalar.indexCast arg41
  let c70 : Index := 70#32
  let c0_1438 : Index := 0#32
  ![v2294.toNat, 70, 0]
def k0_off69 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2303 : Index := Scalar.indexCast arg41
  let c71 : Index := 71#32
  let c0_1441 : Index := 0#32
  ![v2303.toNat, 71, 0]
def k0_off70 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2312 : Index := Scalar.indexCast arg41
  let c72 : Index := 72#32
  let c0_1444 : Index := 0#32
  ![v2312.toNat, 72, 0]
def k0_off71 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2321 : Index := Scalar.indexCast arg41
  let c73 : Index := 73#32
  let c0_1447 : Index := 0#32
  ![v2321.toNat, 73, 0]
def k0_off72 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2330 : Index := Scalar.indexCast arg41
  let c74 : Index := 74#32
  let c0_1450 : Index := 0#32
  ![v2330.toNat, 74, 0]
def k0_off73 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2339 : Index := Scalar.indexCast arg41
  let c75 : Index := 75#32
  let c0_1453 : Index := 0#32
  ![v2339.toNat, 75, 0]
def k0_off74 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2348 : Index := Scalar.indexCast arg41
  let c76 : Index := 76#32
  let c0_1456 : Index := 0#32
  ![v2348.toNat, 76, 0]
def k0_off75 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2357 : Index := Scalar.indexCast arg41
  let c77 : Index := 77#32
  let c0_1459 : Index := 0#32
  ![v2357.toNat, 77, 0]
def k0_off76 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2366 : Index := Scalar.indexCast arg41
  let c78 : Index := 78#32
  let c0_1462 : Index := 0#32
  ![v2366.toNat, 78, 0]
def k0_off77 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2375 : Index := Scalar.indexCast arg41
  let c79 : Index := 79#32
  let c0_1465 : Index := 0#32
  ![v2375.toNat, 79, 0]
def k0_off78 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2384 : Index := Scalar.indexCast arg41
  let c80 : Index := 80#32
  let c0_1468 : Index := 0#32
  ![v2384.toNat, 80, 0]
def k0_off79 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2393 : Index := Scalar.indexCast arg41
  let c81 : Index := 81#32
  let c0_1471 : Index := 0#32
  ![v2393.toNat, 81, 0]
def k0_off80 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2402 : Index := Scalar.indexCast arg41
  let c82 : Index := 82#32
  let c0_1474 : Index := 0#32
  ![v2402.toNat, 82, 0]
def k0_off81 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2411 : Index := Scalar.indexCast arg41
  let c83 : Index := 83#32
  let c0_1477 : Index := 0#32
  ![v2411.toNat, 83, 0]
def k0_off82 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2420 : Index := Scalar.indexCast arg41
  let c84 : Index := 84#32
  let c0_1480 : Index := 0#32
  ![v2420.toNat, 84, 0]
def k0_off83 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2429 : Index := Scalar.indexCast arg41
  let c85 : Index := 85#32
  let c0_1483 : Index := 0#32
  ![v2429.toNat, 85, 0]
def k0_off84 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2438 : Index := Scalar.indexCast arg41
  let c86 : Index := 86#32
  let c0_1486 : Index := 0#32
  ![v2438.toNat, 86, 0]
def k0_off85 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2447 : Index := Scalar.indexCast arg41
  let c87 : Index := 87#32
  let c0_1489 : Index := 0#32
  ![v2447.toNat, 87, 0]
def k0_off86 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2456 : Index := Scalar.indexCast arg41
  let c88 : Index := 88#32
  let c0_1492 : Index := 0#32
  ![v2456.toNat, 88, 0]
def k0_off87 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2465 : Index := Scalar.indexCast arg41
  let c89 : Index := 89#32
  let c0_1495 : Index := 0#32
  ![v2465.toNat, 89, 0]
def k0_off88 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2474 : Index := Scalar.indexCast arg41
  let c90 : Index := 90#32
  let c0_1498 : Index := 0#32
  ![v2474.toNat, 90, 0]
def k0_off89 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2483 : Index := Scalar.indexCast arg41
  let c91 : Index := 91#32
  let c0_1501 : Index := 0#32
  ![v2483.toNat, 91, 0]
def k0_off90 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2492 : Index := Scalar.indexCast arg41
  let c92 : Index := 92#32
  let c0_1504 : Index := 0#32
  ![v2492.toNat, 92, 0]
def k0_off91 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2501 : Index := Scalar.indexCast arg41
  let c93 : Index := 93#32
  let c0_1507 : Index := 0#32
  ![v2501.toNat, 93, 0]
def k0_off92 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2510 : Index := Scalar.indexCast arg41
  let c94 : Index := 94#32
  let c0_1510 : Index := 0#32
  ![v2510.toNat, 94, 0]
def k0_off93 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2519 : Index := Scalar.indexCast arg41
  let c95 : Index := 95#32
  let c0_1513 : Index := 0#32
  ![v2519.toNat, 95, 0]
def k0_off94 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2528 : Index := Scalar.indexCast arg41
  let c96 : Index := 96#32
  let c0_1516 : Index := 0#32
  ![v2528.toNat, 96, 0]
def k0_off95 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2537 : Index := Scalar.indexCast arg41
  let c64_1519 : Index := 64#32
  let c0_1520 : Index := 0#32
  ![v2537.toNat, 64, 0]
def k0_off96 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2541 : Index := Scalar.indexCast arg41
  let c130 : Index := 130#32
  let c0_1521 : Index := 0#32
  ![v2541.toNat, 130, 0]
def k0_off97 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2549 : Index := Scalar.indexCast arg41
  let c131 : Index := 131#32
  let c0_1524 : Index := 0#32
  ![v2549.toNat, 131, 0]
def k0_off98 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2558 : Index := Scalar.indexCast arg41
  let c132 : Index := 132#32
  let c0_1527 : Index := 0#32
  ![v2558.toNat, 132, 0]
def k0_off99 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2567 : Index := Scalar.indexCast arg41
  let c133 : Index := 133#32
  let c0_1530 : Index := 0#32
  ![v2567.toNat, 133, 0]
def k0_off100 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2576 : Index := Scalar.indexCast arg41
  let c134 : Index := 134#32
  let c0_1533 : Index := 0#32
  ![v2576.toNat, 134, 0]
def k0_off101 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2585 : Index := Scalar.indexCast arg41
  let c135 : Index := 135#32
  let c0_1536 : Index := 0#32
  ![v2585.toNat, 135, 0]
def k0_off102 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2594 : Index := Scalar.indexCast arg41
  let c136 : Index := 136#32
  let c0_1539 : Index := 0#32
  ![v2594.toNat, 136, 0]
def k0_off103 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2603 : Index := Scalar.indexCast arg41
  let c137 : Index := 137#32
  let c0_1542 : Index := 0#32
  ![v2603.toNat, 137, 0]
def k0_off104 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2612 : Index := Scalar.indexCast arg41
  let c138 : Index := 138#32
  let c0_1545 : Index := 0#32
  ![v2612.toNat, 138, 0]
def k0_off105 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2621 : Index := Scalar.indexCast arg41
  let c139 : Index := 139#32
  let c0_1548 : Index := 0#32
  ![v2621.toNat, 139, 0]
def k0_off106 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2630 : Index := Scalar.indexCast arg41
  let c140 : Index := 140#32
  let c0_1551 : Index := 0#32
  ![v2630.toNat, 140, 0]
def k0_off107 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2639 : Index := Scalar.indexCast arg41
  let c141 : Index := 141#32
  let c0_1554 : Index := 0#32
  ![v2639.toNat, 141, 0]
def k0_off108 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2648 : Index := Scalar.indexCast arg41
  let c142 : Index := 142#32
  let c0_1557 : Index := 0#32
  ![v2648.toNat, 142, 0]
def k0_off109 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2657 : Index := Scalar.indexCast arg41
  let c143 : Index := 143#32
  let c0_1560 : Index := 0#32
  ![v2657.toNat, 143, 0]
def k0_off110 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2666 : Index := Scalar.indexCast arg41
  let c144 : Index := 144#32
  let c0_1563 : Index := 0#32
  ![v2666.toNat, 144, 0]
def k0_off111 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2675 : Index := Scalar.indexCast arg41
  let c145 : Index := 145#32
  let c0_1566 : Index := 0#32
  ![v2675.toNat, 145, 0]
def k0_off112 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2684 : Index := Scalar.indexCast arg41
  let c146 : Index := 146#32
  let c0_1569 : Index := 0#32
  ![v2684.toNat, 146, 0]
def k0_off113 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2693 : Index := Scalar.indexCast arg41
  let c147 : Index := 147#32
  let c0_1572 : Index := 0#32
  ![v2693.toNat, 147, 0]
def k0_off114 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2702 : Index := Scalar.indexCast arg41
  let c148 : Index := 148#32
  let c0_1575 : Index := 0#32
  ![v2702.toNat, 148, 0]
def k0_off115 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2711 : Index := Scalar.indexCast arg41
  let c149 : Index := 149#32
  let c0_1578 : Index := 0#32
  ![v2711.toNat, 149, 0]
def k0_off116 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2720 : Index := Scalar.indexCast arg41
  let c150 : Index := 150#32
  let c0_1581 : Index := 0#32
  ![v2720.toNat, 150, 0]
def k0_off117 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2729 : Index := Scalar.indexCast arg41
  let c151 : Index := 151#32
  let c0_1584 : Index := 0#32
  ![v2729.toNat, 151, 0]
def k0_off118 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2738 : Index := Scalar.indexCast arg41
  let c152 : Index := 152#32
  let c0_1587 : Index := 0#32
  ![v2738.toNat, 152, 0]
def k0_off119 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2747 : Index := Scalar.indexCast arg41
  let c153 : Index := 153#32
  let c0_1590 : Index := 0#32
  ![v2747.toNat, 153, 0]
def k0_off120 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2756 : Index := Scalar.indexCast arg41
  let c154 : Index := 154#32
  let c0_1593 : Index := 0#32
  ![v2756.toNat, 154, 0]
def k0_off121 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2765 : Index := Scalar.indexCast arg41
  let c155 : Index := 155#32
  let c0_1596 : Index := 0#32
  ![v2765.toNat, 155, 0]
def k0_off122 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2774 : Index := Scalar.indexCast arg41
  let c156 : Index := 156#32
  let c0_1599 : Index := 0#32
  ![v2774.toNat, 156, 0]
def k0_off123 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2783 : Index := Scalar.indexCast arg41
  let c157 : Index := 157#32
  let c0_1602 : Index := 0#32
  ![v2783.toNat, 157, 0]
def k0_off124 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2792 : Index := Scalar.indexCast arg41
  let c158 : Index := 158#32
  let c0_1605 : Index := 0#32
  ![v2792.toNat, 158, 0]
def k0_off125 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2801 : Index := Scalar.indexCast arg41
  let c159 : Index := 159#32
  let c0_1608 : Index := 0#32
  ![v2801.toNat, 159, 0]
def k0_off126 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2810 : Index := Scalar.indexCast arg41
  let c160 : Index := 160#32
  let c0_1611 : Index := 0#32
  ![v2810.toNat, 160, 0]
def k0_off127 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2819 : Index := Scalar.indexCast arg41
  let c128_1614 : Index := 128#32
  let c0_1615 : Index := 0#32
  ![v2819.toNat, 128, 0]
def k0_off128 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2823 : Index := Scalar.indexCast arg41
  let c194 : Index := 194#32
  let c0_1616 : Index := 0#32
  ![v2823.toNat, 194, 0]
def k0_off129 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2831 : Index := Scalar.indexCast arg41
  let c195 : Index := 195#32
  let c0_1619 : Index := 0#32
  ![v2831.toNat, 195, 0]
def k0_off130 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2840 : Index := Scalar.indexCast arg41
  let c196 : Index := 196#32
  let c0_1622 : Index := 0#32
  ![v2840.toNat, 196, 0]
def k0_off131 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2849 : Index := Scalar.indexCast arg41
  let c197 : Index := 197#32
  let c0_1625 : Index := 0#32
  ![v2849.toNat, 197, 0]
def k0_off132 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2858 : Index := Scalar.indexCast arg41
  let c198 : Index := 198#32
  let c0_1628 : Index := 0#32
  ![v2858.toNat, 198, 0]
def k0_off133 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2867 : Index := Scalar.indexCast arg41
  let c199 : Index := 199#32
  let c0_1631 : Index := 0#32
  ![v2867.toNat, 199, 0]
def k0_off134 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2876 : Index := Scalar.indexCast arg41
  let c200 : Index := 200#32
  let c0_1634 : Index := 0#32
  ![v2876.toNat, 200, 0]
def k0_off135 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2885 : Index := Scalar.indexCast arg41
  let c201 : Index := 201#32
  let c0_1637 : Index := 0#32
  ![v2885.toNat, 201, 0]
def k0_off136 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2894 : Index := Scalar.indexCast arg41
  let c202 : Index := 202#32
  let c0_1640 : Index := 0#32
  ![v2894.toNat, 202, 0]
def k0_off137 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2903 : Index := Scalar.indexCast arg41
  let c203 : Index := 203#32
  let c0_1643 : Index := 0#32
  ![v2903.toNat, 203, 0]
def k0_off138 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2912 : Index := Scalar.indexCast arg41
  let c204 : Index := 204#32
  let c0_1646 : Index := 0#32
  ![v2912.toNat, 204, 0]
def k0_off139 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2921 : Index := Scalar.indexCast arg41
  let c205 : Index := 205#32
  let c0_1649 : Index := 0#32
  ![v2921.toNat, 205, 0]
def k0_off140 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2930 : Index := Scalar.indexCast arg41
  let c206 : Index := 206#32
  let c0_1652 : Index := 0#32
  ![v2930.toNat, 206, 0]
def k0_off141 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2939 : Index := Scalar.indexCast arg41
  let c207 : Index := 207#32
  let c0_1655 : Index := 0#32
  ![v2939.toNat, 207, 0]
def k0_off142 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2948 : Index := Scalar.indexCast arg41
  let c208 : Index := 208#32
  let c0_1658 : Index := 0#32
  ![v2948.toNat, 208, 0]
def k0_off143 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2957 : Index := Scalar.indexCast arg41
  let c209 : Index := 209#32
  let c0_1661 : Index := 0#32
  ![v2957.toNat, 209, 0]
def k0_off144 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2966 : Index := Scalar.indexCast arg41
  let c210 : Index := 210#32
  let c0_1664 : Index := 0#32
  ![v2966.toNat, 210, 0]
def k0_off145 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2975 : Index := Scalar.indexCast arg41
  let c211 : Index := 211#32
  let c0_1667 : Index := 0#32
  ![v2975.toNat, 211, 0]
def k0_off146 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2984 : Index := Scalar.indexCast arg41
  let c212 : Index := 212#32
  let c0_1670 : Index := 0#32
  ![v2984.toNat, 212, 0]
def k0_off147 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v2993 : Index := Scalar.indexCast arg41
  let c213 : Index := 213#32
  let c0_1673 : Index := 0#32
  ![v2993.toNat, 213, 0]
def k0_off148 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3002 : Index := Scalar.indexCast arg41
  let c214 : Index := 214#32
  let c0_1676 : Index := 0#32
  ![v3002.toNat, 214, 0]
def k0_off149 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3011 : Index := Scalar.indexCast arg41
  let c215 : Index := 215#32
  let c0_1679 : Index := 0#32
  ![v3011.toNat, 215, 0]
def k0_off150 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3020 : Index := Scalar.indexCast arg41
  let c216 : Index := 216#32
  let c0_1682 : Index := 0#32
  ![v3020.toNat, 216, 0]
def k0_off151 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3029 : Index := Scalar.indexCast arg41
  let c217 : Index := 217#32
  let c0_1685 : Index := 0#32
  ![v3029.toNat, 217, 0]
def k0_off152 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3038 : Index := Scalar.indexCast arg41
  let c218 : Index := 218#32
  let c0_1688 : Index := 0#32
  ![v3038.toNat, 218, 0]
def k0_off153 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3047 : Index := Scalar.indexCast arg41
  let c219 : Index := 219#32
  let c0_1691 : Index := 0#32
  ![v3047.toNat, 219, 0]
def k0_off154 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3056 : Index := Scalar.indexCast arg41
  let c220 : Index := 220#32
  let c0_1694 : Index := 0#32
  ![v3056.toNat, 220, 0]
def k0_off155 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3065 : Index := Scalar.indexCast arg41
  let c221 : Index := 221#32
  let c0_1697 : Index := 0#32
  ![v3065.toNat, 221, 0]
def k0_off156 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3074 : Index := Scalar.indexCast arg41
  let c222 : Index := 222#32
  let c0_1700 : Index := 0#32
  ![v3074.toNat, 222, 0]
def k0_off157 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3083 : Index := Scalar.indexCast arg41
  let c223 : Index := 223#32
  let c0_1703 : Index := 0#32
  ![v3083.toNat, 223, 0]
def k0_off158 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3092 : Index := Scalar.indexCast arg41
  let c224 : Index := 224#32
  let c0_1706 : Index := 0#32
  ![v3092.toNat, 224, 0]
def k0_off159 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3101 : Index := Scalar.indexCast arg41
  let c192_1709 : Index := 192#32
  let c0_1710 : Index := 0#32
  ![v3101.toNat, 192, 0]
def k0_off160 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3105 : Index := Scalar.indexCast arg41
  let c258 : Index := 258#32
  let c0_1711 : Index := 0#32
  ![v3105.toNat, 258, 0]
def k0_off161 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3113 : Index := Scalar.indexCast arg41
  let c259 : Index := 259#32
  let c0_1714 : Index := 0#32
  ![v3113.toNat, 259, 0]
def k0_off162 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3122 : Index := Scalar.indexCast arg41
  let c260 : Index := 260#32
  let c0_1717 : Index := 0#32
  ![v3122.toNat, 260, 0]
def k0_off163 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3131 : Index := Scalar.indexCast arg41
  let c261 : Index := 261#32
  let c0_1720 : Index := 0#32
  ![v3131.toNat, 261, 0]
def k0_off164 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3140 : Index := Scalar.indexCast arg41
  let c262 : Index := 262#32
  let c0_1723 : Index := 0#32
  ![v3140.toNat, 262, 0]
def k0_off165 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3149 : Index := Scalar.indexCast arg41
  let c263 : Index := 263#32
  let c0_1726 : Index := 0#32
  ![v3149.toNat, 263, 0]
def k0_off166 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3158 : Index := Scalar.indexCast arg41
  let c264 : Index := 264#32
  let c0_1729 : Index := 0#32
  ![v3158.toNat, 264, 0]
def k0_off167 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3167 : Index := Scalar.indexCast arg41
  let c265 : Index := 265#32
  let c0_1732 : Index := 0#32
  ![v3167.toNat, 265, 0]
def k0_off168 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3176 : Index := Scalar.indexCast arg41
  let c266 : Index := 266#32
  let c0_1735 : Index := 0#32
  ![v3176.toNat, 266, 0]
def k0_off169 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3185 : Index := Scalar.indexCast arg41
  let c267 : Index := 267#32
  let c0_1738 : Index := 0#32
  ![v3185.toNat, 267, 0]
def k0_off170 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3194 : Index := Scalar.indexCast arg41
  let c268 : Index := 268#32
  let c0_1741 : Index := 0#32
  ![v3194.toNat, 268, 0]
def k0_off171 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3203 : Index := Scalar.indexCast arg41
  let c269 : Index := 269#32
  let c0_1744 : Index := 0#32
  ![v3203.toNat, 269, 0]
def k0_off172 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3212 : Index := Scalar.indexCast arg41
  let c270 : Index := 270#32
  let c0_1747 : Index := 0#32
  ![v3212.toNat, 270, 0]
def k0_off173 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3221 : Index := Scalar.indexCast arg41
  let c271 : Index := 271#32
  let c0_1750 : Index := 0#32
  ![v3221.toNat, 271, 0]
def k0_off174 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3230 : Index := Scalar.indexCast arg41
  let c272 : Index := 272#32
  let c0_1753 : Index := 0#32
  ![v3230.toNat, 272, 0]
def k0_off175 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3239 : Index := Scalar.indexCast arg41
  let c273 : Index := 273#32
  let c0_1756 : Index := 0#32
  ![v3239.toNat, 273, 0]
def k0_off176 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3248 : Index := Scalar.indexCast arg41
  let c274 : Index := 274#32
  let c0_1759 : Index := 0#32
  ![v3248.toNat, 274, 0]
def k0_off177 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3257 : Index := Scalar.indexCast arg41
  let c275 : Index := 275#32
  let c0_1762 : Index := 0#32
  ![v3257.toNat, 275, 0]
def k0_off178 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3266 : Index := Scalar.indexCast arg41
  let c276 : Index := 276#32
  let c0_1765 : Index := 0#32
  ![v3266.toNat, 276, 0]
def k0_off179 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3275 : Index := Scalar.indexCast arg41
  let c277 : Index := 277#32
  let c0_1768 : Index := 0#32
  ![v3275.toNat, 277, 0]
def k0_off180 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3284 : Index := Scalar.indexCast arg41
  let c278 : Index := 278#32
  let c0_1771 : Index := 0#32
  ![v3284.toNat, 278, 0]
def k0_off181 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3293 : Index := Scalar.indexCast arg41
  let c279 : Index := 279#32
  let c0_1774 : Index := 0#32
  ![v3293.toNat, 279, 0]
def k0_off182 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3302 : Index := Scalar.indexCast arg41
  let c280 : Index := 280#32
  let c0_1777 : Index := 0#32
  ![v3302.toNat, 280, 0]
def k0_off183 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3311 : Index := Scalar.indexCast arg41
  let c281 : Index := 281#32
  let c0_1780 : Index := 0#32
  ![v3311.toNat, 281, 0]
def k0_off184 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3320 : Index := Scalar.indexCast arg41
  let c282 : Index := 282#32
  let c0_1783 : Index := 0#32
  ![v3320.toNat, 282, 0]
def k0_off185 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3329 : Index := Scalar.indexCast arg41
  let c283 : Index := 283#32
  let c0_1786 : Index := 0#32
  ![v3329.toNat, 283, 0]
def k0_off186 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3338 : Index := Scalar.indexCast arg41
  let c284 : Index := 284#32
  let c0_1789 : Index := 0#32
  ![v3338.toNat, 284, 0]
def k0_off187 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3347 : Index := Scalar.indexCast arg41
  let c285 : Index := 285#32
  let c0_1792 : Index := 0#32
  ![v3347.toNat, 285, 0]
def k0_off188 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3356 : Index := Scalar.indexCast arg41
  let c286 : Index := 286#32
  let c0_1795 : Index := 0#32
  ![v3356.toNat, 286, 0]
def k0_off189 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3365 : Index := Scalar.indexCast arg41
  let c287 : Index := 287#32
  let c0_1798 : Index := 0#32
  ![v3365.toNat, 287, 0]
def k0_off190 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3374 : Index := Scalar.indexCast arg41
  let c288 : Index := 288#32
  let c0_1801 : Index := 0#32
  ![v3374.toNat, 288, 0]
def k0_off191 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3383 : Index := Scalar.indexCast arg41
  let c256_1804 : Index := 256#32
  let c0_1805 : Index := 0#32
  ![v3383.toNat, 256, 0]
def k0_off192 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3387 : Index := Scalar.indexCast arg41
  let c322 : Index := 322#32
  let c0_1806 : Index := 0#32
  ![v3387.toNat, 322, 0]
def k0_off193 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3395 : Index := Scalar.indexCast arg41
  let c323 : Index := 323#32
  let c0_1809 : Index := 0#32
  ![v3395.toNat, 323, 0]
def k0_off194 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3404 : Index := Scalar.indexCast arg41
  let c324 : Index := 324#32
  let c0_1812 : Index := 0#32
  ![v3404.toNat, 324, 0]
def k0_off195 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3413 : Index := Scalar.indexCast arg41
  let c325 : Index := 325#32
  let c0_1815 : Index := 0#32
  ![v3413.toNat, 325, 0]
def k0_off196 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3422 : Index := Scalar.indexCast arg41
  let c326 : Index := 326#32
  let c0_1818 : Index := 0#32
  ![v3422.toNat, 326, 0]
def k0_off197 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3431 : Index := Scalar.indexCast arg41
  let c327 : Index := 327#32
  let c0_1821 : Index := 0#32
  ![v3431.toNat, 327, 0]
def k0_off198 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3440 : Index := Scalar.indexCast arg41
  let c328 : Index := 328#32
  let c0_1824 : Index := 0#32
  ![v3440.toNat, 328, 0]
def k0_off199 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3449 : Index := Scalar.indexCast arg41
  let c329 : Index := 329#32
  let c0_1827 : Index := 0#32
  ![v3449.toNat, 329, 0]
def k0_off200 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3458 : Index := Scalar.indexCast arg41
  let c330 : Index := 330#32
  let c0_1830 : Index := 0#32
  ![v3458.toNat, 330, 0]
def k0_off201 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3467 : Index := Scalar.indexCast arg41
  let c331 : Index := 331#32
  let c0_1833 : Index := 0#32
  ![v3467.toNat, 331, 0]
def k0_off202 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3476 : Index := Scalar.indexCast arg41
  let c332 : Index := 332#32
  let c0_1836 : Index := 0#32
  ![v3476.toNat, 332, 0]
def k0_off203 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3485 : Index := Scalar.indexCast arg41
  let c333 : Index := 333#32
  let c0_1839 : Index := 0#32
  ![v3485.toNat, 333, 0]
def k0_off204 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3494 : Index := Scalar.indexCast arg41
  let c334 : Index := 334#32
  let c0_1842 : Index := 0#32
  ![v3494.toNat, 334, 0]
def k0_off205 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3503 : Index := Scalar.indexCast arg41
  let c335 : Index := 335#32
  let c0_1845 : Index := 0#32
  ![v3503.toNat, 335, 0]
def k0_off206 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3512 : Index := Scalar.indexCast arg41
  let c336 : Index := 336#32
  let c0_1848 : Index := 0#32
  ![v3512.toNat, 336, 0]
def k0_off207 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3521 : Index := Scalar.indexCast arg41
  let c337 : Index := 337#32
  let c0_1851 : Index := 0#32
  ![v3521.toNat, 337, 0]
def k0_off208 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3530 : Index := Scalar.indexCast arg41
  let c338 : Index := 338#32
  let c0_1854 : Index := 0#32
  ![v3530.toNat, 338, 0]
def k0_off209 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3539 : Index := Scalar.indexCast arg41
  let c339 : Index := 339#32
  let c0_1857 : Index := 0#32
  ![v3539.toNat, 339, 0]
def k0_off210 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3548 : Index := Scalar.indexCast arg41
  let c340 : Index := 340#32
  let c0_1860 : Index := 0#32
  ![v3548.toNat, 340, 0]
def k0_off211 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3557 : Index := Scalar.indexCast arg41
  let c341 : Index := 341#32
  let c0_1863 : Index := 0#32
  ![v3557.toNat, 341, 0]
def k0_off212 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3566 : Index := Scalar.indexCast arg41
  let c342 : Index := 342#32
  let c0_1866 : Index := 0#32
  ![v3566.toNat, 342, 0]
def k0_off213 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3575 : Index := Scalar.indexCast arg41
  let c343 : Index := 343#32
  let c0_1869 : Index := 0#32
  ![v3575.toNat, 343, 0]
def k0_off214 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3584 : Index := Scalar.indexCast arg41
  let c344 : Index := 344#32
  let c0_1872 : Index := 0#32
  ![v3584.toNat, 344, 0]
def k0_off215 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3593 : Index := Scalar.indexCast arg41
  let c345 : Index := 345#32
  let c0_1875 : Index := 0#32
  ![v3593.toNat, 345, 0]
def k0_off216 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3602 : Index := Scalar.indexCast arg41
  let c346 : Index := 346#32
  let c0_1878 : Index := 0#32
  ![v3602.toNat, 346, 0]
def k0_off217 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3611 : Index := Scalar.indexCast arg41
  let c347 : Index := 347#32
  let c0_1881 : Index := 0#32
  ![v3611.toNat, 347, 0]
def k0_off218 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3620 : Index := Scalar.indexCast arg41
  let c348 : Index := 348#32
  let c0_1884 : Index := 0#32
  ![v3620.toNat, 348, 0]
def k0_off219 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3629 : Index := Scalar.indexCast arg41
  let c349 : Index := 349#32
  let c0_1887 : Index := 0#32
  ![v3629.toNat, 349, 0]
def k0_off220 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3638 : Index := Scalar.indexCast arg41
  let c350 : Index := 350#32
  let c0_1890 : Index := 0#32
  ![v3638.toNat, 350, 0]
def k0_off221 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3647 : Index := Scalar.indexCast arg41
  let c351 : Index := 351#32
  let c0_1893 : Index := 0#32
  ![v3647.toNat, 351, 0]
def k0_off222 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3656 : Index := Scalar.indexCast arg41
  let c352 : Index := 352#32
  let c0_1896 : Index := 0#32
  ![v3656.toNat, 352, 0]
def k0_off223 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3665 : Index := Scalar.indexCast arg41
  let c320_1899 : Index := 320#32
  let c0_1900 : Index := 0#32
  ![v3665.toNat, 320, 0]
def k0_off224 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3669 : Index := Scalar.indexCast arg41
  let c386 : Index := 386#32
  let c0_1901 : Index := 0#32
  ![v3669.toNat, 386, 0]
def k0_off225 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3677 : Index := Scalar.indexCast arg41
  let c387 : Index := 387#32
  let c0_1904 : Index := 0#32
  ![v3677.toNat, 387, 0]
def k0_off226 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3686 : Index := Scalar.indexCast arg41
  let c388 : Index := 388#32
  let c0_1907 : Index := 0#32
  ![v3686.toNat, 388, 0]
def k0_off227 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3695 : Index := Scalar.indexCast arg41
  let c389 : Index := 389#32
  let c0_1910 : Index := 0#32
  ![v3695.toNat, 389, 0]
def k0_off228 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3704 : Index := Scalar.indexCast arg41
  let c390 : Index := 390#32
  let c0_1913 : Index := 0#32
  ![v3704.toNat, 390, 0]
def k0_off229 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3713 : Index := Scalar.indexCast arg41
  let c391 : Index := 391#32
  let c0_1916 : Index := 0#32
  ![v3713.toNat, 391, 0]
def k0_off230 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3722 : Index := Scalar.indexCast arg41
  let c392 : Index := 392#32
  let c0_1919 : Index := 0#32
  ![v3722.toNat, 392, 0]
def k0_off231 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3731 : Index := Scalar.indexCast arg41
  let c393 : Index := 393#32
  let c0_1922 : Index := 0#32
  ![v3731.toNat, 393, 0]
def k0_off232 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3740 : Index := Scalar.indexCast arg41
  let c394 : Index := 394#32
  let c0_1925 : Index := 0#32
  ![v3740.toNat, 394, 0]
def k0_off233 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3749 : Index := Scalar.indexCast arg41
  let c395 : Index := 395#32
  let c0_1928 : Index := 0#32
  ![v3749.toNat, 395, 0]
def k0_off234 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3758 : Index := Scalar.indexCast arg41
  let c396 : Index := 396#32
  let c0_1931 : Index := 0#32
  ![v3758.toNat, 396, 0]
def k0_off235 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3767 : Index := Scalar.indexCast arg41
  let c397 : Index := 397#32
  let c0_1934 : Index := 0#32
  ![v3767.toNat, 397, 0]
def k0_off236 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3776 : Index := Scalar.indexCast arg41
  let c398 : Index := 398#32
  let c0_1937 : Index := 0#32
  ![v3776.toNat, 398, 0]
def k0_off237 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3785 : Index := Scalar.indexCast arg41
  let c399 : Index := 399#32
  let c0_1940 : Index := 0#32
  ![v3785.toNat, 399, 0]
def k0_off238 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3794 : Index := Scalar.indexCast arg41
  let c400 : Index := 400#32
  let c0_1943 : Index := 0#32
  ![v3794.toNat, 400, 0]
def k0_off239 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3803 : Index := Scalar.indexCast arg41
  let c401 : Index := 401#32
  let c0_1946 : Index := 0#32
  ![v3803.toNat, 401, 0]
def k0_off240 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3812 : Index := Scalar.indexCast arg41
  let c402 : Index := 402#32
  let c0_1949 : Index := 0#32
  ![v3812.toNat, 402, 0]
def k0_off241 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3821 : Index := Scalar.indexCast arg41
  let c403 : Index := 403#32
  let c0_1952 : Index := 0#32
  ![v3821.toNat, 403, 0]
def k0_off242 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3830 : Index := Scalar.indexCast arg41
  let c404 : Index := 404#32
  let c0_1955 : Index := 0#32
  ![v3830.toNat, 404, 0]
def k0_off243 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3839 : Index := Scalar.indexCast arg41
  let c405 : Index := 405#32
  let c0_1958 : Index := 0#32
  ![v3839.toNat, 405, 0]
def k0_off244 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3848 : Index := Scalar.indexCast arg41
  let c406 : Index := 406#32
  let c0_1961 : Index := 0#32
  ![v3848.toNat, 406, 0]
def k0_off245 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3857 : Index := Scalar.indexCast arg41
  let c407 : Index := 407#32
  let c0_1964 : Index := 0#32
  ![v3857.toNat, 407, 0]
def k0_off246 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3866 : Index := Scalar.indexCast arg41
  let c408 : Index := 408#32
  let c0_1967 : Index := 0#32
  ![v3866.toNat, 408, 0]
def k0_off247 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3875 : Index := Scalar.indexCast arg41
  let c409 : Index := 409#32
  let c0_1970 : Index := 0#32
  ![v3875.toNat, 409, 0]
def k0_off248 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3884 : Index := Scalar.indexCast arg41
  let c410 : Index := 410#32
  let c0_1973 : Index := 0#32
  ![v3884.toNat, 410, 0]
def k0_off249 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3893 : Index := Scalar.indexCast arg41
  let c411 : Index := 411#32
  let c0_1976 : Index := 0#32
  ![v3893.toNat, 411, 0]
def k0_off250 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3902 : Index := Scalar.indexCast arg41
  let c412 : Index := 412#32
  let c0_1979 : Index := 0#32
  ![v3902.toNat, 412, 0]
def k0_off251 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3911 : Index := Scalar.indexCast arg41
  let c413 : Index := 413#32
  let c0_1982 : Index := 0#32
  ![v3911.toNat, 413, 0]
def k0_off252 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3920 : Index := Scalar.indexCast arg41
  let c414 : Index := 414#32
  let c0_1985 : Index := 0#32
  ![v3920.toNat, 414, 0]
def k0_off253 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3929 : Index := Scalar.indexCast arg41
  let c415 : Index := 415#32
  let c0_1988 : Index := 0#32
  ![v3929.toNat, 415, 0]
def k0_off254 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3938 : Index := Scalar.indexCast arg41
  let c416 : Index := 416#32
  let c0_1991 : Index := 0#32
  ![v3938.toNat, 416, 0]
def k0_off255 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3947 : Index := Scalar.indexCast arg41
  let c384_1994 : Index := 384#32
  let c0_1995 : Index := 0#32
  ![v3947.toNat, 384, 0]
def k0_off256 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3951 : Index := Scalar.indexCast arg41
  let c450 : Index := 450#32
  let c0_1996 : Index := 0#32
  ![v3951.toNat, 450, 0]
def k0_off257 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3959 : Index := Scalar.indexCast arg41
  let c451 : Index := 451#32
  let c0_1999 : Index := 0#32
  ![v3959.toNat, 451, 0]
def k0_off258 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3968 : Index := Scalar.indexCast arg41
  let c452 : Index := 452#32
  let c0_2002 : Index := 0#32
  ![v3968.toNat, 452, 0]
def k0_off259 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3977 : Index := Scalar.indexCast arg41
  let c453 : Index := 453#32
  let c0_2005 : Index := 0#32
  ![v3977.toNat, 453, 0]
def k0_off260 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3986 : Index := Scalar.indexCast arg41
  let c454 : Index := 454#32
  let c0_2008 : Index := 0#32
  ![v3986.toNat, 454, 0]
def k0_off261 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v3995 : Index := Scalar.indexCast arg41
  let c455 : Index := 455#32
  let c0_2011 : Index := 0#32
  ![v3995.toNat, 455, 0]
def k0_off262 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4004 : Index := Scalar.indexCast arg41
  let c456 : Index := 456#32
  let c0_2014 : Index := 0#32
  ![v4004.toNat, 456, 0]
def k0_off263 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4013 : Index := Scalar.indexCast arg41
  let c457 : Index := 457#32
  let c0_2017 : Index := 0#32
  ![v4013.toNat, 457, 0]
def k0_off264 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4022 : Index := Scalar.indexCast arg41
  let c458 : Index := 458#32
  let c0_2020 : Index := 0#32
  ![v4022.toNat, 458, 0]
def k0_off265 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4031 : Index := Scalar.indexCast arg41
  let c459 : Index := 459#32
  let c0_2023 : Index := 0#32
  ![v4031.toNat, 459, 0]
def k0_off266 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4040 : Index := Scalar.indexCast arg41
  let c460 : Index := 460#32
  let c0_2026 : Index := 0#32
  ![v4040.toNat, 460, 0]
def k0_off267 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4049 : Index := Scalar.indexCast arg41
  let c461 : Index := 461#32
  let c0_2029 : Index := 0#32
  ![v4049.toNat, 461, 0]
def k0_off268 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4058 : Index := Scalar.indexCast arg41
  let c462 : Index := 462#32
  let c0_2032 : Index := 0#32
  ![v4058.toNat, 462, 0]
def k0_off269 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4067 : Index := Scalar.indexCast arg41
  let c463 : Index := 463#32
  let c0_2035 : Index := 0#32
  ![v4067.toNat, 463, 0]
def k0_off270 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4076 : Index := Scalar.indexCast arg41
  let c464 : Index := 464#32
  let c0_2038 : Index := 0#32
  ![v4076.toNat, 464, 0]
def k0_off271 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4085 : Index := Scalar.indexCast arg41
  let c465 : Index := 465#32
  let c0_2041 : Index := 0#32
  ![v4085.toNat, 465, 0]
def k0_off272 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4094 : Index := Scalar.indexCast arg41
  let c466 : Index := 466#32
  let c0_2044 : Index := 0#32
  ![v4094.toNat, 466, 0]
def k0_off273 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4103 : Index := Scalar.indexCast arg41
  let c467 : Index := 467#32
  let c0_2047 : Index := 0#32
  ![v4103.toNat, 467, 0]
def k0_off274 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4112 : Index := Scalar.indexCast arg41
  let c468 : Index := 468#32
  let c0_2050 : Index := 0#32
  ![v4112.toNat, 468, 0]
def k0_off275 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4121 : Index := Scalar.indexCast arg41
  let c469 : Index := 469#32
  let c0_2053 : Index := 0#32
  ![v4121.toNat, 469, 0]
def k0_off276 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4130 : Index := Scalar.indexCast arg41
  let c470 : Index := 470#32
  let c0_2056 : Index := 0#32
  ![v4130.toNat, 470, 0]
def k0_off277 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4139 : Index := Scalar.indexCast arg41
  let c471 : Index := 471#32
  let c0_2059 : Index := 0#32
  ![v4139.toNat, 471, 0]
def k0_off278 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4148 : Index := Scalar.indexCast arg41
  let c472 : Index := 472#32
  let c0_2062 : Index := 0#32
  ![v4148.toNat, 472, 0]
def k0_off279 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4157 : Index := Scalar.indexCast arg41
  let c473 : Index := 473#32
  let c0_2065 : Index := 0#32
  ![v4157.toNat, 473, 0]
def k0_off280 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4166 : Index := Scalar.indexCast arg41
  let c474 : Index := 474#32
  let c0_2068 : Index := 0#32
  ![v4166.toNat, 474, 0]
def k0_off281 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4175 : Index := Scalar.indexCast arg41
  let c475 : Index := 475#32
  let c0_2071 : Index := 0#32
  ![v4175.toNat, 475, 0]
def k0_off282 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4184 : Index := Scalar.indexCast arg41
  let c476 : Index := 476#32
  let c0_2074 : Index := 0#32
  ![v4184.toNat, 476, 0]
def k0_off283 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4193 : Index := Scalar.indexCast arg41
  let c477 : Index := 477#32
  let c0_2077 : Index := 0#32
  ![v4193.toNat, 477, 0]
def k0_off284 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4202 : Index := Scalar.indexCast arg41
  let c478 : Index := 478#32
  let c0_2080 : Index := 0#32
  ![v4202.toNat, 478, 0]
def k0_off285 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4211 : Index := Scalar.indexCast arg41
  let c479 : Index := 479#32
  let c0_2083 : Index := 0#32
  ![v4211.toNat, 479, 0]
def k0_off286 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4220 : Index := Scalar.indexCast arg41
  let c480 : Index := 480#32
  let c0_2086 : Index := 0#32
  ![v4220.toNat, 480, 0]
def k0_off287 (k0_t1 : Fin k0_t1_loop.trips) : Fin 3 → Nat :=
  let c0_i32_22 : BitVec 32 := 0#32
  let c1_i32 : BitVec 32 := 1#32
  let arg41 : BitVec 32 := Scf.iv c0_i32_22 c1_i32 k0_t1
  let v4229 : Index := Scalar.indexCast arg41
  let c448_2089 : Index := 448#32
  let c0_2090 : Index := 0#32
  ![v4229.toNat, 448, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S512x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S512x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== ReferenceIdeal.lean ====
abbrev S8x2048x1024 : Shape := ⟨3, ![8, 2048, 1024]⟩
abbrev S1x1024x7184 : Shape := ⟨3, ![1, 1024, 7184]⟩
abbrev S1x7184 : Shape := ⟨2, ![1, 7184]⟩
abbrev S1x31x1024 : Shape := ⟨3, ![1, 31, 1024]⟩
abbrev S1x1024 : Shape := ⟨2, ![1, 1024]⟩
abbrev S1x1024x1024 : Shape := ⟨3, ![1, 1024, 1024]⟩
abbrev S1x16x512 : Shape := ⟨3, ![1, 16, 512]⟩
abbrev S1x512 : Shape := ⟨2, ![1, 512]⟩
abbrev S1x4x256 : Shape := ⟨3, ![1, 4, 256]⟩
abbrev S1024x7184 : Shape := ⟨2, ![1024, 7184]⟩
abbrev S8x2048x7184 : Shape := ⟨3, ![8, 2048, 7184]⟩
abbrev S7184 : Shape := ⟨1, ![7184]⟩
abbrev S1x1x7184 : Shape := ⟨3, ![1, 1, 7184]⟩
abbrev S8x2048x512 : Shape := ⟨3, ![8, 2048, 512]⟩
abbrev S8x2048x16 : Shape := ⟨3, ![8, 2048, 16]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S8x2078x1024 : Shape := ⟨3, ![8, 2078, 1024]⟩
abbrev S1x1x1024 : Shape := ⟨3, ![1, 1, 1024]⟩
abbrev S8x2048 : Shape := ⟨2, ![8, 2048]⟩
abbrev S8x2048x1 : Shape := ⟨3, ![8, 2048, 1]⟩
abbrev S16x512 : Shape := ⟨2, ![16, 512]⟩
abbrev S512 : Shape := ⟨1, ![512]⟩
abbrev S4x256 : Shape := ⟨2, ![4, 256]⟩
abbrev S1x1x512 : Shape := ⟨3, ![1, 1, 512]⟩
abbrev S8x32x64x4x128 : Shape := ⟨5, ![8, 32, 64, 4, 128]⟩
abbrev S8x32x64x4x256 : Shape := ⟨5, ![8, 32, 64, 4, 256]⟩
abbrev S8x32x1x4x128 : Shape := ⟨5, ![8, 32, 1, 4, 128]⟩
abbrev S8x32x4x128x256 : Shape := ⟨5, ![8, 32, 4, 128, 256]⟩
abbrev S8x32x4x128 : Shape := ⟨4, ![8, 32, 4, 128]⟩
abbrev S8x4x128x256 : Shape := ⟨4, ![8, 4, 128, 256]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x1x4x128x256 : Shape := ⟨5, ![8, 1, 4, 128, 256]⟩
abbrev S8x16x4x128x256 : Shape := ⟨5, ![8, 16, 4, 128, 256]⟩
abbrev S8x32x4x256x64 : Shape := ⟨5, ![8, 32, 4, 256, 64]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩
abbrev S16384x1024 : Shape := ⟨2, ![16384, 1024]⟩

abbrev nBuf : Space → Nat
  | .hbm => 742
  | .vmem => 0
  | .smem => 0
  | _ => 0

abbrev hbmTy0_0 (i : Nat) : BufTy := match i % 128 with
  | 0 => ⟨S8x2048x1024, .f32⟩
  | 1 => ⟨S1x1024x7184, .f32⟩
  | 2 => ⟨S1x7184, .f32⟩
  | 3 => ⟨S1x31x1024, .f32⟩
  | 4 => ⟨S1x1024, .f32⟩
  | 5 => ⟨S1x1024, .f32⟩
  | 6 => ⟨S1x1024, .f32⟩
  | 7 => ⟨S1x1024x1024, .f32⟩
  | 8 => ⟨S1x1024, .f32⟩
  | 9 => ⟨S1x16x512, .f32⟩
  | 10 => ⟨S1x512, .f32⟩
  | 11 => ⟨S1x4x256, .f32⟩
  | 12 => ⟨S1x1024x1024, .f32⟩
  | 13 => ⟨S1x1024x1024, .f32⟩
  | 14 => ⟨S1x1024, .f32⟩
  | 15 => ⟨S1x1024, .f32⟩
  | 16 => ⟨S1x1024, .f32⟩
  | 17 => ⟨S1024x7184, .f32⟩
  | 18 => ⟨S8x2048x7184, .f32⟩
  | 19 => ⟨S7184, .f32⟩
  | 20 => ⟨S1x1x7184, .f32⟩
  | 21 => ⟨S8x2048x7184, .f32⟩
  | 22 => ⟨S8x2048x7184, .f32⟩
  | 23 => ⟨S8x2048x1024, .f32⟩
  | 24 => ⟨S8x2048x1024, .f32⟩
  | 25 => ⟨S8x2048x512, .f32⟩
  | 26 => ⟨S8x2048x512, .f32⟩
  | 27 => ⟨S8x2048x1024, .f32⟩
  | 28 => ⟨S8x2048x1024, .f32⟩
  | 29 => ⟨S8x2048x16, .f32⟩
  | 30 => ⟨S8x2048x1024, .f32⟩
  | 31 => ⟨S8x2048x1024, .f32⟩
  | 32 => ⟨S31x1024, .f32⟩
  | 33 => ⟨S1024, .f32⟩
  | 34 => ⟨S1024, .f32⟩
  | 35 => ⟨S1024, .f32⟩
  | 36 => ⟨S1024x1024, .f32⟩
  | 37 => ⟨S1024, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S_, .i32⟩
  | 48 => ⟨S_, .f32⟩
  | 49 => ⟨S8x2078x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S1x1x1024, .f32⟩
  | 57 => ⟨S8x2048x1024, .f32⟩
  | 58 => ⟨S8x2048x1024, .f32⟩
  | 59 => ⟨S8x2048x1024, .f32⟩
  | 60 => ⟨S1x1024, .f32⟩
  | 61 => ⟨S1024, .f32⟩
  | 62 => ⟨S1x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1x1024, .f32⟩
  | 68 => ⟨S1024, .f32⟩
  | 69 => ⟨S1x1x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S1x1024, .f32⟩
  | 75 => ⟨S1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S1x1024, .f32⟩
  | 82 => ⟨S1024, .f32⟩
  | 83 => ⟨S1x1x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S1x1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S1x1024, .f32⟩
  | 96 => ⟨S1024, .f32⟩
  | 97 => ⟨S1x1x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S1x1024, .f32⟩
  | 103 => ⟨S1024, .f32⟩
  | 104 => ⟨S1x1x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S1x1024, .f32⟩
  | 110 => ⟨S1024, .f32⟩
  | 111 => ⟨S1x1x1024, .f32⟩
  | 112 => ⟨S8x2048x1024, .f32⟩
  | 113 => ⟨S8x2048x1024, .f32⟩
  | 114 => ⟨S8x2048x1024, .f32⟩
  | 115 => ⟨S8x2048x1024, .f32⟩
  | 116 => ⟨S1x1024, .f32⟩
  | 117 => ⟨S1024, .f32⟩
  | 118 => ⟨S1x1x1024, .f32⟩
  | 119 => ⟨S8x2048x1024, .f32⟩
  | 120 => ⟨S8x2048x1024, .f32⟩
  | 121 => ⟨S8x2048x1024, .f32⟩
  | 122 => ⟨S8x2048x1024, .f32⟩
  | 123 => ⟨S1x1024, .f32⟩
  | 124 => ⟨S1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1024, .f32⟩
  | 3 => ⟨S1024, .f32⟩
  | 4 => ⟨S1x1x1024, .f32⟩
  | 5 => ⟨S8x2048x1024, .f32⟩
  | 6 => ⟨S8x2048x1024, .f32⟩
  | 7 => ⟨S8x2048x1024, .f32⟩
  | 8 => ⟨S8x2048x1024, .f32⟩
  | 9 => ⟨S1x1024, .f32⟩
  | 10 => ⟨S1024, .f32⟩
  | 11 => ⟨S1x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S1x1024, .f32⟩
  | 17 => ⟨S1024, .f32⟩
  | 18 => ⟨S1x1x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S1x1024, .f32⟩
  | 101 => ⟨S1024, .f32⟩
  | 102 => ⟨S1x1x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S1x1024, .f32⟩
  | 108 => ⟨S1024, .f32⟩
  | 109 => ⟨S1x1x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S1x1024, .f32⟩
  | 115 => ⟨S1024, .f32⟩
  | 116 => ⟨S1x1x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S1x1x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S1x1024, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S8x2048x1024, .f32⟩
  | 20 => ⟨S8x2048x1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S8x2048x1024, .f32⟩
  | 29 => ⟨S8x2048x1024, .f32⟩
  | 30 => ⟨S_, .f32⟩
  | 31 => ⟨S8x2048x1, .f32⟩
  | 32 => ⟨S8x2048x1, .f32⟩
  | 33 => ⟨S8x2048x1, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S_, .f32⟩
  | 45 => ⟨S8x2048x1024, .f32⟩
  | 46 => ⟨S8x2048x1024, .f32⟩
  | 47 => ⟨S_, .f32⟩
  | 48 => ⟨S8x2048x1024, .f32⟩
  | 49 => ⟨S8x2048x1024, .f32⟩
  | 50 => ⟨S8x2048x1024, .f32⟩
  | 51 => ⟨S8x2048x1024, .f32⟩
  | 52 => ⟨S1x1x1024, .f32⟩
  | 53 => ⟨S8x2048x1024, .f32⟩
  | 54 => ⟨S8x2048x1024, .f32⟩
  | 55 => ⟨S16x512, .f32⟩
  | 56 => ⟨S512, .f32⟩
  | 57 => ⟨S4x256, .f32⟩
  | 58 => ⟨S1024x1024, .f32⟩
  | 59 => ⟨S8x2048x512, .f32⟩
  | 60 => ⟨S1x1x512, .f32⟩
  | 61 => ⟨S8x2048x512, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S8x2048x512, .f32⟩
  | 68 => ⟨S8x2048x512, .f32⟩
  | 69 => ⟨S8x2048x512, .i1⟩
  | 70 => ⟨S8x2048x512, .f32⟩
  | 71 => ⟨S8x2048x512, .f32⟩
  | 72 => ⟨S8x2048x512, .f32⟩
  | 73 => ⟨S8x2048x512, .f32⟩
  | 74 => ⟨S8x2048x512, .f32⟩
  | 75 => ⟨S8x2048x512, .f32⟩
  | 76 => ⟨S8x2048x512, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S8x32x64x4x128, .f32⟩
  | 83 => ⟨S_, .f32⟩
  | 84 => ⟨S8x32x64x4x128, .f32⟩
  | 85 => ⟨S8x32x64x4x128, .f32⟩
  | 86 => ⟨S8x32x64x4x128, .f32⟩
  | 87 => ⟨S8x32x64x4x256, .f32⟩
  | 88 => ⟨S8x32x64x4x128, .f32⟩
  | 89 => ⟨S_, .f32⟩
  | 90 => ⟨S_, .f32⟩
  | 91 => ⟨S8x32x64x4x128, .f32⟩
  | 92 => ⟨S8x32x1x4x128, .f32⟩
  | 93 => ⟨S8x32x64x4x128, .f32⟩
  | 94 => ⟨S8x32x64x4x128, .f32⟩
  | 95 => ⟨S8x32x64x4x128, .f32⟩
  | 96 => ⟨S8x32x64x4x128, .f32⟩
  | 97 => ⟨S8x32x4x128x256, .f32⟩
  | 98 => ⟨S8x32x4x128, .f32⟩
  | 99 => ⟨S8x32x4x128, .f32⟩
  | 100 => ⟨S_, .f32⟩
  | 101 => ⟨S8x4x128x256, .f32⟩
  | 102 => ⟨S8x1x4x128, .f32⟩
  | 103 => ⟨S8x4x128, .f32⟩
  | 104 => ⟨S8x4x128x1, .f32⟩
  | 105 => ⟨S8x4x128x256, .f32⟩
  | 106 => ⟨S8x4x128x256, .f32⟩
  | 107 => ⟨S8x1x4x128x256, .f32⟩
  | 108 => ⟨S8x4x128x256, .f32⟩
  | 109 => ⟨S8x4x128x256, .f32⟩
  | 110 => ⟨S8x1x4x128, .f32⟩
  | 111 => ⟨S8x4x128, .f32⟩
  | 112 => ⟨S8x4x128x1, .f32⟩
  | 113 => ⟨S8x4x128x256, .f32⟩
  | 114 => ⟨S8x4x128x256, .f32⟩
  | 115 => ⟨S8x1x4x128x256, .f32⟩
  | 116 => ⟨S8x4x128x256, .f32⟩
  | 117 => ⟨S8x4x128x256, .f32⟩
  | 118 => ⟨S8x1x4x128, .f32⟩
  | 119 => ⟨S8x4x128, .f32⟩
  | 120 => ⟨S8x4x128x1, .f32⟩
  | 121 => ⟨S8x4x128x256, .f32⟩
  | 122 => ⟨S8x4x128x256, .f32⟩
  | 123 => ⟨S8x1x4x128x256, .f32⟩
  | 124 => ⟨S8x4x128x256, .f32⟩
  | 125 => ⟨S8x4x128x256, .f32⟩
  | 126 => ⟨S8x1x4x128, .f32⟩
  | 127 => ⟨S8x4x128, .f32⟩
  | _ => ⟨S8x2048x1024, .f32⟩

abbrev hbmTy0_3 (i : Nat) : BufTy := match i % 128 with
  | 0 => ⟨S8x4x128x1, .f32⟩
  | 1 => ⟨S8x4x128x256, .f32⟩
  | 2 => ⟨S8x4x128x256, .f32⟩
  | 3 => ⟨S8x1x4x128x256, .f32⟩
  | 4 => ⟨S8x4x128x256, .f32⟩
  | 5 => ⟨S8x4x128x256, .f32⟩
  | 6 => ⟨S8x1x4x128, .f32⟩
  | 7 => ⟨S8x4x128, .f32⟩
  | 8 => ⟨S8x4x128x1, .f32⟩
  | 9 => ⟨S8x4x128x256, .f32⟩
  | 10 => ⟨S8x4x128x256, .f32⟩
  | 11 => ⟨S8x1x4x128x256, .f32⟩
  | 12 => ⟨S8x4x128x256, .f32⟩
  | 13 => ⟨S8x4x128x256, .f32⟩
  | 14 => ⟨S8x1x4x128, .f32⟩
  | 15 => ⟨S8x4x128, .f32⟩
  | 16 => ⟨S8x4x128x1, .f32⟩
  | 17 => ⟨S8x4x128x256, .f32⟩
  | 18 => ⟨S8x4x128x256, .f32⟩
  | 19 => ⟨S8x1x4x128x256, .f32⟩
  | 20 => ⟨S8x4x128x256, .f32⟩
  | 21 => ⟨S8x4x128x256, .f32⟩
  | 22 => ⟨S8x1x4x128, .f32⟩
  | 23 => ⟨S8x4x128, .f32⟩
  | 24 => ⟨S8x4x128x1, .f32⟩
  | 25 => ⟨S8x4x128x256, .f32⟩
  | 26 => ⟨S8x4x128x256, .f32⟩
  | 27 => ⟨S8x1x4x128x256, .f32⟩
  | 28 => ⟨S8x4x128x256, .f32⟩
  | 29 => ⟨S8x4x128x256, .f32⟩
  | 30 => ⟨S8x1x4x128, .f32⟩
  | 31 => ⟨S8x4x128, .f32⟩
  | 32 => ⟨S8x4x128x1, .f32⟩
  | 33 => ⟨S8x4x128x256, .f32⟩
  | 34 => ⟨S8x4x128x256, .f32⟩
  | 35 => ⟨S8x1x4x128x256, .f32⟩
  | 36 => ⟨S8x4x128x256, .f32⟩
  | 37 => ⟨S8x4x128x256, .f32⟩
  | 38 => ⟨S8x1x4x128, .f32⟩
  | 39 => ⟨S8x4x128, .f32⟩
  | 40 => ⟨S8x4x128x1, .f32⟩
  | 41 => ⟨S8x4x128x256, .f32⟩
  | 42 => ⟨S8x4x128x256, .f32⟩
  | 43 => ⟨S8x1x4x128x256, .f32⟩
  | 44 => ⟨S8x4x128x256, .f32⟩
  | 45 => ⟨S8x4x128x256, .f32⟩
  | 46 => ⟨S8x1x4x128, .f32⟩
  | 47 => ⟨S8x4x128, .f32⟩
  | 48 => ⟨S8x4x128x1, .f32⟩
  | 49 => ⟨S8x4x128x256, .f32⟩
  | 50 => ⟨S8x4x128x256, .f32⟩
  | 51 => ⟨S8x1x4x128x256, .f32⟩
  | 52 => ⟨S8x4x128x256, .f32⟩
  | 53 => ⟨S8x4x128x256, .f32⟩
  | 54 => ⟨S8x1x4x128, .f32⟩
  | 55 => ⟨S8x4x128, .f32⟩
  | 56 => ⟨S8x4x128x1, .f32⟩
  | 57 => ⟨S8x4x128x256, .f32⟩
  | 58 => ⟨S8x4x128x256, .f32⟩
  | 59 => ⟨S8x1x4x128x256, .f32⟩
  | 60 => ⟨S8x4x128x256, .f32⟩
  | 61 => ⟨S8x4x128x256, .f32⟩
  | 62 => ⟨S8x1x4x128, .f32⟩
  | 63 => ⟨S8x4x128, .f32⟩
  | 64 => ⟨S8x4x128x1, .f32⟩
  | 65 => ⟨S8x4x128x256, .f32⟩
  | 66 => ⟨S8x4x128x256, .f32⟩
  | 67 => ⟨S8x1x4x128x256, .f32⟩
  | 68 => ⟨S8x4x128x256, .f32⟩
  | 69 => ⟨S8x4x128x256, .f32⟩
  | 70 => ⟨S8x1x4x128, .f32⟩
  | 71 => ⟨S8x4x128, .f32⟩
  | 72 => ⟨S8x4x128x1, .f32⟩
  | 73 => ⟨S8x4x128x256, .f32⟩
  | 74 => ⟨S8x4x128x256, .f32⟩
  | 75 => ⟨S8x1x4x128x256, .f32⟩
  | 76 => ⟨S8x4x128x256, .f32⟩
  | 77 => ⟨S8x4x128x256, .f32⟩
  | 78 => ⟨S8x1x4x128, .f32⟩
  | 79 => ⟨S8x4x128, .f32⟩
  | 80 => ⟨S8x4x128x1, .f32⟩
  | 81 => ⟨S8x4x128x256, .f32⟩
  | 82 => ⟨S8x4x128x256, .f32⟩
  | 83 => ⟨S8x1x4x128x256, .f32⟩
  | 84 => ⟨S8x4x128x256, .f32⟩
  | 85 => ⟨S8x4x128x256, .f32⟩
  | 86 => ⟨S8x1x4x128, .f32⟩
  | 87 => ⟨S8x4x128, .f32⟩
  | 88 => ⟨S8x4x128x1, .f32⟩
  | 89 => ⟨S8x4x128x256, .f32⟩
  | 90 => ⟨S8x4x128x256, .f32⟩
  | 91 => ⟨S8x1x4x128x256, .f32⟩
  | 92 => ⟨S8x4x128x256, .f32⟩
  | 93 => ⟨S8x4x128x256, .f32⟩
  | 94 => ⟨S8x1x4x128, .f32⟩
  | 95 => ⟨S8x4x128, .f32⟩
  | 96 => ⟨S8x4x128x1, .f32⟩
  | 97 => ⟨S8x4x128x256, .f32⟩
  | 98 => ⟨S8x4x128x256, .f32⟩
  | 99 => ⟨S8x1x4x128x256, .f32⟩
  | 100 => ⟨S8x4x128x256, .f32⟩
  | 101 => ⟨S8x4x128x256, .f32⟩
  | 102 => ⟨S8x1x4x128, .f32⟩
  | 103 => ⟨S8x4x128, .f32⟩
  | 104 => ⟨S8x4x128x1, .f32⟩
  | 105 => ⟨S8x4x128x256, .f32⟩
  | 106 => ⟨S8x4x128x256, .f32⟩
  | 107 => ⟨S8x1x4x128x256, .f32⟩
  | 108 => ⟨S8x4x128x256, .f32⟩
  | 109 => ⟨S8x4x128x256, .f32⟩
  | 110 => ⟨S8x1x4x128, .f32⟩
  | 111 => ⟨S8x4x128, .f32⟩
  | 112 => ⟨S8x4x128x1, .f32⟩
  | 113 => ⟨S8x4x128x256, .f32⟩
  | 114 => ⟨S8x4x128x256, .f32⟩
  | 115 => ⟨S8x1x4x128x256, .f32⟩
  | 116 => ⟨S8x4x128x256, .f32⟩
  | 117 => ⟨S8x4x128x256, .f32⟩
  | 118 => ⟨S8x1x4x128, .f32⟩
  | 119 => ⟨S8x4x128, .f32⟩
  | 120 => ⟨S8x4x128x1, .f32⟩
  | 121 => ⟨S8x4x128x256, .f32⟩
  | 122 => ⟨S8x4x128x256, .f32⟩
  | 123 => ⟨S8x1x4x128x256, .f32⟩
  | 124 => ⟨S8x4x128x256, .f32⟩
  | 125 => ⟨S8x4x128x256, .f32⟩
  | 126 => ⟨S8x1x4x128, .f32⟩
  | 127 => ⟨S8x4x128, .f32⟩
  | _ => ⟨S8x2048x1024, .f32⟩

abbrev hbmTy0_4 (i : Nat) : BufTy := match i % 128 with
  | 0 => ⟨S8x4x128x1, .f32⟩
  | 1 => ⟨S8x4x128x256, .f32⟩
  | 2 => ⟨S8x4x128x256, .f32⟩
  | 3 => ⟨S8x1x4x128x256, .f32⟩
  | 4 => ⟨S8x4x128x256, .f32⟩
  | 5 => ⟨S8x4x128x256, .f32⟩
  | 6 => ⟨S8x1x4x128, .f32⟩
  | 7 => ⟨S8x4x128, .f32⟩
  | 8 => ⟨S8x4x128x1, .f32⟩
  | 9 => ⟨S8x4x128x256, .f32⟩
  | 10 => ⟨S8x4x128x256, .f32⟩
  | 11 => ⟨S8x1x4x128x256, .f32⟩
  | 12 => ⟨S8x4x128x256, .f32⟩
  | 13 => ⟨S8x4x128x256, .f32⟩
  | 14 => ⟨S8x1x4x128, .f32⟩
  | 15 => ⟨S8x4x128, .f32⟩
  | 16 => ⟨S8x4x128x1, .f32⟩
  | 17 => ⟨S8x4x128x256, .f32⟩
  | 18 => ⟨S8x4x128x256, .f32⟩
  | 19 => ⟨S8x1x4x128x256, .f32⟩
  | 20 => ⟨S8x4x128x256, .f32⟩
  | 21 => ⟨S8x4x128x256, .f32⟩
  | 22 => ⟨S8x1x4x128, .f32⟩
  | 23 => ⟨S8x4x128, .f32⟩
  | 24 => ⟨S8x4x128x1, .f32⟩
  | 25 => ⟨S8x4x128x256, .f32⟩
  | 26 => ⟨S8x4x128x256, .f32⟩
  | 27 => ⟨S8x1x4x128x256, .f32⟩
  | 28 => ⟨S8x4x128x256, .f32⟩
  | 29 => ⟨S8x4x128x256, .f32⟩
  | 30 => ⟨S8x1x4x128, .f32⟩
  | 31 => ⟨S8x4x128, .f32⟩
  | 32 => ⟨S8x4x128x1, .f32⟩
  | 33 => ⟨S8x4x128x256, .f32⟩
  | 34 => ⟨S8x4x128x256, .f32⟩
  | 35 => ⟨S8x1x4x128x256, .f32⟩
  | 36 => ⟨S8x4x128x256, .f32⟩
  | 37 => ⟨S8x4x128x256, .f32⟩
  | 38 => ⟨S8x1x4x128, .f32⟩
  | 39 => ⟨S8x4x128, .f32⟩
  | 40 => ⟨S8x4x128x1, .f32⟩
  | 41 => ⟨S8x4x128x256, .f32⟩
  | 42 => ⟨S8x4x128x256, .f32⟩
  | 43 => ⟨S8x1x4x128x256, .f32⟩
  | 44 => ⟨S8x4x128x256, .f32⟩
  | 45 => ⟨S8x4x128x256, .f32⟩
  | 46 => ⟨S8x1x4x128, .f32⟩
  | 47 => ⟨S8x4x128, .f32⟩
  | 48 => ⟨S8x4x128x1, .f32⟩
  | 49 => ⟨S8x4x128x256, .f32⟩
  | 50 => ⟨S8x4x128x256, .f32⟩
  | 51 => ⟨S8x1x4x128x256, .f32⟩
  | 52 => ⟨S8x4x128x256, .f32⟩
  | 53 => ⟨S8x4x128x256, .f32⟩
  | 54 => ⟨S8x1x4x128, .f32⟩
  | 55 => ⟨S8x4x128, .f32⟩
  | 56 => ⟨S8x4x128x1, .f32⟩
  | 57 => ⟨S8x4x128x256, .f32⟩
  | 58 => ⟨S8x4x128x256, .f32⟩
  | 59 => ⟨S8x1x4x128x256, .f32⟩
  | 60 => ⟨S8x4x128x256, .f32⟩
  | 61 => ⟨S8x4x128x256, .f32⟩
  | 62 => ⟨S8x1x4x128, .f32⟩
  | 63 => ⟨S8x4x128, .f32⟩
  | 64 => ⟨S8x4x128x1, .f32⟩
  | 65 => ⟨S8x4x128x256, .f32⟩
  | 66 => ⟨S8x4x128x256, .f32⟩
  | 67 => ⟨S8x1x4x128x256, .f32⟩
  | 68 => ⟨S8x4x128x256, .f32⟩
  | 69 => ⟨S8x4x128x256, .f32⟩
  | 70 => ⟨S8x1x4x128, .f32⟩
  | 71 => ⟨S8x4x128, .f32⟩
  | 72 => ⟨S8x4x128x1, .f32⟩
  | 73 => ⟨S8x4x128x256, .f32⟩
  | 74 => ⟨S8x4x128x256, .f32⟩
  | 75 => ⟨S8x1x4x128x256, .f32⟩
  | 76 => ⟨S8x4x128x256, .f32⟩
  | 77 => ⟨S8x4x128x256, .f32⟩
  | 78 => ⟨S8x1x4x128, .f32⟩
  | 79 => ⟨S8x4x128, .f32⟩
  | 80 => ⟨S8x4x128x1, .f32⟩
  | 81 => ⟨S8x4x128x256, .f32⟩
  | 82 => ⟨S8x4x128x256, .f32⟩
  | 83 => ⟨S8x1x4x128x256, .f32⟩
  | 84 => ⟨S8x4x128x256, .f32⟩
  | 85 => ⟨S8x4x128x256, .f32⟩
  | 86 => ⟨S8x1x4x128, .f32⟩
  | 87 => ⟨S8x4x128, .f32⟩
  | 88 => ⟨S8x4x128x1, .f32⟩
  | 89 => ⟨S8x4x128x256, .f32⟩
  | 90 => ⟨S8x4x128x256, .f32⟩
  | 91 => ⟨S8x1x4x128x256, .f32⟩
  | 92 => ⟨S8x4x128x256, .f32⟩
  | 93 => ⟨S8x4x128x256, .f32⟩
  | 94 => ⟨S8x1x4x128, .f32⟩
  | 95 => ⟨S8x4x128, .f32⟩
  | 96 => ⟨S8x4x128x1, .f32⟩
  | 97 => ⟨S8x4x128x256, .f32⟩
  | 98 => ⟨S8x4x128x256, .f32⟩
  | 99 => ⟨S8x1x4x128x256, .f32⟩
  | 100 => ⟨S8x4x128x256, .f32⟩
  | 101 => ⟨S8x4x128x256, .f32⟩
  | 102 => ⟨S8x1x4x128x256, .f32⟩
  | 103 => ⟨S8x1x4x128x256, .f32⟩
  | 104 => ⟨S8x1x4x128x256, .f32⟩
  | 105 => ⟨S8x1x4x128x256, .f32⟩
  | 106 => ⟨S8x1x4x128x256, .f32⟩
  | 107 => ⟨S8x1x4x128x256, .f32⟩
  | 108 => ⟨S8x1x4x128x256, .f32⟩
  | 109 => ⟨S8x1x4x128x256, .f32⟩
  | 110 => ⟨S8x1x4x128x256, .f32⟩
  | 111 => ⟨S8x1x4x128x256, .f32⟩
  | 112 => ⟨S8x1x4x128x256, .f32⟩
  | 113 => ⟨S8x1x4x128x256, .f32⟩
  | 114 => ⟨S8x1x4x128x256, .f32⟩
  | 115 => ⟨S8x1x4x128x256, .f32⟩
  | 116 => ⟨S8x1x4x128x256, .f32⟩
  | 117 => ⟨S8x1x4x128x256, .f32⟩
  | 118 => ⟨S8x1x4x128x256, .f32⟩
  | 119 => ⟨S8x1x4x128x256, .f32⟩
  | 120 => ⟨S8x1x4x128x256, .f32⟩
  | 121 => ⟨S8x1x4x128x256, .f32⟩
  | 122 => ⟨S8x1x4x128x256, .f32⟩
  | 123 => ⟨S8x1x4x128x256, .f32⟩
  | 124 => ⟨S8x1x4x128x256, .f32⟩
  | 125 => ⟨S8x1x4x128x256, .f32⟩
  | 126 => ⟨S8x1x4x128x256, .f32⟩
  | 127 => ⟨S8x1x4x128x256, .f32⟩
  | _ => ⟨S8x2048x1024, .f32⟩

abbrev hbmTy0_5 (i : Nat) : BufTy := match i % 128 with
  | 0 => ⟨S8x1x4x128x256, .f32⟩
  | 1 => ⟨S8x1x4x128x256, .f32⟩
  | 2 => ⟨S8x1x4x128x256, .f32⟩
  | 3 => ⟨S8x1x4x128x256, .f32⟩
  | 4 => ⟨S8x1x4x128x256, .f32⟩
  | 5 => ⟨S8x1x4x128x256, .f32⟩
  | 6 => ⟨S8x16x4x128x256, .f32⟩
  | 7 => ⟨S8x16x4x128x256, .f32⟩
  | 8 => ⟨S8x32x4x128x256, .f32⟩
  | 9 => ⟨S8x32x4x256x64, .f32⟩
  | 10 => ⟨S8x32x64x4x256, .f32⟩
  | 11 => ⟨S8x2048x4x256, .f32⟩
  | 12 => ⟨S8x2048x4x256, .f32⟩
  | 13 => ⟨S_, .f32⟩
  | 14 => ⟨S8x2048x4, .f32⟩
  | 15 => ⟨S8x2048x4x1, .f32⟩
  | 16 => ⟨S_, .f32⟩
  | 17 => ⟨S8x2048x4x1, .f32⟩
  | 18 => ⟨S8x2048x4x1, .f32⟩
  | 19 => ⟨S_, .f32⟩
  | 20 => ⟨S8x2048x4x1, .f32⟩
  | 21 => ⟨S8x2048x4x1, .f32⟩
  | 22 => ⟨S8x2048x4x1, .f32⟩
  | 23 => ⟨S8x2048x4x256, .f32⟩
  | 24 => ⟨S8x2048x4x256, .f32⟩
  | 25 => ⟨S1x1x4x256, .f32⟩
  | 26 => ⟨S8x2048x4x256, .f32⟩
  | 27 => ⟨S8x2048x4x256, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S8x2048x4x256, .f32⟩
  | 38 => ⟨S8x2048x4x256, .f32⟩
  | 39 => ⟨S8x2048x1024, .f32⟩
  | 40 => ⟨S8x2048x1024, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S8x2048x1024, .f32⟩
  | 59 => ⟨S8x2048x1024, .f32⟩
  | 60 => ⟨S1024x1024, .f32⟩
  | 61 => ⟨S8x2048x1024, .f32⟩
  | 62 => ⟨S1024, .f32⟩
  | 63 => ⟨S1x1x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S8x2048x1024, .f32⟩
  | 70 => ⟨S1024, .f32⟩
  | 71 => ⟨S1024, .f32⟩
  | 72 => ⟨S_, .f32⟩
  | 73 => ⟨S8x2048, .f32⟩
  | 74 => ⟨S8x2048x1, .f32⟩
  | 75 => ⟨S_, .f32⟩
  | 76 => ⟨S8x2048x1, .f32⟩
  | 77 => ⟨S8x2048x1, .f32⟩
  | 78 => ⟨S8x2048x1024, .f32⟩
  | 79 => ⟨S8x2048x1024, .f32⟩
  | 80 => ⟨S8x2048x1024, .f32⟩
  | 81 => ⟨S_, .f32⟩
  | 82 => ⟨S8x2048, .f32⟩
  | 83 => ⟨S8x2048x1, .f32⟩
  | 84 => ⟨S_, .f32⟩
  | 85 => ⟨S8x2048x1, .f32⟩
  | 86 => ⟨S8x2048x1, .f32⟩
  | 87 => ⟨S8x2048x1024, .f32⟩
  | 88 => ⟨S8x2048x1024, .f32⟩
  | 89 => ⟨S_, .f32⟩
  | 90 => ⟨S8x2048x1, .f32⟩
  | 91 => ⟨S8x2048x1, .f32⟩
  | 92 => ⟨S8x2048x1, .f32⟩
  | 93 => ⟨S8x2048x1024, .f32⟩
  | 94 => ⟨S8x2048x1024, .f32⟩
  | 95 => ⟨S1x1x1024, .f32⟩
  | 96 => ⟨S8x2048x1024, .f32⟩
  | 97 => ⟨S8x2048x1024, .f32⟩
  | 98 => ⟨S1x1x1024, .f32⟩
  | 99 => ⟨S8x2048x1024, .f32⟩
  | 100 => ⟨S8x2048x1024, .f32⟩
  | 101 => ⟨S16384x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_cst_1 : Ref sig .tc := ⟨.hbm, 269, rfl⟩
abbrev main_v248 : Ref sig .tc := ⟨.hbm, 270, rfl⟩
abbrev main_v249 : Ref sig .tc := ⟨.hbm, 271, rfl⟩
abbrev main_cst_2 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_cst_3 : Ref sig .tc := ⟨.hbm, 278, rfl⟩
abbrev main_v255 : Ref sig .tc := ⟨.hbm, 279, rfl⟩
abbrev main_v256 : Ref sig .tc := ⟨.hbm, 280, rfl⟩
abbrev main_cst_4 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_cst_5 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_call1_v0 : Ref sig .tc := ⟨.hbm, 298, rfl⟩
abbrev main_call1_v1 : Ref sig .tc := ⟨.hbm, 299, rfl⟩
abbrev main_call1_cst : Ref sig .tc := ⟨.hbm, 300, rfl⟩
abbrev main_call1_v2 : Ref sig .tc := ⟨.hbm, 301, rfl⟩
abbrev main_call1_v3 : Ref sig .tc := ⟨.hbm, 302, rfl⟩
abbrev main_call1_cst_0 : Ref sig .tc := ⟨.hbm, 303, rfl⟩
abbrev main_call1_v4 : Ref sig .tc := ⟨.hbm, 304, rfl⟩
abbrev main_call1_v5 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_call2_v0 : Ref sig .tc := ⟨.hbm, 319, rfl⟩
abbrev main_call2_call0_cst : Ref sig .tc := ⟨.hbm, 320, rfl⟩
abbrev main_call2_call0_v0 : Ref sig .tc := ⟨.hbm, 321, rfl⟩
abbrev main_call2_call0_v1 : Ref sig .tc := ⟨.hbm, 322, rfl⟩
abbrev main_call2_call0_v2 : Ref sig .tc := ⟨.hbm, 323, rfl⟩
abbrev main_call2_call0_v3 : Ref sig .tc := ⟨.hbm, 324, rfl⟩
abbrev main_call2_call0_v4 : Ref sig .tc := ⟨.hbm, 325, rfl⟩
abbrev main_call2_call0_v5 : Ref sig .tc := ⟨.hbm, 326, rfl⟩
abbrev main_call2_call0_v6 : Ref sig .tc := ⟨.hbm, 327, rfl⟩
abbrev main_call2_call0_v7 : Ref sig .tc := ⟨.hbm, 328, rfl⟩
abbrev main_call2_call0_v8 : Ref sig .tc := ⟨.hbm, 329, rfl⟩
abbrev main_call2_call0_v9 : Ref sig .tc := ⟨.hbm, 330, rfl⟩
abbrev main_call2_call0_v10 : Ref sig .tc := ⟨.hbm, 331, rfl⟩
abbrev main_call2_call0_v11 : Ref sig .tc := ⟨.hbm, 332, rfl⟩
abbrev main_call2_v1 : Ref sig .tc := ⟨.hbm, 333, rfl⟩
abbrev main_v285 : Ref sig .tc := ⟨.hbm, 334, rfl⟩
abbrev main_cst_6 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_cst_7 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_call3_call0_cst : Ref sig .tc := ⟨.hbm, 345, rfl⟩
abbrev main_call3_call0_v0 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_cst_8 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩
abbrev main_v366 : Ref sig .tc := ⟨.hbm, 420, rfl⟩
abbrev main_v367 : Ref sig .tc := ⟨.hbm, 421, rfl⟩
abbrev main_v368 : Ref sig .tc := ⟨.hbm, 422, rfl⟩
abbrev main_v369 : Ref sig .tc := ⟨.hbm, 423, rfl⟩
abbrev main_v370 : Ref sig .tc := ⟨.hbm, 424, rfl⟩
abbrev main_v371 : Ref sig .tc := ⟨.hbm, 425, rfl⟩
abbrev main_v372 : Ref sig .tc := ⟨.hbm, 426, rfl⟩
abbrev main_v373 : Ref sig .tc := ⟨.hbm, 427, rfl⟩
abbrev main_v374 : Ref sig .tc := ⟨.hbm, 428, rfl⟩
abbrev main_v375 : Ref sig .tc := ⟨.hbm, 429, rfl⟩
abbrev main_v376 : Ref sig .tc := ⟨.hbm, 430, rfl⟩
abbrev main_v377 : Ref sig .tc := ⟨.hbm, 431, rfl⟩
abbrev main_v378 : Ref sig .tc := ⟨.hbm, 432, rfl⟩
abbrev main_v379 : Ref sig .tc := ⟨.hbm, 433, rfl⟩
abbrev main_v380 : Ref sig .tc := ⟨.hbm, 434, rfl⟩
abbrev main_v381 : Ref sig .tc := ⟨.hbm, 435, rfl⟩
abbrev main_v382 : Ref sig .tc := ⟨.hbm, 436, rfl⟩
abbrev main_v383 : Ref sig .tc := ⟨.hbm, 437, rfl⟩
abbrev main_v384 : Ref sig .tc := ⟨.hbm, 438, rfl⟩
abbrev main_v385 : Ref sig .tc := ⟨.hbm, 439, rfl⟩
abbrev main_v386 : Ref sig .tc := ⟨.hbm, 440, rfl⟩
abbrev main_v387 : Ref sig .tc := ⟨.hbm, 441, rfl⟩
abbrev main_v388 : Ref sig .tc := ⟨.hbm, 442, rfl⟩
abbrev main_v389 : Ref sig .tc := ⟨.hbm, 443, rfl⟩
abbrev main_v390 : Ref sig .tc := ⟨.hbm, 444, rfl⟩
abbrev main_v391 : Ref sig .tc := ⟨.hbm, 445, rfl⟩
abbrev main_v392 : Ref sig .tc := ⟨.hbm, 446, rfl⟩
abbrev main_v393 : Ref sig .tc := ⟨.hbm, 447, rfl⟩
abbrev main_v394 : Ref sig .tc := ⟨.hbm, 448, rfl⟩
abbrev main_v395 : Ref sig .tc := ⟨.hbm, 449, rfl⟩
abbrev main_v396 : Ref sig .tc := ⟨.hbm, 450, rfl⟩
abbrev main_v397 : Ref sig .tc := ⟨.hbm, 451, rfl⟩
abbrev main_v398 : Ref sig .tc := ⟨.hbm, 452, rfl⟩
abbrev main_v399 : Ref sig .tc := ⟨.hbm, 453, rfl⟩
abbrev main_v400 : Ref sig .tc := ⟨.hbm, 454, rfl⟩
abbrev main_v401 : Ref sig .tc := ⟨.hbm, 455, rfl⟩
abbrev main_v402 : Ref sig .tc := ⟨.hbm, 456, rfl⟩
abbrev main_v403 : Ref sig .tc := ⟨.hbm, 457, rfl⟩
abbrev main_v404 : Ref sig .tc := ⟨.hbm, 458, rfl⟩
abbrev main_v405 : Ref sig .tc := ⟨.hbm, 459, rfl⟩
abbrev main_v406 : Ref sig .tc := ⟨.hbm, 460, rfl⟩
abbrev main_v407 : Ref sig .tc := ⟨.hbm, 461, rfl⟩
abbrev main_v408 : Ref sig .tc := ⟨.hbm, 462, rfl⟩
abbrev main_v409 : Ref sig .tc := ⟨.hbm, 463, rfl⟩
abbrev main_v410 : Ref sig .tc := ⟨.hbm, 464, rfl⟩
abbrev main_v411 : Ref sig .tc := ⟨.hbm, 465, rfl⟩
abbrev main_v412 : Ref sig .tc := ⟨.hbm, 466, rfl⟩
abbrev main_v413 : Ref sig .tc := ⟨.hbm, 467, rfl⟩
abbrev main_v414 : Ref sig .tc := ⟨.hbm, 468, rfl⟩
abbrev main_v415 : Ref sig .tc := ⟨.hbm, 469, rfl⟩
abbrev main_v416 : Ref sig .tc := ⟨.hbm, 470, rfl⟩
abbrev main_v417 : Ref sig .tc := ⟨.hbm, 471, rfl⟩
abbrev main_v418 : Ref sig .tc := ⟨.hbm, 472, rfl⟩
abbrev main_v419 : Ref sig .tc := ⟨.hbm, 473, rfl⟩
abbrev main_v420 : Ref sig .tc := ⟨.hbm, 474, rfl⟩
abbrev main_v421 : Ref sig .tc := ⟨.hbm, 475, rfl⟩
abbrev main_v422 : Ref sig .tc := ⟨.hbm, 476, rfl⟩
abbrev main_v423 : Ref sig .tc := ⟨.hbm, 477, rfl⟩
abbrev main_v424 : Ref sig .tc := ⟨.hbm, 478, rfl⟩
abbrev main_v425 : Ref sig .tc := ⟨.hbm, 479, rfl⟩
abbrev main_v426 : Ref sig .tc := ⟨.hbm, 480, rfl⟩
abbrev main_v427 : Ref sig .tc := ⟨.hbm, 481, rfl⟩
abbrev main_v428 : Ref sig .tc := ⟨.hbm, 482, rfl⟩
abbrev main_v429 : Ref sig .tc := ⟨.hbm, 483, rfl⟩
abbrev main_v430 : Ref sig .tc := ⟨.hbm, 484, rfl⟩
abbrev main_v431 : Ref sig .tc := ⟨.hbm, 485, rfl⟩
abbrev main_v432 : Ref sig .tc := ⟨.hbm, 486, rfl⟩
abbrev main_v433 : Ref sig .tc := ⟨.hbm, 487, rfl⟩
abbrev main_v434 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩
abbrev main_v444 : Ref sig .tc := ⟨.hbm, 498, rfl⟩
abbrev main_v445 : Ref sig .tc := ⟨.hbm, 499, rfl⟩
abbrev main_v446 : Ref sig .tc := ⟨.hbm, 500, rfl⟩
abbrev main_v447 : Ref sig .tc := ⟨.hbm, 501, rfl⟩
abbrev main_v448 : Ref sig .tc := ⟨.hbm, 502, rfl⟩
abbrev main_v449 : Ref sig .tc := ⟨.hbm, 503, rfl⟩
abbrev main_v450 : Ref sig .tc := ⟨.hbm, 504, rfl⟩
abbrev main_v451 : Ref sig .tc := ⟨.hbm, 505, rfl⟩
abbrev main_v452 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_v457 : Ref sig .tc := ⟨.hbm, 511, rfl⟩
abbrev main_v458 : Ref sig .tc := ⟨.hbm, 512, rfl⟩
abbrev main_v459 : Ref sig .tc := ⟨.hbm, 513, rfl⟩
abbrev main_v460 : Ref sig .tc := ⟨.hbm, 514, rfl⟩
abbrev main_v461 : Ref sig .tc := ⟨.hbm, 515, rfl⟩
abbrev main_v462 : Ref sig .tc := ⟨.hbm, 516, rfl⟩
abbrev main_v463 : Ref sig .tc := ⟨.hbm, 517, rfl⟩
abbrev main_v464 : Ref sig .tc := ⟨.hbm, 518, rfl⟩
abbrev main_v465 : Ref sig .tc := ⟨.hbm, 519, rfl⟩
abbrev main_v466 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_v472 : Ref sig .tc := ⟨.hbm, 526, rfl⟩
abbrev main_v473 : Ref sig .tc := ⟨.hbm, 527, rfl⟩
abbrev main_v474 : Ref sig .tc := ⟨.hbm, 528, rfl⟩
abbrev main_v475 : Ref sig .tc := ⟨.hbm, 529, rfl⟩
abbrev main_v476 : Ref sig .tc := ⟨.hbm, 530, rfl⟩
abbrev main_v477 : Ref sig .tc := ⟨.hbm, 531, rfl⟩
abbrev main_v478 : Ref sig .tc := ⟨.hbm, 532, rfl⟩
abbrev main_v479 : Ref sig .tc := ⟨.hbm, 533, rfl⟩
abbrev main_v480 : Ref sig .tc := ⟨.hbm, 534, rfl⟩
abbrev main_v481 : Ref sig .tc := ⟨.hbm, 535, rfl⟩
abbrev main_v482 : Ref sig .tc := ⟨.hbm, 536, rfl⟩
abbrev main_v483 : Ref sig .tc := ⟨.hbm, 537, rfl⟩
abbrev main_v484 : Ref sig .tc := ⟨.hbm, 538, rfl⟩
abbrev main_v485 : Ref sig .tc := ⟨.hbm, 539, rfl⟩
abbrev main_v486 : Ref sig .tc := ⟨.hbm, 540, rfl⟩
abbrev main_v487 : Ref sig .tc := ⟨.hbm, 541, rfl⟩
abbrev main_v488 : Ref sig .tc := ⟨.hbm, 542, rfl⟩
abbrev main_v489 : Ref sig .tc := ⟨.hbm, 543, rfl⟩
abbrev main_v490 : Ref sig .tc := ⟨.hbm, 544, rfl⟩
abbrev main_v491 : Ref sig .tc := ⟨.hbm, 545, rfl⟩
abbrev main_v492 : Ref sig .tc := ⟨.hbm, 546, rfl⟩
abbrev main_v493 : Ref sig .tc := ⟨.hbm, 547, rfl⟩
abbrev main_v494 : Ref sig .tc := ⟨.hbm, 548, rfl⟩
abbrev main_v495 : Ref sig .tc := ⟨.hbm, 549, rfl⟩
abbrev main_v496 : Ref sig .tc := ⟨.hbm, 550, rfl⟩
abbrev main_v497 : Ref sig .tc := ⟨.hbm, 551, rfl⟩
abbrev main_v498 : Ref sig .tc := ⟨.hbm, 552, rfl⟩
abbrev main_v499 : Ref sig .tc := ⟨.hbm, 553, rfl⟩
abbrev main_v500 : Ref sig .tc := ⟨.hbm, 554, rfl⟩
abbrev main_v501 : Ref sig .tc := ⟨.hbm, 555, rfl⟩
abbrev main_v502 : Ref sig .tc := ⟨.hbm, 556, rfl⟩
abbrev main_v503 : Ref sig .tc := ⟨.hbm, 557, rfl⟩
abbrev main_v504 : Ref sig .tc := ⟨.hbm, 558, rfl⟩
abbrev main_v505 : Ref sig .tc := ⟨.hbm, 559, rfl⟩
abbrev main_v506 : Ref sig .tc := ⟨.hbm, 560, rfl⟩
abbrev main_v507 : Ref sig .tc := ⟨.hbm, 561, rfl⟩
abbrev main_v508 : Ref sig .tc := ⟨.hbm, 562, rfl⟩
abbrev main_v509 : Ref sig .tc := ⟨.hbm, 563, rfl⟩
abbrev main_v510 : Ref sig .tc := ⟨.hbm, 564, rfl⟩
abbrev main_v511 : Ref sig .tc := ⟨.hbm, 565, rfl⟩
abbrev main_v512 : Ref sig .tc := ⟨.hbm, 566, rfl⟩
abbrev main_v513 : Ref sig .tc := ⟨.hbm, 567, rfl⟩
abbrev main_v514 : Ref sig .tc := ⟨.hbm, 568, rfl⟩
abbrev main_v515 : Ref sig .tc := ⟨.hbm, 569, rfl⟩
abbrev main_v516 : Ref sig .tc := ⟨.hbm, 570, rfl⟩
abbrev main_v517 : Ref sig .tc := ⟨.hbm, 571, rfl⟩
abbrev main_v518 : Ref sig .tc := ⟨.hbm, 572, rfl⟩
abbrev main_v519 : Ref sig .tc := ⟨.hbm, 573, rfl⟩
abbrev main_v520 : Ref sig .tc := ⟨.hbm, 574, rfl⟩
abbrev main_v521 : Ref sig .tc := ⟨.hbm, 575, rfl⟩
abbrev main_v522 : Ref sig .tc := ⟨.hbm, 576, rfl⟩
abbrev main_v523 : Ref sig .tc := ⟨.hbm, 577, rfl⟩
abbrev main_v524 : Ref sig .tc := ⟨.hbm, 578, rfl⟩
abbrev main_v525 : Ref sig .tc := ⟨.hbm, 579, rfl⟩
abbrev main_v526 : Ref sig .tc := ⟨.hbm, 580, rfl⟩
abbrev main_v527 : Ref sig .tc := ⟨.hbm, 581, rfl⟩
abbrev main_v528 : Ref sig .tc := ⟨.hbm, 582, rfl⟩
abbrev main_v529 : Ref sig .tc := ⟨.hbm, 583, rfl⟩
abbrev main_v530 : Ref sig .tc := ⟨.hbm, 584, rfl⟩
abbrev main_v531 : Ref sig .tc := ⟨.hbm, 585, rfl⟩
abbrev main_v532 : Ref sig .tc := ⟨.hbm, 586, rfl⟩
abbrev main_v533 : Ref sig .tc := ⟨.hbm, 587, rfl⟩
abbrev main_v534 : Ref sig .tc := ⟨.hbm, 588, rfl⟩
abbrev main_v535 : Ref sig .tc := ⟨.hbm, 589, rfl⟩
abbrev main_v536 : Ref sig .tc := ⟨.hbm, 590, rfl⟩
abbrev main_v537 : Ref sig .tc := ⟨.hbm, 591, rfl⟩
abbrev main_v538 : Ref sig .tc := ⟨.hbm, 592, rfl⟩
abbrev main_v539 : Ref sig .tc := ⟨.hbm, 593, rfl⟩
abbrev main_v540 : Ref sig .tc := ⟨.hbm, 594, rfl⟩
abbrev main_v541 : Ref sig .tc := ⟨.hbm, 595, rfl⟩
abbrev main_v542 : Ref sig .tc := ⟨.hbm, 596, rfl⟩
abbrev main_v543 : Ref sig .tc := ⟨.hbm, 597, rfl⟩
abbrev main_v544 : Ref sig .tc := ⟨.hbm, 598, rfl⟩
abbrev main_v545 : Ref sig .tc := ⟨.hbm, 599, rfl⟩
abbrev main_v546 : Ref sig .tc := ⟨.hbm, 600, rfl⟩
abbrev main_v547 : Ref sig .tc := ⟨.hbm, 601, rfl⟩
abbrev main_v548 : Ref sig .tc := ⟨.hbm, 602, rfl⟩
abbrev main_v549 : Ref sig .tc := ⟨.hbm, 603, rfl⟩
abbrev main_v550 : Ref sig .tc := ⟨.hbm, 604, rfl⟩
abbrev main_v551 : Ref sig .tc := ⟨.hbm, 605, rfl⟩
abbrev main_v552 : Ref sig .tc := ⟨.hbm, 606, rfl⟩
abbrev main_v553 : Ref sig .tc := ⟨.hbm, 607, rfl⟩
abbrev main_v554 : Ref sig .tc := ⟨.hbm, 608, rfl⟩
abbrev main_v555 : Ref sig .tc := ⟨.hbm, 609, rfl⟩
abbrev main_v556 : Ref sig .tc := ⟨.hbm, 610, rfl⟩
abbrev main_v557 : Ref sig .tc := ⟨.hbm, 611, rfl⟩
abbrev main_v558 : Ref sig .tc := ⟨.hbm, 612, rfl⟩
abbrev main_v559 : Ref sig .tc := ⟨.hbm, 613, rfl⟩
abbrev main_v560 : Ref sig .tc := ⟨.hbm, 614, rfl⟩
abbrev main_v561 : Ref sig .tc := ⟨.hbm, 615, rfl⟩
abbrev main_v562 : Ref sig .tc := ⟨.hbm, 616, rfl⟩
abbrev main_v563 : Ref sig .tc := ⟨.hbm, 617, rfl⟩
abbrev main_v564 : Ref sig .tc := ⟨.hbm, 618, rfl⟩
abbrev main_v565 : Ref sig .tc := ⟨.hbm, 619, rfl⟩
abbrev main_v566 : Ref sig .tc := ⟨.hbm, 620, rfl⟩
abbrev main_v567 : Ref sig .tc := ⟨.hbm, 621, rfl⟩
abbrev main_v568 : Ref sig .tc := ⟨.hbm, 622, rfl⟩
abbrev main_v569 : Ref sig .tc := ⟨.hbm, 623, rfl⟩
abbrev main_v570 : Ref sig .tc := ⟨.hbm, 624, rfl⟩
abbrev main_v571 : Ref sig .tc := ⟨.hbm, 625, rfl⟩
abbrev main_v572 : Ref sig .tc := ⟨.hbm, 626, rfl⟩
abbrev main_v573 : Ref sig .tc := ⟨.hbm, 627, rfl⟩
abbrev main_v574 : Ref sig .tc := ⟨.hbm, 628, rfl⟩
abbrev main_v575 : Ref sig .tc := ⟨.hbm, 629, rfl⟩
abbrev main_v576 : Ref sig .tc := ⟨.hbm, 630, rfl⟩
abbrev main_v577 : Ref sig .tc := ⟨.hbm, 631, rfl⟩
abbrev main_v578 : Ref sig .tc := ⟨.hbm, 632, rfl⟩
abbrev main_v579 : Ref sig .tc := ⟨.hbm, 633, rfl⟩
abbrev main_v580 : Ref sig .tc := ⟨.hbm, 634, rfl⟩
abbrev main_v581 : Ref sig .tc := ⟨.hbm, 635, rfl⟩
abbrev main_v582 : Ref sig .tc := ⟨.hbm, 636, rfl⟩
abbrev main_v583 : Ref sig .tc := ⟨.hbm, 637, rfl⟩
abbrev main_v584 : Ref sig .tc := ⟨.hbm, 638, rfl⟩
abbrev main_v585 : Ref sig .tc := ⟨.hbm, 639, rfl⟩
abbrev main_v586 : Ref sig .tc := ⟨.hbm, 640, rfl⟩
abbrev main_v587 : Ref sig .tc := ⟨.hbm, 641, rfl⟩
abbrev main_v588 : Ref sig .tc := ⟨.hbm, 642, rfl⟩
abbrev main_v589 : Ref sig .tc := ⟨.hbm, 643, rfl⟩
abbrev main_v590 : Ref sig .tc := ⟨.hbm, 644, rfl⟩
abbrev main_v591 : Ref sig .tc := ⟨.hbm, 645, rfl⟩
abbrev main_v592 : Ref sig .tc := ⟨.hbm, 646, rfl⟩
abbrev main_v593 : Ref sig .tc := ⟨.hbm, 647, rfl⟩
abbrev main_v594 : Ref sig .tc := ⟨.hbm, 648, rfl⟩
abbrev main_v595 : Ref sig .tc := ⟨.hbm, 649, rfl⟩
abbrev main_v596 : Ref sig .tc := ⟨.hbm, 650, rfl⟩
abbrev main_v597 : Ref sig .tc := ⟨.hbm, 651, rfl⟩
abbrev main_v598 : Ref sig .tc := ⟨.hbm, 652, rfl⟩
abbrev main_cst_9 : Ref sig .tc := ⟨.hbm, 653, rfl⟩
abbrev main_v599 : Ref sig .tc := ⟨.hbm, 654, rfl⟩
abbrev main_v600 : Ref sig .tc := ⟨.hbm, 655, rfl⟩
abbrev main_cst_10 : Ref sig .tc := ⟨.hbm, 656, rfl⟩
abbrev main_v601 : Ref sig .tc := ⟨.hbm, 657, rfl⟩
abbrev main_v602 : Ref sig .tc := ⟨.hbm, 658, rfl⟩
abbrev main_cst_11 : Ref sig .tc := ⟨.hbm, 659, rfl⟩
abbrev main_v603 : Ref sig .tc := ⟨.hbm, 660, rfl⟩
abbrev main_v604 : Ref sig .tc := ⟨.hbm, 661, rfl⟩
abbrev main_v605 : Ref sig .tc := ⟨.hbm, 662, rfl⟩
abbrev main_v606 : Ref sig .tc := ⟨.hbm, 663, rfl⟩
abbrev main_v607 : Ref sig .tc := ⟨.hbm, 664, rfl⟩
abbrev main_v608 : Ref sig .tc := ⟨.hbm, 665, rfl⟩
abbrev main_v609 : Ref sig .tc := ⟨.hbm, 666, rfl⟩
abbrev main_v610 : Ref sig .tc := ⟨.hbm, 667, rfl⟩
abbrev main_call4_v0 : Ref sig .tc := ⟨.hbm, 668, rfl⟩
abbrev main_call4_v1 : Ref sig .tc := ⟨.hbm, 669, rfl⟩
abbrev main_call4_cst : Ref sig .tc := ⟨.hbm, 670, rfl⟩
abbrev main_call4_v2 : Ref sig .tc := ⟨.hbm, 671, rfl⟩
abbrev main_call4_v3 : Ref sig .tc := ⟨.hbm, 672, rfl⟩
abbrev main_call4_cst_0 : Ref sig .tc := ⟨.hbm, 673, rfl⟩
abbrev main_call4_v4 : Ref sig .tc := ⟨.hbm, 674, rfl⟩
abbrev main_call4_v5 : Ref sig .tc := ⟨.hbm, 675, rfl⟩
abbrev main_v611 : Ref sig .tc := ⟨.hbm, 676, rfl⟩
abbrev main_v612 : Ref sig .tc := ⟨.hbm, 677, rfl⟩
abbrev main_v613 : Ref sig .tc := ⟨.hbm, 678, rfl⟩
abbrev main_v614 : Ref sig .tc := ⟨.hbm, 679, rfl⟩
abbrev main_v615 : Ref sig .tc := ⟨.hbm, 680, rfl⟩
abbrev main_v616 : Ref sig .tc := ⟨.hbm, 681, rfl⟩
abbrev main_v617 : Ref sig .tc := ⟨.hbm, 682, rfl⟩
abbrev main_cst_12 : Ref sig .tc := ⟨.hbm, 683, rfl⟩
abbrev main_v618 : Ref sig .tc := ⟨.hbm, 684, rfl⟩
abbrev main_v619 : Ref sig .tc := ⟨.hbm, 685, rfl⟩
abbrev main_cst_13 : Ref sig .tc := ⟨.hbm, 686, rfl⟩
abbrev main_v620 : Ref sig .tc := ⟨.hbm, 687, rfl⟩
abbrev main_v621 : Ref sig .tc := ⟨.hbm, 688, rfl⟩
abbrev main_v622 : Ref sig .tc := ⟨.hbm, 689, rfl⟩
abbrev main_v623 : Ref sig .tc := ⟨.hbm, 690, rfl⟩
abbrev main_v624 : Ref sig .tc := ⟨.hbm, 691, rfl⟩
abbrev main_cst_14 : Ref sig .tc := ⟨.hbm, 692, rfl⟩
abbrev main_v625 : Ref sig .tc := ⟨.hbm, 693, rfl⟩
abbrev main_v626 : Ref sig .tc := ⟨.hbm, 694, rfl⟩
abbrev main_cst_15 : Ref sig .tc := ⟨.hbm, 695, rfl⟩
abbrev main_v627 : Ref sig .tc := ⟨.hbm, 696, rfl⟩
abbrev main_v628 : Ref sig .tc := ⟨.hbm, 697, rfl⟩
abbrev main_v629 : Ref sig .tc := ⟨.hbm, 698, rfl⟩
abbrev main_v630 : Ref sig .tc := ⟨.hbm, 699, rfl⟩
abbrev main_v631 : Ref sig .tc := ⟨.hbm, 700, rfl⟩
abbrev main_v632 : Ref sig .tc := ⟨.hbm, 701, rfl⟩
abbrev main_v633 : Ref sig .tc := ⟨.hbm, 702, rfl⟩
abbrev main_v634 : Ref sig .tc := ⟨.hbm, 703, rfl⟩
abbrev main_v635 : Ref sig .tc := ⟨.hbm, 704, rfl⟩
abbrev main_v636 : Ref sig .tc := ⟨.hbm, 705, rfl⟩
abbrev main_cst_16 : Ref sig .tc := ⟨.hbm, 706, rfl⟩
abbrev main_v637 : Ref sig .tc := ⟨.hbm, 707, rfl⟩
abbrev main_v638 : Ref sig .tc := ⟨.hbm, 708, rfl⟩
abbrev main_v639 : Ref sig .tc := ⟨.hbm, 709, rfl⟩
abbrev main_v640 : Ref sig .tc := ⟨.hbm, 710, rfl⟩
abbrev main_v641 : Ref sig .tc := ⟨.hbm, 711, rfl⟩
abbrev main_cst_17 : Ref sig .tc := ⟨.hbm, 712, rfl⟩
abbrev main_v642 : Ref sig .tc := ⟨.hbm, 713, rfl⟩
abbrev main_v643 : Ref sig .tc := ⟨.hbm, 714, rfl⟩
abbrev main_cst_18 : Ref sig .tc := ⟨.hbm, 715, rfl⟩
abbrev main_v644 : Ref sig .tc := ⟨.hbm, 716, rfl⟩
abbrev main_v645 : Ref sig .tc := ⟨.hbm, 717, rfl⟩
abbrev main_v646 : Ref sig .tc := ⟨.hbm, 718, rfl⟩
abbrev main_v647 : Ref sig .tc := ⟨.hbm, 719, rfl⟩
abbrev main_v648 : Ref sig .tc := ⟨.hbm, 720, rfl⟩
abbrev main_cst_19 : Ref sig .tc := ⟨.hbm, 721, rfl⟩
abbrev main_v649 : Ref sig .tc := ⟨.hbm, 722, rfl⟩
abbrev main_v650 : Ref sig .tc := ⟨.hbm, 723, rfl⟩
abbrev main_cst_20 : Ref sig .tc := ⟨.hbm, 724, rfl⟩
abbrev main_v651 : Ref sig .tc := ⟨.hbm, 725, rfl⟩
abbrev main_v652 : Ref sig .tc := ⟨.hbm, 726, rfl⟩
abbrev main_v653 : Ref sig .tc := ⟨.hbm, 727, rfl⟩
abbrev main_v654 : Ref sig .tc := ⟨.hbm, 728, rfl⟩
abbrev main_cst_21 : Ref sig .tc := ⟨.hbm, 729, rfl⟩
abbrev main_v655 : Ref sig .tc := ⟨.hbm, 730, rfl⟩
abbrev main_v656 : Ref sig .tc := ⟨.hbm, 731, rfl⟩
abbrev main_v657 : Ref sig .tc := ⟨.hbm, 732, rfl⟩
abbrev main_v658 : Ref sig .tc := ⟨.hbm, 733, rfl⟩
abbrev main_v659 : Ref sig .tc := ⟨.hbm, 734, rfl⟩
abbrev main_v660 : Ref sig .tc := ⟨.hbm, 735, rfl⟩
abbrev main_v661 : Ref sig .tc := ⟨.hbm, 736, rfl⟩
abbrev main_v662 : Ref sig .tc := ⟨.hbm, 737, rfl⟩
abbrev main_v663 : Ref sig .tc := ⟨.hbm, 738, rfl⟩
abbrev main_v664 : Ref sig .tc := ⟨.hbm, 739, rfl⟩
abbrev main_v665 : Ref sig .tc := ⟨.hbm, 740, rfl⟩
abbrev main_v666 : Ref sig .tc := ⟨.hbm, 741, rfl⟩

abbrev nD : Nat := 1
abbrev τ : Topo := Topo.v7x

variable {F : FTy → Type} [FloatOps F]
-- ==== Proof.KFrame.lean ====
/- What the mixer's arrays and carried scratch hold point by point, the body's obligation at every point, and the run. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384
-- the body's triple is restated at 28 windows and 11 scratch operands: past the default budget
set_option maxHeartbeats 2000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases
variable (c : Dev nD) (i : grid0.Coords) (arg2 : Memref sig .tc .vmem S512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S512x1024 .bf16) (harg9 : arg9.IsWhole) (arg10 : Memref sig .tc .vmem S512x512 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x2048 .bf16) (harg13 : arg13.IsWhole) (arg14 : Memref sig .tc .vmem S1x2048 .f32) (harg14 : arg14.IsWhole) (arg15 : Memref sig .tc .vmem S8x32x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S512x128 .bf16) (harg21 : arg21.IsWhole) (arg22 : Memref sig .tc .vmem S512x512 .f32) (harg22 : arg22.IsWhole) (arg23 : Memref sig .tc .vmem S4x256 .f32) (harg23 : arg23.IsWhole) (arg24 : Memref sig .tc .vmem S1024x1024 .bf16) (harg24 : arg24.IsWhole) (arg25 : Memref sig .tc .vmem S1024x1024 .bf16) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S512x1024 .f32) (harg29 : arg29.IsWhole) (arg30 : Memref sig .tc .vmem S8x544x128 .f32) (harg30 : arg30.IsWhole) (arg31 : Memref sig .tc .vmem S8x512x128 .f32) (harg31 : arg31.IsWhole) (arg32 : Memref sig .tc .vmem S4x128x256 .f32) (harg32 : arg32.IsWhole) (arg33 : Memref sig .tc .vmem S512x2560 .f32) (harg33 : arg33.IsWhole) (arg34 : Memref sig .tc .vmem S512x512 .f32) (harg34 : arg34.IsWhole) (arg35 : Memref sig .tc .vmem S512x512 .f32) (harg35 : arg35.IsWhole) (arg36 : Memref sig .tc .vmem S32x128x256 .f32) (harg36 : arg36.IsWhole) (arg37 : Memref sig .tc .vmem S32x128x256 .bf16) (harg37 : arg37.IsWhole) (arg38 : Memref sig .tc .vmem S512x1024 .bf16) (harg38 : arg38.IsWhole) (arg39 : Memref sig .tc .vmem S512x1024 .f32) (harg39 : arg39.IsWhole) (arg40 : Memref sig .tc .vmem S512x1024 .f32) (harg40 : arg40.IsWhole)
section
variable (hc0 : cond0_0 i) (x0 : Vec F S512x1024 .f32) (x1 : Vec F S1024x2048 .bf16) (x2 : Vec F S1x2048 .f32) (x3 : Vec F S1024x512 .bf16) (x4 : Vec F S1x512 .f32) (x5 : Vec F S1024x2048 .bf16) (x6 : Vec F S1x2048 .f32) (x7 : Vec F S512x1024 .bf16) (x8 : Vec F S512x512 .f32) (x9 : Vec F S1024x128 .bf16) (x10 : Vec F S1x128 .f32) (x11 : Vec F S1024x2048 .bf16) (x12 : Vec F S1x2048 .f32) (x13 : Vec F S8x32x128 .f32) (x14 : Vec F S1x1024 .f32) (x15 : Vec F S1x1024 .f32) (x16 : Vec F S1x1024 .f32) (x17 : Vec F S1024x1024 .bf16) (x18 : Vec F S1x1024 .f32) (x19 : Vec F S512x128 .bf16) (x20 : Vec F S512x512 .f32) (x21 : Vec F S4x256 .f32) (x22 : Vec F S1024x1024 .bf16) (x23 : Vec F S1024x1024 .bf16) (x24 : Vec F S1x1024 .f32) (x25 : Vec F S1x1024 .f32) (x26 : Vec F S1x1024 .f32)
/-- Case A's pieces for output 27 tile its block (1 store of `S512x1024`, checked by the kernel's evaluation: Lib/Ring.lean `Piece.tiledL`, linear in the pieces, through a loop's `@[irreducible]` trip theorem too), so they cover it. -/
theorem cover0_A_27 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).1 S512x1024.size (by sl_kernel_rfl) y

/-- What case A leaves in output 27's staging buffer: its pieces read back over junk. -/
def out0_A_27 : Vec F S512x1024 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).1)

/-- Case A's pieces for scratch `arg30`, which the kernel carries between points, cover it: 10 pieces (stores and landed copies) of several sizes (`S1x512x128`, `S8x32x128`) tiling it when cut into blocks of `![1, 32, 128]` (Lib/Ring.lean `Piece.tiledBy`). -/
theorem scover0_A_0 (y : S8x544x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.1 ![1, 32, 128] (by sl_kernel_rfl) y

/-- What case A leaves in scratch `arg30`: its pieces read back over junk. -/
def sout0_A_0 : Vec F S8x544x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.1)

/-- Case A's pieces for scratch `arg32`, which the kernel carries between points, cover it: one of them a store of the WHOLE buffer (Lib/Ring.lean `sl_whole_mem`). -/
theorem scover0_A_2 (y : S4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.2.1 (by sl_whole_mem) y

/-- What case A leaves in scratch `arg32`: its pieces read back over junk. -/
def sout0_A_2 : Vec F S4x128x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.2.1)

end
section
variable (hc0 : ¬cond0_0 i) (x0 : Vec F S512x1024 .f32) (x1 : Vec F S1024x2048 .bf16) (x2 : Vec F S1x2048 .f32) (x3 : Vec F S1024x512 .bf16) (x4 : Vec F S1x512 .f32) (x5 : Vec F S1024x2048 .bf16) (x6 : Vec F S1x2048 .f32) (x7 : Vec F S512x1024 .bf16) (x8 : Vec F S512x512 .f32) (x9 : Vec F S1024x128 .bf16) (x10 : Vec F S1x128 .f32) (x11 : Vec F S1024x2048 .bf16) (x12 : Vec F S1x2048 .f32) (x13 : Vec F S8x32x128 .f32) (x14 : Vec F S1x1024 .f32) (x15 : Vec F S1x1024 .f32) (x16 : Vec F S1x1024 .f32) (x17 : Vec F S1024x1024 .bf16) (x18 : Vec F S1x1024 .f32) (x19 : Vec F S512x128 .bf16) (x20 : Vec F S512x512 .f32) (x21 : Vec F S4x256 .f32) (x22 : Vec F S1024x1024 .bf16) (x23 : Vec F S1024x1024 .bf16) (x24 : Vec F S1x1024 .f32) (x25 : Vec F S1x1024 .f32) (x26 : Vec F S1x1024 .f32) (xs0 : Vec F S8x544x128 .f32) (xs2 : Vec F S4x128x256 .f32)
/-- Case B's pieces for output 27 tile its block (1 store of `S512x1024`, checked by the kernel's evaluation: Lib/Ring.lean `Piece.tiledL`, linear in the pieces, through a loop's `@[irreducible]` trip theorem too), so they cover it. -/
theorem cover0_B_27 (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).1 S512x1024.size (by sl_kernel_rfl) y

/-- What case B leaves in output 27's staging buffer: its pieces read back over junk. -/
def out0_B_27 : Vec F S512x1024 .f32 :=
  VO0_27.read (Elt F) (VO0_27.writes (Elt F) VO0_27.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).1)

/-- Case B's pieces for scratch `arg30`, which the kernel carries between points, cover it: 9 pieces (stores and landed copies) of several sizes (`S1x512x128`, `S8x32x128`) tiling it when cut into blocks of `![1, 32, 128]` (Lib/Ring.lean `Piece.tiledBy`). -/
theorem scover0_B_0 (y : S8x544x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.1 ![1, 32, 128] (by sl_kernel_rfl) y

/-- What case B leaves in scratch `arg30`: its pieces read back over junk. -/
def sout0_B_0 : Vec F S8x544x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.1)

/-- Case B's pieces for scratch `arg32`, which the kernel carries between points, cover it: 32 pieces of `S1x128x256` tiling it (Lib/Ring.lean `Piece.tiledL`). -/
theorem scover0_B_2 (y : S4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.2.1 S1x128x256.size (by sl_kernel_rfl) y

/-- What case B leaves in scratch `arg32`: its pieces read back over junk. -/
def sout0_B_2 : Vec F S4x128x256 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.2.1)

end
end Cases

/-! ## What the outputs hold after each point -/

/-- What the body leaves at a point of case A: the output, and the two scratches it carries. -/
def stepA (c : Dev nD) (t : Fin cfg0.N) (h : cond0_0 (grid0.coords t)) : Vec F S512x1024 .f32 × Vec F S8x544x128 .f32 × Vec F S4x128x256 .f32 :=
  (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t))

/-- What the body leaves at a point of case B, over the two scratches it finds. -/
def stepB (c : Dev nD) (t : Fin cfg0.N) (h : ¬cond0_0 (grid0.coords t)) (u : Vec F S8x544x128 .f32) (s : Vec F S4x128x256 .f32) :
    Vec F S512x1024 .f32 × Vec F S8x544x128 .f32 × Vec F S4x128x256 .f32 :=
  (out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) u s, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) u s, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) u s)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S8x544x128 .f32 × Vec F S4x128x256 .f32
  | 0, hn => stepA m c ⟨0, hn⟩ ((hcond0_0 ⟨0, hn⟩).mpr (Nat.zero_mod _))
  | n + 1, hn =>
    if h0 : (n + 1) % 4 = 0 then
      stepA m c ⟨n + 1, hn⟩ ((hcond0_0 ⟨n + 1, hn⟩).mpr h0)
    else
      stepB m c ⟨n + 1, hn⟩ (fun h => h0 ((hcond0_0 ⟨n + 1, hn⟩).mp h))
        (outsAt0 c n (Nat.lt_of_succ_lt hn)).2.1 (outsAt0 c n (Nat.lt_of_succ_lt hn)).2.2

/-- `outsAt0` at a point of case A: that case's contents. -/
theorem outsAt0_A (c : Dev nD) (t : Fin cfg0.N) (h0 : t.val % 4 = 0) :
    outsAt0 m c t.val t.isLt = stepA m c t ((hcond0_0 t).mpr h0) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = stepB m c t (fun h => h0 ((hcond0_0 t).mp h))
      (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t.val t.isLt).1
    | ⟨_ + 28, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold stepA out0_A_27 sout0_A_0 sout0_A_2; (try dsimp only)
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, H7, H8, H9, H10, H11, H12, H13, H14, H15, H16, H17, H18, H19, H20, H21, H22, H23, H24, H25, H26, ⟨%e27, H27⟩, ⟨%es0, HS0⟩, HS1, ⟨%es2, HS2⟩, ⟨%fT3, HS3⟩, ⟨%fT4, HS4⟩, ⟨%fT5, HS5⟩, ⟨%fT6, HS6⟩, ⟨%fT7, HS7⟩, ⟨%fT8, HS8⟩, HS9, ⟨%fT10, HS10⟩⟩
      isplitl [HS0 HS1 HS2 HS3 HS4 HS5 HS6 HS7 HS8 HS9 HS10 Hg]
      · isplitl [HS0 HS1 HS2 HS3 HS4 HS5 HS6 HS7 HS8 HS9 HS10]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          iexists _; unfold owns; iexists _; isplitr
          swap; · iexact HS10
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold stepA out0_A_27 sout0_A_0 sout0_A_2; (try dsimp only)
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      isplitl [HS0]; · iexists _; iexact HS0
      isplitl [HS1]; · iexact HS1
      isplitl [HS2]; · iexists _; iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, H7, H8, H9, H10, H11, H12, H13, H14, H15, H16, H17, H18, H19, H20, H21, H22, H23, H24, H25, H26, ⟨%e27, H27⟩, ⟨%es0, HS0⟩, HS1, ⟨%es2, HS2⟩, ⟨%fT3, HS3⟩, ⟨%fT4, HS4⟩, ⟨%fT5, HS5⟩, ⟨%fT6, HS6⟩, ⟨%fT7, HS7⟩, ⟨%fT8, HS8⟩, HS9, ⟨%fT10, HS10⟩⟩
      isplitl [HS0 HS1 HS2 HS3 HS4 HS5 HS6 HS7 HS8 HS9 HS10 Hg]
      · isplitl [HS0 HS1 HS2 HS3 HS4 HS5 HS6 HS7 HS8 HS9 HS10]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          iexists _; unfold owns; iexists _; isplitr
          swap; · iexact HS10
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold stepB out0_B_27 sout0_B_0 sout0_B_2; (try dsimp only)
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, H7, H8, H9, H10, H11, H12, H13, H14, H15, H16, H17, H18, H19, H20, H21, H22, H23, H24, H25, H26, ⟨%e27, H27⟩, ⟨%es0, HS0⟩, HS1, ⟨%es2, HS2⟩, ⟨%fT3, HS3⟩, ⟨%fT4, HS4⟩, ⟨%fT5, HS5⟩, ⟨%fT6, HS6⟩, ⟨%fT7, HS7⟩, ⟨%fT8, HS8⟩, HS9, ⟨%fT10, HS10⟩⟩
      isplitl [HS0 HS1 HS2 HS3 HS4 HS5 HS6 HS7 HS8 HS9 HS10 Hg]
      · isplitl [HS0 HS1 HS2 HS3 HS4 HS5 HS6 HS7 HS8 HS9 HS10]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          iexists _; unfold owns; iexists _; isplitr
          swap; · iexact HS10
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10⟩, Hg⟩
  isplitl [HS0 HS1 HS2 HS3 HS4 HS5 HS6 HS7 HS8 HS9 HS10]
  · isplitl [HS0]
    · iexists _; iexact HS0
    isplitl [HS1]
    · iexact HS1
    isplitl [HS2]
    · iexists _; iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    iexact HS10
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.Frames.lean ====
/- The three frames: the kernel's run at the words and over the extended reals is one run; the reference is a host program. -/
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFrame
@[expose] public section
noncomputable section
namespace Cert.Proof
open Idealize.ShloMosaic Idealize.SL.Sem
/-- The kernel's frame, said of the text that is read over the extended reals, at bits. -/
def quiet : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

/-- The two printed texts are the same program, so the statement about the one is the statement about the other. -/
theorem quiet_eq : Cert.quiescent_Kernel = quiet := by sl_kernel_rfl

theorem frame_kernel : Cert.quiescent_Kernel :=
  quiet_eq.mpr fun m ρ _ => Cert.KernelIdeal.Gen.frame (F := Bits) m ρ

theorem frame_ideal : Cert.quiescent_KernelIdeal := fun m ρ _ => Cert.KernelIdeal.Gen.frame (F := Ideal) m ρ

/-- The reference keeps its arguments, and it declares no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.Proof
end
-- ==== Proof.Spec.lean ====
/- The token-mixing sublayer written as functions of plain indices: a batch, a token, a channel. Both programs are read
   against these functions. -/
module

public import Idealize.ShloMosaic.Lib.Pointwise

@[expose] public section

noncomputable section

namespace Cert.Mix

open Idealize.ShloMosaic

/-- The arguments of both programs, by plain indices. -/
structure Args where
  X : ℕ → ℕ → ℕ → EReal
  Win : ℕ → ℕ → EReal
  Bin : ℕ → EReal
  Cw : ℕ → ℕ → EReal
  Cb : ℕ → EReal
  Clg : ℕ → EReal
  Clb : ℕ → EReal
  Wco : ℕ → ℕ → EReal
  Bco : ℕ → EReal
  Wgu : ℕ → ℕ → EReal
  Bgu : ℕ → EReal
  Ng : ℕ → ℕ → EReal
  Wgo : ℕ → ℕ → EReal
  Wout : ℕ → ℕ → EReal
  Bout : ℕ → EReal
  L1g : ℕ → EReal
  L1b : ℕ → EReal

variable (a : Args)

/-- The joint input projection at column `c`. -/
def H (b s c : ℕ) : EReal := ∑ d : Fin 1024, a.X b s d * a.Win d c + a.Bin c

/-- The gated convolution input. -/
def U (b s c : ℕ) : EReal := H a b s c * Ideal.logistic (H a b s (1024 + c))

/-- The convolution input of a batch behind 32 rows of zeros. -/
def Uh (b p c : ℕ) : EReal := if p < 32 then 0 else U a b (p - 32) c

/-- The causal convolution over the 31 positions that end at token `s`. -/
def Cv (b s c : ℕ) : EReal := ∑ j : Fin 31, Uh a b (s + 2 + j) c * a.Cw j c

/-- The mean of 1024 channels. -/
def mean (f : ℕ → EReal) : EReal := Ideal.div (∑ x : Fin 1024, f x) (Ideal.ofBits FTy.f32 1149239296#32)

/-- The mean of the squared distances from `mu`. -/
def var (f : ℕ → EReal) (mu : EReal) : EReal :=
  Ideal.div (∑ x : Fin 1024, (f x - mu) * (f x - mu)) (Ideal.ofBits FTy.f32 1149239296#32)

/-- Layer normalisation of 1024 channels. -/
def lnorm (f g h : ℕ → EReal) (l : ℕ) : EReal :=
  (f l - mean f) * Ideal.rsqrt (var f (mean f) + Ideal.ofBits FTy.f32 925353388#32) * g l + h l

/-- The convolution branch before its activation. -/
def Cn (b s c : ℕ) : EReal := lnorm (fun l => Cv a b s l + a.Cb l) a.Clg a.Clb c

/-- The convolution branch's output. -/
def Yc (b s e : ℕ) : EReal :=
  ∑ d : Fin 1024, Cn a b s d * Ideal.logistic (Cn a b s d) * a.Wco d e + a.Bco e

/-- The logarithm of the logistic function, as the layer computes it. -/
def lsg (v : EReal) : EReal := min v 0 - Ideal.log (1 + Ideal.exp (0 - FloatOps.absf (F := Ideal) (φ := .f32) v))

/-- The logarithm of the forget gate. -/
def La (b s k : ℕ) : EReal :=
  Ideal.div (lsg (∑ j : Fin 16, a.Wgu j k * H a b s (5120 + j) + a.Bgu k)) (Ideal.ofBits FTy.f32 1098907648#32)

/-- The running sum of the log gates from the start of chunk `n` to its position `t`. -/
def Cum (b n t k : ℕ) : EReal := ∑ x : Fin 64, if x.val ≤ t then La a b (64 * n + x) k else 0

/-- The sum of the log gates over chunk `n`. -/
def Cend (b n k : ℕ) : EReal := ∑ x : Fin 64, La a b (64 * n + x) k

/-- A key decayed to the end of its chunk. -/
def Kd (b n t k : ℕ) : EReal := H a b (64 * n + t) (2560 + k) * Ideal.exp (Cend a b n k - Cum a b n t k)

/-- What chunk `n` adds to head `h`'s state. -/
def Kv (b n h k v : ℕ) : EReal :=
  ∑ t : Fin 64, Kd a b n t (128 * h + k) * H a b (64 * n + t) (3072 + (256 * h + v))

/-- Head `h`'s state after the first `n` chunks. -/
def St (b h k v : ℕ) : ℕ → EReal
  | 0 => 0
  | n + 1 => Ideal.exp (Cend a b n (128 * h + k)) * St b h k v n + Kv a b n h k v

/-- A query read against its chunk's state. -/
def O (b s h v : ℕ) : EReal :=
  ∑ k : Fin 128, H a b s (2048 + (128 * h + k)) * Ideal.ofBits FTy.f32 1035273459#32 * St a b h k v (s / 64 + 1)

/-- The head's output, normalised by its mean square and gated. -/
def Og (b s h v : ℕ) : EReal :=
  O a b s h v
    * Ideal.rsqrt (Ideal.div (∑ x : Fin 256, O a b s h x * O a b s h x) (Ideal.ofBits FTy.f32 1132462080#32)
        + Ideal.ofBits FTy.f32 897988541#32)
    * a.Ng h v
    * (H a b s (4096 + (256 * h + v)) * Ideal.logistic (H a b s (4096 + (256 * h + v))))

/-- The linear-attention branch's output. -/
def Yg (b s e : ℕ) : EReal := ∑ j : Fin 1024, Og a b s (j / 256) (j % 256) * a.Wgo j e

/-- The two branches under their gates. -/
def Mg (b s e : ℕ) : EReal :=
  Ideal.logistic (H a b s (5136 + e)) * Yc a b s e + Ideal.logistic (H a b s (6160 + e)) * Yg a b s e

/-- The mixed sublayer output. -/
def Mix (b s e : ℕ) : EReal := ∑ j : Fin 1024, Mg a b s j * a.Wout j e + a.Bout e

/-- The sublayer's result: the scaled residual plus the mix, normalised. -/
def Out (b s e : ℕ) : EReal :=
  lnorm (fun l => Ideal.ofBits FTy.f32 1066940400#32 * a.X b s l + Mix a b s l) a.L1g a.L1b e

end Cert.Mix

end
-- ==== Proof.Sums.lean ====
/- The masked sums behind the running sums of a chunk. -/
module

public import proofs.«01_k».proof.Proof.Gen.KernelIdeal.Skeleton
public import proofs.«01_k».proof.Proof.Spec

@[expose] public section

set_option maxRecDepth 16384

noncomputable section

namespace Cert.Mix

open Idealize.ShloMosaic Idealize.ShloMosaic.TcCoe Idealize.SL.Sem
open Cert.KernelIdeal Cert.KernelIdeal.Gen

/-! ### The masks of the running sums -/

theorem shr6 : ∀ r : Fin 256, IntOp.shrsi ArithUnit.vector (BitVec.ofNat 32 r.val) 6#32 = BitVec.ofNat 32 (r.val / 64) := by
  decide +kernel

theorem eq4 : ∀ i j : Fin 4, IntOp.cmpi CmpIPredicate.eq (BitVec.ofNat 32 i.val) (BitVec.ofNat 32 j.val)
    = if i.val = j.val then 1#1 else 0#1 := by decide +kernel

theorem sle256 (i j : Fin 256) : IntOp.cmpi CmpIPredicate.sle (BitVec.ofNat 32 i.val) (BitVec.ofNat 32 j.val)
    = if i.val ≤ j.val then 1#1 else 0#1 := by
  have hi := i.isLt
  have hj := j.isLt
  have e : BitVec.sle (BitVec.ofNat 32 i.val) (BitVec.ofNat 32 j.val) = decide (i.val ≤ j.val) := by
    rw [BitVec.sle_eq_decide]
    congr 1
    rw [BitVec.toInt_ofNat', BitVec.toInt_ofNat', Int.bmod_eq_of_le (by omega) (by omega), Int.bmod_eq_of_le (by omega) (by omega)]
    exact propext Int.ofNat_le
  by_cases h : i.val ≤ j.val <;> simp [IntOp.cmpi, e, h]

/-- Which pairs of positions lie in one chunk. -/
theorem pay136_eq (r l : Fin 256) :
    k0_pay136 (F := Ideal) (ix2 r l) = if r.val / 64 = l.val / 64 then 1 else 0 := by
  pointwise [k0_pay136, k0_pay134]
  rw [shr6, shr6, eq4 ⟨r.val / 64, by omega⟩ ⟨l.val / 64, by omega⟩]
  by_cases h : r.val / 64 = l.val / 64
  · rw [if_pos h, if_pos h]; simp [FloatOps.sitofp]
  · rw [if_neg h, if_neg h]; simp [FloatOps.sitofp]

/-- Which pairs of positions lie in one chunk in order. -/
theorem pay135_eq (r l : Fin 256) :
    k0_pay135 (F := Ideal) (ix2 r l) = if r.val / 64 = l.val / 64 ∧ r.val ≤ l.val then 1 else 0 := by
  pointwise [k0_pay135, k0_pay134]
  rw [shr6, shr6, eq4 ⟨r.val / 64, by omega⟩ ⟨l.val / 64, by omega⟩, sle256]
  by_cases h : r.val / 64 = l.val / 64 <;> by_cases h' : r.val ≤ l.val <;>
    simp only [h, h', if_true, if_false, and_true, and_false, true_and, false_and] <;>
    simp [FloatOps.sitofp, IntOp.andi]

/-! ### Sums -/

/-- A value and its distance from itself add up to the value, unless it is the upper infinity. -/
theorem add_sub_self {x : EReal} (h : x ≠ ⊤) : x + (x - x) = x := by
  induction x with
  | bot => rfl
  | top => exact absurd rfl h
  | coe r => rw [← EReal.coe_sub, ← EReal.coe_add]; simp

/-- A masked sum taken in two parts. -/
theorem hilo {n : ℕ} (f : Fin n → EReal) (hf : ∀ r, f r ≠ ⊤) (p : Fin n → Prop) [DecidablePred p] :
    ∑ r, f r * (if p r then (1 : EReal) else 0) + ∑ r, (f r - f r) * (if p r then (1 : EReal) else 0)
      = ∑ r, if p r then f r else 0 := by
  rw [← Finset.sum_add_distrib]
  refine Finset.sum_congr rfl fun r _ => ?_
  by_cases h : p r
  · simp only [h, if_true, mul_one]; exact add_sub_self (hf r)
  · simp only [h, if_false, mul_zero, add_zero]

/-- A sum over 256 positions that keeps one chunk of 64. -/
theorem sum_chunk (g : ℕ → EReal) (c : Fin 4) (p : ℕ → Prop) [DecidablePred p] :
    (∑ r : Fin 256, if r.val / 64 = c.val ∧ p r.val then g r.val else 0)
      = ∑ x : Fin 64, if p (64 * c.val + x.val) then g (64 * c.val + x.val) else 0 := by
  rw [Fin.sum_univ_eq_sum_range (fun r => if r / 64 = c.val ∧ p r then g r else 0) 256,
    Fin.sum_univ_eq_sum_range (fun x => if p (64 * c.val + x) then g (64 * c.val + x) else 0) 64]
  have hc := c.isLt
  symm
  rw [← Finset.sum_image (s := Finset.range 64) (g := fun x => 64 * c.val + x)
    (f := fun r => if p r then g r else 0) (fun x _ y _ h => by simpa using h)]
  rw [← Finset.sum_subset (s₁ := (Finset.range 64).image (fun x => 64 * c.val + x)) (s₂ := Finset.range 256)
    (f := fun r => if r / 64 = c.val ∧ p r then g r else 0)]
  · refine Finset.sum_congr rfl fun r hr => ?_
    obtain ⟨x, hx, rfl⟩ := Finset.mem_image.mp hr
    have := Finset.mem_range.mp hx
    have e : (64 * c.val + x) / 64 = c.val := by omega
    simp only [e, true_and]
  · intro r hr
    obtain ⟨x, hx, rfl⟩ := Finset.mem_image.mp hr
    have := Finset.mem_range.mp hx
    exact Finset.mem_range.mpr (by omega)
  · intro r hr hn
    have := Finset.mem_range.mp hr
    refine if_neg fun h => hn (Finset.mem_image.mpr ⟨r - 64 * c.val, Finset.mem_range.mpr (by omega), by omega⟩)

/-! ### The log gate is never the upper infinity -/

theorem exp_nonneg (x : EReal) : 0 ≤ Ideal.exp x := by
  induction x with
  | bot => exact le_refl _
  | top => exact le_top
  | coe r => exact EReal.coe_nonneg.mpr (Real.exp_pos r).le

theorem log_nonneg {x : EReal} (h : 1 ≤ x) : 0 ≤ Ideal.log x := by
  induction x with
  | bot => exact absurd h (by decide)
  | top => exact le_top
  | coe r =>
    have hr : (1 : ℝ) ≤ r := by exact_mod_cast h
    show (0 : EReal) ≤ if r ≤ 0 then ⊥ else (Real.log r : EReal)
    rw [if_neg (by linarith)]
    exact EReal.coe_nonneg.mpr (Real.log_nonneg hr)

theorem lsg_nonpos (v : EReal) : lsg v ≤ 0 := by
  unfold lsg
  have h1 : (1 : EReal) ≤ 1 + Ideal.exp (0 - FloatOps.absf (F := Ideal) (φ := .f32) v) :=
    le_add_of_nonneg_right (exp_nonneg _)
  have h2 := log_nonneg h1
  exact EReal.sub_nonpos.mpr ((min_le_right v 0).trans h2)

theorem bits16 : Ideal.ofBits FTy.f32 1098907648#32 = ((16 : ℝ) : EReal) := by
  simp [Ideal.ofBits, Ideal.ieee]
  rw [← EReal.coe_mul]
  norm_num

theorem La_ne_top (a : Args) (b s k : ℕ) : La a b s k ≠ ⊤ := by
  unfold La
  have h := lsg_nonpos (∑ j : Fin 16, a.Wgu j k * H a b s (5120 + j) + a.Bgu k)
  generalize lsg _ = x at h
  rw [bits16]
  unfold Ideal.div
  rw [if_neg (by norm_num)]
  induction x with
  | bot =>
    rw [← EReal.coe_inv, EReal.bot_mul_coe_of_pos (by norm_num)]; exact bot_ne_top
  | top => exact absurd h (by simp)
  | coe r => rw [← EReal.coe_inv, ← EReal.coe_mul]; exact EReal.coe_ne_top _

/-! ### The running sums of a tile -/

section
variable {a : Args} {b s n : ℕ} {v z : FVec Ideal S512x512 .f32}

theorem half_sum (hs : s = 64 * n) (k : ℕ) (o : Fin 2) (l : Fin 256) :
    (∑ r : Fin 256, La a b (s + (256 * o.val + r.val)) k * (if r.val / 64 = l.val / 64 ∧ r.val ≤ l.val then (1 : EReal) else 0))
      + ∑ r : Fin 256, (La a b (s + (256 * o.val + r.val)) k - La a b (s + (256 * o.val + r.val)) k)
          * (if r.val / 64 = l.val / 64 ∧ r.val ≤ l.val then (1 : EReal) else 0)
      = Cum a b (n + 4 * o.val + l.val / 64) (l.val % 64) k := by
  rw [hilo (fun r : Fin 256 => La a b (s + (256 * o.val + r.val)) k) (fun r => La_ne_top _ _ _ _)
    (fun r => r.val / 64 = l.val / 64 ∧ r.val ≤ l.val)]
  rw [sum_chunk (fun r => La a b (s + (256 * o.val + r)) k) ⟨l.val / 64, by omega⟩ (fun r => r ≤ l.val)]
  refine Finset.sum_congr rfl fun x _ => ?_
  have e : (64 * (l.val / 64) + x.val ≤ l.val) ↔ x.val ≤ l.val % 64 := by omega
  simp only [e]
  by_cases h : x.val ≤ l.val % 64
  · rw [if_pos h, if_pos h]
    exact congrArg (fun t => La a b t k) (by omega)
  · rw [if_neg h, if_neg h]

theorem half_end (hs : s = 64 * n) (k : ℕ) (o : Fin 2) (l : Fin 256) :
    (∑ r : Fin 256, La a b (s + (256 * o.val + r.val)) k * (if r.val / 64 = l.val / 64 then (1 : EReal) else 0))
      + ∑ r : Fin 256, (La a b (s + (256 * o.val + r.val)) k - La a b (s + (256 * o.val + r.val)) k)
          * (if r.val / 64 = l.val / 64 then (1 : EReal) else 0)
      = Cend a b (n + 4 * o.val + l.val / 64) k := by
  rw [hilo (fun r : Fin 256 => La a b (s + (256 * o.val + r.val)) k) (fun r => La_ne_top _ _ _ _)
    (fun r => r.val / 64 = l.val / 64)]
  have h := sum_chunk (fun r => La a b (s + (256 * o.val + r)) k) ⟨l.val / 64, by omega⟩ (fun r => True)
  simp only [and_true, if_true] at h
  rw [h]
  exact Finset.sum_congr rfl fun x _ => congrArg (fun t => La a b t k) (by omega)

theorem pay137_eq (hs : s = 64 * n) (hla : ∀ k r, k0_pay131 (F := Ideal) v z (ix2 k r) = La a b (s + r.val) k.val)
    (k : Fin 512) (l : Fin 256) :
    k0_pay137 (F := Ideal) v z (ix2 k l) = Cum a b (n + l / 64) (l % 64) k := by
  pointwise [k0_pay137, k0_pay132, k0_pay133]
  simp only [hla, pay135_eq]
  simpa using half_sum (a := a) (b := b) hs k 0 l

theorem pay138_eq (hs : s = 64 * n) (hla : ∀ k r, k0_pay131 (F := Ideal) v z (ix2 k r) = La a b (s + r.val) k.val)
    (k : Fin 512) (l : Fin 256) :
    k0_pay138 (F := Ideal) v z (ix2 k l) = Cend a b (n + l / 64) k := by
  pointwise [k0_pay138, k0_pay132, k0_pay133]
  simp only [hla, pay136_eq]
  simpa using half_end (a := a) (b := b) hs k 0 l

/-- The whole sums of a tile's chunks. -/
theorem pay141_eq (hs : s = 64 * n) (hla : ∀ k r, k0_pay131 (F := Ideal) v z (ix2 k r) = La a b (s + r.val) k.val)
    (k l : Fin 512) :
    k0_pay141 (F := Ideal) (k0_pay132 v z) (k0_pay133 v z) k0_pay136 (k0_pay138 v z) (ix2 k l)
      = Cend a b (n + l / 64) k := by
  pointwise [k0_pay141, k0_pay132, k0_pay133]
  simp only [hla, pay136_eq, pay138_eq hs hla]
  split_ifs with h
  · rfl
  · have := half_end (a := a) (b := b) hs k 1 ⟨l.val - 256, by omega⟩
    simp only [show (1 : Fin 2).val = 1 from rfl, mul_one] at this
    rw [this]
    exact congrArg (fun t => Cend a b t k) (by omega)
  · exact absurd rfl ‹_›

/-- The factor a chunk puts on the state. -/
theorem pay143_eq (hs : s = 64 * n) (hla : ∀ k r, k0_pay131 (F := Ideal) v z (ix2 k r) = La a b (s + r.val) k.val)
    (k l : Fin 512) :
    k0_pay143 (F := Ideal) (k0_pay132 v z) (k0_pay133 v z) k0_pay136 (k0_pay138 v z) (ix2 k l)
      = Ideal.exp (Cend a b (n + l / 64) k) := by
  pointwise [k0_pay143]
  rw [pay141_eq hs hla]

/-- The keys decayed to the ends of their chunks. -/
theorem pay142_eq {y : FVec Ideal S512x512 .f32} (hs : s = 64 * n)
    (hy : ∀ k r, y (ix2 k r) = H a b (s + r.val) (2560 + k.val))
    (hla : ∀ k r, k0_pay131 (F := Ideal) v z (ix2 k r) = La a b (s + r.val) k.val)
    (k l : Fin 512) :
    k0_pay142 (F := Ideal) y (k0_pay132 v z) (k0_pay133 v z) k0_pay135 k0_pay136 (k0_pay137 v z) (k0_pay138 v z)
        (k0_pay139 v z) (k0_pay140 v z) (ix2 k l)
      = Kd a b (n + l / 64) (l % 64) k := by
  pointwise [k0_pay142, k0_pay139, k0_pay140, k0_pay132, k0_pay133]
  simp only [hla, hy, pay135_eq, pay137_eq hs hla]
  unfold Kd
  refine congrArg₂ (· * ·) (congrArg (fun t => H a b t _) (by omega)) (congrArg Ideal.exp (congrArg₂ (· - ·) (pay141_eq hs hla k l) ?_))
  split_ifs with h
  · rfl
  · have := half_sum (a := a) (b := b) hs k 1 ⟨l.val - 256, by omega⟩
    simp only [show (1 : Fin 2).val = 1 from rfl, mul_one] at this
    rw [this]
    exact congrArg₂ (fun t x => Cum a b t x k) (by omega) (by omega)
  · exact absurd rfl ‹_›

/-! ### A chunk's contribution to the state, and the state's read-out -/

/-- A product over a pair of chunks that keeps one of them. -/
theorem kv_sum (n h k v : ℕ) (o : Fin 2) :
    (∑ x : Fin 128, (if x.val / 64 = o.val then Kd a b (n + x.val / 64) (x.val % 64) (128 * h + k) else 0)
        * H a b (64 * n + x.val) (3072 + (256 * h + v)))
      = Kv a b (n + o) h k v := by
  have ho := o.isLt
  rw [Fin.sum_univ_tiles 2 64 rfl]
  rw [Finset.sum_eq_single o]
  · refine Finset.sum_congr rfl fun x _ => ?_
    have e : (o.val * 64 + x.val) / 64 = o.val := by omega
    have e' : (o.val * 64 + x.val) % 64 = x.val := by omega
    simp only [e, e', if_true]
    exact congrArg (_ * ·) (congrArg (fun t => H a b t _) (by omega))
  · intro j _ hj
    refine Finset.sum_eq_zero fun x _ => ?_
    have : ¬ (j.val * 64 + x.val) / 64 = o.val := fun e => hj (Fin.ext (by omega))
    simp only [this, if_false, zero_mul]
  · intro h; exact absurd (Finset.mem_univ _) h

theorem shr6' : ∀ r : Fin 128, IntOp.shrsi ArithUnit.vector (BitVec.ofNat 32 r.val) 6#32 = BitVec.ofNat 32 (r.val / 64) := by
  decide +kernel

/-- The half of a pair of chunks that a position lies in, compared. -/
theorem eq_half (o : Fin 2) (x : Fin 128) :
    IntOp.cmpi CmpIPredicate.eq (IntOp.shrsi ArithUnit.vector (BitVec.ofNat 32 x.val) 6#32) (BitVec.ofNat 32 o.val)
      = if x.val / 64 = o.val then 1#1 else 0#1 := by
  rw [shr6']
  exact eq4 ⟨x.val / 64, by omega⟩ ⟨o.val, by omega⟩

end

end Cert.Mix

end
-- ==== Proof.Base.lean ====
/- What the blocks hold, and readings of loads and pieces. -/
module

public import proofs.«01_k».proof.Proof.Gen.KernelIdeal.Loops
public import proofs.«01_k».proof.Proof.Sums
public import Idealize.ShloMosaic.Lib.Pipeline.ReadBack
public import Idealize.ShloMosaic.Lib.WholeRead

@[expose] public section

set_option maxRecDepth 16384

noncomputable section

namespace Cert.Mix

open Idealize.ShloMosaic Idealize.ShloMosaic.TcCoe Idealize.SL.Sem
open Cert.KernelIdeal Cert.KernelIdeal.Gen
/-- What the kernel's input blocks hold at batch `b` and tile `q` of 512 tokens. -/
structure Blk (a : Args) (b q : ℕ) (x0 : Vec Ideal S512x1024 .f32) (x1 : Vec Ideal S1024x2048 .bf16) (x2 : Vec Ideal S1x2048 .f32) (x3 : Vec Ideal S1024x512 .bf16) (x4 : Vec Ideal S1x512 .f32) (x5 : Vec Ideal S1024x2048 .bf16) (x6 : Vec Ideal S1x2048 .f32) (x7 : Vec Ideal S512x1024 .bf16) (x8 : Vec Ideal S512x512 .f32) (x9 : Vec Ideal S1024x128 .bf16) (x10 : Vec Ideal S1x128 .f32) (x11 : Vec Ideal S1024x2048 .bf16) (x12 : Vec Ideal S1x2048 .f32) (x13 : Vec Ideal S8x32x128 .f32) (x14 : Vec Ideal S1x1024 .f32) (x15 : Vec Ideal S1x1024 .f32) (x16 : Vec Ideal S1x1024 .f32) (x17 : Vec Ideal S1024x1024 .bf16) (x18 : Vec Ideal S1x1024 .f32) (x19 : Vec Ideal S512x128 .bf16) (x20 : Vec Ideal S512x512 .f32) (x21 : Vec Ideal S4x256 .f32) (x22 : Vec Ideal S1024x1024 .bf16) (x23 : Vec Ideal S1024x1024 .bf16) (x24 : Vec Ideal S1x1024 .f32) (x25 : Vec Ideal S1x1024 .f32) (x26 : Vec Ideal S1x1024 .f32) : Prop where
  h0 : ∀ r d, x0 (ix2 r d) = a.X b (512 * q + r.val) d.val
  h1 : ∀ d c, x1 (ix2 d c) = a.Win d.val c.val
  h2 : ∀ o c, x2 (ix2 o c) = a.Bin c.val
  h3 : ∀ d c, x3 (ix2 d c) = a.Win d.val (2048 + c.val)
  h4 : ∀ o c, x4 (ix2 o c) = a.Bin (2048 + c.val)
  h5 : ∀ d c, x5 (ix2 d c) = a.Win d.val (3072 + c.val)
  h6 : ∀ o c, x6 (ix2 o c) = a.Bin (3072 + c.val)
  h7 : ∀ k d, x7 (ix2 k d) = a.Win d.val (2560 + k.val)
  h8 : ∀ k r, x8 (ix2 k r) = a.Bin (2560 + k.val)
  h9 : ∀ d j, x9 (ix2 d j) = if j.val < 16 then a.Win d.val (5120 + j.val) else 0
  h10 : ∀ o j, x10 (ix2 o j) = if j.val < 16 then a.Bin (5120 + j.val) else 0
  h11 : ∀ d c, x11 (ix2 d c) = a.Win d.val (5136 + c.val)
  h12 : ∀ o c, x12 (ix2 o c) = a.Bin (5136 + c.val)
  h13 : ∀ y, x13 y = if (y 1).val < 31 then a.Cw (y 1).val (128 * (y 0).val + (y 2).val) else 0
  h14 : ∀ o c, x14 (ix2 o c) = a.Cb c.val
  h15 : ∀ o c, x15 (ix2 o c) = a.Clg c.val
  h16 : ∀ o c, x16 (ix2 o c) = a.Clb c.val
  h17 : ∀ d c, x17 (ix2 d c) = a.Wco d.val c.val
  h18 : ∀ o c, x18 (ix2 o c) = a.Bco c.val
  h19 : ∀ k j, x19 (ix2 k j) = if j.val < 16 then a.Wgu j.val k.val else 0
  h20 : ∀ k r, x20 (ix2 k r) = a.Bgu k.val
  h21 : ∀ h v, x21 (ix2 h v) = a.Ng h.val v.val
  h22 : ∀ d c, x22 (ix2 d c) = a.Wgo d.val c.val
  h23 : ∀ d c, x23 (ix2 d c) = a.Wout d.val c.val
  h24 : ∀ o c, x24 (ix2 o c) = a.Bout c.val
  h25 : ∀ o c, x25 (ix2 o c) = a.L1g c.val
  h26 : ∀ o c, x26 (ix2 o c) = a.L1b c.val

section
variable {m n p r l A B C : ℕ}

theorem emb2 (g : ℕ → ℕ → EReal) (inb) (x : Fin p) (y : Fin r) :
    (fun z : (⟨2, ![m, n]⟩ : Shape).Idx => g (z 0).val (z 1).val)
        ((Rect.unit (s := ⟨2, ![m, n]⟩) ![A, B] ![p, r] inb).emb (ix2 x y)) = g (A + x) (B + y) := by
  show g (A + 1 * x.val) (B + 1 * y.val) = _
  rw [Nat.one_mul, Nat.one_mul]

theorem emb3 {k : ℕ} (g : ℕ → ℕ → ℕ → EReal) (inb) (x : Fin p) (y : Fin r) (w : Fin l) :
    (fun z : (⟨3, ![m, n, k]⟩ : Shape).Idx => g (z 0).val (z 1).val (z 2).val)
        ((Rect.unit (s := ⟨3, ![m, n, k]⟩) ![A, B, C] ![p, r, l] inb).emb (ix3 x y w)) = g (A + x) (B + y) (C + w) := by
  show g (A + 1 * x.val) (B + 1 * y.val) (C + 1 * w.val) = _
  rw [Nat.one_mul, Nat.one_mul, Nat.one_mul]

end

theorem ldw {sp : Space} {e : EltTy} {m n : ℕ} {v : Memref sig .tc sp ⟨2, ![m, n]⟩ e} (h : v.IsWhole) (inb)
    (X : Vec Ideal ⟨2, ![m, n]⟩ e) (y : (⟨2, ![m, n]⟩ : Shape).Idx) :
    View.readAt (Elt Ideal) v.view (Rect.unit (s := ⟨2, ![m, n]⟩) ![0, 0] ![m, n] inb).toLoadRect (h.unread X) y = X y := by
  rw [h.readAt_unread]
  refine congrArg X (funext fun i => Fin.ext ?_)
  show (![0, 0] : Fin 2 → ℕ) i + 1 * (y i).val = (y i).val
  fin_cases i
  · show 0 + 1 * (y 0).val = (y 0).val; omega
  · show 0 + 1 * (y 1).val = (y 1).val; omega

theorem canon_of {S : Shape} {e : EltTy} {L : List (View.Piece (Elt Ideal) S e)} {G : S.Idx → Elt Ideal e}
    (hp : View.PiecesOf G L) (hc : ∀ y, ∃ p ∈ L, y ∈ p.1.set) : View.canon L = G :=
  funext fun y => View.canon_apply_of_pieces G L hp.mem y (hc y)

/-- Projections: the queries, then the values and the output gates. -/
def Pj (a : Args) (b q r c : ℕ) : EReal :=
  if c < 512 then H a b (512 * q + r) (2048 + c) else H a b (512 * q + r) (2560 + c)

theorem Pj_q {a : Args} {b q r c : ℕ} (h : c < 512) : Pj a b q r c = H a b (512 * q + r) (2048 + c) := if_pos h
theorem Pj_v {a : Args} {b q r c : ℕ} (h : 512 ≤ c) : Pj a b q r c = H a b (512 * q + r) (2560 + c) := if_neg (by omega)

theorem kv_close (a : Args) (b q T h o : ℕ) (ho : o < 2) {w : BitVec 32} (hw : w = BitVec.ofNat 32 o) (k v : ℕ) :
    (∑ x : Fin 128, Scalar.select (IntOp.cmpi CmpIPredicate.eq (IntOp.shrsi ArithUnit.vector (BitVec.ofNat 32 x.val) 6#32) w)
        (Kd a b (8 * q + (128 * T + x.val) / 64) ((128 * T + x.val) % 64) (128 * h + k)
          * Pj a b q (128 * T + x.val) (512 + 256 * h + v)) 0)
      = Kv a b (8 * q + (2 * T + o)) h k v := by
  have hk := kv_sum (a := a) (b := b) (8 * q + 2 * T) h k v ⟨o, ho⟩
  rw [← Nat.add_assoc]
  refine Eq.trans (Finset.sum_congr rfl fun x _ => ?_) hk
  have hx := x.isLt
  rw [hw, eq_half ⟨o, ho⟩ x, Pj_v (by omega), show 8 * q + (128 * T + x.val) / 64 = 8 * q + 2 * T + x.val / 64 by omega,
    show (128 * T + x.val) % 64 = x.val % 64 by omega,
    show 512 * q + (128 * T + x.val) = 64 * (8 * q + 2 * T) + x.val by omega,
    show 2560 + (512 + 256 * h + v) = 3072 + (256 * h + v) by omega]
  by_cases e : x.val / 64 = o
  · rw [if_pos e, if_pos e]; rfl
  · rw [if_neg e, if_neg e, zero_mul]; rfl

end Cert.Mix
end
-- ==== Proof.Pay.lean ====
/- The values that the mixer stores, read at an index. -/
module

public import proofs.«01_k».proof.Proof.Gen.KernelIdeal.Skeleton
public import proofs.«01_k».proof.Proof.Spec

@[expose] public section

set_option maxRecDepth 16384

noncomputable section

namespace Cert.Mix

open Idealize.ShloMosaic Idealize.ShloMosaic.TcCoe Idealize.SL.Sem
open Cert.KernelIdeal Cert.KernelIdeal.Gen

variable {a : Args} {b s : ℕ}

/-- The convolution input of a tile of tokens. -/
theorem pay106_eq {x : Vec Ideal S512x1024 .f32} {w : Vec Ideal S1024x2048 .bf16} {z : Vec Ideal S1x2048 .f32}
    (hx : ∀ r d, x (ix2 r d) = a.X b (s + r.val) d.val) (hw : ∀ d c, w (ix2 d c) = a.Win d.val c.val)
    (hz : ∀ o c, z (ix2 o c) = a.Bin c.val) (r : Fin 512) (l : Fin 1024) :
    k0_pay106 (F := Ideal) x w z (ix2 r l) = U a b (s + r) l := by
  pointwise [k0_pay106, k0_pay105, k0_pay104]
  simp only [hx, hw, hz, U, H]

/-- The distance of the convolution from its mean. -/
theorem pay121_eq {v0 v1 : FVec Ideal S512x128 .f32} {v2 v3 v4 v5 v6 v7 : Vec Ideal S1x512x128 .f32} {z : Vec Ideal S1x1024 .f32}
    {g : ℕ → ℕ → EReal} {h : ℕ → EReal}
    (h0 : ∀ r l, v0 (ix2 r l) = g r.val l.val) (h1 : ∀ r l, v1 (ix2 r l) = g r.val (128 + l.val))
    (h2 : ∀ o r l, v2 (ix3 o r l) = g r.val (256 + l.val)) (h3 : ∀ o r l, v3 (ix3 o r l) = g r.val (384 + l.val))
    (h4 : ∀ o r l, v4 (ix3 o r l) = g r.val (512 + l.val)) (h5 : ∀ o r l, v5 (ix3 o r l) = g r.val (640 + l.val))
    (h6 : ∀ o r l, v6 (ix3 o r l) = g r.val (768 + l.val)) (h7 : ∀ o r l, v7 (ix3 o r l) = g r.val (896 + l.val))
    (hz : ∀ o c, z (ix2 o c) = h c.val) (r : Fin 512) (l : Fin 1024) :
    k0_pay121 (F := Ideal) v0 v1 v2 v3 v4 v5 v6 v7 z (ix2 r l)
      = (g r l + h l) - mean (fun l => g r l + h l) := by
  pointwise [k0_pay121]
  simp only [h0, h1, h2, h3, h4, h5, h6, h7, hz, mean]
  refine congrArg₂ (· - ·) ?_ (congrArg (Ideal.div · _) (Finset.sum_congr rfl fun x _ => ?_))
  all_goals
    refine congrArg (· + _) ?_
    split_ifs <;> exact congrArg (g r.val) (by omega)

/-- The mean of its square. -/
theorem pay122_eq {v0 v1 : FVec Ideal S512x128 .f32} {v2 v3 v4 v5 v6 v7 : Vec Ideal S1x512x128 .f32} {z : Vec Ideal S1x1024 .f32}
    {g : ℕ → ℕ → EReal}
    (hd : ∀ (r : Fin 512) (l : Fin 1024), k0_pay121 (F := Ideal) v0 v1 v2 v3 v4 v5 v6 v7 z (ix2 r l) = g r l - mean (g r)) (r : Fin 512) (o : Fin 1) :
    k0_pay122 (F := Ideal) v0 v1 v2 v3 v4 v5 v6 v7 z (ix2 r o) = var (g r) (mean (g r)) := by
  pointwise [k0_pay122]
  simp only [hd, var]

/-- The gated convolution branch. -/
theorem pay124_eq {x : FVec Ideal S512x1024 .bf16} {g h : Vec Ideal S1x1024 .f32} {d : FVec Ideal S512x1024 .f32} {v : FVec Ideal S512x1 .f32}
    {w : Vec Ideal S1024x1024 .bf16} {z : Vec Ideal S1x1024 .f32} {wg : Vec Ideal S1024x2048 .bf16} {zg : Vec Ideal S1x2048 .f32}
    (hx : ∀ r d, x (ix2 r d) = a.X b (s + r.val) d.val) (hg : ∀ o c, g (ix2 o c) = a.Clg c.val) (hh : ∀ o c, h (ix2 o c) = a.Clb c.val)
    (hd : ∀ r l, d (ix2 r l) = (Cv a b (s + r.val) l.val + a.Cb l.val) - mean (fun l => Cv a b (s + r.val) l + a.Cb l))
    (hv : ∀ r o, v (ix2 r o) = var (fun l => Cv a b (s + r.val) l + a.Cb l) (mean (fun l => Cv a b (s + r.val) l + a.Cb l)))
    (hw : ∀ d c, w (ix2 d c) = a.Wco d.val c.val) (hz : ∀ o c, z (ix2 o c) = a.Bco c.val)
    (hwg : ∀ d c, wg (ix2 d c) = a.Win d.val (5136 + c.val)) (hzg : ∀ o c, zg (ix2 o c) = a.Bin (5136 + c.val))
    (r : Fin 512) (l : Fin 1024) :
    k0_pay124 (F := Ideal) x g h d v w z wg zg (ix2 r l)
      = Ideal.logistic (H a b (s + r) (5136 + l)) * Yc a b (s + r) l := by
  pointwise [k0_pay124, k0_pay123]
  simp only [hx, hg, hh, hd, hv, hw, hz, hwg, hzg, H, Yc, Cn, lnorm]

/-- The gate of the linear-attention branch. -/
theorem pay125_eq {x : FVec Ideal S512x1024 .bf16} {wg : Vec Ideal S1024x2048 .bf16} {zg : Vec Ideal S1x2048 .f32}
    (hx : ∀ r d, x (ix2 r d) = a.X b (s + r.val) d.val)
    (hwg : ∀ d c, wg (ix2 d c) = a.Win d.val (5136 + c.val)) (hzg : ∀ o c, zg (ix2 o c) = a.Bin (5136 + c.val))
    (r : Fin 512) (l : Fin 1024) :
    k0_pay125 (F := Ideal) x wg zg (ix2 r l) = Ideal.logistic (H a b (s + r) (6160 + l)) := by
  pointwise [k0_pay125, k0_pay123]
  simp only [hx, hwg, hzg, H, show 5136 + (1024 + l.val) = 6160 + l.val by omega]

/-- The queries of a tile. -/
theorem pay127_eq {x : FVec Ideal S512x1024 .bf16} {w : Vec Ideal S1024x512 .bf16} {z : Vec Ideal S1x512 .f32}
    (hx : ∀ r d, x (ix2 r d) = a.X b (s + r.val) d.val)
    (hw : ∀ d c, w (ix2 d c) = a.Win d.val (2048 + c.val)) (hz : ∀ o c, z (ix2 o c) = a.Bin (2048 + c.val))
    (r : Fin 512) (l : Fin 512) :
    k0_pay127 (F := Ideal) (k0_pay126 x w) z (ix2 r l) = H a b (s + r) (2048 + l) := by
  pointwise [k0_pay127, k0_pay126]
  simp only [hx, hw, hz, H]

/-- The values and output gates of a tile. -/
theorem pay128_eq {x : FVec Ideal S512x1024 .bf16} {w : Vec Ideal S1024x2048 .bf16} {z : Vec Ideal S1x2048 .f32}
    (hx : ∀ r d, x (ix2 r d) = a.X b (s + r.val) d.val)
    (hw : ∀ d c, w (ix2 d c) = a.Win d.val (3072 + c.val)) (hz : ∀ o c, z (ix2 o c) = a.Bin (3072 + c.val))
    (r : Fin 512) (l : Fin 2048) :
    k0_pay128 (F := Ideal) x w z (ix2 r l) = H a b (s + r) (3072 + l) := by
  pointwise [k0_pay128]
  simp only [hx, hw, hz, H]

/-- The keys of a tile, a channel a row. -/
theorem pay129_eq {x : FVec Ideal S512x1024 .bf16} {w : Vec Ideal S512x1024 .bf16} {z : Vec Ideal S512x512 .f32}
    (hx : ∀ r d, x (ix2 r d) = a.X b (s + r.val) d.val)
    (hw : ∀ k d, w (ix2 k d) = a.Win d.val (2560 + k.val)) (hz : ∀ k r, z (ix2 k r) = a.Bin (2560 + k.val))
    (k : Fin 512) (r : Fin 512) :
    k0_pay129 (F := Ideal) x w z (ix2 k r) = H a b (s + r) (2560 + k) := by
  pointwise [k0_pay129]
  simp only [hx, hw, hz, H]
  exact congrArg (· + _) (Finset.sum_congr rfl fun d _ => mul_comm _ _)

/-- A sum over 128 whose terms vanish from 16 on. -/
theorem sum_pad16 (f g : ℕ → EReal) :
    ∑ j : Fin 128, (if j.val < 16 then f j else 0) * g j = ∑ j : Fin 16, f j * g j := by
  rw [Fin.sum_univ_eq_sum_range (fun j => (if j < 16 then f j else 0) * g j) 128,
    Fin.sum_univ_eq_sum_range (fun j => f j * g j) 16]
  rw [← Finset.sum_subset (s₁ := Finset.range 16) (s₂ := Finset.range 128) (by decide)]
  · exact Finset.sum_congr rfl fun j hj => by rw [if_pos (Finset.mem_range.mp hj)]
  · intro j _ hj; rw [if_neg (by simpa using hj), zero_mul]

/-- The product of the low-rank gate. -/
theorem pay130_eq {x : FVec Ideal S512x1024 .bf16} {w : Vec Ideal S1024x128 .bf16} {z : Vec Ideal S1x128 .f32} {u : Vec Ideal S512x128 .bf16}
    (hx : ∀ r d, x (ix2 r d) = a.X b (s + r.val) d.val)
    (hw : ∀ d j, w (ix2 d j) = if j.val < 16 then a.Win d.val (5120 + j.val) else 0)
    (hz : ∀ o j, z (ix2 o j) = if j.val < 16 then a.Bin (5120 + j.val) else 0)
    (hu : ∀ k j, u (ix2 k j) = if j.val < 16 then a.Wgu j.val k.val else 0)
    (k : Fin 512) (r : Fin 512) :
    k0_pay130 (F := Ideal) x w z u (ix2 k r) = ∑ j : Fin 16, a.Wgu j k * H a b (s + r) (5120 + j) := by
  pointwise [k0_pay130]
  rw [← sum_pad16 (fun j => a.Wgu j k) (fun j => H a b (s + r) (5120 + j))]
  refine Finset.sum_congr rfl fun j _ => ?_
  rw [hu]
  by_cases hj : j.val < 16
  · simp only [hj, if_true, hx, hw, hz, H]
  · simp only [hj, if_false, zero_mul]

/-- The logarithm of the forget gate, a channel a row. -/
theorem pay131_eq {v : FVec Ideal S512x512 .f32} {z : Vec Ideal S512x512 .f32}
    (hv : ∀ k r, v (ix2 k r) = ∑ j : Fin 16, a.Wgu j k.val * H a b (s + r.val) (5120 + j)) (hz : ∀ k r, z (ix2 k r) = a.Bgu k.val)
    (k : Fin 512) (r : Fin 512) :
    k0_pay131 (F := Ideal) v z (ix2 k r) = La a b (s + r) k := by
  pointwise [k0_pay131]
  simp only [hv, hz, La, lsg]

/-- The last step: the mix, the scaled residual and the normalisation. -/
theorem pay1_eq {x u v : FVec Ideal S512x1024 .f32} {w : Vec Ideal S1024x1024 .bf16} {z g h : Vec Ideal S1x1024 .f32}
    (hx : ∀ r d, x (ix2 r d) = a.X b (s + r.val) d.val) (hm : ∀ r d, u (ix2 r d) + v (ix2 r d) = Mg a b (s + r.val) d.val)
    (hw : ∀ d c, w (ix2 d c) = a.Wout d.val c.val) (hz : ∀ o c, z (ix2 o c) = a.Bout c.val)
    (hg : ∀ o c, g (ix2 o c) = a.L1g c.val) (hh : ∀ o c, h (ix2 o c) = a.L1b c.val)
    (r : Fin 512) (l : Fin 1024) :
    k0_pay1 (F := Ideal) x u v w z g h (ix2 r l) = Out a b (s + r) l := by
  pointwise [k0_pay1]
  simp only [hx, hm, hw, hz, hg, hh, Out, lnorm, mean, var, Mix]

end Cert.Mix

end
-- ==== Proof.A1.lean ====
/- The projections and decays of one tile. -/
module

public import proofs.«01_k».proof.Proof.Base
public import proofs.«01_k».proof.Proof.Pay
public import proofs.«01_k».proof.Proof.Sums
public import proofs.«01_k».proof.Proof.Gen.KernelIdeal.Frame.RunA

@[expose] public section

set_option maxHeartbeats 1000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 : Memref sig .tc .vmem S512x1024 .bf16}
  {arg10 arg22 : Memref sig .tc .vmem S512x512 .f32}
  {arg11 : Memref sig .tc .vmem S1024x128 .bf16}
  {arg12 : Memref sig .tc .vmem S1x128 .f32}
  {arg21 : Memref sig .tc .vmem S512x128 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg21 : arg21.IsWhole} {harg22 : arg22.IsWhole}
variable (hB : Blk a b q x0 x1 x2 x3 x4 x5 x6 x7 x8 x9 x10 x11 x12 x13 x14 x15 x16 x17 x18 x19 x20 x21 x22 x23 x24 x25 x26)
include hB
theorem A_r1 (r : Fin 512) (d : Fin 1024) : r_1 c arg2 harg2 x0 (ix2 r d) = a.X b (512 * q + r.val) d.val := by
  unfold r_1
  pointwise [k0_pay105, k0_pay104]
  exact (ldw harg2 _ x0 _).trans (hB.h0 _ _)

theorem A_r0 (r : Fin 512) (d : Fin 1024) : kernelRun0_A.sl.r c arg2 harg2 x0 (ix2 r d) = a.X b (512 * q + r.val) d.val := by
  unfold kernelRun0_A.sl.r
  pointwise [k0_pay104]
  exact (ldw harg2 _ x0 _).trans (hB.h0 _ _)

theorem A_r2 (r : Fin 512) (l : Fin 1024) : r_2 c arg2 harg2 arg3 harg3 arg4 harg4 x0 x1 x2 (ix2 r l) = U a b (512 * q + r.val) l.val := by
  unfold r_2
  exact pay106_eq (fun _ _ => (ldw harg2 _ x0 _).trans (hB.h0 _ _)) (fun _ _ => (ldw harg3 _ x1 _).trans (hB.h1 _ _)) (fun _ _ => (ldw harg4 _ x2 _).trans (hB.h2 _ _)) r l

theorem A_r11 (k r : Fin 512) : r_11 c arg2 harg2 arg9 harg9 arg10 harg10 x0 x7 x8 (ix2 k r) = H a b (512 * q + r.val) (2560 + k.val) := by
  unfold r_11
  exact pay129_eq (A_r1 hB) (fun _ _ => (ldw harg9 _ x7 _).trans (hB.h7 _ _)) (fun _ _ => (ldw harg10 _ x8 _).trans (hB.h8 _ _)) k r

theorem A_r12 (k r : Fin 512) : r_12 c arg2 harg2 arg11 harg11 arg12 harg12 arg21 harg21 x0 x9 x10 x19 (ix2 k r) = ∑ j : Fin 16, a.Wgu j k.val * H a b (512 * q + r.val) (5120 + j) := by
  unfold r_12
  exact pay130_eq (A_r1 hB) (fun _ _ => (ldw harg11 _ x9 _).trans (hB.h9 _ _)) (fun _ _ => (ldw harg12 _ x10 _).trans (hB.h10 _ _)) (fun _ _ => (ldw harg21 _ x19 _).trans (hB.h19 _ _)) k r

theorem A_c4 : View.canon (HS4_1 c arg2 harg2 arg9 harg9 arg10 harg10 arg11 harg11 arg12 harg12 arg21 harg21 arg22 harg22 x0 x7 x8 x9 x10 x19 x20) = fun y => Kd a b (8 * q + (y 1).val / 64) ((y 1).val % 64) (y 0).val := by
  refine canon_of ?_ (View.cover_of_tiledL _ S512x512.size (by sl_kernel_rfl))
  unfold HS4_1 r_13 r_14 r_15 r_16 r_17 r_18
  refine ⟨fun i => ?_, trivial⟩
  idx_vars i
  refine Eq.trans ?_ (emb2 (fun k r => Kd a b (8 * q + r / 64) (r % 64) k) _ i0 i1).symm
  rw [Nat.zero_add, Nat.zero_add]
  exact pay142_eq (s := 512 * q) (by omega) (A_r11 hB) (fun k r => pay131_eq (A_r12 hB) (fun _ _ => (ldw harg22 _ x20 _).trans (hB.h20 _ _)) k r) i0 i1

theorem A_c5 : View.canon (HS5_1 c arg2 harg2 arg11 harg11 arg12 harg12 arg21 harg21 arg22 harg22 x0 x9 x10 x19 x20) = fun y => Ideal.exp (Cend a b (8 * q + (y 1).val / 64) (y 0).val) := by
  refine canon_of ?_ (View.cover_of_tiledL _ S512x512.size (by sl_kernel_rfl))
  unfold HS5_1 r_13 r_14 r_16
  refine ⟨fun i => ?_, trivial⟩
  idx_vars i
  refine Eq.trans ?_ (emb2 (fun k r => Ideal.exp (Cend a b (8 * q + r / 64) k)) _ i0 i1).symm
  rw [Nat.zero_add, Nat.zero_add]
  exact pay143_eq (s := 512 * q) (by omega) (fun k r => pay131_eq (A_r12 hB) (fun _ _ => (ldw harg22 _ x20 _).trans (hB.h20 _ _)) k r) i0 i1

theorem A_c3 : View.canon (HS3_2 c arg2 harg2 arg5 harg5 arg6 harg6 arg7 harg7 arg8 harg8 x0 x3 x4 x5 x6) = fun y => Pj a b q (y 0).val (y 1).val := by
  refine canon_of ?_ (View.cover_of_tiledBy _ ![512, 512] (by sl_kernel_rfl))
  unfold HS3_2 r_10
  refine ⟨fun i => ?_, fun i => ?_, trivial⟩
  · idx_vars i
    refine Eq.trans ?_ (emb2 (fun r c => Pj a b q r c) _ i0 i1).symm
    rw [Nat.zero_add, Pj_v (by omega), ← Nat.add_assoc]
    exact pay128_eq (A_r1 hB) (fun _ _ => (ldw harg7 _ x5 _).trans (hB.h5 _ _)) (fun _ _ => (ldw harg8 _ x6 _).trans (hB.h6 _ _)) i0 i1
  · idx_vars i
    refine Eq.trans ?_ (emb2 (fun r c => Pj a b q r c) _ i0 i1).symm
    rw [Nat.zero_add, Nat.zero_add, Pj_q i1.isLt]
    exact pay127_eq (A_r1 hB) (fun _ _ => (ldw harg5 _ x3 _).trans (hB.h3 _ _)) (fun _ _ => (ldw harg6 _ x4 _).trans (hB.h4 _ _)) i0 i1

theorem A_c10 : View.canon (HS10_1 c arg2 harg2 arg13 harg13 arg14 harg14 x0 x11 x12) = fun y => Ideal.logistic (H a b (512 * q + (y 0).val) (6160 + (y 1).val)) := by
  refine canon_of ?_ (View.cover_of_tiledL _ S512x1024.size (by sl_kernel_rfl))
  unfold HS10_1
  refine ⟨fun i => ?_, trivial⟩
  idx_vars i
  refine Eq.trans ?_ (emb2 (fun r l => Ideal.logistic (H a b (512 * q + r) (6160 + l))) _ i0 i1).symm
  rw [Nat.zero_add, Nat.zero_add]
  exact pay125_eq (A_r1 hB) (fun _ _ => (ldw harg13 _ x11 _).trans (hB.h11 _ _)) (fun _ _ => (ldw harg14 _ x12 _).trans (hB.h12 _ _)) i0 i1

end Cert.Mix
end
-- ==== Proof.Steps.lean ====
/- One update of the states. -/
module

public import proofs.«01_k».proof.Proof.Base
public import proofs.«01_k».proof.Proof.Gen.KernelIdeal.Loops
public import proofs.«01_k».proof.Proof.Sums
public import Idealize.ShloMosaic.Lib.Pipeline.ReadBack
public import Idealize.ShloMosaic.Lib.WholeRead

@[expose] public section

set_option maxRecDepth 16384

noncomputable section

namespace Cert.Mix

open Idealize.ShloMosaic Idealize.ShloMosaic.TcCoe Idealize.SL.Sem
open Cert.KernelIdeal Cert.KernelIdeal.Gen
/-- The states after `j` of the 32 updates of a tile: a head's chunk count grows with each of its own. -/
theorem st_step {a : Args} {b q j h : ℕ} {L : List (View.Piece (Elt Ideal) S4x128x256 .f32)}
    (hL : View.canon L = fun y => St a b (y 0).val (y 1).val (y 2).val (8 * q + (j + 3 - (y 0).val) / 4))
    (hh : j % 4 = h) (inb) (w : (Rect.unit (s := S4x128x256) ![h, 0, 0] ![1, 128, 256] inb).shape.Idx → Elt Ideal .f32)
    (hw : ∀ (i0 : Fin 1) (i1 : Fin 128) (i2 : Fin 256), w (ix3 i0 i1 i2) = St a b h i1.val i2.val (8 * q + (j / 4 + 1))) :
    View.canon (⟨Rect.unit (s := S4x128x256) ![h, 0, 0] ![1, 128, 256] inb, w⟩ :: L)
      = fun y => St a b (y 0).val (y 1).val (y 2).val (8 * q + (j + 1 + 3 - (y 0).val) / 4) := by
  funext y
  by_cases hm : y ∈ (Rect.unit (s := S4x128x256) ![h, 0, 0] ![1, 128, 256] inb).set
  · obtain ⟨i, rfl⟩ := (Rect.unit (s := S4x128x256) ![h, 0, 0] ![1, 128, 256] inb).exists_idx_of_mem hm
    refine (View.canon_cons_emb _ w L i).trans ?_
    idx_vars i
    rw [hw]
    have e := emb3 (m := 4) (n := 128) (k := 256) (A := h) (B := 0) (C := 0) (fun h k v => St a b h k v (8 * q + (j + 1 + 3 - h) / 4)) inb i0 i1 i2
    refine Eq.trans ?_ e.symm
    have h0 : i0.val = 0 := Nat.lt_one_iff.mp i0.isLt
    simp only [h0, Nat.add_zero, Nat.zero_add]
    rw [show (j + 1 + 3 - h) / 4 = j / 4 + 1 by omega]
  · rw [View.canon_cons_of_not_mem ⟨_, w⟩ L hm, hL]
    have hy : (y 0).val < 4 := (y 0).isLt
    have hn : (y 0).val ≠ h := fun e => hm (by
      rw [Rect.mem_set_unit]
      intro i
      have h1 : (y 1).val < 128 := (y 1).isLt
      have h2 : (y 2).val < 256 := (y 2).isLt
      fin_cases i
      · exact ⟨by show h ≤ (y 0).val; omega, by show (y 0).val < h + 1; omega⟩
      · exact ⟨Nat.zero_le _, by show (y 1).val < 0 + 128; omega⟩
      · exact ⟨Nat.zero_le _, by show (y 2).val < 0 + 256; omega⟩)
    show St a b (y 0).val (y 1).val (y 2).val _ = St a b (y 0).val (y 1).val (y 2).val _
    rw [show (j + 3 - (y 0).val) / 4 = (j + 1 + 3 - (y 0).val) / 4 by omega]

theorem ldu {sp : Space} {e : EltTy} {S : Shape} {v : Memref sig .tc sp S e} (h : v.IsWhole) (X : Vec Ideal S e) (B : LoadRect S) :
    View.readAt (Elt Ideal) v.view B (h.unread X) = fun x => X (B.idx x) :=
  funext fun x => h.readAt_unread X B x

theorem St_close {a : Args} {b h n k v D : ℕ} (hD : D = 128 * h + k) :
    Ideal.exp (Cend a b n D) * St a b h k v n + Kv a b n h k v = St a b h k v (n + 1) := by
  rw [hD]; rfl

end Cert.Mix
end
-- ==== Proof.Conv.lean ====
/- The convolution loop. -/
module

public import proofs.«01_k».proof.Proof.Gen.KernelIdeal.Loops
public import proofs.«01_k».proof.Proof.Spec
public import Idealize.ShloMosaic.Lib.Pipeline.ReadBack

@[expose] public section

set_option maxHeartbeats 1000000
set_option maxRecDepth 16384

noncomputable section

namespace Cert.Mix

open Idealize.ShloMosaic Idealize.ShloMosaic.TcCoe Idealize.SL.Sem
open Cert.KernelIdeal Cert.KernelIdeal.Gen
variable {c : Dev nD} {i : grid0.Coords}
  {arg2 : Memref sig .tc .vmem S512x1024 .f32} {harg2 : arg2.IsWhole}
  {arg3 : Memref sig .tc .vmem S1024x2048 .bf16} {harg3 : arg3.IsWhole}
  {arg4 : Memref sig .tc .vmem S1x2048 .f32} {harg4 : arg4.IsWhole}
  {arg5 : Memref sig .tc .vmem S1024x512 .bf16} {harg5 : arg5.IsWhole}
  {arg6 : Memref sig .tc .vmem S1x512 .f32} {harg6 : arg6.IsWhole}
  {arg7 : Memref sig .tc .vmem S1024x2048 .bf16} {harg7 : arg7.IsWhole}
  {arg8 : Memref sig .tc .vmem S1x2048 .f32} {harg8 : arg8.IsWhole}
  {arg9 : Memref sig .tc .vmem S512x1024 .bf16} {harg9 : arg9.IsWhole}
  {arg10 : Memref sig .tc .vmem S512x512 .f32} {harg10 : arg10.IsWhole}
  {arg11 : Memref sig .tc .vmem S1024x128 .bf16} {harg11 : arg11.IsWhole}
  {arg12 : Memref sig .tc .vmem S1x128 .f32} {harg12 : arg12.IsWhole}
  {arg13 : Memref sig .tc .vmem S1024x2048 .bf16} {harg13 : arg13.IsWhole}
  {arg14 : Memref sig .tc .vmem S1x2048 .f32} {harg14 : arg14.IsWhole}
  {arg15 : Memref sig .tc .vmem S8x32x128 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S1024x1024 .bf16} {harg19 : arg19.IsWhole}
  {arg20 : Memref sig .tc .vmem S1x1024 .f32} {harg20 : arg20.IsWhole}
  {arg21 : Memref sig .tc .vmem S512x128 .bf16} {harg21 : arg21.IsWhole}
  {arg22 : Memref sig .tc .vmem S512x512 .f32} {harg22 : arg22.IsWhole}
  {arg23 : Memref sig .tc .vmem S4x256 .f32} {harg23 : arg23.IsWhole}
  {arg24 : Memref sig .tc .vmem S1024x1024 .bf16} {harg24 : arg24.IsWhole}
  {arg25 : Memref sig .tc .vmem S1024x1024 .bf16} {harg25 : arg25.IsWhole}
  {arg26 : Memref sig .tc .vmem S1x1024 .f32} {harg26 : arg26.IsWhole}
  {arg27 : Memref sig .tc .vmem S1x1024 .f32} {harg27 : arg27.IsWhole}
  {arg28 : Memref sig .tc .vmem S1x1024 .f32} {harg28 : arg28.IsWhole}
  {arg29 : Memref sig .tc .vmem S512x1024 .f32} {harg29 : arg29.IsWhole}
  {arg30 : Memref sig .tc .vmem S8x544x128 .f32} {harg30 : arg30.IsWhole}
  {arg31 : Memref sig .tc .vmem S8x512x128 .f32} {harg31 : arg31.IsWhole}
  {arg32 : Memref sig .tc .vmem S4x128x256 .f32} {harg32 : arg32.IsWhole}
  {arg33 : Memref sig .tc .vmem S512x2560 .f32} {harg33 : arg33.IsWhole}
  {arg34 : Memref sig .tc .vmem S512x512 .f32} {harg34 : arg34.IsWhole}
  {arg35 : Memref sig .tc .vmem S512x512 .f32} {harg35 : arg35.IsWhole}
  {arg36 : Memref sig .tc .vmem S32x128x256 .f32} {harg36 : arg36.IsWhole}
  {arg37 : Memref sig .tc .vmem S32x128x256 .bf16} {harg37 : arg37.IsWhole}
  {arg38 : Memref sig .tc .vmem S512x1024 .bf16} {harg38 : arg38.IsWhole}
  {arg39 : Memref sig .tc .vmem S512x1024 .f32} {harg39 : arg39.IsWhole}
  {arg40 : Memref sig .tc .vmem S512x1024 .f32} {harg40 : arg40.IsWhole}
variable {v16 : FVec Ideal S512x1024 .f32} {v32 : FVec Ideal S1x512x128 .f32}
  {X15 : BufTy.Contents (Elt Ideal) arg15.view.ty} {X30 : BufTy.Contents (Elt Ideal) arg30.view.ty}

/-- A weighted sum of 31 consecutive rows. -/
def conv (B W : ℕ → ℕ → ℕ → EReal) (g t l : ℕ) : EReal := ∑ j : Fin 31, B g (t + 2 + j) l * W g j l

theorem conv_open (B W : ℕ → ℕ → ℕ → EReal) (g t l : ℕ) :
    conv B W g t l = ∑ j ∈ Finset.range 31, B g (t + 2 + j) l * W g j l :=
  Fin.sum_univ_eq_sum_range (fun j => B g (t + 2 + j) l * W g j l) 31

variable {B W : ℕ → ℕ → ℕ → EReal}

theorem conv_at (B W : ℕ → ℕ → ℕ → EReal) (g o x l : ℕ) :
    conv B W g (o + x) l = ∑ j ∈ Finset.range 31, B g ((o + 2 + j) + x) l * W g j l := by
  rw [conv_open]
  exact Finset.sum_congr rfl fun j _ => by rw [show o + x + 2 + j = (o + 2 + j) + x by omega]

theorem conv_emb {B W : ℕ → ℕ → ℕ → EReal} {off : Fin 3 → ℕ} {k o : ℕ} (h : off = ![k, o, 0])
    (inb) (x0 : Fin 1) (x1 : Fin 64) (x2 : Fin 128) :
    conv B W ((Rect.unit (s := S8x512x128) off ![1, 64, 128] inb).emb (ix3 x0 x1 x2) 0).val
      ((Rect.unit (s := S8x512x128) off ![1, 64, 128] inb).emb (ix3 x0 x1 x2) 1).val
      ((Rect.unit (s := S8x512x128) off ![1, 64, 128] inb).emb (ix3 x0 x1 x2) 2).val =
    conv B W k (o + x1.val) (0 + x2.val) := by
  have e0 : x0.val = 0 := Nat.lt_one_iff.mp x0.isLt
  subst h
  have e (a : Fin 3) : ((Rect.unit (s := S8x512x128) ![k, o, 0] ![1, 64, 128] inb).emb (ix3 x0 x1 x2) a).val =
      ![k, o, 0] a + 1 * (ix3 x0 x1 x2 a).val := rfl
  rw [e, e, e]
  simp [ix3, e0]

theorem trip_pieces (hX : arg30.view.read (Elt Ideal) X30 = fun y => B (y 0).val (y 1).val (y 2).val)
    (hW : arg15.view.read (Elt Ideal) X15 = fun y => W (y 0).val (y 1).val (y 2).val) (k : Fin k0_t1_loop.trips) :
    View.PiecesOf (fun y => conv B W (y 0).val (y 1).val (y 2).val) (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 k) := by
  unfold tripL_k0_t1 trip_k0_t1
  simp only [View.PiecesOf]
  refine ⟨?_, ?_, ?_, ?_, ?_, ?_, ?_, ?_, trivial⟩
  all_goals
    intro x
    idx_vars x
    simp only [trip_k0_t1.sl.r_97, trip_k0_t1.sl.r_74, trip_k0_t1.sl.r_56, trip_k0_t1.sl.r_61, trip_k0_t1.sl.r_83, trip_k0_t1.sl.r_30, trip_k0_t1.sl.r_1, trip_k0_t1.sl.r_95, trip_k0_t1.sl.r_64, trip_k0_t1.sl.r_71, trip_k0_t1.sl.r_82, trip_k0_t1.sl.r_42, trip_k0_t1.sl.r_59, trip_k0_t1.sl.r_17, trip_k0_t1.sl.r_62, trip_k0_t1.sl.r_47, trip_k0_t1.sl.r_34, trip_k0_t1.sl.r_46, trip_k0_t1.sl.r_11, trip_k0_t1.sl.r_57, trip_k0_t1.sl.r_73, trip_k0_t1.sl.r_45, trip_k0_t1.sl.r_38, trip_k0_t1.sl.r_23, trip_k0_t1.sl.r_35, trip_k0_t1.sl.r_67, trip_k0_t1.sl.r_66, trip_k0_t1.sl.r_13, trip_k0_t1.sl.r_92, trip_k0_t1.sl.r_8, trip_k0_t1.sl.r_16, trip_k0_t1.sl.r_32, trip_k0_t1.sl.r_96, trip_k0_t1.sl.r_77, trip_k0_t1.sl.r_15, trip_k0_t1.sl.r_70, trip_k0_t1.sl.r_65, trip_k0_t1.sl.r_58, trip_k0_t1.sl.r_54, trip_k0_t1.sl.r_6, trip_k0_t1.sl.r_84, trip_k0_t1.sl.r_90, trip_k0_t1.sl.r_68, trip_k0_t1.sl.r_81, trip_k0_t1.sl.r_52, trip_k0_t1.sl.r_48, trip_k0_t1.sl.r_93, trip_k0_t1.sl.r_80, trip_k0_t1.sl.r_41, trip_k0_t1.sl.r_94, trip_k0_t1.sl.r_88, trip_k0_t1.sl.r_20, trip_k0_t1.sl.r_44, trip_k0_t1.sl.r_55, trip_k0_t1.sl.r_69, trip_k0_t1.sl.r, trip_k0_t1.sl.r_40, trip_k0_t1.sl.r_26, trip_k0_t1.sl.r_19, trip_k0_t1.sl.r_76, trip_k0_t1.sl.r_31, trip_k0_t1.sl.r_4, trip_k0_t1.sl.r_51, trip_k0_t1.sl.arg41, trip_k0_t1.sl.r_78, trip_k0_t1.sl.r_91, trip_k0_t1.sl.r_29, trip_k0_t1.sl.r_53, trip_k0_t1.sl.r_22, trip_k0_t1.sl.r_28, trip_k0_t1.sl.r_5, trip_k0_t1.sl.r_75, trip_k0_t1.sl.r_14, trip_k0_t1.sl.r_33, trip_k0_t1.sl.r_100, trip_k0_t1.sl.r_50, trip_k0_t1.sl.r_24, trip_k0_t1.sl.r_21, trip_k0_t1.sl.r_60, trip_k0_t1.sl.r_102, trip_k0_t1.sl.r_99, trip_k0_t1.sl.r_101, trip_k0_t1.sl.r_9, trip_k0_t1.sl.r_87, trip_k0_t1.sl.r_43, trip_k0_t1.sl.r_86, trip_k0_t1.sl.r_63, trip_k0_t1.sl.r_79, trip_k0_t1.sl.r_39, trip_k0_t1.sl.r_49, trip_k0_t1.sl.r_37, trip_k0_t1.sl.r_27, trip_k0_t1.sl.r_18, trip_k0_t1.sl.r_72, trip_k0_t1.sl.r_25, trip_k0_t1.sl.r_10, trip_k0_t1.sl.r_98, trip_k0_t1.sl.r_3, trip_k0_t1.sl.r_12, trip_k0_t1.sl.r_36, trip_k0_t1.sl.r_2, trip_k0_t1.sl.r_7, trip_k0_t1.sl.r_85, trip_k0_t1.sl.r_89, View.readAt_eq_ld, hX, hW]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay115]
    have e0 : x0.val = 0 := Nat.lt_one_iff.mp x0.isLt
    refine Eq.trans ?_ (conv_emb (by first | exact k0_off63_eq k | exact k0_off95_eq k | exact k0_off127_eq k | exact k0_off159_eq k | exact k0_off191_eq k | exact k0_off223_eq k | exact k0_off255_eq k | exact k0_off287_eq k) _ x0 x1 x2).symm
    simp only [conv_at]
    simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq]
    simp only [Finset.sum_range_succ, Finset.sum_range_zero, zero_add, Matrix.cons_val_zero, Matrix.cons_val_one, Matrix.cons_val_two, Matrix.cons_val, Matrix.head_cons, Matrix.tail_cons, ix3, e0, Nat.add_zero, Nat.zero_add, Nat.reduceAdd]

theorem pb_pieces (hX : arg30.view.read (Elt Ideal) X30 = fun y => B (y 0).val (y 1).val (y 2).val)
    (hW : arg15.view.read (Elt Ideal) X15 = fun y => W (y 0).val (y 1).val (y 2).val) :
    ∀ n, n ≤ k0_t1_loop.trips → ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 n, ∀ x : p.1.shape.Idx,
      p.2 x = (fun y : S8x512x128.Idx => conv B W (y 0).val (y 1).val (y 2).val) (p.1.emb x) := by
  intro n
  induction n with
  | zero => intro _ p hp; rw [pb_k0_t1.eq_1] at hp; exact absurd hp List.not_mem_nil
  | succ n ih =>
      intro hn p hp
      rw [pb_k0_t1_succ (k := ⟨n, hn⟩)] at hp
      rcases List.mem_append.mp hp with hp | hp
      · exact (trip_pieces hX hW ⟨n, hn⟩).mem p hp
      · exact ih (Nat.le_of_succ_le hn) p hp

theorem pb_sub (k : Fin k0_t1_loop.trips) {p : View.Piece (Elt Ideal) S8x512x128 .f32}
    (hp : p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 k) :
    ∀ n, k.val < n → n ≤ k0_t1_loop.trips → p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 n := by
  intro n
  induction n with
  | zero => intro h; exact absurd h (Nat.not_lt_zero _)
  | succ n ih =>
      intro h hn
      rw [pb_k0_t1_succ (k := ⟨n, hn⟩)]
      rcases Nat.lt_succ_iff_lt_or_eq.mp h with h | h
      · exact List.mem_append_right _ (ih h (Nat.le_of_succ_le hn))
      · have e : k = ⟨n, hn⟩ := Fin.ext h
        rw [e] at hp
        exact List.mem_append_left _ hp

theorem trip_inb {off : Fin 3 → ℕ} {k m : ℕ} (h : off = ![k, 64 * m, 0]) (hk : k < 8) (hm : m < 8) :
    ∀ a, off a + (![1, 64, 128] : Fin 3 → ℕ) a ≤ S8x512x128.size a := by
  intro a
  subst h
  fin_cases a
  · show k + 1 ≤ 8; omega
  · show 64 * m + 64 ≤ 512; omega
  · show 0 + 128 ≤ 128; omega

theorem trip_mem {off : Fin 3 → ℕ} {k m : ℕ} (h : off = ![k, 64 * m, 0]) (inb) (y : S8x512x128.Idx)
    (hy : (y 0).val = k) (hm : (y 1).val / 64 = m) :
    y ∈ (Rect.unit (s := S8x512x128) off ![1, 64, 128] inb).set := by
  rw [Rect.mem_set_unit]
  intro a
  have h2 : (y 2).val < 128 := (y 2).isLt
  subst h
  fin_cases a
  · exact ⟨by show k ≤ (y 0).val; omega, by show (y 0).val < k + 1; omega⟩
  · exact ⟨by show 64 * m ≤ (y 1).val; omega, by show (y 1).val < 64 * m + 64; omega⟩
  · exact ⟨Nat.zero_le _, by show (y 2).val < 0 + 128; omega⟩

theorem trip_covers (k : Fin k0_t1_loop.trips) (y : S8x512x128.Idx) (hy : (y 0).val = k.val) :
    ∃ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 k, y ∈ p.1.set := by
  unfold tripL_k0_t1 trip_k0_t1
  have h1 : (y 1).val < 512 := (y 1).isLt
  have h2 : (y 2).val < 128 := (y 2).isLt
  have hm : (y 1).val / 64 = 0 ∨ (y 1).val / 64 = 1 ∨ (y 1).val / 64 = 2 ∨ (y 1).val / 64 = 3 ∨
      (y 1).val / 64 = 4 ∨ (y 1).val / 64 = 5 ∨ (y 1).val / 64 = 6 ∨ (y 1).val / 64 = 7 := by omega
  rcases hm with hm | hm | hm | hm | hm | hm | hm | hm
  · refine ⟨_, .tail _ (.tail _ (.tail _ (.tail _ (.tail _ (.tail _ (.tail _ (.head _))))))), ?_⟩
    exact trip_mem (m := 0) (k0_off63_eq k) (trip_inb (m := 0) (k0_off63_eq k) k.isLt (by decide)) y hy hm
  · refine ⟨_, .tail _ (.tail _ (.tail _ (.tail _ (.tail _ (.tail _ (.head _)))))), ?_⟩
    exact trip_mem (m := 1) (k0_off95_eq k) (trip_inb (m := 1) (k0_off95_eq k) k.isLt (by decide)) y hy hm
  · refine ⟨_, .tail _ (.tail _ (.tail _ (.tail _ (.tail _ (.head _))))), ?_⟩
    exact trip_mem (m := 2) (k0_off127_eq k) (trip_inb (m := 2) (k0_off127_eq k) k.isLt (by decide)) y hy hm
  · refine ⟨_, .tail _ (.tail _ (.tail _ (.tail _ (.head _)))), ?_⟩
    exact trip_mem (m := 3) (k0_off159_eq k) (trip_inb (m := 3) (k0_off159_eq k) k.isLt (by decide)) y hy hm
  · refine ⟨_, .tail _ (.tail _ (.tail _ (.head _))), ?_⟩
    exact trip_mem (m := 4) (k0_off191_eq k) (trip_inb (m := 4) (k0_off191_eq k) k.isLt (by decide)) y hy hm
  · refine ⟨_, .tail _ (.tail _ (.head _)), ?_⟩
    exact trip_mem (m := 5) (k0_off223_eq k) (trip_inb (m := 5) (k0_off223_eq k) k.isLt (by decide)) y hy hm
  · refine ⟨_, .tail _ (.head _), ?_⟩
    exact trip_mem (m := 6) (k0_off255_eq k) (trip_inb (m := 6) (k0_off255_eq k) k.isLt (by decide)) y hy hm
  · refine ⟨_, .head _, ?_⟩
    exact trip_mem (m := 7) (k0_off287_eq k) (trip_inb (m := 7) (k0_off287_eq k) k.isLt (by decide)) y hy hm

/-- What the loop leaves in its buffer: at lane block `g`, row `t` and lane `l`, the 31 taps' sum. -/
theorem pb_canon (hX : arg30.view.read (Elt Ideal) X30 = fun y => B (y 0).val (y 1).val (y 2).val)
    (hW : arg15.view.read (Elt Ideal) X15 = fun y => W (y 0).val (y 1).val (y 2).val) (y : S8x512x128.Idx) :
    View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 (Scf.trips k0_t1_loop.lb k0_t1_loop.ub k0_t1_loop.st)) y =
      conv B W (y 0).val (y 1).val (y 2).val := by
  have hp : ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 v16 v32 X15 X30 (Scf.trips k0_t1_loop.lb k0_t1_loop.ub k0_t1_loop.st), ∀ x : p.1.shape.Idx,
      p.2 x = (fun y : S8x512x128.Idx => conv B W (y 0).val (y 1).val (y 2).val) (p.1.emb x) := pb_pieces hX hW _ (Nat.le_refl _)
  refine View.canon_apply_of_pieces (Val := Elt Ideal) (S := S8x512x128) (e := .f32) (fun y => conv B W (y 0).val (y 1).val (y 2).val) _ hp y ?_
  have h0 : (y 0).val < k0_t1_loop.trips := (y 0).isLt
  obtain ⟨p, hp, hy⟩ := trip_covers (v16 := v16) (v32 := v32) (X15 := X15) (X30 := X30) ⟨(y 0).val, h0⟩ y rfl
  exact ⟨p, pb_sub _ hp _ h0 (Nat.le_refl _), hy⟩

end Cert.Mix
end
-- ==== Proof.Base2.lean ====
/- What the convolution's rows hold, and one head's output. -/
module

public import proofs.«01_k».proof.Proof.Steps
public import proofs.«01_k».proof.Proof.Conv
public import proofs.«01_k».proof.Proof.Pay

@[expose] public section

set_option maxRecDepth 16384

noncomputable section

namespace Cert.Mix

open Idealize.ShloMosaic Idealize.ShloMosaic.TcCoe Idealize.SL.Sem
open Cert.KernelIdeal Cert.KernelIdeal.Gen

/-- Rows written over what a buffer held: `G` on the rows written and on those that keep their contents. -/
theorem read_over {sp : Space} {e : EltTy} {S : Shape} {v : Memref sig .tc sp S e} {f : v.view.ty.Contents (Elt Ideal)}
    {L : List (View.Piece (Elt Ideal) S e)} {G : S.Idx → Elt Ideal e} (hp : View.PiecesOf G L) (r : Rect S)
    (w : r.shape.Idx → Elt Ideal e) (hc : ∀ y, ∃ p ∈ ((⟨r, w⟩ : View.Piece (Elt Ideal) S e) :: L), y ∈ p.1.set)
    (hf : ∀ y ∈ r.set, v.view.read (Elt Ideal) f y = G y) :
    v.view.read (Elt Ideal) (v.view.writes (Elt Ideal) f L) = G := by
  funext y
  by_cases hy : ∃ p ∈ L, y ∈ p.1.set
  · exact (View.read_writes_apply_eq_canon v.view f y L hy).trans (View.canon_apply_of_pieces G L hp.mem y hy)
  · refine (View.read_writes_apply_of_forall_not_mem v.view f y L fun p hpm hym => hy ⟨p, hpm, hym⟩).trans (hf y ?_)
    obtain ⟨p, hpm, hym⟩ := hc y
    rcases List.mem_cons.mp hpm with rfl | hpm
    · exact hym
    · exact absurd ⟨p, hpm, hym⟩ hy

/-- A box of a buffer read at a position. -/
theorem rd3 {sp : Space} {m n k p r l A B C : ℕ} {v : Memref sig .tc sp ⟨3, ![m, n, k]⟩ .f32}
    {L : List (View.Piece (Elt Ideal) ⟨3, ![m, n, k]⟩ .f32)} (g : ℕ → ℕ → ℕ → EReal)
    (hL : ∀ y : (⟨3, ![m, n, k]⟩ : Shape).Idx, B ≤ (y 1).val → View.canon L y = g (y 0).val (y 1).val (y 2).val) (inb) (x : Fin p) (y : Fin r) (w : Fin l) :
    v.view.readCov L (Rect.unit (s := ⟨3, ![m, n, k]⟩) ![A, B, C] ![p, r, l] inb).toLoadRect (ix3 x y w) = g (A + x) (B + y) (C + w) := by
  rw [View.readCov_eq_canon']
  refine (hL _ ?_).trans ?_
  · show B ≤ B + 1 * y.val
    omega
  · show g (A + 1 * x.val) (B + 1 * y.val) (C + 1 * w.val) = _
    rw [Nat.one_mul, Nat.one_mul, Nat.one_mul]

variable {a : Args} {b q : ℕ}

theorem u_close {r D i G C : ℕ} (hD : D = 128 * G + C) (hi : i = 32 + r) :
    U a b (512 * q + r) D = Uh a b (512 * q + i) (128 * G + C) := by
  subst hi hD
  rw [Uh, if_neg (by omega), show 512 * q + (32 + r) - 32 = 512 * q + r by omega]

theorem pay107_eq {s : ℕ} {x : Vec Ideal S512x1024 .f32} {w : Vec Ideal S1024x2048 .bf16} {z : Vec Ideal S1x2048 .f32}
    (hx : ∀ r d, x (ix2 r d) = a.X b (s + r.val) d.val) (hw : ∀ d c, w (ix2 d c) = a.Win d.val c.val)
    (hz : ∀ o c, z (ix2 o c) = a.Bin c.val) (o : Fin 1) (r : Fin 512) (l : Fin 128) :
    k0_pay107 (F := Ideal) x w z (ix3 o r l) = U a b (s + r) (0 + l) := by
  pointwise [k0_pay107]
  refine (pay106_eq hx hw hz _ _).trans (congrArg (U a b _) ?_)
  first | rfl | exact (Nat.zero_add _).symm

theorem pay108_eq {s : ℕ} {x : Vec Ideal S512x1024 .f32} {w : Vec Ideal S1024x2048 .bf16} {z : Vec Ideal S1x2048 .f32}
    (hx : ∀ r d, x (ix2 r d) = a.X b (s + r.val) d.val) (hw : ∀ d c, w (ix2 d c) = a.Win d.val c.val)
    (hz : ∀ o c, z (ix2 o c) = a.Bin c.val) (o : Fin 1) (r : Fin 512) (l : Fin 128) :
    k0_pay108 (F := Ideal) x w z (ix3 o r l) = U a b (s + r) (128 + l) := by
  pointwise [k0_pay108]
  refine (pay106_eq hx hw hz _ _).trans (congrArg (U a b _) ?_)
  first | rfl | exact (Nat.zero_add _).symm

theorem pay109_eq {s : ℕ} {x : Vec Ideal S512x1024 .f32} {w : Vec Ideal S1024x2048 .bf16} {z : Vec Ideal S1x2048 .f32}
    (hx : ∀ r d, x (ix2 r d) = a.X b (s + r.val) d.val) (hw : ∀ d c, w (ix2 d c) = a.Win d.val c.val)
    (hz : ∀ o c, z (ix2 o c) = a.Bin c.val) (o : Fin 1) (r : Fin 512) (l : Fin 128) :
    k0_pay109 (F := Ideal) x w z (ix3 o r l) = U a b (s + r) (256 + l) := by
  pointwise [k0_pay109]
  refine (pay106_eq hx hw hz _ _).trans (congrArg (U a b _) ?_)
  first | rfl | exact (Nat.zero_add _).symm

theorem pay110_eq {s : ℕ} {x : Vec Ideal S512x1024 .f32} {w : Vec Ideal S1024x2048 .bf16} {z : Vec Ideal S1x2048 .f32}
    (hx : ∀ r d, x (ix2 r d) = a.X b (s + r.val) d.val) (hw : ∀ d c, w (ix2 d c) = a.Win d.val c.val)
    (hz : ∀ o c, z (ix2 o c) = a.Bin c.val) (o : Fin 1) (r : Fin 512) (l : Fin 128) :
    k0_pay110 (F := Ideal) x w z (ix3 o r l) = U a b (s + r) (384 + l) := by
  pointwise [k0_pay110]
  refine (pay106_eq hx hw hz _ _).trans (congrArg (U a b _) ?_)
  first | rfl | exact (Nat.zero_add _).symm

theorem pay111_eq {v : FVec Ideal S512x1024 .f32} {g : ℕ → ℕ → EReal}
    (hv : ∀ (r : Fin 512) (l : Fin 1024), v (ix2 r l) = g r.val l.val) (o : Fin 1) (r : Fin 512) (l : Fin 128) :
    k0_pay111 (F := Ideal) v (ix3 o r l) = g r (512 + l) := by
  pointwise [k0_pay111]
  exact hv _ _

theorem pay112_eq {v : FVec Ideal S512x1024 .f32} {g : ℕ → ℕ → EReal}
    (hv : ∀ (r : Fin 512) (l : Fin 1024), v (ix2 r l) = g r.val l.val) (o : Fin 1) (r : Fin 512) (l : Fin 128) :
    k0_pay112 (F := Ideal) v (ix3 o r l) = g r (640 + l) := by
  pointwise [k0_pay112]
  exact hv _ _

theorem pay113_eq {v : FVec Ideal S512x1024 .f32} {g : ℕ → ℕ → EReal}
    (hv : ∀ (r : Fin 512) (l : Fin 1024), v (ix2 r l) = g r.val l.val) (o : Fin 1) (r : Fin 512) (l : Fin 128) :
    k0_pay113 (F := Ideal) v (ix3 o r l) = g r (768 + l) := by
  pointwise [k0_pay113]
  exact hv _ _

theorem pay114_eq {v : FVec Ideal S512x1024 .f32} {g : ℕ → ℕ → EReal}
    (hv : ∀ (r : Fin 512) (l : Fin 1024), v (ix2 r l) = g r.val l.val) (o : Fin 1) (r : Fin 512) (l : Fin 128) :
    k0_pay114 (F := Ideal) v (ix3 o r l) = g r (896 + l) := by
  pointwise [k0_pay114]
  exact hv _ _

theorem pay354_eq {x : Vec Ideal S512x1024 .bf16} {w : Vec Ideal S1024x1024 .bf16} {g : ℕ → ℕ → EReal}
    (hx : ∀ (r : Fin 512) (l : Fin 1024), x (ix2 r l) = g r.val l.val) (hw : ∀ d c, w (ix2 d c) = a.Wgo d.val c.val)
    (r : Fin 512) (e : Fin 1024) :
    k0_pay354 (F := Ideal) x w (ix2 r e) = ∑ j : Fin 1024, g r j * a.Wgo j e := by
  pointwise [k0_pay354]
  simp only [hx, hw]

theorem u_keep {r c : ℕ} : U a b (512 * q + (480 + r)) c = Uh a b (512 * (q + 1) + r) c := by
  rw [Uh, if_neg (by omega), show 512 * (q + 1) + r - 32 = 512 * q + (480 + r) by omega]

theorem conv_close {W : ℕ → ℕ → ℕ → EReal} (hW : ∀ g j l, W g j l = if j < 31 then a.Cw j (128 * g + l) else 0) (g t l : ℕ) :
    conv (fun g i l => Uh a b (512 * q + i) (128 * g + l)) W g t l = Cv a b (512 * q + t) (128 * g + l) := by
  unfold conv Cv
  refine Finset.sum_congr rfl fun j _ => ?_
  rw [hW, if_pos j.isLt]
  exact congrArg (Uh a b · _ * _) (by omega)

theorem og_close (a : Args) (b q c h : ℕ) (hc : c < 8) (hh : h < 4) (r : Fin 64) (v : Fin 256) :
    (∑ k : Fin 128, Pj a b q (64 * c + r) (128 * h + k) * Ideal.ofBits FTy.f32 1035273459#32
          * St a b ((4 * c + h) % 4) k v (8 * q + ((4 * c + h) / 4 + 1)))
        * Ideal.rsqrt (Ideal.div (∑ x : Fin 256,
            (∑ k : Fin 128, Pj a b q (64 * c + r) (128 * h + k) * Ideal.ofBits FTy.f32 1035273459#32
              * St a b ((4 * c + h) % 4) k x (8 * q + ((4 * c + h) / 4 + 1)))
            * (∑ k : Fin 128, Pj a b q (64 * c + r) (128 * h + k) * Ideal.ofBits FTy.f32 1035273459#32
              * St a b ((4 * c + h) % 4) k x (8 * q + ((4 * c + h) / 4 + 1)))) (Ideal.ofBits FTy.f32 1132462080#32)
          + Ideal.ofBits FTy.f32 897988541#32)
        * a.Ng h v
        * (Pj a b q (64 * c + r) (1536 + 256 * h + v) * Ideal.logistic (Pj a b q (64 * c + r) (1536 + 256 * h + v)))
      = Og a b (512 * q + (64 * c + r)) ((256 * h + v) / 256) ((256 * h + v) % 256) := by
  have ho : ∀ x : ℕ, (∑ k : Fin 128, Pj a b q (64 * c + r) (128 * h + k) * Ideal.ofBits FTy.f32 1035273459#32
      * St a b ((4 * c + h) % 4) k x (8 * q + ((4 * c + h) / 4 + 1))) = O a b (512 * q + (64 * c + r)) h x := by
    intro x
    refine Finset.sum_congr rfl fun k _ => ?_
    have hk := k.isLt
    have hr := r.isLt
    rw [Pj_q (by omega), show (4 * c + h) % 4 = h by omega,
      show 8 * q + ((4 * c + h) / 4 + 1) = (512 * q + (64 * c + r.val)) / 64 + 1 by omega]
  have hv := v.isLt
  rw [show (256 * h + v.val) / 256 = h by omega, show (256 * h + v.val) % 256 = v.val by omega, Pj_v (by omega),
    show 2560 + (1536 + 256 * h + v.val) = 4096 + (256 * h + v.val) by omega]
  simp only [ho, Og]

end Cert.Mix
end
-- ==== Proof.A5.lean ====
/- The convolution branch of a tile. -/
module

public import proofs.«01_k».proof.Proof.A1
public import proofs.«01_k».proof.Proof.Base2

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 arg29 arg39 arg40 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 arg38 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg15 : Memref sig .tc .vmem S8x32x128 .f32}
  {arg16 arg17 arg18 arg20 arg26 arg27 arg28 : Memref sig .tc .vmem S1x1024 .f32}
  {arg19 arg24 arg25 : Memref sig .tc .vmem S1024x1024 .bf16}
  {arg21 : Memref sig .tc .vmem S512x128 .bf16}
  {arg23 : Memref sig .tc .vmem S4x256 .f32}
  {arg30 : Memref sig .tc .vmem S8x544x128 .f32}
  {arg31 : Memref sig .tc .vmem S8x512x128 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole} {harg38 : arg38.IsWhole} {harg39 : arg39.IsWhole} {harg40 : arg40.IsWhole}
variable (hB : Blk a b q x0 x1 x2 x3 x4 x5 x6 x7 x8 x9 x10 x11 x12 x13 x14 x15 x16 x17 x18 x19 x20 x21 x22 x23 x24 x25 x26)
include hB
theorem A_lu (hq : q = 0) : View.PiecesOf (Val := Elt Ideal) (fun y => Uh a b (512 * q + (y 1).val) (128 * (y 0).val + (y 2).val)) (HS0_9 c arg2 harg2 arg3 harg3 arg4 harg4 x0 x1 x2) := by
  unfold HS0_9
  simp only [View.PiecesOf]
  refine ⟨?_, ?_, ?_, ?_, ?_, ?_, ?_, ?_, ?_, trivial⟩
  · intro i
    idx_vars i
    refine Eq.trans ?_ (emb3 (fun g i l => Uh a b (512 * q + i) (128 * g + l)) _ i0 i1 i2).symm
    refine (pay114_eq (g := fun r l => U a b (512 * q + r) l) (A_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay113_eq (g := fun r l => U a b (512 * q + r) l) (A_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay112_eq (g := fun r l => U a b (512 * q + r) l) (A_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay111_eq (g := fun r l => U a b (512 * q + r) l) (A_r2 hB) i0 i1 i2).trans ?_
    exact u_close (r := i1.val) (by omega) (by omega)
  · intro i
    idx_vars i
    refine Eq.trans ?_ (emb3 (fun g i l => Uh a b (512 * q + i) (128 * g + l)) _ i0 i1 i2).symm
    unfold r_3
    refine (pay110_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay109_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay108_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay107_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    pointwise [k0_pay102]
    first | exact ((if_pos (by omega)).symm) | (rw [Uh, if_pos (by omega)]; try exact Ideal.ofBits_zero _)

theorem A_lc (hq : q = 0) : View.canon (HS0_9 c arg2 harg2 arg3 harg3 arg4 harg4 x0 x1 x2) = fun y => Uh a b (512 * q + (y 1).val) (128 * (y 0).val + (y 2).val) := by
  refine canon_of (A_lu hB hq) ?_
  exact View.cover_of_tiledBy _ ![1, 32, 128] (by sl_kernel_rfl)

theorem A_rd (hq : q = 0) : arg30.view.read (Elt Ideal) (arg30.view.writes (Elt Ideal) arg30.view.junk (HS0_9 c arg2 harg2 arg3 harg3 arg4 harg4 x0 x1 x2)) = fun y => Uh a b (512 * q + (y 1).val) (128 * (y 0).val + (y 2).val) := by
  rw [View.read_writes_junk_eq_canon]
  exact A_lc hB hq

theorem A_cv (hq : q = 0) : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (r_2 c arg2 harg2 arg3 harg3 arg4 harg4 x0 x1 x2) (r_3 c arg2 harg2 arg3 harg3 arg4 harg4 x0 x1 x2) (harg15.unread x13) (arg30.view.writes (Elt Ideal) arg30.view.junk (HS0_9 c arg2 harg2 arg3 harg3 arg4 harg4 x0 x1 x2)) (Scf.trips k0_t1_loop.lb k0_t1_loop.ub k0_t1_loop.st)) = fun y => Cv a b (512 * q + (y 1).val) (128 * (y 0).val + (y 2).val) := by
  funext y
  refine (pb_canon (B := fun g i l => Uh a b (512 * q + i) (128 * g + l)) (W := fun g j l => if j < 31 then a.Cw j (128 * g + l) else 0) (A_rd hB hq) ?_ y).trans
    (conv_close (fun _ _ _ => rfl) _ _ _)
  rw [harg15.read_unread]
  exact funext hB.h13

theorem A_r8 (hq : q = 0) (r : Fin 512) (l : Fin 1024) : r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 (ix2 r l) = (Cv a b (512 * q + r.val) l.val + a.Cb l.val) - mean (fun l => Cv a b (512 * q + r.val) l + a.Cb l) := by
  have hc : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (r_2 c arg2 harg2 arg3 harg3 arg4 harg4 x0 x1 x2) (r_3 c arg2 harg2 arg3 harg3 arg4 harg4 x0 x1 x2) (harg15.unread x13) (arg30.view.writes (Elt Ideal) arg30.view.junk (HS0_9 c arg2 harg2 arg3 harg3 arg4 harg4 x0 x1 x2)) (Scf.trips k0_t1_loop.lb k0_t1_loop.ub k0_t1_loop.st)) = _ := A_cv hB hq
  unfold r_8
  refine pay121_eq (g := fun r l => Cv a b (512 * q + r) l) (h := a.Cb) ?_ ?_ ?_ ?_ ?_ ?_ ?_ ?_ (fun _ _ => (ldw harg16 _ x14 _).trans (hB.h14 _ _)) r l
  · intro r l
    unfold r_4
    pointwise [k0_pay117]
    refine (rd3 (fun g i l => Cv a b (512 * q + i) (128 * g + l)) (fun y _ => congrFun hc y) _ _ _ _).trans ?_
    exact congrArg₂ (Cv a b) (by omega) (by omega)
  · intro r l
    unfold r_5
    pointwise [k0_pay118]
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)

theorem A_r9 (hq : q = 0) (r : Fin 512) (o : Fin 1) : r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 (ix2 r o) = var (fun l => Cv a b (512 * q + r.val) l + a.Cb l) (mean (fun l => Cv a b (512 * q + r.val) l + a.Cb l)) := by
  have h8 : ∀ (r : Fin 512) (l : Fin 1024), r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 (ix2 r l) = _ := A_r8 hB hq
  unfold r_8 at h8
  unfold r_9
  exact pay122_eq (g := fun r l => Cv a b (512 * q + r) l + a.Cb l) (fun r l => h8 r l) r o

theorem A_c9 (hq : q = 0) : View.canon (HS9_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18) = fun y => Ideal.logistic (H a b (512 * q + (y 0).val) (5136 + (y 1).val)) * Yc a b (512 * q + (y 0).val) (y 1).val := by
  refine canon_of ?_ (View.cover_of_tiledL _ S512x1024.size (by sl_kernel_rfl))
  unfold HS9_1
  refine ⟨fun i => ?_, trivial⟩
  idx_vars i
  refine Eq.trans ?_ (emb2 (fun r l => Ideal.logistic (H a b (512 * q + r) (5136 + l)) * Yc a b (512 * q + r) l) _ i0 i1).symm
  rw [Nat.zero_add, Nat.zero_add]
  exact pay124_eq (A_r1 hB) (fun _ _ => by unfold r_6; pointwise [k0_pay119]; exact (ldw harg17 _ x15 _).trans (hB.h15 _ _))
    (fun _ _ => by unfold r_7; pointwise [k0_pay120]; exact (ldw harg18 _ x16 _).trans (hB.h16 _ _))
    (A_r8 hB hq) (A_r9 hB hq) (fun _ _ => (ldw harg19 _ x17 _).trans (hB.h17 _ _)) (fun _ _ => (ldw harg20 _ x18 _).trans (hB.h18 _ _)) (fun _ _ => (ldw harg13 _ x11 _).trans (hB.h11 _ _)) (fun _ _ => (ldw harg14 _ x12 _).trans (hB.h12 _ _)) i0 i1

theorem A_sd (hq : q = 0) (y : S8x544x128.Idx) (hy : (y 1).val < 32) : View.canon ((⟨Rect.unit (s := S8x544x128) ![0, 0, 0] S8x32x128.size inb_S8x544x128_S8x32x128_0_0_0, k0_pay116 (F := Ideal) (v50 c arg2 harg2 arg3 harg3 arg4 harg4 arg30 x0 x1 x2)⟩ : View.Piece (Elt Ideal) S8x544x128 .f32) :: HS0_9 c arg2 harg2 arg3 harg3 arg4 harg4 x0 x1 x2) y = Uh a b (512 * (q + 1) + (y 1).val) (128 * (y 0).val + (y 2).val) := by
  have hm : y ∈ (Rect.unit (s := S8x544x128) ![0, 0, 0] S8x32x128.size inb_S8x544x128_S8x32x128_0_0_0).set := Rect.mem_set_unit.mpr fun k => by
    fin_cases k
    · exact ⟨Nat.zero_le _, (by have := (y 0).isLt; exact this)⟩
    · exact ⟨Nat.zero_le _, (by exact hy)⟩
    · exact ⟨Nat.zero_le _, (by have := (y 2).isLt; exact this)⟩
  obtain ⟨i, rfl⟩ := (Rect.unit (s := S8x544x128) ![0, 0, 0] S8x32x128.size inb_S8x544x128_S8x32x128_0_0_0).exists_idx_of_mem hm
  refine (View.canon_cons_emb _ _ _ i).trans ?_
  idx_vars i
  refine Eq.trans ?_ (emb3 (fun g i l => Uh a b (512 * (q + 1) + i) (128 * g + l)) _ i0 i1 i2).symm
  unfold v50
  pointwise [k0_pay116]
  refine (rd3 (fun g i l => Uh a b (512 * q + i) (128 * g + l)) (fun y _ => congrFun (A_lc hB hq) y) _ _ _ _).trans ?_
  exact congrArg₂ (Uh a b) (by omega) (by omega)

end Cert.Mix
end
-- ==== Proof.A2.lean ====
/- What each chunk adds to the states. -/
module

public import proofs.«01_k».proof.Proof.A1

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 : Memref sig .tc .vmem S512x512 .f32}
  {arg11 : Memref sig .tc .vmem S1024x128 .bf16}
  {arg12 : Memref sig .tc .vmem S1x128 .f32}
  {arg21 : Memref sig .tc .vmem S512x128 .bf16}
  {arg33 : Memref sig .tc .vmem S512x2560 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole}
theorem A_c6 (hB : Blk a b q x0 x1 x2 x3 x4 x5 x6 x7 x8 x9 x10 x11 x12 x13 x14 x15 x16 x17 x18 x19 x20 x21 x22 x23 x24 x25 x26) : View.canon (HS6_32 c arg2 harg2 arg5 harg5 arg6 harg6 arg7 harg7 arg8 harg8 arg9 harg9 arg10 harg10 arg11 harg11 arg12 harg12 arg21 harg21 arg22 harg22 arg33 arg34 x0 x3 x4 x5 x6 x7 x8 x9 x10 x19 x20) = fun y => Kv a b (8 * q + (y 0).val / 4) ((y 0).val % 4) (y 1).val (y 2).val := by
  refine canon_of ?_ (View.cover_of_tiledL _ S1x128x256.size (by sl_kernel_rfl))
  unfold HS6_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb3 (fun p k v => Kv a b (8 * q + p / 4) (p % 4) k v) _ i0 i1 i2).symm
    simp only [v561, v567, View.readCov_eq_canon', (A_c3 hB), (A_c4 hB)]
    pointwise [k0_pay145, k0_pay187]
    simpa only [Nat.zero_add, Nat.add_zero, Nat.mul_zero, Nat.reduceMul, Nat.reduceAdd] using
      kv_close a b q 3 3 1 (by decide) rfl i1.val i2.val
  · intro i
    idx_vars i
    refine Eq.trans ?_ (emb3 (fun p k v => Kv a b (8 * q + p / 4) (p % 4) k v) _ i0 i1 i2).symm
    simp only [v549, v555, View.readCov_eq_canon', (A_c3 hB), (A_c4 hB)]
    pointwise [k0_pay145, k0_pay186]
    simpa only [Nat.zero_add, Nat.add_zero, Nat.mul_zero, Nat.reduceMul, Nat.reduceAdd] using
      kv_close a b q 3 2 1 (by decide) rfl i1.val i2.val
  · intro i
    idx_vars i
    refine Eq.trans ?_ (emb3 (fun p k v => Kv a b (8 * q + p / 4) (p % 4) k v) _ i0 i1 i2).symm
    simp only [r_27, v537, r_28, v543, View.readCov_eq_canon', (A_c3 hB), (A_c4 hB)]
    pointwise [k0_pay145, k0_pay183, k0_pay184, k0_pay185]
    simpa only [Nat.zero_add, Nat.add_zero, Nat.mul_zero, Nat.reduceMul, Nat.reduceAdd] using
      kv_close a b q 3 1 1 (by decide) rfl i1.val i2.val
  · intro i
    idx_vars i
    refine Eq.trans ?_ (emb3 (fun p k v => Kv a b (8 * q + p / 4) (p % 4) k v) _ i0 i1 i2).symm
    simp only [v525, v531, View.readCov_eq_canon', (A_c3 hB), (A_c4 hB)]
    pointwise [k0_pay145, k0_pay182]
    simpa only [Nat.zero_add, Nat.add_zero, Nat.mul_zero, Nat.reduceMul, Nat.reduceAdd] using
      kv_close a b q 3 0 1 (by decide) rfl i1.val i2.val
  · intro i
    idx_vars i
    refine Eq.trans ?_ (emb3 (fun p k v => Kv a b (8 * q + p / 4) (p % 4) k v) _ i0 i1 i2).symm
    simp only [v561, v567, View.readCov_eq_canon', (A_c3 hB), (A_c4 hB)]
    pointwise [k0_pay145, k0_pay181]
    simpa only [Nat.zero_add, Nat.add_zero, Nat.mul_zero, Nat.reduceMul, Nat.reduceAdd] using
      kv_close a b q 3 3 0 (by decide) rfl i1.val i2.val
  · intro i
    idx_vars i
    refine Eq.trans ?_ (emb3 (fun p k v => Kv a b (8 * q + p / 4) (p % 4) k v) _ i0 i1 i2).symm
    simp only [v549, v555, View.readCov_eq_canon', (A_c3 hB), (A_c4 hB)]
    pointwise [k0_pay145, k0_pay180]
    simpa only [Nat.zero_add, Nat.add_zero, Nat.mul_zero, Nat.reduceMul, Nat.reduceAdd] using
      kv_close a b q 3 2 0 (by decide) rfl i1.val i2.val
  · intro i
    idx_vars i
    refine Eq.trans ?_ (emb3 (fun p k v => Kv a b (8 * q + p / 4) (p % 4) k v) _ i0 i1 i2).symm
    simp only [v537, v543, View.readCov_eq_canon', (A_c3 hB), (A_c4 hB)]
    pointwise [k0_pay145, k0_pay179]
    simpa only [Nat.zero_add, Nat.add_zero, Nat.mul_zero, Nat.reduceMul, Nat.reduceAdd] using
      kv_close a b q 3 1 0 (by decide) rfl i1.val i2.val
  · intro i
    idx_vars i
    refine Eq.trans ?_ (emb3 (fun p k v => Kv a b (8 * q + p / 4) (p % 4) k v) _ i0 i1 i2).symm
    simp only [r_26, v525, v531, View.readCov_eq_canon', (A_c3 hB), (A_c4 hB)]
    pointwise [k0_pay145, k0_pay177, k0_pay178]
    simpa only [Nat.zero_add, Nat.add_zero, Nat.mul_zero, Nat.reduceMul, Nat.reduceAdd] using
      kv_close a b q 3 0 0 (by decide) rfl i1.val i2.val
  · intro i
    idx_vars i
    refine Eq.trans ?_ (emb3 (fun p k v => Kv a b (8 * q + p / 4) (p % 4) k v) _ i0 i1 i2).symm
    simp only [v465, v471, View.readCov_eq_canon', (A_c3 hB), (A_c4 hB)]
    pointwise [k0_pay145, k0_pay176]
    simpa only [Nat.zero_add, Nat.add_zero, Nat.mul_zero, Nat.reduceMul, Nat.reduceAdd] using
      kv_close a b q 2 3 1 (by decide) rfl i1.val i2.val
  · intro i
    idx_vars i
    refine Eq.trans ?_ (emb3 (fun p k v => Kv a b (8 * q + p / 4) (p % 4) k v) _ i0 i1 i2).symm
    simp only [v453, v459, View.readCov_eq_canon', (A_c3 hB), (A_c4 hB)]
    pointwise [k0_pay145, k0_pay175]
    simpa only [Nat.zero_add, Nat.add_zero, Nat.mul_zero, Nat.reduceMul, Nat.reduceAdd] using
      kv_close a b q 2 2 1 (by decide) rfl i1.val i2.val
  · intro i
    idx_vars i
    refine Eq.trans ?_ (emb3 (fun p k v => Kv a b (8 * q + p / 4) (p % 4) k v) _ i0 i1 i2).symm
    simp only [r_25, v441, v447, View.readCov_eq_canon', (A_c3 hB), (A_c4 hB)]
    pointwise [k0_pay145, k0_pay173, k0_pay174]
    simpa only [Nat.zero_add, Nat.add_zero, Nat.mul_zero, Nat.reduceMul, Nat.reduceAdd] using
      kv_close a b q 2 1 1 (by decide) rfl i1.val i2.val
  · intro i
    idx_vars i
    refine Eq.trans ?_ (emb3 (fun p k v => Kv a b (8 * q + p / 4) (p % 4) k v) _ i0 i1 i2).symm
    simp only [v429, v435, View.readCov_eq_canon', (A_c3 hB), (A_c4 hB)]
    pointwise [k0_pay145, k0_pay172]
    simpa only [Nat.zero_add, Nat.add_zero, Nat.mul_zero, Nat.reduceMul, Nat.reduceAdd] using
      kv_close a b q 2 0 1 (by decide) rfl i1.val i2.val
  · intro i
    idx_vars i
    refine Eq.trans ?_ (emb3 (fun p k v => Kv a b (8 * q + p / 4) (p % 4) k v) _ i0 i1 i2).symm
    simp only [v465, v471, View.readCov_eq_canon', (A_c3 hB), (A_c4 hB)]
    pointwise [k0_pay145, k0_pay171]
    simpa only [Nat.zero_add, Nat.add_zero, Nat.mul_zero, Nat.reduceMul, Nat.reduceAdd] using
      kv_close a b q 2 3 0 (by decide) rfl i1.val i2.val
  · intro i
    idx_vars i
    refine Eq.trans ?_ (emb3 (fun p k v => Kv a b (8 * q + p / 4) (p % 4) k v) _ i0 i1 i2).symm
    simp only [v453, v459, View.readCov_eq_canon', (A_c3 hB), (A_c4 hB)]
    pointwise [k0_pay145, k0_pay170]
    simpa only [Nat.zero_add, Nat.add_zero, Nat.mul_zero, Nat.reduceMul, Nat.reduceAdd] using
      kv_close a b q 2 2 0 (by decide) rfl i1.val i2.val
  · intro i
    idx_vars i
    refine Eq.trans ?_ (emb3 (fun p k v => Kv a b (8 * q + p / 4) (p % 4) k v) _ i0 i1 i2).symm
    simp only [v441, v447, View.readCov_eq_canon', (A_c3 hB), (A_c4 hB)]
    pointwise [k0_pay145, k0_pay169]
    simpa only [Nat.zero_add, Nat.add_zero, Nat.mul_zero, Nat.reduceMul, Nat.reduceAdd] using
      kv_close a b q 2 1 0 (by decide) rfl i1.val i2.val
  · intro i
    idx_vars i
    refine Eq.trans ?_ (emb3 (fun p k v => Kv a b (8 * q + p / 4) (p % 4) k v) _ i0 i1 i2).symm
    simp only [r_24, v429, v435, View.readCov_eq_canon', (A_c3 hB), (A_c4 hB)]
    pointwise [k0_pay145, k0_pay167, k0_pay168]
    simpa only [Nat.zero_add, Nat.add_zero, Nat.mul_zero, Nat.reduceMul, Nat.reduceAdd] using
      kv_close a b q 2 0 0 (by decide) rfl i1.val i2.val
  · intro i
    idx_vars i
    refine Eq.trans ?_ (emb3 (fun p k v => Kv a b (8 * q + p / 4) (p % 4) k v) _ i0 i1 i2).symm
    simp only [v369, v375, View.readCov_eq_canon', (A_c3 hB), (A_c4 hB)]
    pointwise [k0_pay145, k0_pay166]
    simpa only [Nat.zero_add, Nat.add_zero, Nat.mul_zero, Nat.reduceMul, Nat.reduceAdd] using
      kv_close a b q 1 3 1 (by decide) rfl i1.val i2.val
  · intro i
    idx_vars i
    refine Eq.trans ?_ (emb3 (fun p k v => Kv a b (8 * q + p / 4) (p % 4) k v) _ i0 i1 i2).symm
    simp only [v357, v363, View.readCov_eq_canon', (A_c3 hB), (A_c4 hB)]
    pointwise [k0_pay145, k0_pay165]
    simpa only [Nat.zero_add, Nat.add_zero, Nat.mul_zero, Nat.reduceMul, Nat.reduceAdd] using
      kv_close a b q 1 2 1 (by decide) rfl i1.val i2.val
  · intro i
    idx_vars i
    refine Eq.trans ?_ (emb3 (fun p k v => Kv a b (8 * q + p / 4) (p % 4) k v) _ i0 i1 i2).symm
    simp only [r_23, v345, v351, View.readCov_eq_canon', (A_c3 hB), (A_c4 hB)]
    pointwise [k0_pay145, k0_pay164]
    simpa only [Nat.zero_add, Nat.add_zero, Nat.mul_zero, Nat.reduceMul, Nat.reduceAdd] using
      kv_close a b q 1 1 1 (by decide) rfl i1.val i2.val
  · intro i
    idx_vars i
    refine Eq.trans ?_ (emb3 (fun p k v => Kv a b (8 * q + p / 4) (p % 4) k v) _ i0 i1 i2).symm
    simp only [v333, v339, View.readCov_eq_canon', (A_c3 hB), (A_c4 hB)]
    pointwise [k0_pay145, k0_pay163]
    simpa only [Nat.zero_add, Nat.add_zero, Nat.mul_zero, Nat.reduceMul, Nat.reduceAdd] using
      kv_close a b q 1 0 1 (by decide) rfl i1.val i2.val
  · intro i
    idx_vars i
    refine Eq.trans ?_ (emb3 (fun p k v => Kv a b (8 * q + p / 4) (p % 4) k v) _ i0 i1 i2).symm
    simp only [v369, v375, View.readCov_eq_canon', (A_c3 hB), (A_c4 hB)]
    pointwise [k0_pay145, k0_pay160, k0_pay161, k0_pay162]
    simpa only [Nat.zero_add, Nat.add_zero, Nat.mul_zero, Nat.reduceMul, Nat.reduceAdd] using
      kv_close a b q 1 3 0 (by decide) rfl i1.val i2.val
  · intro i
    idx_vars i
    refine Eq.trans ?_ (emb3 (fun p k v => Kv a b (8 * q + p / 4) (p % 4) k v) _ i0 i1 i2).symm
    simp only [v357, v363, View.readCov_eq_canon', (A_c3 hB), (A_c4 hB)]
    pointwise [k0_pay145, k0_pay159]
    simpa only [Nat.zero_add, Nat.add_zero, Nat.mul_zero, Nat.reduceMul, Nat.reduceAdd] using
      kv_close a b q 1 2 0 (by decide) rfl i1.val i2.val
  · intro i
    idx_vars i
    refine Eq.trans ?_ (emb3 (fun p k v => Kv a b (8 * q + p / 4) (p % 4) k v) _ i0 i1 i2).symm
    simp only [v345, v351, View.readCov_eq_canon', (A_c3 hB), (A_c4 hB)]
    pointwise [k0_pay145, k0_pay158]
    simpa only [Nat.zero_add, Nat.add_zero, Nat.mul_zero, Nat.reduceMul, Nat.reduceAdd] using
      kv_close a b q 1 1 0 (by decide) rfl i1.val i2.val
  · intro i
    idx_vars i
    refine Eq.trans ?_ (emb3 (fun p k v => Kv a b (8 * q + p / 4) (p % 4) k v) _ i0 i1 i2).symm
    simp only [r_22, v333, v339, View.readCov_eq_canon', (A_c3 hB), (A_c4 hB)]
    pointwise [k0_pay145, k0_pay156, k0_pay157]
    simpa only [Nat.zero_add, Nat.add_zero, Nat.mul_zero, Nat.reduceMul, Nat.reduceAdd] using
      kv_close a b q 1 0 0 (by decide) rfl i1.val i2.val
  · intro i
    idx_vars i
    refine Eq.trans ?_ (emb3 (fun p k v => Kv a b (8 * q + p / 4) (p % 4) k v) _ i0 i1 i2).symm
    simp only [v273, v279, View.readCov_eq_canon', (A_c3 hB), (A_c4 hB)]
    pointwise [k0_pay145, k0_pay155]
    simpa only [Nat.zero_add, Nat.add_zero, Nat.mul_zero, Nat.reduceMul, Nat.reduceAdd] using
      kv_close a b q 0 3 1 (by decide) rfl i1.val i2.val
  · intro i
    idx_vars i
    refine Eq.trans ?_ (emb3 (fun p k v => Kv a b (8 * q + p / 4) (p % 4) k v) _ i0 i1 i2).symm
    simp only [v261, v267, View.readCov_eq_canon', (A_c3 hB), (A_c4 hB)]
    pointwise [k0_pay145, k0_pay154]
    simpa only [Nat.zero_add, Nat.add_zero, Nat.mul_zero, Nat.reduceMul, Nat.reduceAdd] using
      kv_close a b q 0 2 1 (by decide) rfl i1.val i2.val
  · intro i
    idx_vars i
    refine Eq.trans ?_ (emb3 (fun p k v => Kv a b (8 * q + p / 4) (p % 4) k v) _ i0 i1 i2).symm
    simp only [v249, v255, View.readCov_eq_canon', (A_c3 hB), (A_c4 hB)]
    pointwise [k0_pay145, k0_pay153]
    simpa only [Nat.zero_add, Nat.add_zero, Nat.mul_zero, Nat.reduceMul, Nat.reduceAdd] using
      kv_close a b q 0 1 1 (by decide) rfl i1.val i2.val
  · intro i
    idx_vars i
    refine Eq.trans ?_ (emb3 (fun p k v => Kv a b (8 * q + p / 4) (p % 4) k v) _ i0 i1 i2).symm
    simp only [v237, v243, View.readCov_eq_canon', (A_c3 hB), (A_c4 hB)]
    pointwise [k0_pay145, k0_pay152]
    simpa only [Nat.zero_add, Nat.add_zero, Nat.mul_zero, Nat.reduceMul, Nat.reduceAdd] using
      kv_close a b q 0 0 1 (by decide) rfl i1.val i2.val
  · intro i
    idx_vars i
    refine Eq.trans ?_ (emb3 (fun p k v => Kv a b (8 * q + p / 4) (p % 4) k v) _ i0 i1 i2).symm
    simp only [r_21, v273, v279, View.readCov_eq_canon', (A_c3 hB), (A_c4 hB)]
    pointwise [k0_pay145, k0_pay150, k0_pay151]
    simpa only [Nat.zero_add, Nat.add_zero, Nat.mul_zero, Nat.reduceMul, Nat.reduceAdd] using
      kv_close a b q 0 3 0 (by decide) rfl i1.val i2.val
  · intro i
    idx_vars i
    refine Eq.trans ?_ (emb3 (fun p k v => Kv a b (8 * q + p / 4) (p % 4) k v) _ i0 i1 i2).symm
    simp only [v261, v267, View.readCov_eq_canon', (A_c3 hB), (A_c4 hB)]
    pointwise [k0_pay145, k0_pay149]
    simpa only [Nat.zero_add, Nat.add_zero, Nat.mul_zero, Nat.reduceMul, Nat.reduceAdd] using
      kv_close a b q 0 2 0 (by decide) rfl i1.val i2.val
  · intro i
    idx_vars i
    refine Eq.trans ?_ (emb3 (fun p k v => Kv a b (8 * q + p / 4) (p % 4) k v) _ i0 i1 i2).symm
    simp only [v249, v255, View.readCov_eq_canon', (A_c3 hB), (A_c4 hB)]
    pointwise [k0_pay145, k0_pay148]
    simpa only [Nat.zero_add, Nat.add_zero, Nat.mul_zero, Nat.reduceMul, Nat.reduceAdd] using
      kv_close a b q 0 1 0 (by decide) rfl i1.val i2.val
  · intro i
    idx_vars i
    refine Eq.trans ?_ (emb3 (fun p k v => Kv a b (8 * q + p / 4) (p % 4) k v) _ i0 i1 i2).symm
    simp only [r_20, v237, v243, View.readCov_eq_canon', (A_c3 hB), (A_c4 hB)]
    pointwise [k0_pay146, k0_pay145, k0_pay147]
    simpa only [Nat.zero_add, Nat.add_zero, Nat.mul_zero, Nat.reduceMul, Nat.reduceAdd] using
      kv_close a b q 0 0 0 (by decide) rfl i1.val i2.val

end Cert.Mix
end
-- ==== Proof.A3.lean ====
/- The states after each update. -/
module

public import proofs.«01_k».proof.Proof.A2
public import proofs.«01_k».proof.Proof.Steps

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg32 : Memref sig .tc .vmem S4x128x256 .f32}
  {arg33 : Memref sig .tc .vmem S512x2560 .f32}
  {arg36 : Memref sig .tc .vmem S32x128x256 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole}
variable (hB : Blk a b q x0 x1 x2 x3 x4 x5 x6 x7 x8 x9 x10 x11 x12 x13 x14 x15 x16 x17 x18 x19 x20 x21 x22 x23 x24 x25 x26)
include hB
theorem A_s0 (hq : q = 0) : View.canon (HS2_1 (F := Ideal) ) = fun y => St a b (y 0).val (y 1).val (y 2).val (8 * q + (0 + 3 - (y 0).val) / 4) := by
  refine canon_of ?_ (View.cover_of_tiledL _ S4x128x256.size (by sl_kernel_rfl))
  unfold HS2_1
  refine ⟨fun i => ?_, trivial⟩
  idx_vars i
  refine Eq.trans ?_ (emb3 (fun h k v => St a b h k v (8 * q + (0 + 3 - h) / 4)) _ i0 i1 i2).symm
  have hi := i0.isLt
  rw [hq, show 8 * 0 + (0 + 3 - (0 + i0.val)) / 4 = 0 by omega]
  pointwise [k0_pay103]
  rfl

theorem A_s1 (hq : q = 0) : View.canon (HS2_2 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (1 + 3 - (y 0).val) / 4) := by
  unfold HS2_2
  refine st_step (A_s0 hB hq) (by decide) _ _ fun i0 i1 i2 => ?_
  simp only [v621, v622, v626, View.readCov_eq_canon', (A_c5 hB), (A_c6 hB), (A_s0 hB hq)]
  pointwise [k0_pay189, k0_pay188]
  try simp only [Nat.zero_add, Nat.add_zero, Nat.mul_zero, Nat.reduceMul, Nat.reduceAdd, Nat.reduceSub, Nat.reduceDiv]
  exact St_close (by omega)

theorem A_s2 (hq : q = 0) : View.canon (HS2_3 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (2 + 3 - (y 0).val) / 4) := by
  unfold HS2_3
  refine st_step (A_s1 hB hq) (by decide) _ _ fun i0 i1 i2 => ?_
  simp only [v636, v637, v641, View.readCov_eq_canon', (A_c5 hB), (A_c6 hB), (A_s1 hB hq)]
  pointwise [k0_pay192, k0_pay191]
  try simp only [Nat.zero_add, Nat.add_zero, Nat.mul_zero, Nat.reduceMul, Nat.reduceAdd, Nat.reduceSub, Nat.reduceDiv]
  exact St_close (by omega)

theorem A_s3 (hq : q = 0) : View.canon (HS2_4 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (3 + 3 - (y 0).val) / 4) := by
  unfold HS2_4
  refine st_step (A_s2 hB hq) (by decide) _ _ fun i0 i1 i2 => ?_
  simp only [kernelRun0_A.sl.v, v652, v656, View.readCov_eq_canon', (A_c5 hB), (A_c6 hB), (A_s2 hB hq)]
  pointwise [k0_pay195, k0_pay194]
  try simp only [Nat.zero_add, Nat.add_zero, Nat.mul_zero, Nat.reduceMul, Nat.reduceAdd, Nat.reduceSub, Nat.reduceDiv]
  exact St_close (by omega)

theorem A_s4 (hq : q = 0) : View.canon (HS2_5 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (4 + 3 - (y 0).val) / 4) := by
  unfold HS2_5
  refine st_step (A_s3 hB hq) (by decide) _ _ fun i0 i1 i2 => ?_
  simp only [v666, v667, v671, View.readCov_eq_canon', (A_c5 hB), (A_c6 hB), (A_s3 hB hq)]
  pointwise [k0_pay198, k0_pay197]
  try simp only [Nat.zero_add, Nat.add_zero, Nat.mul_zero, Nat.reduceMul, Nat.reduceAdd, Nat.reduceSub, Nat.reduceDiv]
  exact St_close (by omega)

theorem A_s5 (hq : q = 0) : View.canon (HS2_6 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (5 + 3 - (y 0).val) / 4) := by
  unfold HS2_6
  refine st_step (A_s4 hB hq) (by decide) _ _ fun i0 i1 i2 => ?_
  simp only [v681, v682, v686, View.readCov_eq_canon', (A_c5 hB), (A_c6 hB), (A_s4 hB hq)]
  pointwise [k0_pay201, k0_pay200]
  try simp only [Nat.zero_add, Nat.add_zero, Nat.mul_zero, Nat.reduceMul, Nat.reduceAdd, Nat.reduceSub, Nat.reduceDiv]
  exact St_close (by omega)

theorem A_s6 (hq : q = 0) : View.canon (HS2_7 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (6 + 3 - (y 0).val) / 4) := by
  unfold HS2_7
  refine st_step (A_s5 hB hq) (by decide) _ _ fun i0 i1 i2 => ?_
  simp only [v696, v697, v701, View.readCov_eq_canon', (A_c5 hB), (A_c6 hB), (A_s5 hB hq)]
  pointwise [k0_pay204, k0_pay203]
  try simp only [Nat.zero_add, Nat.add_zero, Nat.mul_zero, Nat.reduceMul, Nat.reduceAdd, Nat.reduceSub, Nat.reduceDiv]
  exact St_close (by omega)

theorem A_s7 (hq : q = 0) : View.canon (HS2_8 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (7 + 3 - (y 0).val) / 4) := by
  unfold HS2_8
  refine st_step (A_s6 hB hq) (by decide) _ _ fun i0 i1 i2 => ?_
  simp only [v711, v712, v716, View.readCov_eq_canon', (A_c5 hB), (A_c6 hB), (A_s6 hB hq)]
  pointwise [k0_pay207, k0_pay206]
  try simp only [Nat.zero_add, Nat.add_zero, Nat.mul_zero, Nat.reduceMul, Nat.reduceAdd, Nat.reduceSub, Nat.reduceDiv]
  exact St_close (by omega)

theorem A_s8 (hq : q = 0) : View.canon (HS2_9 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (8 + 3 - (y 0).val) / 4) := by
  unfold HS2_9
  refine st_step (A_s7 hB hq) (by decide) _ _ fun i0 i1 i2 => ?_
  simp only [v726, v727, v731, View.readCov_eq_canon', (A_c5 hB), (A_c6 hB), (A_s7 hB hq)]
  pointwise [k0_pay210, k0_pay209]
  try simp only [Nat.zero_add, Nat.add_zero, Nat.mul_zero, Nat.reduceMul, Nat.reduceAdd, Nat.reduceSub, Nat.reduceDiv]
  exact St_close (by omega)

theorem A_s9 (hq : q = 0) : View.canon (HS2_10 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (9 + 3 - (y 0).val) / 4) := by
  unfold HS2_10
  refine st_step (A_s8 hB hq) (by decide) _ _ fun i0 i1 i2 => ?_
  simp only [v741, v742, v746, View.readCov_eq_canon', (A_c5 hB), (A_c6 hB), (A_s8 hB hq)]
  pointwise [k0_pay214, k0_pay213]
  try simp only [Nat.zero_add, Nat.add_zero, Nat.mul_zero, Nat.reduceMul, Nat.reduceAdd, Nat.reduceSub, Nat.reduceDiv]
  exact St_close (by omega)

theorem A_s10 (hq : q = 0) : View.canon (HS2_11 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (10 + 3 - (y 0).val) / 4) := by
  unfold HS2_11
  refine st_step (A_s9 hB hq) (by decide) _ _ fun i0 i1 i2 => ?_
  simp only [v756, v757, v761, View.readCov_eq_canon', (A_c5 hB), (A_c6 hB), (A_s9 hB hq)]
  pointwise [k0_pay217, k0_pay216]
  try simp only [Nat.zero_add, Nat.add_zero, Nat.mul_zero, Nat.reduceMul, Nat.reduceAdd, Nat.reduceSub, Nat.reduceDiv]
  exact St_close (by omega)

theorem A_s11 (hq : q = 0) : View.canon (HS2_12 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (11 + 3 - (y 0).val) / 4) := by
  unfold HS2_12
  refine st_step (A_s10 hB hq) (by decide) _ _ fun i0 i1 i2 => ?_
  simp only [v771, v772, v776, View.readCov_eq_canon', (A_c5 hB), (A_c6 hB), (A_s10 hB hq)]
  pointwise [k0_pay221, k0_pay220]
  try simp only [Nat.zero_add, Nat.add_zero, Nat.mul_zero, Nat.reduceMul, Nat.reduceAdd, Nat.reduceSub, Nat.reduceDiv]
  exact St_close (by omega)

theorem A_s12 (hq : q = 0) : View.canon (HS2_13 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (12 + 3 - (y 0).val) / 4) := by
  unfold HS2_13
  refine st_step (A_s11 hB hq) (by decide) _ _ fun i0 i1 i2 => ?_
  simp only [v786, v787, v791, View.readCov_eq_canon', (A_c5 hB), (A_c6 hB), (A_s11 hB hq)]
  pointwise [k0_pay224, k0_pay223]
  try simp only [Nat.zero_add, Nat.add_zero, Nat.mul_zero, Nat.reduceMul, Nat.reduceAdd, Nat.reduceSub, Nat.reduceDiv]
  exact St_close (by omega)

theorem A_s13 (hq : q = 0) : View.canon (HS2_14 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (13 + 3 - (y 0).val) / 4) := by
  unfold HS2_14
  refine st_step (A_s12 hB hq) (by decide) _ _ fun i0 i1 i2 => ?_
  simp only [v801, v802, v806, View.readCov_eq_canon', (A_c5 hB), (A_c6 hB), (A_s12 hB hq)]
  pointwise [k0_pay228, k0_pay227]
  try simp only [Nat.zero_add, Nat.add_zero, Nat.mul_zero, Nat.reduceMul, Nat.reduceAdd, Nat.reduceSub, Nat.reduceDiv]
  exact St_close (by omega)

theorem A_s14 (hq : q = 0) : View.canon (HS2_15 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (14 + 3 - (y 0).val) / 4) := by
  unfold HS2_15
  refine st_step (A_s13 hB hq) (by decide) _ _ fun i0 i1 i2 => ?_
  simp only [r_34, v816, v817, v821, View.readCov_eq_canon', (A_c5 hB), (A_c6 hB), (A_s13 hB hq)]
  pointwise [k0_pay231, k0_pay230]
  try simp only [Nat.zero_add, Nat.add_zero, Nat.mul_zero, Nat.reduceMul, Nat.reduceAdd, Nat.reduceSub, Nat.reduceDiv]
  exact St_close (by omega)

theorem A_s15 (hq : q = 0) : View.canon (HS2_16 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (15 + 3 - (y 0).val) / 4) := by
  unfold HS2_16
  refine st_step (A_s14 hB hq) (by decide) _ _ fun i0 i1 i2 => ?_
  simp only [v831, v832, v836, View.readCov_eq_canon', (A_c5 hB), (A_c6 hB), (A_s14 hB hq)]
  pointwise [k0_pay234, k0_pay233]
  try simp only [Nat.zero_add, Nat.add_zero, Nat.mul_zero, Nat.reduceMul, Nat.reduceAdd, Nat.reduceSub, Nat.reduceDiv]
  exact St_close (by omega)

theorem A_s16 (hq : q = 0) : View.canon (HS2_17 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (16 + 3 - (y 0).val) / 4) := by
  unfold HS2_17
  refine st_step (A_s15 hB hq) (by decide) _ _ fun i0 i1 i2 => ?_
  simp only [r_35, v846, v847, v851, View.readCov_eq_canon', (A_c5 hB), (A_c6 hB), (A_s15 hB hq)]
  pointwise [k0_pay236, k0_pay237]
  try simp only [Nat.zero_add, Nat.add_zero, Nat.mul_zero, Nat.reduceMul, Nat.reduceAdd, Nat.reduceSub, Nat.reduceDiv]
  exact St_close (by omega)

theorem A_s17 (hq : q = 0) : View.canon (HS2_18 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (17 + 3 - (y 0).val) / 4) := by
  unfold HS2_18
  refine st_step (A_s16 hB hq) (by decide) _ _ fun i0 i1 i2 => ?_
  simp only [v861, v862, v866, View.readCov_eq_canon', (A_c5 hB), (A_c6 hB), (A_s16 hB hq)]
  pointwise [k0_pay240, k0_pay239]
  try simp only [Nat.zero_add, Nat.add_zero, Nat.mul_zero, Nat.reduceMul, Nat.reduceAdd, Nat.reduceSub, Nat.reduceDiv]
  exact St_close (by omega)

theorem A_s18 (hq : q = 0) : View.canon (HS2_19 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (18 + 3 - (y 0).val) / 4) := by
  unfold HS2_19
  refine st_step (A_s17 hB hq) (by decide) _ _ fun i0 i1 i2 => ?_
  simp only [r_36, v876, v877, v881, View.readCov_eq_canon', (A_c5 hB), (A_c6 hB), (A_s17 hB hq)]
  pointwise [k0_pay242, k0_pay243]
  try simp only [Nat.zero_add, Nat.add_zero, Nat.mul_zero, Nat.reduceMul, Nat.reduceAdd, Nat.reduceSub, Nat.reduceDiv]
  exact St_close (by omega)

theorem A_s19 (hq : q = 0) : View.canon (HS2_20 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (19 + 3 - (y 0).val) / 4) := by
  unfold HS2_20
  refine st_step (A_s18 hB hq) (by decide) _ _ fun i0 i1 i2 => ?_
  simp only [v891, v892, v896, View.readCov_eq_canon', (A_c5 hB), (A_c6 hB), (A_s18 hB hq)]
  pointwise [k0_pay246, k0_pay245]
  try simp only [Nat.zero_add, Nat.add_zero, Nat.mul_zero, Nat.reduceMul, Nat.reduceAdd, Nat.reduceSub, Nat.reduceDiv]
  exact St_close (by omega)

theorem A_s20 (hq : q = 0) : View.canon (HS2_21 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (20 + 3 - (y 0).val) / 4) := by
  unfold HS2_21
  refine st_step (A_s19 hB hq) (by decide) _ _ fun i0 i1 i2 => ?_
  simp only [r_37, v906, v907, v911, View.readCov_eq_canon', (A_c5 hB), (A_c6 hB), (A_s19 hB hq)]
  pointwise [k0_pay248, k0_pay249]
  try simp only [Nat.zero_add, Nat.add_zero, Nat.mul_zero, Nat.reduceMul, Nat.reduceAdd, Nat.reduceSub, Nat.reduceDiv]
  exact St_close (by omega)

theorem A_s21 (hq : q = 0) : View.canon (HS2_22 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (21 + 3 - (y 0).val) / 4) := by
  unfold HS2_22
  refine st_step (A_s20 hB hq) (by decide) _ _ fun i0 i1 i2 => ?_
  simp only [v921, v922, v926, View.readCov_eq_canon', (A_c5 hB), (A_c6 hB), (A_s20 hB hq)]
  pointwise [k0_pay252, k0_pay251]
  try simp only [Nat.zero_add, Nat.add_zero, Nat.mul_zero, Nat.reduceMul, Nat.reduceAdd, Nat.reduceSub, Nat.reduceDiv]
  exact St_close (by omega)

theorem A_s22 (hq : q = 0) : View.canon (HS2_23 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (22 + 3 - (y 0).val) / 4) := by
  unfold HS2_23
  refine st_step (A_s21 hB hq) (by decide) _ _ fun i0 i1 i2 => ?_
  simp only [r_38, v936, v937, v941, View.readCov_eq_canon', (A_c5 hB), (A_c6 hB), (A_s21 hB hq)]
  pointwise [k0_pay254, k0_pay256, k0_pay255]
  try simp only [Nat.zero_add, Nat.add_zero, Nat.mul_zero, Nat.reduceMul, Nat.reduceAdd, Nat.reduceSub, Nat.reduceDiv]
  exact St_close (by omega)

theorem A_s23 (hq : q = 0) : View.canon (HS2_24 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (23 + 3 - (y 0).val) / 4) := by
  unfold HS2_24
  refine st_step (A_s22 hB hq) (by decide) _ _ fun i0 i1 i2 => ?_
  simp only [v951, v952, v956, View.readCov_eq_canon', (A_c5 hB), (A_c6 hB), (A_s22 hB hq)]
  pointwise [k0_pay259, k0_pay258]
  try simp only [Nat.zero_add, Nat.add_zero, Nat.mul_zero, Nat.reduceMul, Nat.reduceAdd, Nat.reduceSub, Nat.reduceDiv]
  exact St_close (by omega)

theorem A_s24 (hq : q = 0) : View.canon (HS2_25 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (24 + 3 - (y 0).val) / 4) := by
  unfold HS2_25
  refine st_step (A_s23 hB hq) (by decide) _ _ fun i0 i1 i2 => ?_
  simp only [r_39, v966, v967, v971, View.readCov_eq_canon', (A_c5 hB), (A_c6 hB), (A_s23 hB hq)]
  pointwise [k0_pay261, k0_pay263, k0_pay262]
  try simp only [Nat.zero_add, Nat.add_zero, Nat.mul_zero, Nat.reduceMul, Nat.reduceAdd, Nat.reduceSub, Nat.reduceDiv]
  exact St_close (by omega)

theorem A_s25 (hq : q = 0) : View.canon (HS2_26 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (25 + 3 - (y 0).val) / 4) := by
  unfold HS2_26
  refine st_step (A_s24 hB hq) (by decide) _ _ fun i0 i1 i2 => ?_
  simp only [v981, v982, v986, View.readCov_eq_canon', (A_c5 hB), (A_c6 hB), (A_s24 hB hq)]
  pointwise [k0_pay266, k0_pay265]
  try simp only [Nat.zero_add, Nat.add_zero, Nat.mul_zero, Nat.reduceMul, Nat.reduceAdd, Nat.reduceSub, Nat.reduceDiv]
  exact St_close (by omega)

theorem A_s26 (hq : q = 0) : View.canon (HS2_27 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (26 + 3 - (y 0).val) / 4) := by
  unfold HS2_27
  refine st_step (A_s25 hB hq) (by decide) _ _ fun i0 i1 i2 => ?_
  simp only [r_40, v996, v997, v1001, View.readCov_eq_canon', (A_c5 hB), (A_c6 hB), (A_s25 hB hq)]
  pointwise [k0_pay268, k0_pay270, k0_pay269]
  try simp only [Nat.zero_add, Nat.add_zero, Nat.mul_zero, Nat.reduceMul, Nat.reduceAdd, Nat.reduceSub, Nat.reduceDiv]
  exact St_close (by omega)

theorem A_s27 (hq : q = 0) : View.canon (HS2_28 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (27 + 3 - (y 0).val) / 4) := by
  unfold HS2_28
  refine st_step (A_s26 hB hq) (by decide) _ _ fun i0 i1 i2 => ?_
  simp only [v1011, v1012, v1016, View.readCov_eq_canon', (A_c5 hB), (A_c6 hB), (A_s26 hB hq)]
  pointwise [k0_pay273, k0_pay272]
  try simp only [Nat.zero_add, Nat.add_zero, Nat.mul_zero, Nat.reduceMul, Nat.reduceAdd, Nat.reduceSub, Nat.reduceDiv]
  exact St_close (by omega)

theorem A_s28 (hq : q = 0) : View.canon (HS2_29 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (28 + 3 - (y 0).val) / 4) := by
  unfold HS2_29
  refine st_step (A_s27 hB hq) (by decide) _ _ fun i0 i1 i2 => ?_
  simp only [v1026, r_41, v1027, v1031, View.readCov_eq_canon', (A_c5 hB), (A_c6 hB), (A_s27 hB hq)]
  pointwise [k0_pay275, k0_pay277, k0_pay276]
  try simp only [Nat.zero_add, Nat.add_zero, Nat.mul_zero, Nat.reduceMul, Nat.reduceAdd, Nat.reduceSub, Nat.reduceDiv]
  exact St_close (by omega)

theorem A_s29 (hq : q = 0) : View.canon (HS2_30 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (29 + 3 - (y 0).val) / 4) := by
  unfold HS2_30
  refine st_step (A_s28 hB hq) (by decide) _ _ fun i0 i1 i2 => ?_
  simp only [v1041, v1042, v1046, View.readCov_eq_canon', (A_c5 hB), (A_c6 hB), (A_s28 hB hq)]
  pointwise [k0_pay280, k0_pay279]
  try simp only [Nat.zero_add, Nat.add_zero, Nat.mul_zero, Nat.reduceMul, Nat.reduceAdd, Nat.reduceSub, Nat.reduceDiv]
  exact St_close (by omega)

theorem A_s30 (hq : q = 0) : View.canon (HS2_31 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (30 + 3 - (y 0).val) / 4) := by
  unfold HS2_31
  refine st_step (A_s29 hB hq) (by decide) _ _ fun i0 i1 i2 => ?_
  simp only [v1056, v1057, v1061, View.readCov_eq_canon', (A_c5 hB), (A_c6 hB), (A_s29 hB hq)]
  pointwise [k0_pay283, k0_pay282]
  try simp only [Nat.zero_add, Nat.add_zero, Nat.mul_zero, Nat.reduceMul, Nat.reduceAdd, Nat.reduceSub, Nat.reduceDiv]
  exact St_close (by omega)

theorem A_s31 (hq : q = 0) : View.canon (HS2_32 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (31 + 3 - (y 0).val) / 4) := by
  unfold HS2_32
  refine st_step (A_s30 hB hq) (by decide) _ _ fun i0 i1 i2 => ?_
  simp only [v1071, v1072, v1076, View.readCov_eq_canon', (A_c5 hB), (A_c6 hB), (A_s30 hB hq)]
  pointwise [k0_pay286, k0_pay285]
  try simp only [Nat.zero_add, Nat.add_zero, Nat.mul_zero, Nat.reduceMul, Nat.reduceAdd, Nat.reduceSub, Nat.reduceDiv]
  exact St_close (by omega)

end Cert.Mix
end
-- ==== Proof.A4.lean ====
/- The states the queries read. -/
module

public import proofs.«01_k».proof.Proof.A3

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg32 : Memref sig .tc .vmem S4x128x256 .f32}
  {arg33 : Memref sig .tc .vmem S512x2560 .f32}
  {arg36 : Memref sig .tc .vmem S32x128x256 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole}
theorem A_c7 (hB : Blk a b q x0 x1 x2 x3 x4 x5 x6 x7 x8 x9 x10 x11 x12 x13 x14 x15 x16 x17 x18 x19 x20 x21 x22 x23 x24 x25 x26) (hq : q = 0) : View.canon (HS7_32 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b ((y 0).val % 4) (y 1).val (y 2).val (8 * q + ((y 0).val / 4 + 1)) := by
  refine canon_of ?_ (View.cover_of_tiledL _ S1x128x256.size (by sl_kernel_rfl))
  unfold HS7_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb3 (fun p k v => St a b (p % 4) k v (8 * q + (p / 4 + 1))) _ i0 i1 i2).symm
    simp only [v1086, v1087, v1091, View.readCov_eq_canon', (A_c5 hB), (A_c6 hB), (A_s31 hB hq)]
    pointwise [k0_pay290, k0_pay288]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1071, v1072, v1076, View.readCov_eq_canon', (A_c5 hB), (A_c6 hB), (A_s30 hB hq)]
    pointwise [k0_pay287, k0_pay285]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1056, v1057, v1061, View.readCov_eq_canon', (A_c5 hB), (A_c6 hB), (A_s29 hB hq)]
    pointwise [k0_pay284, k0_pay282]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1041, v1042, v1046, View.readCov_eq_canon', (A_c5 hB), (A_c6 hB), (A_s28 hB hq)]
    pointwise [k0_pay281, k0_pay279]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1026, r_41, v1027, v1031, View.readCov_eq_canon', (A_c5 hB), (A_c6 hB), (A_s27 hB hq)]
    pointwise [k0_pay275, k0_pay278, k0_pay276]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1011, v1012, v1016, View.readCov_eq_canon', (A_c5 hB), (A_c6 hB), (A_s26 hB hq)]
    pointwise [k0_pay274, k0_pay272]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_40, v996, v997, v1001, View.readCov_eq_canon', (A_c5 hB), (A_c6 hB), (A_s25 hB hq)]
    pointwise [k0_pay268, k0_pay271, k0_pay269]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v981, v982, v986, View.readCov_eq_canon', (A_c5 hB), (A_c6 hB), (A_s24 hB hq)]
    pointwise [k0_pay267, k0_pay265]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_39, v966, v967, v971, View.readCov_eq_canon', (A_c5 hB), (A_c6 hB), (A_s23 hB hq)]
    pointwise [k0_pay261, k0_pay264, k0_pay262]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v951, v952, v956, View.readCov_eq_canon', (A_c5 hB), (A_c6 hB), (A_s22 hB hq)]
    pointwise [k0_pay260, k0_pay258]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_38, v936, v937, v941, View.readCov_eq_canon', (A_c5 hB), (A_c6 hB), (A_s21 hB hq)]
    pointwise [k0_pay254, k0_pay257, k0_pay255]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v921, v922, v926, View.readCov_eq_canon', (A_c5 hB), (A_c6 hB), (A_s20 hB hq)]
    pointwise [k0_pay253, k0_pay251]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_37, v906, v907, v911, View.readCov_eq_canon', (A_c5 hB), (A_c6 hB), (A_s19 hB hq)]
    pointwise [k0_pay248, k0_pay250]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v891, v892, v896, View.readCov_eq_canon', (A_c5 hB), (A_c6 hB), (A_s18 hB hq)]
    pointwise [k0_pay247, k0_pay245]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_36, v876, v877, v881, View.readCov_eq_canon', (A_c5 hB), (A_c6 hB), (A_s17 hB hq)]
    pointwise [k0_pay242, k0_pay244]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v861, v862, v866, View.readCov_eq_canon', (A_c5 hB), (A_c6 hB), (A_s16 hB hq)]
    pointwise [k0_pay241, k0_pay239]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_35, v846, v847, v851, View.readCov_eq_canon', (A_c5 hB), (A_c6 hB), (A_s15 hB hq)]
    pointwise [k0_pay236, k0_pay238]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v831, v832, v836, View.readCov_eq_canon', (A_c5 hB), (A_c6 hB), (A_s14 hB hq)]
    pointwise [k0_pay235, k0_pay233]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_33, v816, v817, v821, View.readCov_eq_canon', (A_c5 hB), (A_c6 hB), (A_s13 hB hq)]
    pointwise [k0_pay230, k0_pay232]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v801, v802, v806, View.readCov_eq_canon', (A_c5 hB), (A_c6 hB), (A_s12 hB hq)]
    pointwise [k0_pay229, k0_pay227]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_32, v786, v787, v791, View.readCov_eq_canon', (A_c5 hB), (A_c6 hB), (A_s11 hB hq)]
    pointwise [k0_pay225, k0_pay223, k0_pay226]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v771, v772, v776, View.readCov_eq_canon', (A_c5 hB), (A_c6 hB), (A_s10 hB hq)]
    pointwise [k0_pay222, k0_pay220]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_31, v756, v757, v761, View.readCov_eq_canon', (A_c5 hB), (A_c6 hB), (A_s9 hB hq)]
    pointwise [k0_pay218, k0_pay216, k0_pay219]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v741, v742, v746, View.readCov_eq_canon', (A_c5 hB), (A_c6 hB), (A_s8 hB hq)]
    pointwise [k0_pay215, k0_pay213]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_30, v726, v727, v731, View.readCov_eq_canon', (A_c5 hB), (A_c6 hB), (A_s7 hB hq)]
    pointwise [k0_pay211, k0_pay209, k0_pay212]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v711, v712, v716, View.readCov_eq_canon', (A_c5 hB), (A_c6 hB), (A_s6 hB hq)]
    pointwise [k0_pay208, k0_pay206]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_29, v696, v697, v701, View.readCov_eq_canon', (A_c5 hB), (A_c6 hB), (A_s5 hB hq)]
    pointwise [k0_pay205, k0_pay203]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v681, v682, v686, View.readCov_eq_canon', (A_c5 hB), (A_c6 hB), (A_s4 hB hq)]
    pointwise [k0_pay202, k0_pay200]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v666, v667, v671, View.readCov_eq_canon', (A_c5 hB), (A_c6 hB), (A_s3 hB hq)]
    pointwise [k0_pay199, k0_pay197]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [kernelRun0_A.sl.v, v652, v656, View.readCov_eq_canon', (A_c5 hB), (A_c6 hB), (A_s2 hB hq)]
    pointwise [k0_pay196, k0_pay194]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v636, v637, v641, View.readCov_eq_canon', (A_c5 hB), (A_c6 hB), (A_s1 hB hq)]
    pointwise [k0_pay193, k0_pay191]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v621, v622, v626, View.readCov_eq_canon', (A_c5 hB), (A_c6 hB), (A_s0 hB hq)]
    pointwise [k0_pay190, k0_pay188]
    try simp only [Nat.zero_add, Nat.add_zero, Nat.mul_zero, Nat.reduceMul, Nat.reduceAdd, Nat.reduceSub, Nat.reduceDiv]
    exact St_close (by omega)

end Cert.Mix
end
-- ==== Proof.A6.lean ====
/- The heads' outputs of a tile. -/
module

public import proofs.«01_k».proof.Proof.A4
public import proofs.«01_k».proof.Proof.Base2

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg23 : Memref sig .tc .vmem S4x256 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole} {harg23 : arg23.IsWhole}
theorem A_c8 (hB : Blk a b q x0 x1 x2 x3 x4 x5 x6 x7 x8 x9 x10 x11 x12 x13 x14 x15 x16 x17 x18 x19 x20 x21 x22 x23 x24 x25 x26) (hq : q = 0) : View.canon (HS8_32 c arg2 harg2 arg5 harg5 arg6 harg6 arg7 harg7 arg8 harg8 arg9 harg9 arg10 harg10 arg11 harg11 arg12 harg12 arg21 harg21 arg22 harg22 arg23 harg23 arg32 arg33 arg34 arg35 arg36 arg37 x0 x3 x4 x5 x6 x7 x8 x9 x10 x19 x20 x21) = fun y => Og a b (512 * q + (y 0).val) ((y 1).val / 256) ((y 1).val % 256) := by
  refine canon_of ?_ (View.cover_of_tiledL _ S64x256.size (by sl_kernel_rfl))
  have hx : x21 = fun y => a.Ng (y 0).val (y 1).val := funext fun y => by idx_vars y; exact hB.h21 _ _
  unfold HS8_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb2 (fun r l => Og a b (512 * q + r) (l / 256) (l % 256)) _ i0 i1).symm
    simp only [r_19, v230, v1908, v1925, View.readCov_eq_canon', ldu, (A_c3 hB), (A_c7 hB hq), hx]
    pointwise [k0_pay144, k0_pay353]
    simpa only [Nat.zero_add, Nat.add_zero, Nat.mul_zero, Nat.reduceMul, Nat.reduceAdd, Nat.reduceMod, Nat.reduceDiv] using
      og_close a b q 7 3 (by decide) (by decide) i0 i1
  · intro i
    idx_vars i
    refine Eq.trans ?_ (emb2 (fun r l => Og a b (512 * q + r) (l / 256) (l % 256)) _ i0 i1).symm
    simp only [r_72, r_19, v230, v1882, v1899, View.readCov_eq_canon', ldu, (A_c3 hB), (A_c7 hB hq), hx]
    pointwise [k0_pay144, k0_pay351, k0_pay352]
    simpa only [Nat.zero_add, Nat.add_zero, Nat.mul_zero, Nat.reduceMul, Nat.reduceAdd, Nat.reduceMod, Nat.reduceDiv] using
      og_close a b q 7 2 (by decide) (by decide) i0 i1
  · intro i
    idx_vars i
    refine Eq.trans ?_ (emb2 (fun r l => Og a b (512 * q + r) (l / 256) (l % 256)) _ i0 i1).symm
    simp only [r_70, r_19, v230, v1856, r_71, cst_891, v1873, View.readCov_eq_canon', ldu, (A_c3 hB), (A_c7 hB hq), hx]
    pointwise [k0_pay144, k0_pay348, k0_pay349, k0_pay350]
    simpa only [Nat.zero_add, Nat.add_zero, Nat.mul_zero, Nat.reduceMul, Nat.reduceAdd, Nat.reduceMod, Nat.reduceDiv] using
      og_close a b q 7 1 (by decide) (by decide) i0 i1
  · intro i
    idx_vars i
    refine Eq.trans ?_ (emb2 (fun r l => Og a b (512 * q + r) (l / 256) (l % 256)) _ i0 i1).symm
    simp only [r_19, v230, v1830, v1847, View.readCov_eq_canon', ldu, (A_c3 hB), (A_c7 hB hq), hx]
    pointwise [k0_pay144, k0_pay347]
    simpa only [Nat.zero_add, Nat.add_zero, Nat.mul_zero, Nat.reduceMul, Nat.reduceAdd, Nat.reduceMod, Nat.reduceDiv] using
      og_close a b q 7 0 (by decide) (by decide) i0 i1
  · intro i
    idx_vars i
    refine Eq.trans ?_ (emb2 (fun r l => Og a b (512 * q + r) (l / 256) (l % 256)) _ i0 i1).symm
    simp only [r_69, r_19, v230, v1804, v1821, View.readCov_eq_canon', ldu, (A_c3 hB), (A_c7 hB hq), hx]
    pointwise [k0_pay144, k0_pay345, k0_pay346]
    simpa only [Nat.zero_add, Nat.add_zero, Nat.mul_zero, Nat.reduceMul, Nat.reduceAdd, Nat.reduceMod, Nat.reduceDiv] using
      og_close a b q 6 3 (by decide) (by decide) i0 i1
  · intro i
    idx_vars i
    refine Eq.trans ?_ (emb2 (fun r l => Og a b (512 * q + r) (l / 256) (l % 256)) _ i0 i1).symm
    simp only [r_67, r_19, v230, v1778, r_68, cst_891, v1795, View.readCov_eq_canon', ldu, (A_c3 hB), (A_c7 hB hq), hx]
    pointwise [k0_pay144, k0_pay342, k0_pay343, k0_pay344]
    simpa only [Nat.zero_add, Nat.add_zero, Nat.mul_zero, Nat.reduceMul, Nat.reduceAdd, Nat.reduceMod, Nat.reduceDiv] using
      og_close a b q 6 2 (by decide) (by decide) i0 i1
  · intro i
    idx_vars i
    refine Eq.trans ?_ (emb2 (fun r l => Og a b (512 * q + r) (l / 256) (l % 256)) _ i0 i1).symm
    simp only [r_19, v230, v1752, v1769, View.readCov_eq_canon', ldu, (A_c3 hB), (A_c7 hB hq), hx]
    pointwise [k0_pay144, k0_pay341]
    simpa only [Nat.zero_add, Nat.add_zero, Nat.mul_zero, Nat.reduceMul, Nat.reduceAdd, Nat.reduceMod, Nat.reduceDiv] using
      og_close a b q 6 1 (by decide) (by decide) i0 i1
  · intro i
    idx_vars i
    refine Eq.trans ?_ (emb2 (fun r l => Og a b (512 * q + r) (l / 256) (l % 256)) _ i0 i1).symm
    simp only [r_66, r_19, v230, v1726, v1743, View.readCov_eq_canon', ldu, (A_c3 hB), (A_c7 hB hq), hx]
    pointwise [k0_pay144, k0_pay339, k0_pay340]
    simpa only [Nat.zero_add, Nat.add_zero, Nat.mul_zero, Nat.reduceMul, Nat.reduceAdd, Nat.reduceMod, Nat.reduceDiv] using
      og_close a b q 6 0 (by decide) (by decide) i0 i1
  · intro i
    idx_vars i
    refine Eq.trans ?_ (emb2 (fun r l => Og a b (512 * q + r) (l / 256) (l % 256)) _ i0 i1).symm
    simp only [r_64, r_19, v230, v1700, r_65, cst_891, v1717, View.readCov_eq_canon', ldu, (A_c3 hB), (A_c7 hB hq), hx]
    pointwise [k0_pay144, k0_pay336, k0_pay337, k0_pay338]
    simpa only [Nat.zero_add, Nat.add_zero, Nat.mul_zero, Nat.reduceMul, Nat.reduceAdd, Nat.reduceMod, Nat.reduceDiv] using
      og_close a b q 5 3 (by decide) (by decide) i0 i1
  · intro i
    idx_vars i
    refine Eq.trans ?_ (emb2 (fun r l => Og a b (512 * q + r) (l / 256) (l % 256)) _ i0 i1).symm
    simp only [r_19, v230, v1674, v1691, View.readCov_eq_canon', ldu, (A_c3 hB), (A_c7 hB hq), hx]
    pointwise [k0_pay144, k0_pay335]
    simpa only [Nat.zero_add, Nat.add_zero, Nat.mul_zero, Nat.reduceMul, Nat.reduceAdd, Nat.reduceMod, Nat.reduceDiv] using
      og_close a b q 5 2 (by decide) (by decide) i0 i1
  · intro i
    idx_vars i
    refine Eq.trans ?_ (emb2 (fun r l => Og a b (512 * q + r) (l / 256) (l % 256)) _ i0 i1).symm
    simp only [r_63, r_19, v230, v1648, v1665, View.readCov_eq_canon', ldu, (A_c3 hB), (A_c7 hB hq), hx]
    pointwise [k0_pay144, k0_pay333, k0_pay334]
    simpa only [Nat.zero_add, Nat.add_zero, Nat.mul_zero, Nat.reduceMul, Nat.reduceAdd, Nat.reduceMod, Nat.reduceDiv] using
      og_close a b q 5 1 (by decide) (by decide) i0 i1
  · intro i
    idx_vars i
    refine Eq.trans ?_ (emb2 (fun r l => Og a b (512 * q + r) (l / 256) (l % 256)) _ i0 i1).symm
    simp only [r_61, r_19, v230, v1622, r_62, cst_891, v1639, View.readCov_eq_canon', ldu, (A_c3 hB), (A_c7 hB hq), hx]
    pointwise [k0_pay144, k0_pay330, k0_pay331, k0_pay332]
    simpa only [Nat.zero_add, Nat.add_zero, Nat.mul_zero, Nat.reduceMul, Nat.reduceAdd, Nat.reduceMod, Nat.reduceDiv] using
      og_close a b q 5 0 (by decide) (by decide) i0 i1
  · intro i
    idx_vars i
    refine Eq.trans ?_ (emb2 (fun r l => Og a b (512 * q + r) (l / 256) (l % 256)) _ i0 i1).symm
    simp only [r_19, v230, v1596, v1613, View.readCov_eq_canon', ldu, (A_c3 hB), (A_c7 hB hq), hx]
    pointwise [k0_pay144, k0_pay329]
    simpa only [Nat.zero_add, Nat.add_zero, Nat.mul_zero, Nat.reduceMul, Nat.reduceAdd, Nat.reduceMod, Nat.reduceDiv] using
      og_close a b q 4 3 (by decide) (by decide) i0 i1
  · intro i
    idx_vars i
    refine Eq.trans ?_ (emb2 (fun r l => Og a b (512 * q + r) (l / 256) (l % 256)) _ i0 i1).symm
    simp only [r_60, r_19, v230, v1570, v1587, View.readCov_eq_canon', ldu, (A_c3 hB), (A_c7 hB hq), hx]
    pointwise [k0_pay144, k0_pay327, k0_pay328]
    simpa only [Nat.zero_add, Nat.add_zero, Nat.mul_zero, Nat.reduceMul, Nat.reduceAdd, Nat.reduceMod, Nat.reduceDiv] using
      og_close a b q 4 2 (by decide) (by decide) i0 i1
  · intro i
    idx_vars i
    refine Eq.trans ?_ (emb2 (fun r l => Og a b (512 * q + r) (l / 256) (l % 256)) _ i0 i1).symm
    simp only [r_58, r_19, v230, v1544, r_59, cst_891, v1561, View.readCov_eq_canon', ldu, (A_c3 hB), (A_c7 hB hq), hx]
    pointwise [k0_pay144, k0_pay324, k0_pay325, k0_pay326]
    simpa only [Nat.zero_add, Nat.add_zero, Nat.mul_zero, Nat.reduceMul, Nat.reduceAdd, Nat.reduceMod, Nat.reduceDiv] using
      og_close a b q 4 1 (by decide) (by decide) i0 i1
  · intro i
    idx_vars i
    refine Eq.trans ?_ (emb2 (fun r l => Og a b (512 * q + r) (l / 256) (l % 256)) _ i0 i1).symm
    simp only [r_19, v230, v1518, v1535, View.readCov_eq_canon', ldu, (A_c3 hB), (A_c7 hB hq), hx]
    pointwise [k0_pay144, k0_pay323]
    simpa only [Nat.zero_add, Nat.add_zero, Nat.mul_zero, Nat.reduceMul, Nat.reduceAdd, Nat.reduceMod, Nat.reduceDiv] using
      og_close a b q 4 0 (by decide) (by decide) i0 i1
  · intro i
    idx_vars i
    refine Eq.trans ?_ (emb2 (fun r l => Og a b (512 * q + r) (l / 256) (l % 256)) _ i0 i1).symm
    simp only [r_57, r_19, v230, v1492, v1509, View.readCov_eq_canon', ldu, (A_c3 hB), (A_c7 hB hq), hx]
    pointwise [k0_pay144, k0_pay321, k0_pay322]
    simpa only [Nat.zero_add, Nat.add_zero, Nat.mul_zero, Nat.reduceMul, Nat.reduceAdd, Nat.reduceMod, Nat.reduceDiv] using
      og_close a b q 3 3 (by decide) (by decide) i0 i1
  · intro i
    idx_vars i
    refine Eq.trans ?_ (emb2 (fun r l => Og a b (512 * q + r) (l / 256) (l % 256)) _ i0 i1).symm
    simp only [r_55, r_19, v230, v1466, r_56, cst_891, v1483, View.readCov_eq_canon', ldu, (A_c3 hB), (A_c7 hB hq), hx]
    pointwise [k0_pay144, k0_pay318, k0_pay319, k0_pay320]
    simpa only [Nat.zero_add, Nat.add_zero, Nat.mul_zero, Nat.reduceMul, Nat.reduceAdd, Nat.reduceMod, Nat.reduceDiv] using
      og_close a b q 3 2 (by decide) (by decide) i0 i1
  · intro i
    idx_vars i
    refine Eq.trans ?_ (emb2 (fun r l => Og a b (512 * q + r) (l / 256) (l % 256)) _ i0 i1).symm
    simp only [r_19, v230, v1440, v1457, View.readCov_eq_canon', ldu, (A_c3 hB), (A_c7 hB hq), hx]
    pointwise [k0_pay144, k0_pay317]
    simpa only [Nat.zero_add, Nat.add_zero, Nat.mul_zero, Nat.reduceMul, Nat.reduceAdd, Nat.reduceMod, Nat.reduceDiv] using
      og_close a b q 3 1 (by decide) (by decide) i0 i1
  · intro i
    idx_vars i
    refine Eq.trans ?_ (emb2 (fun r l => Og a b (512 * q + r) (l / 256) (l % 256)) _ i0 i1).symm
    simp only [r_54, r_19, v230, v1414, v1431, View.readCov_eq_canon', ldu, (A_c3 hB), (A_c7 hB hq), hx]
    pointwise [k0_pay144, k0_pay315, k0_pay316]
    simpa only [Nat.zero_add, Nat.add_zero, Nat.mul_zero, Nat.reduceMul, Nat.reduceAdd, Nat.reduceMod, Nat.reduceDiv] using
      og_close a b q 3 0 (by decide) (by decide) i0 i1
  · intro i
    idx_vars i
    refine Eq.trans ?_ (emb2 (fun r l => Og a b (512 * q + r) (l / 256) (l % 256)) _ i0 i1).symm
    simp only [r_52, r_19, v230, v1388, r_53, cst_891, v1405, View.readCov_eq_canon', ldu, (A_c3 hB), (A_c7 hB hq), hx]
    pointwise [k0_pay144, k0_pay312, k0_pay313, k0_pay314]
    simpa only [Nat.zero_add, Nat.add_zero, Nat.mul_zero, Nat.reduceMul, Nat.reduceAdd, Nat.reduceMod, Nat.reduceDiv] using
      og_close a b q 2 3 (by decide) (by decide) i0 i1
  · intro i
    idx_vars i
    refine Eq.trans ?_ (emb2 (fun r l => Og a b (512 * q + r) (l / 256) (l % 256)) _ i0 i1).symm
    simp only [r_19, v230, v1362, v1379, View.readCov_eq_canon', ldu, (A_c3 hB), (A_c7 hB hq), hx]
    pointwise [k0_pay144, k0_pay311]
    simpa only [Nat.zero_add, Nat.add_zero, Nat.mul_zero, Nat.reduceMul, Nat.reduceAdd, Nat.reduceMod, Nat.reduceDiv] using
      og_close a b q 2 2 (by decide) (by decide) i0 i1
  · intro i
    idx_vars i
    refine Eq.trans ?_ (emb2 (fun r l => Og a b (512 * q + r) (l / 256) (l % 256)) _ i0 i1).symm
    simp only [r_51, r_19, v230, v1336, v1353, View.readCov_eq_canon', ldu, (A_c3 hB), (A_c7 hB hq), hx]
    pointwise [k0_pay144, k0_pay309, k0_pay310]
    simpa only [Nat.zero_add, Nat.add_zero, Nat.mul_zero, Nat.reduceMul, Nat.reduceAdd, Nat.reduceMod, Nat.reduceDiv] using
      og_close a b q 2 1 (by decide) (by decide) i0 i1
  · intro i
    idx_vars i
    refine Eq.trans ?_ (emb2 (fun r l => Og a b (512 * q + r) (l / 256) (l % 256)) _ i0 i1).symm
    simp only [r_49, r_19, v230, v1310, r_50, cst_891, v1327, View.readCov_eq_canon', ldu, (A_c3 hB), (A_c7 hB hq), hx]
    pointwise [k0_pay144, k0_pay306, k0_pay307, k0_pay308]
    simpa only [Nat.zero_add, Nat.add_zero, Nat.mul_zero, Nat.reduceMul, Nat.reduceAdd, Nat.reduceMod, Nat.reduceDiv] using
      og_close a b q 2 0 (by decide) (by decide) i0 i1
  · intro i
    idx_vars i
    refine Eq.trans ?_ (emb2 (fun r l => Og a b (512 * q + r) (l / 256) (l % 256)) _ i0 i1).symm
    simp only [r_19, v230, v1284, v1301, View.readCov_eq_canon', ldu, (A_c3 hB), (A_c7 hB hq), hx]
    pointwise [k0_pay144, k0_pay305]
    simpa only [Nat.zero_add, Nat.add_zero, Nat.mul_zero, Nat.reduceMul, Nat.reduceAdd, Nat.reduceMod, Nat.reduceDiv] using
      og_close a b q 1 3 (by decide) (by decide) i0 i1
  · intro i
    idx_vars i
    refine Eq.trans ?_ (emb2 (fun r l => Og a b (512 * q + r) (l / 256) (l % 256)) _ i0 i1).symm
    simp only [r_48, r_19, v230, v1258, v1275, View.readCov_eq_canon', ldu, (A_c3 hB), (A_c7 hB hq), hx]
    pointwise [k0_pay144, k0_pay303, k0_pay304]
    simpa only [Nat.zero_add, Nat.add_zero, Nat.mul_zero, Nat.reduceMul, Nat.reduceAdd, Nat.reduceMod, Nat.reduceDiv] using
      og_close a b q 1 2 (by decide) (by decide) i0 i1
  · intro i
    idx_vars i
    refine Eq.trans ?_ (emb2 (fun r l => Og a b (512 * q + r) (l / 256) (l % 256)) _ i0 i1).symm
    simp only [r_46, r_19, v230, v1232, r_47, cst_891, v1249, View.readCov_eq_canon', ldu, (A_c3 hB), (A_c7 hB hq), hx]
    pointwise [k0_pay144, k0_pay300, k0_pay301, k0_pay302]
    simpa only [Nat.zero_add, Nat.add_zero, Nat.mul_zero, Nat.reduceMul, Nat.reduceAdd, Nat.reduceMod, Nat.reduceDiv] using
      og_close a b q 1 1 (by decide) (by decide) i0 i1
  · intro i
    idx_vars i
    refine Eq.trans ?_ (emb2 (fun r l => Og a b (512 * q + r) (l / 256) (l % 256)) _ i0 i1).symm
    simp only [r_19, v230, v1206, v1223, View.readCov_eq_canon', ldu, (A_c3 hB), (A_c7 hB hq), hx]
    pointwise [k0_pay144, k0_pay299]
    simpa only [Nat.zero_add, Nat.add_zero, Nat.mul_zero, Nat.reduceMul, Nat.reduceAdd, Nat.reduceMod, Nat.reduceDiv] using
      og_close a b q 1 0 (by decide) (by decide) i0 i1
  · intro i
    idx_vars i
    refine Eq.trans ?_ (emb2 (fun r l => Og a b (512 * q + r) (l / 256) (l % 256)) _ i0 i1).symm
    simp only [r_45, r_19, v230, v1180, v1197, View.readCov_eq_canon', ldu, (A_c3 hB), (A_c7 hB hq), hx]
    pointwise [k0_pay144, k0_pay297, k0_pay298]
    simpa only [Nat.zero_add, Nat.add_zero, Nat.mul_zero, Nat.reduceMul, Nat.reduceAdd, Nat.reduceMod, Nat.reduceDiv] using
      og_close a b q 0 3 (by decide) (by decide) i0 i1
  · intro i
    idx_vars i
    refine Eq.trans ?_ (emb2 (fun r l => Og a b (512 * q + r) (l / 256) (l % 256)) _ i0 i1).symm
    simp only [r_43, r_19, v230, v1154, r_44, cst_891, v1171, View.readCov_eq_canon', ldu, (A_c3 hB), (A_c7 hB hq), hx]
    pointwise [k0_pay144, k0_pay294, k0_pay295, k0_pay296]
    simpa only [Nat.zero_add, Nat.add_zero, Nat.mul_zero, Nat.reduceMul, Nat.reduceAdd, Nat.reduceMod, Nat.reduceDiv] using
      og_close a b q 0 2 (by decide) (by decide) i0 i1
  · intro i
    idx_vars i
    refine Eq.trans ?_ (emb2 (fun r l => Og a b (512 * q + r) (l / 256) (l % 256)) _ i0 i1).symm
    simp only [r_19, v230, v1128, v1145, View.readCov_eq_canon', ldu, (A_c3 hB), (A_c7 hB hq), hx]
    pointwise [k0_pay144, k0_pay293]
    simpa only [Nat.zero_add, Nat.add_zero, Nat.mul_zero, Nat.reduceMul, Nat.reduceAdd, Nat.reduceMod, Nat.reduceDiv] using
      og_close a b q 0 1 (by decide) (by decide) i0 i1
  · intro i
    idx_vars i
    refine Eq.trans ?_ (emb2 (fun r l => Og a b (512 * q + r) (l / 256) (l % 256)) _ i0 i1).symm
    simp only [r_42, r_19, v230, v1102, v1119, View.readCov_eq_canon', ldu, (A_c3 hB), (A_c7 hB hq), hx]
    pointwise [k0_pay144, k0_pay291, k0_pay292]
    simpa only [Nat.zero_add, Nat.add_zero, Nat.mul_zero, Nat.reduceMul, Nat.reduceAdd, Nat.reduceMod, Nat.reduceDiv] using
      og_close a b q 0 0 (by decide) (by decide) i0 i1

end Cert.Mix
end
-- ==== Proof.A7.lean ====
/- What one tile leaves: its rows of the result, the halo and the states. -/
module

public import proofs.«01_k».proof.Proof.A5
public import proofs.«01_k».proof.Proof.A6

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_A.sl
variable {c : Dev nD} {i : grid0.Coords} {a : Args} {b q : ℕ}
  {arg2 arg29 arg39 arg40 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 arg38 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg15 : Memref sig .tc .vmem S8x32x128 .f32}
  {arg16 arg17 arg18 arg20 arg26 arg27 arg28 : Memref sig .tc .vmem S1x1024 .f32}
  {arg19 arg24 arg25 : Memref sig .tc .vmem S1024x1024 .bf16}
  {arg21 : Memref sig .tc .vmem S512x128 .bf16}
  {arg23 : Memref sig .tc .vmem S4x256 .f32}
  {arg30 : Memref sig .tc .vmem S8x544x128 .f32}
  {arg31 : Memref sig .tc .vmem S8x512x128 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole} {harg38 : arg38.IsWhole} {harg39 : arg39.IsWhole} {harg40 : arg40.IsWhole}
variable (hB : Blk a b q x0 x1 x2 x3 x4 x5 x6 x7 x8 x9 x10 x11 x12 x13 x14 x15 x16 x17 x18 x19 x20 x21 x22 x23 x24 x25 x26)
include hB
theorem A_f2 (hq : q = 0) : View.canon ((⟨Rect.unit (s := S4x128x256) ![3, 0, 0] S1x128x256.size inb_S4x128x256_S1x128x256_3_0_0, k0_pay289 (F := Ideal) (v1086 c arg2 harg2 arg11 harg11 arg12 harg12 arg21 harg21 arg22 harg22 arg35 x0 x9 x10 x19 x20) (v1087 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) (v1091 c arg2 harg2 arg5 harg5 arg6 harg6 arg7 harg7 arg8 harg8 arg9 harg9 arg10 harg10 arg11 harg11 arg12 harg12 arg21 harg21 arg22 harg22 arg33 arg34 arg36 x0 x3 x4 x5 x6 x7 x8 x9 x10 x19 x20)⟩ : View.Piece (Elt Ideal) S4x128x256 .f32) :: HS2_32 c arg2 harg2 arg5 harg5 arg6 harg6 arg7 harg7 arg8 harg8 arg9 harg9 arg10 harg10 arg11 harg11 arg12 harg12 arg21 harg21 arg22 harg22 arg32 arg33 arg34 arg35 arg36 x0 x3 x4 x5 x6 x7 x8 x9 x10 x19 x20) = fun y => St a b (y 0).val (y 1).val (y 2).val (8 * q + (32 + 3 - (y 0).val) / 4) := by
  refine st_step (A_s31 hB hq) (by decide) _ _ fun i0 i1 i2 => ?_
  simp only [v1086, v1087, v1091, View.readCov_eq_canon', (A_c5 hB), (A_c6 hB), (A_s31 hB hq)]
  pointwise [k0_pay289, k0_pay288]
  try simp only [Nat.zero_add, Nat.add_zero, Nat.mul_zero, Nat.reduceMul, Nat.reduceAdd, Nat.reduceSub, Nat.reduceDiv]
  exact St_close (by omega)

theorem A_r73 (hq : q = 0) (r : Fin 512) (e : Fin 1024) : r_73 c arg2 harg2 arg5 harg5 arg6 harg6 arg7 harg7 arg8 harg8 arg9 harg9 arg10 harg10 arg11 harg11 arg12 harg12 arg21 harg21 arg22 harg22 arg23 harg23 arg24 harg24 arg32 arg33 arg34 arg35 arg36 arg37 arg38 x0 x3 x4 x5 x6 x7 x8 x9 x10 x19 x20 x21 x22 (ix2 r e) = Yg a b (512 * q + r.val) e.val := by
  unfold r_73 v1933
  rw [View.readCov_eq_canon', (A_c8 hB hq)]
  refine pay354_eq (g := fun r l => Og a b (512 * q + r) (l / 256) (l % 256)) ?_ (fun _ _ => (ldw harg24 _ x22 _).trans (hB.h22 _ _)) r e
  intro r l
  pointwise []
  try exact congrArg₂ (fun r l => Og a b (512 * q + r) (l / 256) (l % 256)) (by omega) (by omega)

theorem A_r74 (hq : q = 0) (r : Fin 512) (e : Fin 1024) : r_74 c arg2 harg2 arg5 harg5 arg6 harg6 arg7 harg7 arg8 harg8 arg9 harg9 arg10 harg10 arg11 harg11 arg12 harg12 arg13 harg13 arg14 harg14 arg21 harg21 arg22 harg22 arg23 harg23 arg24 harg24 arg32 arg33 arg34 arg35 arg36 arg37 arg38 arg40 x0 x3 x4 x5 x6 x7 x8 x9 x10 x11 x12 x19 x20 x21 x22 (ix2 r e) = Ideal.logistic (H a b (512 * q + r.val) (6160 + e.val)) * Yg a b (512 * q + r.val) e.val := by
  unfold r_74 v1938
  rw [View.readCov_eq_canon', (A_c10 hB)]
  pointwise [k0_pay355]
  refine congrArg₂ (· * ·) (congrArg₂ (fun r l => Ideal.logistic (H a b (512 * q + r) (6160 + l))) (by omega) (by omega)) (A_r73 hB hq r e)

theorem A_v9 (hq : q = 0) (r : Fin 512) (e : Fin 1024) : v1937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18 (ix2 r e) = Ideal.logistic (H a b (512 * q + r.val) (5136 + e.val)) * Yc a b (512 * q + r.val) e.val := by
  unfold v1937
  rw [View.readCov_eq_canon', (A_c9 hB hq)]
  pointwise []
  try exact congrArg₂ (fun r l => Ideal.logistic (H a b (512 * q + r) (5136 + l)) * Yc a b (512 * q + r) l) (by omega) (by omega)

theorem A_co (hq : q = 0) : View.canon (([⟨Rect.unit (s := S512x1024) ![0, 0] S512x1024.size inb_S512x1024_S512x1024_0_0, k0_pay1 (F := Ideal) (kernelRun0_A.sl.r c arg2 harg2 x0) (v1937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18) (r_74 c arg2 harg2 arg5 harg5 arg6 harg6 arg7 harg7 arg8 harg8 arg9 harg9 arg10 harg10 arg11 harg11 arg12 harg12 arg13 harg13 arg14 harg14 arg21 harg21 arg22 harg22 arg23 harg23 arg24 harg24 arg32 arg33 arg34 arg35 arg36 arg37 arg38 arg40 x0 x3 x4 x5 x6 x7 x8 x9 x10 x11 x12 x19 x20 x21 x22) (View.readAt (Elt Ideal) arg25.view (Rect.unit (s := S1024x1024) ![0, 0] S1024x1024.size inb_S1024x1024_S1024x1024_0_0).toLoadRect (harg25.unread x23)) (View.readAt (Elt Ideal) arg26.view (Rect.unit (s := S1x1024) ![0, 0] S1x1024.size inb_S1x1024_S1x1024_0_0).toLoadRect (harg26.unread x24)) (View.readAt (Elt Ideal) arg27.view (Rect.unit (s := S1x1024) ![0, 0] S1x1024.size inb_S1x1024_S1x1024_0_0).toLoadRect (harg27.unread x25)) (View.readAt (Elt Ideal) arg28.view (Rect.unit (s := S1x1024) ![0, 0] S1x1024.size inb_S1x1024_S1x1024_0_0).toLoadRect (harg28.unread x26))⟩] : List (View.Piece (Elt Ideal) S512x1024 .f32))) = fun y => Out a b (512 * q + (y 0).val) (y 1).val := by
  refine canon_of ?_ (View.cover_of_tiledL _ S512x1024.size (by sl_kernel_rfl))
  simp only [View.PiecesOf]
  refine ⟨fun i => ?_, trivial⟩
  idx_vars i
  refine Eq.trans ?_ (emb2 (fun r l => Out a b (512 * q + r) l) _ i0 i1).symm
  rw [Nat.zero_add, Nat.zero_add]
  exact pay1_eq (A_r0 hB) (fun r d => congrArg₂ (· + ·) (A_v9 hB hq r d) (A_r74 hB hq r d)) (fun _ _ => (ldw harg25 _ x23 _).trans (hB.h23 _ _)) (fun _ _ => (ldw harg26 _ x24 _).trans (hB.h24 _ _)) (fun _ _ => (ldw harg27 _ x25 _).trans (hB.h25 _ _)) (fun _ _ => (ldw harg28 _ x26 _).trans (hB.h26 _ _)) i0 i1

theorem A_fo {hc0 : cond0_0 i} (hq : q = 0) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).1 = fun y => Out a b (512 * q + (y 0).val) (y 1).val := by
  exact A_co hB hq

theorem A_fu {hc0 : cond0_0 i} (hq : q = 0) (y : S8x544x128.Idx) (hy : (y 1).val < 32) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.1 y = Uh a b (512 * (q + 1) + (y 1).val) (128 * (y 0).val + (y 2).val) := by
  exact A_sd hB hq y hy

theorem A_fs {hc0 : cond0_0 i} (hq : q = 0) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26).2.2.1 = fun y => St a b (y 0).val (y 1).val (y 2).val (8 * (q + 1)) := by
  refine Eq.trans (A_f2 hB hq) (funext fun y => ?_)
  have hy : (y 0).val < 4 := (y 0).isLt
  exact congrArg (St a b _ _ _) (by omega)

end Cert.Mix
end
-- ==== Proof.B1.lean ====
/- The projections and decays of one tile. -/
module

public import proofs.«01_k».proof.Proof.Base
public import proofs.«01_k».proof.Proof.Pay
public import proofs.«01_k».proof.Proof.Sums
public import proofs.«01_k».proof.Proof.Gen.KernelIdeal.Frame.RunB

@[expose] public section

set_option maxHeartbeats 1000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 : Memref sig .tc .vmem S512x1024 .bf16}
  {arg10 arg22 : Memref sig .tc .vmem S512x512 .f32}
  {arg11 : Memref sig .tc .vmem S1024x128 .bf16}
  {arg12 : Memref sig .tc .vmem S1x128 .f32}
  {arg21 : Memref sig .tc .vmem S512x128 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg21 : arg21.IsWhole} {harg22 : arg22.IsWhole}
variable (hB : Blk a b q x0 x1 x2 x3 x4 x5 x6 x7 x8 x9 x10 x11 x12 x13 x14 x15 x16 x17 x18 x19 x20 x21 x22 x23 x24 x25 x26)
include hB
theorem B_r1 (r : Fin 512) (d : Fin 1024) : r_1 c arg2 harg2 x0 (ix2 r d) = a.X b (512 * q + r.val) d.val := by
  unfold r_1
  pointwise [k0_pay105, k0_pay104]
  exact (ldw harg2 _ x0 _).trans (hB.h0 _ _)

theorem B_r0 (r : Fin 512) (d : Fin 1024) : kernelRun0_B.sl.r c arg2 harg2 x0 (ix2 r d) = a.X b (512 * q + r.val) d.val := by
  unfold kernelRun0_B.sl.r
  pointwise [k0_pay104]
  exact (ldw harg2 _ x0 _).trans (hB.h0 _ _)

theorem B_r2 (r : Fin 512) (l : Fin 1024) : r_2 c arg2 harg2 arg3 harg3 arg4 harg4 x0 x1 x2 (ix2 r l) = U a b (512 * q + r.val) l.val := by
  unfold r_2
  exact pay106_eq (fun _ _ => (ldw harg2 _ x0 _).trans (hB.h0 _ _)) (fun _ _ => (ldw harg3 _ x1 _).trans (hB.h1 _ _)) (fun _ _ => (ldw harg4 _ x2 _).trans (hB.h2 _ _)) r l

theorem B_r11 (k r : Fin 512) : r_11 c arg2 harg2 arg9 harg9 arg10 harg10 x0 x7 x8 (ix2 k r) = H a b (512 * q + r.val) (2560 + k.val) := by
  unfold r_11
  exact pay129_eq (B_r1 hB) (fun _ _ => (ldw harg9 _ x7 _).trans (hB.h7 _ _)) (fun _ _ => (ldw harg10 _ x8 _).trans (hB.h8 _ _)) k r

theorem B_r12 (k r : Fin 512) : r_12 c arg2 harg2 arg11 harg11 arg12 harg12 arg21 harg21 x0 x9 x10 x19 (ix2 k r) = ∑ j : Fin 16, a.Wgu j k.val * H a b (512 * q + r.val) (5120 + j) := by
  unfold r_12
  exact pay130_eq (B_r1 hB) (fun _ _ => (ldw harg11 _ x9 _).trans (hB.h9 _ _)) (fun _ _ => (ldw harg12 _ x10 _).trans (hB.h10 _ _)) (fun _ _ => (ldw harg21 _ x19 _).trans (hB.h19 _ _)) k r

theorem B_c4 : View.canon (HS4_1 c arg2 harg2 arg9 harg9 arg10 harg10 arg11 harg11 arg12 harg12 arg21 harg21 arg22 harg22 x0 x7 x8 x9 x10 x19 x20) = fun y => Kd a b (8 * q + (y 1).val / 64) ((y 1).val % 64) (y 0).val := by
  refine canon_of ?_ (View.cover_of_tiledL _ S512x512.size (by sl_kernel_rfl))
  unfold HS4_1 r_13 r_14 r_15 r_16 r_17 r_18
  refine ⟨fun i => ?_, trivial⟩
  idx_vars i
  refine Eq.trans ?_ (emb2 (fun k r => Kd a b (8 * q + r / 64) (r % 64) k) _ i0 i1).symm
  rw [Nat.zero_add, Nat.zero_add]
  exact pay142_eq (s := 512 * q) (by omega) (B_r11 hB) (fun k r => pay131_eq (B_r12 hB) (fun _ _ => (ldw harg22 _ x20 _).trans (hB.h20 _ _)) k r) i0 i1

theorem B_c5 : View.canon (HS5_1 c arg2 harg2 arg11 harg11 arg12 harg12 arg21 harg21 arg22 harg22 x0 x9 x10 x19 x20) = fun y => Ideal.exp (Cend a b (8 * q + (y 1).val / 64) (y 0).val) := by
  refine canon_of ?_ (View.cover_of_tiledL _ S512x512.size (by sl_kernel_rfl))
  unfold HS5_1 r_13 r_14 r_16
  refine ⟨fun i => ?_, trivial⟩
  idx_vars i
  refine Eq.trans ?_ (emb2 (fun k r => Ideal.exp (Cend a b (8 * q + r / 64) k)) _ i0 i1).symm
  rw [Nat.zero_add, Nat.zero_add]
  exact pay143_eq (s := 512 * q) (by omega) (fun k r => pay131_eq (B_r12 hB) (fun _ _ => (ldw harg22 _ x20 _).trans (hB.h20 _ _)) k r) i0 i1

theorem B_c3 : View.canon (HS3_2 c arg2 harg2 arg5 harg5 arg6 harg6 arg7 harg7 arg8 harg8 x0 x3 x4 x5 x6) = fun y => Pj a b q (y 0).val (y 1).val := by
  refine canon_of ?_ (View.cover_of_tiledBy _ ![512, 512] (by sl_kernel_rfl))
  unfold HS3_2 r_10
  refine ⟨fun i => ?_, fun i => ?_, trivial⟩
  · idx_vars i
    refine Eq.trans ?_ (emb2 (fun r c => Pj a b q r c) _ i0 i1).symm
    rw [Nat.zero_add, Pj_v (by omega), ← Nat.add_assoc]
    exact pay128_eq (B_r1 hB) (fun _ _ => (ldw harg7 _ x5 _).trans (hB.h5 _ _)) (fun _ _ => (ldw harg8 _ x6 _).trans (hB.h6 _ _)) i0 i1
  · idx_vars i
    refine Eq.trans ?_ (emb2 (fun r c => Pj a b q r c) _ i0 i1).symm
    rw [Nat.zero_add, Nat.zero_add, Pj_q i1.isLt]
    exact pay127_eq (B_r1 hB) (fun _ _ => (ldw harg5 _ x3 _).trans (hB.h3 _ _)) (fun _ _ => (ldw harg6 _ x4 _).trans (hB.h4 _ _)) i0 i1

theorem B_c10 : View.canon (HS10_1 c arg2 harg2 arg13 harg13 arg14 harg14 x0 x11 x12) = fun y => Ideal.logistic (H a b (512 * q + (y 0).val) (6160 + (y 1).val)) := by
  refine canon_of ?_ (View.cover_of_tiledL _ S512x1024.size (by sl_kernel_rfl))
  unfold HS10_1
  refine ⟨fun i => ?_, trivial⟩
  idx_vars i
  refine Eq.trans ?_ (emb2 (fun r l => Ideal.logistic (H a b (512 * q + r) (6160 + l))) _ i0 i1).symm
  rw [Nat.zero_add, Nat.zero_add]
  exact pay125_eq (B_r1 hB) (fun _ _ => (ldw harg13 _ x11 _).trans (hB.h11 _ _)) (fun _ _ => (ldw harg14 _ x12 _).trans (hB.h12 _ _)) i0 i1

end Cert.Mix
end
-- ==== Proof.B5.lean ====
/- The convolution branch of a tile. -/
module

public import proofs.«01_k».proof.Proof.B1
public import proofs.«01_k».proof.Proof.Base2

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 arg29 arg39 arg40 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 arg38 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg15 : Memref sig .tc .vmem S8x32x128 .f32}
  {arg16 arg17 arg18 arg20 arg26 arg27 arg28 : Memref sig .tc .vmem S1x1024 .f32}
  {arg19 arg24 arg25 : Memref sig .tc .vmem S1024x1024 .bf16}
  {arg21 : Memref sig .tc .vmem S512x128 .bf16}
  {arg23 : Memref sig .tc .vmem S4x256 .f32}
  {arg30 : Memref sig .tc .vmem S8x544x128 .f32}
  {arg31 : Memref sig .tc .vmem S8x512x128 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
  {xs0 : Vec Ideal S8x544x128 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole} {harg38 : arg38.IsWhole} {harg39 : arg39.IsWhole} {harg40 : arg40.IsWhole}
theorem B_lu (hB : Blk a b q x0 x1 x2 x3 x4 x5 x6 x7 x8 x9 x10 x11 x12 x13 x14 x15 x16 x17 x18 x19 x20 x21 x22 x23 x24 x25 x26) : View.PiecesOf (Val := Elt Ideal) (fun y => Uh a b (512 * q + (y 1).val) (128 * (y 0).val + (y 2).val)) (([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32))) := by
  simp only [View.PiecesOf]
  refine ⟨?_, ?_, ?_, ?_, ?_, ?_, ?_, ?_, trivial⟩
  · intro i
    idx_vars i
    refine Eq.trans ?_ (emb3 (fun g i l => Uh a b (512 * q + i) (128 * g + l)) _ i0 i1 i2).symm
    refine (pay114_eq (g := fun r l => U a b (512 * q + r) l) (B_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay113_eq (g := fun r l => U a b (512 * q + r) l) (B_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay112_eq (g := fun r l => U a b (512 * q + r) l) (B_r2 hB) i0 i1 i2).trans ?_
    exact u_close (r := i1.val) (by omega) (by omega)
  · intro i
    idx_vars i
    refine Eq.trans ?_ (emb3 (fun g i l => Uh a b (512 * q + i) (128 * g + l)) _ i0 i1 i2).symm
    refine (pay111_eq (g := fun r l => U a b (512 * q + r) l) (B_r2 hB) i0 i1 i2).trans ?_
    exact u_close (r := i1.val) (by omega) (by omega)
  · intro i
    idx_vars i
    refine Eq.trans ?_ (emb3 (fun g i l => Uh a b (512 * q + i) (128 * g + l)) _ i0 i1 i2).symm
    unfold r_3
    refine (pay110_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay109_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay108_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)
  · intro i
    idx_vars i
    refine Eq.trans ?_ (emb3 (fun g i l => Uh a b (512 * q + i) (128 * g + l)) _ i0 i1 i2).symm
    refine (pay107_eq (fun _ _ => (ldw harg2 _ x0 _).trans (hB.h0 _ _)) (fun _ _ => (ldw harg3 _ x1 _).trans (hB.h1 _ _)) (fun _ _ => (ldw harg4 _ x2 _).trans (hB.h2 _ _)) i0 i1 i2).trans ?_
    exact u_close (r := i1.val) (by omega) (by omega)

theorem B_sc  (w : ((Rect.unit (s := S8x544x128) ![0, 0, 0] S8x32x128.size inb_S8x544x128_S8x32x128_0_0_0) : Rect S8x544x128).shape.Idx → Elt Ideal .f32) : ∀ y, ∃ p ∈ ((⟨Rect.unit (s := S8x544x128) ![0, 0, 0] S8x32x128.size inb_S8x544x128_S8x32x128_0_0_0, w⟩ : View.Piece (Elt Ideal) S8x544x128 .f32) :: ([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32))), y ∈ p.1.set := by
  exact View.cover_of_tiledBy _ ![1, 32, 128] (by sl_kernel_rfl)

theorem B_rd (hB : Blk a b q x0 x1 x2 x3 x4 x5 x6 x7 x8 x9 x10 x11 x12 x13 x14 x15 x16 x17 x18 x19 x20 x21 x22 x23 x24 x25 x26) (hs0 : ∀ y, (y 1).val < 32 → xs0 y = Uh a b (512 * q + (y 1).val) (128 * (y 0).val + (y 2).val)) : arg30.view.read (Elt Ideal) (arg30.view.writes (Elt Ideal) (harg30.unread xs0) (([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32)))) = fun y => Uh a b (512 * q + (y 1).val) (128 * (y 0).val + (y 2).val) := by
  refine read_over (B_lu hB) (Rect.unit (s := S8x544x128) ![0, 0, 0] S8x32x128.size inb_S8x544x128_S8x32x128_0_0_0) (fun _ => (0 : EReal)) (B_sc _) fun y hy => ?_
  rw [harg30.read_unread]
  refine hs0 y ?_
  have h1 := (Rect.mem_set_unit.mp hy) 1
  exact h1.2

theorem B_cv (hB : Blk a b q x0 x1 x2 x3 x4 x5 x6 x7 x8 x9 x10 x11 x12 x13 x14 x15 x16 x17 x18 x19 x20 x21 x22 x23 x24 x25 x26) (hs0 : ∀ y, (y 1).val < 32 → xs0 y = Uh a b (512 * q + (y 1).val) (128 * (y 0).val + (y 2).val)) : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (r_2 c arg2 harg2 arg3 harg3 arg4 harg4 x0 x1 x2) (r_3 c arg2 harg2 arg3 harg3 arg4 harg4 x0 x1 x2) (harg15.unread x13) (arg30.view.writes (Elt Ideal) (harg30.unread xs0) (([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32)))) (Scf.trips k0_t1_loop.lb k0_t1_loop.ub k0_t1_loop.st)) = fun y => Cv a b (512 * q + (y 1).val) (128 * (y 0).val + (y 2).val) := by
  funext y
  refine (pb_canon (B := fun g i l => Uh a b (512 * q + i) (128 * g + l)) (W := fun g j l => if j < 31 then a.Cw j (128 * g + l) else 0) (B_rd hB hs0) ?_ y).trans
    (conv_close (fun _ _ _ => rfl) _ _ _)
  rw [harg15.read_unread]
  exact funext hB.h13

theorem B_r8 (hB : Blk a b q x0 x1 x2 x3 x4 x5 x6 x7 x8 x9 x10 x11 x12 x13 x14 x15 x16 x17 x18 x19 x20 x21 x22 x23 x24 x25 x26) (hs0 : ∀ y, (y 1).val < 32 → xs0 y = Uh a b (512 * q + (y 1).val) (128 * (y 0).val + (y 2).val)) (r : Fin 512) (l : Fin 1024) : r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 xs0 (ix2 r l) = (Cv a b (512 * q + r.val) l.val + a.Cb l.val) - mean (fun l => Cv a b (512 * q + r.val) l + a.Cb l) := by
  have hc : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 (r_2 c arg2 harg2 arg3 harg3 arg4 harg4 x0 x1 x2) (r_3 c arg2 harg2 arg3 harg3 arg4 harg4 x0 x1 x2) (harg15.unread x13) (arg30.view.writes (Elt Ideal) (harg30.unread xs0) (([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32)))) (Scf.trips k0_t1_loop.lb k0_t1_loop.ub k0_t1_loop.st)) = _ := B_cv hB hs0
  unfold r_8
  refine pay121_eq (g := fun r l => Cv a b (512 * q + r) l) (h := a.Cb) ?_ ?_ ?_ ?_ ?_ ?_ ?_ ?_ (fun _ _ => (ldw harg16 _ x14 _).trans (hB.h14 _ _)) r l
  · intro r l
    unfold r_4
    pointwise [k0_pay117]
    refine (rd3 (fun g i l => Cv a b (512 * q + i) (128 * g + l)) (fun y _ => congrFun hc y) _ _ _ _).trans ?_
    exact congrArg₂ (Cv a b) (by omega) (by omega)
  · intro r l
    unfold r_5
    pointwise [k0_pay118]
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)
  · intro o r l
    refine (rd3 (fun g i l => Cv a b (512 * q + i) (128 * g + l)) (fun y _ => congrFun hc y) _ _ _ _).trans ?_
    exact congrArg₂ (Cv a b) (by omega) (by omega)

theorem B_r9 (hB : Blk a b q x0 x1 x2 x3 x4 x5 x6 x7 x8 x9 x10 x11 x12 x13 x14 x15 x16 x17 x18 x19 x20 x21 x22 x23 x24 x25 x26) (hs0 : ∀ y, (y 1).val < 32 → xs0 y = Uh a b (512 * q + (y 1).val) (128 * (y 0).val + (y 2).val)) (r : Fin 512) (o : Fin 1) : r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 xs0 (ix2 r o) = var (fun l => Cv a b (512 * q + r.val) l + a.Cb l) (mean (fun l => Cv a b (512 * q + r.val) l + a.Cb l)) := by
  have h8 : ∀ (r : Fin 512) (l : Fin 1024), r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x13 x14 xs0 (ix2 r l) = _ := B_r8 hB hs0
  unfold r_8 at h8
  unfold r_9
  exact pay122_eq (g := fun r l => Cv a b (512 * q + r) l + a.Cb l) (fun r l => h8 r l) r o

theorem B_c9 (hB : Blk a b q x0 x1 x2 x3 x4 x5 x6 x7 x8 x9 x10 x11 x12 x13 x14 x15 x16 x17 x18 x19 x20 x21 x22 x23 x24 x25 x26) (hs0 : ∀ y, (y 1).val < 32 → xs0 y = Uh a b (512 * q + (y 1).val) (128 * (y 0).val + (y 2).val)) : View.canon (HS9_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18 xs0) = fun y => Ideal.logistic (H a b (512 * q + (y 0).val) (5136 + (y 1).val)) * Yc a b (512 * q + (y 0).val) (y 1).val := by
  refine canon_of ?_ (View.cover_of_tiledL _ S512x1024.size (by sl_kernel_rfl))
  unfold HS9_1
  refine ⟨fun i => ?_, trivial⟩
  idx_vars i
  refine Eq.trans ?_ (emb2 (fun r l => Ideal.logistic (H a b (512 * q + r) (5136 + l)) * Yc a b (512 * q + r) l) _ i0 i1).symm
  rw [Nat.zero_add, Nat.zero_add]
  exact pay124_eq (B_r1 hB) (fun _ _ => by unfold r_6; pointwise [k0_pay119]; exact (ldw harg17 _ x15 _).trans (hB.h15 _ _))
    (fun _ _ => by unfold r_7; pointwise [k0_pay120]; exact (ldw harg18 _ x16 _).trans (hB.h16 _ _))
    (B_r8 hB hs0) (B_r9 hB hs0) (fun _ _ => (ldw harg19 _ x17 _).trans (hB.h17 _ _)) (fun _ _ => (ldw harg20 _ x18 _).trans (hB.h18 _ _)) (fun _ _ => (ldw harg13 _ x11 _).trans (hB.h11 _ _)) (fun _ _ => (ldw harg14 _ x12 _).trans (hB.h12 _ _)) i0 i1

theorem B_lc (hB : Blk a b q x0 x1 x2 x3 x4 x5 x6 x7 x8 x9 x10 x11 x12 x13 x14 x15 x16 x17 x18 x19 x20 x21 x22 x23 x24 x25 x26) (y : S8x544x128.Idx) (hy : 32 ≤ (y 1).val) : View.canon (([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32))) y = Uh a b (512 * q + (y 1).val) (128 * (y 0).val + (y 2).val) := by
  refine View.canon_apply_of_pieces (Val := Elt Ideal) (S := S8x544x128) (e := .f32) _ _ (View.PiecesOf.mem (B_lu (arg2 := arg2) (harg2 := harg2) (arg3 := arg3) (harg3 := harg3) (arg4 := arg4) (harg4 := harg4) (c := c) hB)) y ?_
  obtain ⟨p, hp, hm⟩ := B_sc (arg2 := arg2) (harg2 := harg2) (arg3 := arg3) (harg3 := harg3) (arg4 := arg4) (harg4 := harg4) (x0 := x0) (x1 := x1) (x2 := x2) (c := c) (fun _ => (0 : EReal)) y
  rcases List.mem_cons.mp hp with rfl | hp
  · have h1 := ((Rect.mem_set_unit (inb := inb_S8x544x128_S8x32x128_0_0_0).mp hm) 1).2
    exact absurd h1 (Nat.not_lt.mpr hy)
  · exact ⟨p, hp, hm⟩

theorem B_sd (hB : Blk a b q x0 x1 x2 x3 x4 x5 x6 x7 x8 x9 x10 x11 x12 x13 x14 x15 x16 x17 x18 x19 x20 x21 x22 x23 x24 x25 x26) (y : S8x544x128.Idx) (hy : (y 1).val < 32) : View.canon ((⟨Rect.unit (s := S8x544x128) ![0, 0, 0] S8x32x128.size inb_S8x544x128_S8x32x128_0_0_0, k0_pay116 (F := Ideal) (v50 c arg2 harg2 arg3 harg3 arg4 harg4 arg30 x0 x1 x2)⟩ : View.Piece (Elt Ideal) S8x544x128 .f32) :: ([⟨Rect.unit (s := S8x544x128) ![7, 32, 0] S1x512x128.size inb_S8x544x128_S1x512x128_7_32_0, k0_pay114 (F := Ideal) (r_2 c arg2 harg2 arg3 harg3 arg4 harg4 x0 x1 x2)⟩, ⟨Rect.unit (s := S8x544x128) ![6, 32, 0] S1x512x128.size inb_S8x544x128_S1x512x128_6_32_0, k0_pay113 (F := Ideal) (r_2 c arg2 harg2 arg3 harg3 arg4 harg4 x0 x1 x2)⟩, ⟨Rect.unit (s := S8x544x128) ![5, 32, 0] S1x512x128.size inb_S8x544x128_S1x512x128_5_32_0, k0_pay112 (F := Ideal) (r_2 c arg2 harg2 arg3 harg3 arg4 harg4 x0 x1 x2)⟩, ⟨Rect.unit (s := S8x544x128) ![4, 32, 0] S1x512x128.size inb_S8x544x128_S1x512x128_4_32_0, k0_pay111 (F := Ideal) (r_2 c arg2 harg2 arg3 harg3 arg4 harg4 x0 x1 x2)⟩, ⟨Rect.unit (s := S8x544x128) ![3, 32, 0] S1x512x128.size inb_S8x544x128_S1x512x128_3_32_0, r_3 c arg2 harg2 arg3 harg3 arg4 harg4 x0 x1 x2⟩, ⟨Rect.unit (s := S8x544x128) ![2, 32, 0] S1x512x128.size inb_S8x544x128_S1x512x128_2_32_0, k0_pay109 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![1, 32, 0] S1x512x128.size inb_S8x544x128_S1x512x128_1_32_0, k0_pay108 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩, ⟨Rect.unit (s := S8x544x128) ![0, 32, 0] S1x512x128.size inb_S8x544x128_S1x512x128_0_32_0, k0_pay107 (F := Ideal) (View.readAt (Elt Ideal) arg2.view (Rect.unit (s := S512x1024) ![0, 0] S512x1024.size inb_S512x1024_S512x1024_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S1x2048) ![0, 0] S1x2048.size inb_S1x2048_S1x2048_0_0).toLoadRect (harg4.unread x2))⟩] : List (View.Piece (Elt Ideal) S8x544x128 .f32))) y = Uh a b (512 * (q + 1) + (y 1).val) (128 * (y 0).val + (y 2).val) := by
  have hm : y ∈ (Rect.unit (s := S8x544x128) ![0, 0, 0] S8x32x128.size inb_S8x544x128_S8x32x128_0_0_0).set := Rect.mem_set_unit.mpr fun k => by
    fin_cases k
    · exact ⟨Nat.zero_le _, (by have := (y 0).isLt; exact this)⟩
    · exact ⟨Nat.zero_le _, (by exact hy)⟩
    · exact ⟨Nat.zero_le _, (by have := (y 2).isLt; exact this)⟩
  obtain ⟨i, rfl⟩ := (Rect.unit (s := S8x544x128) ![0, 0, 0] S8x32x128.size inb_S8x544x128_S8x32x128_0_0_0).exists_idx_of_mem hm
  refine (View.canon_cons_emb _ _ _ i).trans ?_
  idx_vars i
  refine Eq.trans ?_ (emb3 (fun g i l => Uh a b (512 * (q + 1) + i) (128 * g + l)) _ i0 i1 i2).symm
  unfold v50
  pointwise [k0_pay116]
  refine (rd3 (fun g i l => Uh a b (512 * q + i) (128 * g + l)) (fun y hy => B_lc hB y (Nat.le_trans (by decide) hy)) _ _ _ _).trans ?_
  exact congrArg₂ (Uh a b) (by omega) (by omega)

end Cert.Mix
end
-- ==== Proof.B2.lean ====
/- What each chunk adds to the states. -/
module

public import proofs.«01_k».proof.Proof.B1

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 : Memref sig .tc .vmem S512x512 .f32}
  {arg11 : Memref sig .tc .vmem S1024x128 .bf16}
  {arg12 : Memref sig .tc .vmem S1x128 .f32}
  {arg21 : Memref sig .tc .vmem S512x128 .bf16}
  {arg33 : Memref sig .tc .vmem S512x2560 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole}
theorem B_c6 (hB : Blk a b q x0 x1 x2 x3 x4 x5 x6 x7 x8 x9 x10 x11 x12 x13 x14 x15 x16 x17 x18 x19 x20 x21 x22 x23 x24 x25 x26) : View.canon (HS6_32 c arg2 harg2 arg5 harg5 arg6 harg6 arg7 harg7 arg8 harg8 arg9 harg9 arg10 harg10 arg11 harg11 arg12 harg12 arg21 harg21 arg22 harg22 arg33 arg34 x0 x3 x4 x5 x6 x7 x8 x9 x10 x19 x20) = fun y => Kv a b (8 * q + (y 0).val / 4) ((y 0).val % 4) (y 1).val (y 2).val := by
  refine canon_of ?_ (View.cover_of_tiledL _ S1x128x256.size (by sl_kernel_rfl))
  unfold HS6_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb3 (fun p k v => Kv a b (8 * q + p / 4) (p % 4) k v) _ i0 i1 i2).symm
    simp only [v561, v567, View.readCov_eq_canon', (B_c3 hB), (B_c4 hB)]
    pointwise [k0_pay145, k0_pay187]
    simpa only [Nat.zero_add, Nat.add_zero, Nat.mul_zero, Nat.reduceMul, Nat.reduceAdd] using
      kv_close a b q 3 3 1 (by decide) rfl i1.val i2.val
  · intro i
    idx_vars i
    refine Eq.trans ?_ (emb3 (fun p k v => Kv a b (8 * q + p / 4) (p % 4) k v) _ i0 i1 i2).symm
    simp only [v549, v555, View.readCov_eq_canon', (B_c3 hB), (B_c4 hB)]
    pointwise [k0_pay145, k0_pay186]
    simpa only [Nat.zero_add, Nat.add_zero, Nat.mul_zero, Nat.reduceMul, Nat.reduceAdd] using
      kv_close a b q 3 2 1 (by decide) rfl i1.val i2.val
  · intro i
    idx_vars i
    refine Eq.trans ?_ (emb3 (fun p k v => Kv a b (8 * q + p / 4) (p % 4) k v) _ i0 i1 i2).symm
    simp only [r_27, v537, r_28, v543, View.readCov_eq_canon', (B_c3 hB), (B_c4 hB)]
    pointwise [k0_pay145, k0_pay183, k0_pay184, k0_pay185]
    simpa only [Nat.zero_add, Nat.add_zero, Nat.mul_zero, Nat.reduceMul, Nat.reduceAdd] using
      kv_close a b q 3 1 1 (by decide) rfl i1.val i2.val
  · intro i
    idx_vars i
    refine Eq.trans ?_ (emb3 (fun p k v => Kv a b (8 * q + p / 4) (p % 4) k v) _ i0 i1 i2).symm
    simp only [v525, v531, View.readCov_eq_canon', (B_c3 hB), (B_c4 hB)]
    pointwise [k0_pay145, k0_pay182]
    simpa only [Nat.zero_add, Nat.add_zero, Nat.mul_zero, Nat.reduceMul, Nat.reduceAdd] using
      kv_close a b q 3 0 1 (by decide) rfl i1.val i2.val
  · intro i
    idx_vars i
    refine Eq.trans ?_ (emb3 (fun p k v => Kv a b (8 * q + p / 4) (p % 4) k v) _ i0 i1 i2).symm
    simp only [v561, v567, View.readCov_eq_canon', (B_c3 hB), (B_c4 hB)]
    pointwise [k0_pay145, k0_pay181]
    simpa only [Nat.zero_add, Nat.add_zero, Nat.mul_zero, Nat.reduceMul, Nat.reduceAdd] using
      kv_close a b q 3 3 0 (by decide) rfl i1.val i2.val
  · intro i
    idx_vars i
    refine Eq.trans ?_ (emb3 (fun p k v => Kv a b (8 * q + p / 4) (p % 4) k v) _ i0 i1 i2).symm
    simp only [v549, v555, View.readCov_eq_canon', (B_c3 hB), (B_c4 hB)]
    pointwise [k0_pay145, k0_pay180]
    simpa only [Nat.zero_add, Nat.add_zero, Nat.mul_zero, Nat.reduceMul, Nat.reduceAdd] using
      kv_close a b q 3 2 0 (by decide) rfl i1.val i2.val
  · intro i
    idx_vars i
    refine Eq.trans ?_ (emb3 (fun p k v => Kv a b (8 * q + p / 4) (p % 4) k v) _ i0 i1 i2).symm
    simp only [v537, v543, View.readCov_eq_canon', (B_c3 hB), (B_c4 hB)]
    pointwise [k0_pay145, k0_pay179]
    simpa only [Nat.zero_add, Nat.add_zero, Nat.mul_zero, Nat.reduceMul, Nat.reduceAdd] using
      kv_close a b q 3 1 0 (by decide) rfl i1.val i2.val
  · intro i
    idx_vars i
    refine Eq.trans ?_ (emb3 (fun p k v => Kv a b (8 * q + p / 4) (p % 4) k v) _ i0 i1 i2).symm
    simp only [r_26, v525, v531, View.readCov_eq_canon', (B_c3 hB), (B_c4 hB)]
    pointwise [k0_pay145, k0_pay177, k0_pay178]
    simpa only [Nat.zero_add, Nat.add_zero, Nat.mul_zero, Nat.reduceMul, Nat.reduceAdd] using
      kv_close a b q 3 0 0 (by decide) rfl i1.val i2.val
  · intro i
    idx_vars i
    refine Eq.trans ?_ (emb3 (fun p k v => Kv a b (8 * q + p / 4) (p % 4) k v) _ i0 i1 i2).symm
    simp only [v465, v471, View.readCov_eq_canon', (B_c3 hB), (B_c4 hB)]
    pointwise [k0_pay145, k0_pay176]
    simpa only [Nat.zero_add, Nat.add_zero, Nat.mul_zero, Nat.reduceMul, Nat.reduceAdd] using
      kv_close a b q 2 3 1 (by decide) rfl i1.val i2.val
  · intro i
    idx_vars i
    refine Eq.trans ?_ (emb3 (fun p k v => Kv a b (8 * q + p / 4) (p % 4) k v) _ i0 i1 i2).symm
    simp only [v453, v459, View.readCov_eq_canon', (B_c3 hB), (B_c4 hB)]
    pointwise [k0_pay145, k0_pay175]
    simpa only [Nat.zero_add, Nat.add_zero, Nat.mul_zero, Nat.reduceMul, Nat.reduceAdd] using
      kv_close a b q 2 2 1 (by decide) rfl i1.val i2.val
  · intro i
    idx_vars i
    refine Eq.trans ?_ (emb3 (fun p k v => Kv a b (8 * q + p / 4) (p % 4) k v) _ i0 i1 i2).symm
    simp only [r_25, v441, v447, View.readCov_eq_canon', (B_c3 hB), (B_c4 hB)]
    pointwise [k0_pay145, k0_pay173, k0_pay174]
    simpa only [Nat.zero_add, Nat.add_zero, Nat.mul_zero, Nat.reduceMul, Nat.reduceAdd] using
      kv_close a b q 2 1 1 (by decide) rfl i1.val i2.val
  · intro i
    idx_vars i
    refine Eq.trans ?_ (emb3 (fun p k v => Kv a b (8 * q + p / 4) (p % 4) k v) _ i0 i1 i2).symm
    simp only [v429, v435, View.readCov_eq_canon', (B_c3 hB), (B_c4 hB)]
    pointwise [k0_pay145, k0_pay172]
    simpa only [Nat.zero_add, Nat.add_zero, Nat.mul_zero, Nat.reduceMul, Nat.reduceAdd] using
      kv_close a b q 2 0 1 (by decide) rfl i1.val i2.val
  · intro i
    idx_vars i
    refine Eq.trans ?_ (emb3 (fun p k v => Kv a b (8 * q + p / 4) (p % 4) k v) _ i0 i1 i2).symm
    simp only [v465, v471, View.readCov_eq_canon', (B_c3 hB), (B_c4 hB)]
    pointwise [k0_pay145, k0_pay171]
    simpa only [Nat.zero_add, Nat.add_zero, Nat.mul_zero, Nat.reduceMul, Nat.reduceAdd] using
      kv_close a b q 2 3 0 (by decide) rfl i1.val i2.val
  · intro i
    idx_vars i
    refine Eq.trans ?_ (emb3 (fun p k v => Kv a b (8 * q + p / 4) (p % 4) k v) _ i0 i1 i2).symm
    simp only [v453, v459, View.readCov_eq_canon', (B_c3 hB), (B_c4 hB)]
    pointwise [k0_pay145, k0_pay170]
    simpa only [Nat.zero_add, Nat.add_zero, Nat.mul_zero, Nat.reduceMul, Nat.reduceAdd] using
      kv_close a b q 2 2 0 (by decide) rfl i1.val i2.val
  · intro i
    idx_vars i
    refine Eq.trans ?_ (emb3 (fun p k v => Kv a b (8 * q + p / 4) (p % 4) k v) _ i0 i1 i2).symm
    simp only [v441, v447, View.readCov_eq_canon', (B_c3 hB), (B_c4 hB)]
    pointwise [k0_pay145, k0_pay169]
    simpa only [Nat.zero_add, Nat.add_zero, Nat.mul_zero, Nat.reduceMul, Nat.reduceAdd] using
      kv_close a b q 2 1 0 (by decide) rfl i1.val i2.val
  · intro i
    idx_vars i
    refine Eq.trans ?_ (emb3 (fun p k v => Kv a b (8 * q + p / 4) (p % 4) k v) _ i0 i1 i2).symm
    simp only [r_24, v429, v435, View.readCov_eq_canon', (B_c3 hB), (B_c4 hB)]
    pointwise [k0_pay145, k0_pay167, k0_pay168]
    simpa only [Nat.zero_add, Nat.add_zero, Nat.mul_zero, Nat.reduceMul, Nat.reduceAdd] using
      kv_close a b q 2 0 0 (by decide) rfl i1.val i2.val
  · intro i
    idx_vars i
    refine Eq.trans ?_ (emb3 (fun p k v => Kv a b (8 * q + p / 4) (p % 4) k v) _ i0 i1 i2).symm
    simp only [v369, v375, View.readCov_eq_canon', (B_c3 hB), (B_c4 hB)]
    pointwise [k0_pay145, k0_pay166]
    simpa only [Nat.zero_add, Nat.add_zero, Nat.mul_zero, Nat.reduceMul, Nat.reduceAdd] using
      kv_close a b q 1 3 1 (by decide) rfl i1.val i2.val
  · intro i
    idx_vars i
    refine Eq.trans ?_ (emb3 (fun p k v => Kv a b (8 * q + p / 4) (p % 4) k v) _ i0 i1 i2).symm
    simp only [v357, v363, View.readCov_eq_canon', (B_c3 hB), (B_c4 hB)]
    pointwise [k0_pay145, k0_pay165]
    simpa only [Nat.zero_add, Nat.add_zero, Nat.mul_zero, Nat.reduceMul, Nat.reduceAdd] using
      kv_close a b q 1 2 1 (by decide) rfl i1.val i2.val
  · intro i
    idx_vars i
    refine Eq.trans ?_ (emb3 (fun p k v => Kv a b (8 * q + p / 4) (p % 4) k v) _ i0 i1 i2).symm
    simp only [r_23, v345, v351, View.readCov_eq_canon', (B_c3 hB), (B_c4 hB)]
    pointwise [k0_pay145, k0_pay164]
    simpa only [Nat.zero_add, Nat.add_zero, Nat.mul_zero, Nat.reduceMul, Nat.reduceAdd] using
      kv_close a b q 1 1 1 (by decide) rfl i1.val i2.val
  · intro i
    idx_vars i
    refine Eq.trans ?_ (emb3 (fun p k v => Kv a b (8 * q + p / 4) (p % 4) k v) _ i0 i1 i2).symm
    simp only [v333, v339, View.readCov_eq_canon', (B_c3 hB), (B_c4 hB)]
    pointwise [k0_pay145, k0_pay163]
    simpa only [Nat.zero_add, Nat.add_zero, Nat.mul_zero, Nat.reduceMul, Nat.reduceAdd] using
      kv_close a b q 1 0 1 (by decide) rfl i1.val i2.val
  · intro i
    idx_vars i
    refine Eq.trans ?_ (emb3 (fun p k v => Kv a b (8 * q + p / 4) (p % 4) k v) _ i0 i1 i2).symm
    simp only [v369, v375, View.readCov_eq_canon', (B_c3 hB), (B_c4 hB)]
    pointwise [k0_pay145, k0_pay160, k0_pay161, k0_pay162]
    simpa only [Nat.zero_add, Nat.add_zero, Nat.mul_zero, Nat.reduceMul, Nat.reduceAdd] using
      kv_close a b q 1 3 0 (by decide) rfl i1.val i2.val
  · intro i
    idx_vars i
    refine Eq.trans ?_ (emb3 (fun p k v => Kv a b (8 * q + p / 4) (p % 4) k v) _ i0 i1 i2).symm
    simp only [v357, v363, View.readCov_eq_canon', (B_c3 hB), (B_c4 hB)]
    pointwise [k0_pay145, k0_pay159]
    simpa only [Nat.zero_add, Nat.add_zero, Nat.mul_zero, Nat.reduceMul, Nat.reduceAdd] using
      kv_close a b q 1 2 0 (by decide) rfl i1.val i2.val
  · intro i
    idx_vars i
    refine Eq.trans ?_ (emb3 (fun p k v => Kv a b (8 * q + p / 4) (p % 4) k v) _ i0 i1 i2).symm
    simp only [v345, v351, View.readCov_eq_canon', (B_c3 hB), (B_c4 hB)]
    pointwise [k0_pay145, k0_pay158]
    simpa only [Nat.zero_add, Nat.add_zero, Nat.mul_zero, Nat.reduceMul, Nat.reduceAdd] using
      kv_close a b q 1 1 0 (by decide) rfl i1.val i2.val
  · intro i
    idx_vars i
    refine Eq.trans ?_ (emb3 (fun p k v => Kv a b (8 * q + p / 4) (p % 4) k v) _ i0 i1 i2).symm
    simp only [r_22, v333, v339, View.readCov_eq_canon', (B_c3 hB), (B_c4 hB)]
    pointwise [k0_pay145, k0_pay156, k0_pay157]
    simpa only [Nat.zero_add, Nat.add_zero, Nat.mul_zero, Nat.reduceMul, Nat.reduceAdd] using
      kv_close a b q 1 0 0 (by decide) rfl i1.val i2.val
  · intro i
    idx_vars i
    refine Eq.trans ?_ (emb3 (fun p k v => Kv a b (8 * q + p / 4) (p % 4) k v) _ i0 i1 i2).symm
    simp only [v273, v279, View.readCov_eq_canon', (B_c3 hB), (B_c4 hB)]
    pointwise [k0_pay145, k0_pay155]
    simpa only [Nat.zero_add, Nat.add_zero, Nat.mul_zero, Nat.reduceMul, Nat.reduceAdd] using
      kv_close a b q 0 3 1 (by decide) rfl i1.val i2.val
  · intro i
    idx_vars i
    refine Eq.trans ?_ (emb3 (fun p k v => Kv a b (8 * q + p / 4) (p % 4) k v) _ i0 i1 i2).symm
    simp only [v261, v267, View.readCov_eq_canon', (B_c3 hB), (B_c4 hB)]
    pointwise [k0_pay145, k0_pay154]
    simpa only [Nat.zero_add, Nat.add_zero, Nat.mul_zero, Nat.reduceMul, Nat.reduceAdd] using
      kv_close a b q 0 2 1 (by decide) rfl i1.val i2.val
  · intro i
    idx_vars i
    refine Eq.trans ?_ (emb3 (fun p k v => Kv a b (8 * q + p / 4) (p % 4) k v) _ i0 i1 i2).symm
    simp only [v249, v255, View.readCov_eq_canon', (B_c3 hB), (B_c4 hB)]
    pointwise [k0_pay145, k0_pay153]
    simpa only [Nat.zero_add, Nat.add_zero, Nat.mul_zero, Nat.reduceMul, Nat.reduceAdd] using
      kv_close a b q 0 1 1 (by decide) rfl i1.val i2.val
  · intro i
    idx_vars i
    refine Eq.trans ?_ (emb3 (fun p k v => Kv a b (8 * q + p / 4) (p % 4) k v) _ i0 i1 i2).symm
    simp only [v237, v243, View.readCov_eq_canon', (B_c3 hB), (B_c4 hB)]
    pointwise [k0_pay145, k0_pay152]
    simpa only [Nat.zero_add, Nat.add_zero, Nat.mul_zero, Nat.reduceMul, Nat.reduceAdd] using
      kv_close a b q 0 0 1 (by decide) rfl i1.val i2.val
  · intro i
    idx_vars i
    refine Eq.trans ?_ (emb3 (fun p k v => Kv a b (8 * q + p / 4) (p % 4) k v) _ i0 i1 i2).symm
    simp only [r_21, v273, v279, View.readCov_eq_canon', (B_c3 hB), (B_c4 hB)]
    pointwise [k0_pay145, k0_pay150, k0_pay151]
    simpa only [Nat.zero_add, Nat.add_zero, Nat.mul_zero, Nat.reduceMul, Nat.reduceAdd] using
      kv_close a b q 0 3 0 (by decide) rfl i1.val i2.val
  · intro i
    idx_vars i
    refine Eq.trans ?_ (emb3 (fun p k v => Kv a b (8 * q + p / 4) (p % 4) k v) _ i0 i1 i2).symm
    simp only [v261, v267, View.readCov_eq_canon', (B_c3 hB), (B_c4 hB)]
    pointwise [k0_pay145, k0_pay149]
    simpa only [Nat.zero_add, Nat.add_zero, Nat.mul_zero, Nat.reduceMul, Nat.reduceAdd] using
      kv_close a b q 0 2 0 (by decide) rfl i1.val i2.val
  · intro i
    idx_vars i
    refine Eq.trans ?_ (emb3 (fun p k v => Kv a b (8 * q + p / 4) (p % 4) k v) _ i0 i1 i2).symm
    simp only [v249, v255, View.readCov_eq_canon', (B_c3 hB), (B_c4 hB)]
    pointwise [k0_pay145, k0_pay148]
    simpa only [Nat.zero_add, Nat.add_zero, Nat.mul_zero, Nat.reduceMul, Nat.reduceAdd] using
      kv_close a b q 0 1 0 (by decide) rfl i1.val i2.val
  · intro i
    idx_vars i
    refine Eq.trans ?_ (emb3 (fun p k v => Kv a b (8 * q + p / 4) (p % 4) k v) _ i0 i1 i2).symm
    simp only [r_20, v237, v243, View.readCov_eq_canon', (B_c3 hB), (B_c4 hB)]
    pointwise [k0_pay146, k0_pay145, k0_pay147]
    simpa only [Nat.zero_add, Nat.add_zero, Nat.mul_zero, Nat.reduceMul, Nat.reduceAdd] using
      kv_close a b q 0 0 0 (by decide) rfl i1.val i2.val

end Cert.Mix
end
-- ==== Proof.B3.lean ====
/- The states after each update. -/
module

public import proofs.«01_k».proof.Proof.B2
public import proofs.«01_k».proof.Proof.Steps

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg32 : Memref sig .tc .vmem S4x128x256 .f32}
  {arg33 : Memref sig .tc .vmem S512x2560 .f32}
  {arg36 : Memref sig .tc .vmem S32x128x256 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
  {xs2 : Vec Ideal S4x128x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole} {harg32 : arg32.IsWhole}
variable (hB : Blk a b q x0 x1 x2 x3 x4 x5 x6 x7 x8 x9 x10 x11 x12 x13 x14 x15 x16 x17 x18 x19 x20 x21 x22 x23 x24 x25 x26)
include hB
theorem B_s4 (hs2 : ∀ y, xs2 y = St a b (y 0).val (y 1).val (y 2).val (8 * q)) : View.canon (HS2_4 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (4 + 3 - (y 0).val) / 4) := by
  have hp : xs2 = _ := funext hs2
  refine canon_of ?_ (View.cover_of_tiledL _ S1x128x256.size (by sl_kernel_rfl))
  unfold HS2_4
  simp only [View.PiecesOf]
  refine ⟨?_, ?_, ?_, ?_, trivial⟩
  · intro i
    idx_vars i
    refine Eq.trans ?_ (emb3 (fun h k v => St a b h k v (8 * q + (4 + 3 - h) / 4)) _ i0 i1 i2).symm
    simp only [v666, v667, v671, View.readCov_eq_canon', (B_c5 hB), (B_c6 hB), ldu, hp]
    pointwise [k0_pay198, k0_pay197]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun h k v => St a b h k v (8 * q + (4 + 3 - h) / 4)) _ i0 i1 i2).symm
    simp only [kernelRun0_B.sl.v, v652, v656, View.readCov_eq_canon', (B_c5 hB), (B_c6 hB), ldu, hp]
    pointwise [k0_pay195, k0_pay194]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun h k v => St a b h k v (8 * q + (4 + 3 - h) / 4)) _ i0 i1 i2).symm
    simp only [v636, v637, v641, View.readCov_eq_canon', (B_c5 hB), (B_c6 hB), ldu, hp]
    pointwise [k0_pay192, k0_pay191]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun h k v => St a b h k v (8 * q + (4 + 3 - h) / 4)) _ i0 i1 i2).symm
    simp only [v621, v626, View.readCov_eq_canon', (B_c5 hB), (B_c6 hB), ldu, hp]
    pointwise [k0_pay189, k0_pay188]
    try simp only [Nat.zero_add, Nat.add_zero, Nat.mul_zero, Nat.reduceMul, Nat.reduceAdd, Nat.reduceSub, Nat.reduceDiv]
    exact St_close (by omega)

theorem B_s5 (hs2 : ∀ y, xs2 y = St a b (y 0).val (y 1).val (y 2).val (8 * q)) : View.canon (HS2_5 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (5 + 3 - (y 0).val) / 4) := by
  unfold HS2_5
  refine st_step (B_s4 hB hs2) (by decide) _ _ fun i0 i1 i2 => ?_
  simp only [v681, v682, v686, View.readCov_eq_canon', (B_c5 hB), (B_c6 hB), (B_s4 hB hs2)]
  pointwise [k0_pay201, k0_pay200]
  try simp only [Nat.zero_add, Nat.add_zero, Nat.mul_zero, Nat.reduceMul, Nat.reduceAdd, Nat.reduceSub, Nat.reduceDiv]
  exact St_close (by omega)

theorem B_s6 (hs2 : ∀ y, xs2 y = St a b (y 0).val (y 1).val (y 2).val (8 * q)) : View.canon (HS2_6 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (6 + 3 - (y 0).val) / 4) := by
  unfold HS2_6
  refine st_step (B_s5 hB hs2) (by decide) _ _ fun i0 i1 i2 => ?_
  simp only [v696, v697, v701, View.readCov_eq_canon', (B_c5 hB), (B_c6 hB), (B_s5 hB hs2)]
  pointwise [k0_pay204, k0_pay203]
  try simp only [Nat.zero_add, Nat.add_zero, Nat.mul_zero, Nat.reduceMul, Nat.reduceAdd, Nat.reduceSub, Nat.reduceDiv]
  exact St_close (by omega)

theorem B_s7 (hs2 : ∀ y, xs2 y = St a b (y 0).val (y 1).val (y 2).val (8 * q)) : View.canon (HS2_7 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (7 + 3 - (y 0).val) / 4) := by
  unfold HS2_7
  refine st_step (B_s6 hB hs2) (by decide) _ _ fun i0 i1 i2 => ?_
  simp only [v711, v712, v716, View.readCov_eq_canon', (B_c5 hB), (B_c6 hB), (B_s6 hB hs2)]
  pointwise [k0_pay207, k0_pay206]
  try simp only [Nat.zero_add, Nat.add_zero, Nat.mul_zero, Nat.reduceMul, Nat.reduceAdd, Nat.reduceSub, Nat.reduceDiv]
  exact St_close (by omega)

theorem B_s8 (hs2 : ∀ y, xs2 y = St a b (y 0).val (y 1).val (y 2).val (8 * q)) : View.canon (HS2_8 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (8 + 3 - (y 0).val) / 4) := by
  unfold HS2_8
  refine st_step (B_s7 hB hs2) (by decide) _ _ fun i0 i1 i2 => ?_
  simp only [v726, v727, v731, View.readCov_eq_canon', (B_c5 hB), (B_c6 hB), (B_s7 hB hs2)]
  pointwise [k0_pay210, k0_pay209]
  try simp only [Nat.zero_add, Nat.add_zero, Nat.mul_zero, Nat.reduceMul, Nat.reduceAdd, Nat.reduceSub, Nat.reduceDiv]
  exact St_close (by omega)

theorem B_s9 (hs2 : ∀ y, xs2 y = St a b (y 0).val (y 1).val (y 2).val (8 * q)) : View.canon (HS2_9 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (9 + 3 - (y 0).val) / 4) := by
  unfold HS2_9
  refine st_step (B_s8 hB hs2) (by decide) _ _ fun i0 i1 i2 => ?_
  simp only [v741, v742, v746, View.readCov_eq_canon', (B_c5 hB), (B_c6 hB), (B_s8 hB hs2)]
  pointwise [k0_pay214, k0_pay213]
  try simp only [Nat.zero_add, Nat.add_zero, Nat.mul_zero, Nat.reduceMul, Nat.reduceAdd, Nat.reduceSub, Nat.reduceDiv]
  exact St_close (by omega)

theorem B_s10 (hs2 : ∀ y, xs2 y = St a b (y 0).val (y 1).val (y 2).val (8 * q)) : View.canon (HS2_10 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (10 + 3 - (y 0).val) / 4) := by
  unfold HS2_10
  refine st_step (B_s9 hB hs2) (by decide) _ _ fun i0 i1 i2 => ?_
  simp only [v756, v757, v761, View.readCov_eq_canon', (B_c5 hB), (B_c6 hB), (B_s9 hB hs2)]
  pointwise [k0_pay217, k0_pay216]
  try simp only [Nat.zero_add, Nat.add_zero, Nat.mul_zero, Nat.reduceMul, Nat.reduceAdd, Nat.reduceSub, Nat.reduceDiv]
  exact St_close (by omega)

theorem B_s11 (hs2 : ∀ y, xs2 y = St a b (y 0).val (y 1).val (y 2).val (8 * q)) : View.canon (HS2_11 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (11 + 3 - (y 0).val) / 4) := by
  unfold HS2_11
  refine st_step (B_s10 hB hs2) (by decide) _ _ fun i0 i1 i2 => ?_
  simp only [v771, v772, v776, View.readCov_eq_canon', (B_c5 hB), (B_c6 hB), (B_s10 hB hs2)]
  pointwise [k0_pay221, k0_pay220]
  try simp only [Nat.zero_add, Nat.add_zero, Nat.mul_zero, Nat.reduceMul, Nat.reduceAdd, Nat.reduceSub, Nat.reduceDiv]
  exact St_close (by omega)

theorem B_s12 (hs2 : ∀ y, xs2 y = St a b (y 0).val (y 1).val (y 2).val (8 * q)) : View.canon (HS2_12 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (12 + 3 - (y 0).val) / 4) := by
  unfold HS2_12
  refine st_step (B_s11 hB hs2) (by decide) _ _ fun i0 i1 i2 => ?_
  simp only [v786, v787, v791, View.readCov_eq_canon', (B_c5 hB), (B_c6 hB), (B_s11 hB hs2)]
  pointwise [k0_pay224, k0_pay223]
  try simp only [Nat.zero_add, Nat.add_zero, Nat.mul_zero, Nat.reduceMul, Nat.reduceAdd, Nat.reduceSub, Nat.reduceDiv]
  exact St_close (by omega)

theorem B_s13 (hs2 : ∀ y, xs2 y = St a b (y 0).val (y 1).val (y 2).val (8 * q)) : View.canon (HS2_13 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (13 + 3 - (y 0).val) / 4) := by
  unfold HS2_13
  refine st_step (B_s12 hB hs2) (by decide) _ _ fun i0 i1 i2 => ?_
  simp only [v801, v802, v806, View.readCov_eq_canon', (B_c5 hB), (B_c6 hB), (B_s12 hB hs2)]
  pointwise [k0_pay228, k0_pay227]
  try simp only [Nat.zero_add, Nat.add_zero, Nat.mul_zero, Nat.reduceMul, Nat.reduceAdd, Nat.reduceSub, Nat.reduceDiv]
  exact St_close (by omega)

theorem B_s14 (hs2 : ∀ y, xs2 y = St a b (y 0).val (y 1).val (y 2).val (8 * q)) : View.canon (HS2_14 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (14 + 3 - (y 0).val) / 4) := by
  unfold HS2_14
  refine st_step (B_s13 hB hs2) (by decide) _ _ fun i0 i1 i2 => ?_
  simp only [r_34, v816, v817, v821, View.readCov_eq_canon', (B_c5 hB), (B_c6 hB), (B_s13 hB hs2)]
  pointwise [k0_pay231, k0_pay230]
  try simp only [Nat.zero_add, Nat.add_zero, Nat.mul_zero, Nat.reduceMul, Nat.reduceAdd, Nat.reduceSub, Nat.reduceDiv]
  exact St_close (by omega)

theorem B_s15 (hs2 : ∀ y, xs2 y = St a b (y 0).val (y 1).val (y 2).val (8 * q)) : View.canon (HS2_15 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (15 + 3 - (y 0).val) / 4) := by
  unfold HS2_15
  refine st_step (B_s14 hB hs2) (by decide) _ _ fun i0 i1 i2 => ?_
  simp only [v831, v832, v836, View.readCov_eq_canon', (B_c5 hB), (B_c6 hB), (B_s14 hB hs2)]
  pointwise [k0_pay234, k0_pay233]
  try simp only [Nat.zero_add, Nat.add_zero, Nat.mul_zero, Nat.reduceMul, Nat.reduceAdd, Nat.reduceSub, Nat.reduceDiv]
  exact St_close (by omega)

theorem B_s16 (hs2 : ∀ y, xs2 y = St a b (y 0).val (y 1).val (y 2).val (8 * q)) : View.canon (HS2_16 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (16 + 3 - (y 0).val) / 4) := by
  unfold HS2_16
  refine st_step (B_s15 hB hs2) (by decide) _ _ fun i0 i1 i2 => ?_
  simp only [r_35, v846, v847, v851, View.readCov_eq_canon', (B_c5 hB), (B_c6 hB), (B_s15 hB hs2)]
  pointwise [k0_pay236, k0_pay237]
  try simp only [Nat.zero_add, Nat.add_zero, Nat.mul_zero, Nat.reduceMul, Nat.reduceAdd, Nat.reduceSub, Nat.reduceDiv]
  exact St_close (by omega)

theorem B_s17 (hs2 : ∀ y, xs2 y = St a b (y 0).val (y 1).val (y 2).val (8 * q)) : View.canon (HS2_17 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (17 + 3 - (y 0).val) / 4) := by
  unfold HS2_17
  refine st_step (B_s16 hB hs2) (by decide) _ _ fun i0 i1 i2 => ?_
  simp only [v861, v862, v866, View.readCov_eq_canon', (B_c5 hB), (B_c6 hB), (B_s16 hB hs2)]
  pointwise [k0_pay240, k0_pay239]
  try simp only [Nat.zero_add, Nat.add_zero, Nat.mul_zero, Nat.reduceMul, Nat.reduceAdd, Nat.reduceSub, Nat.reduceDiv]
  exact St_close (by omega)

theorem B_s18 (hs2 : ∀ y, xs2 y = St a b (y 0).val (y 1).val (y 2).val (8 * q)) : View.canon (HS2_18 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (18 + 3 - (y 0).val) / 4) := by
  unfold HS2_18
  refine st_step (B_s17 hB hs2) (by decide) _ _ fun i0 i1 i2 => ?_
  simp only [r_36, v876, v877, v881, View.readCov_eq_canon', (B_c5 hB), (B_c6 hB), (B_s17 hB hs2)]
  pointwise [k0_pay242, k0_pay243]
  try simp only [Nat.zero_add, Nat.add_zero, Nat.mul_zero, Nat.reduceMul, Nat.reduceAdd, Nat.reduceSub, Nat.reduceDiv]
  exact St_close (by omega)

theorem B_s19 (hs2 : ∀ y, xs2 y = St a b (y 0).val (y 1).val (y 2).val (8 * q)) : View.canon (HS2_19 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (19 + 3 - (y 0).val) / 4) := by
  unfold HS2_19
  refine st_step (B_s18 hB hs2) (by decide) _ _ fun i0 i1 i2 => ?_
  simp only [v891, v892, v896, View.readCov_eq_canon', (B_c5 hB), (B_c6 hB), (B_s18 hB hs2)]
  pointwise [k0_pay246, k0_pay245]
  try simp only [Nat.zero_add, Nat.add_zero, Nat.mul_zero, Nat.reduceMul, Nat.reduceAdd, Nat.reduceSub, Nat.reduceDiv]
  exact St_close (by omega)

theorem B_s20 (hs2 : ∀ y, xs2 y = St a b (y 0).val (y 1).val (y 2).val (8 * q)) : View.canon (HS2_20 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (20 + 3 - (y 0).val) / 4) := by
  unfold HS2_20
  refine st_step (B_s19 hB hs2) (by decide) _ _ fun i0 i1 i2 => ?_
  simp only [r_37, v906, v907, v911, View.readCov_eq_canon', (B_c5 hB), (B_c6 hB), (B_s19 hB hs2)]
  pointwise [k0_pay248, k0_pay249]
  try simp only [Nat.zero_add, Nat.add_zero, Nat.mul_zero, Nat.reduceMul, Nat.reduceAdd, Nat.reduceSub, Nat.reduceDiv]
  exact St_close (by omega)

theorem B_s21 (hs2 : ∀ y, xs2 y = St a b (y 0).val (y 1).val (y 2).val (8 * q)) : View.canon (HS2_21 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (21 + 3 - (y 0).val) / 4) := by
  unfold HS2_21
  refine st_step (B_s20 hB hs2) (by decide) _ _ fun i0 i1 i2 => ?_
  simp only [v921, v922, v926, View.readCov_eq_canon', (B_c5 hB), (B_c6 hB), (B_s20 hB hs2)]
  pointwise [k0_pay252, k0_pay251]
  try simp only [Nat.zero_add, Nat.add_zero, Nat.mul_zero, Nat.reduceMul, Nat.reduceAdd, Nat.reduceSub, Nat.reduceDiv]
  exact St_close (by omega)

theorem B_s22 (hs2 : ∀ y, xs2 y = St a b (y 0).val (y 1).val (y 2).val (8 * q)) : View.canon (HS2_22 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (22 + 3 - (y 0).val) / 4) := by
  unfold HS2_22
  refine st_step (B_s21 hB hs2) (by decide) _ _ fun i0 i1 i2 => ?_
  simp only [r_38, v936, v937, v941, View.readCov_eq_canon', (B_c5 hB), (B_c6 hB), (B_s21 hB hs2)]
  pointwise [k0_pay254, k0_pay256, k0_pay255]
  try simp only [Nat.zero_add, Nat.add_zero, Nat.mul_zero, Nat.reduceMul, Nat.reduceAdd, Nat.reduceSub, Nat.reduceDiv]
  exact St_close (by omega)

theorem B_s23 (hs2 : ∀ y, xs2 y = St a b (y 0).val (y 1).val (y 2).val (8 * q)) : View.canon (HS2_23 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (23 + 3 - (y 0).val) / 4) := by
  unfold HS2_23
  refine st_step (B_s22 hB hs2) (by decide) _ _ fun i0 i1 i2 => ?_
  simp only [v951, v952, v956, View.readCov_eq_canon', (B_c5 hB), (B_c6 hB), (B_s22 hB hs2)]
  pointwise [k0_pay259, k0_pay258]
  try simp only [Nat.zero_add, Nat.add_zero, Nat.mul_zero, Nat.reduceMul, Nat.reduceAdd, Nat.reduceSub, Nat.reduceDiv]
  exact St_close (by omega)

theorem B_s24 (hs2 : ∀ y, xs2 y = St a b (y 0).val (y 1).val (y 2).val (8 * q)) : View.canon (HS2_24 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (24 + 3 - (y 0).val) / 4) := by
  unfold HS2_24
  refine st_step (B_s23 hB hs2) (by decide) _ _ fun i0 i1 i2 => ?_
  simp only [r_39, v966, v967, v971, View.readCov_eq_canon', (B_c5 hB), (B_c6 hB), (B_s23 hB hs2)]
  pointwise [k0_pay261, k0_pay263, k0_pay262]
  try simp only [Nat.zero_add, Nat.add_zero, Nat.mul_zero, Nat.reduceMul, Nat.reduceAdd, Nat.reduceSub, Nat.reduceDiv]
  exact St_close (by omega)

theorem B_s25 (hs2 : ∀ y, xs2 y = St a b (y 0).val (y 1).val (y 2).val (8 * q)) : View.canon (HS2_25 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (25 + 3 - (y 0).val) / 4) := by
  unfold HS2_25
  refine st_step (B_s24 hB hs2) (by decide) _ _ fun i0 i1 i2 => ?_
  simp only [v981, v982, v986, View.readCov_eq_canon', (B_c5 hB), (B_c6 hB), (B_s24 hB hs2)]
  pointwise [k0_pay266, k0_pay265]
  try simp only [Nat.zero_add, Nat.add_zero, Nat.mul_zero, Nat.reduceMul, Nat.reduceAdd, Nat.reduceSub, Nat.reduceDiv]
  exact St_close (by omega)

theorem B_s26 (hs2 : ∀ y, xs2 y = St a b (y 0).val (y 1).val (y 2).val (8 * q)) : View.canon (HS2_26 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (26 + 3 - (y 0).val) / 4) := by
  unfold HS2_26
  refine st_step (B_s25 hB hs2) (by decide) _ _ fun i0 i1 i2 => ?_
  simp only [r_40, v996, v997, v1001, View.readCov_eq_canon', (B_c5 hB), (B_c6 hB), (B_s25 hB hs2)]
  pointwise [k0_pay268, k0_pay270, k0_pay269]
  try simp only [Nat.zero_add, Nat.add_zero, Nat.mul_zero, Nat.reduceMul, Nat.reduceAdd, Nat.reduceSub, Nat.reduceDiv]
  exact St_close (by omega)

theorem B_s27 (hs2 : ∀ y, xs2 y = St a b (y 0).val (y 1).val (y 2).val (8 * q)) : View.canon (HS2_27 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (27 + 3 - (y 0).val) / 4) := by
  unfold HS2_27
  refine st_step (B_s26 hB hs2) (by decide) _ _ fun i0 i1 i2 => ?_
  simp only [v1011, v1012, v1016, View.readCov_eq_canon', (B_c5 hB), (B_c6 hB), (B_s26 hB hs2)]
  pointwise [k0_pay273, k0_pay272]
  try simp only [Nat.zero_add, Nat.add_zero, Nat.mul_zero, Nat.reduceMul, Nat.reduceAdd, Nat.reduceSub, Nat.reduceDiv]
  exact St_close (by omega)

theorem B_s28 (hs2 : ∀ y, xs2 y = St a b (y 0).val (y 1).val (y 2).val (8 * q)) : View.canon (HS2_28 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (28 + 3 - (y 0).val) / 4) := by
  unfold HS2_28
  refine st_step (B_s27 hB hs2) (by decide) _ _ fun i0 i1 i2 => ?_
  simp only [v1026, r_41, v1027, v1031, View.readCov_eq_canon', (B_c5 hB), (B_c6 hB), (B_s27 hB hs2)]
  pointwise [k0_pay275, k0_pay277, k0_pay276]
  try simp only [Nat.zero_add, Nat.add_zero, Nat.mul_zero, Nat.reduceMul, Nat.reduceAdd, Nat.reduceSub, Nat.reduceDiv]
  exact St_close (by omega)

theorem B_s29 (hs2 : ∀ y, xs2 y = St a b (y 0).val (y 1).val (y 2).val (8 * q)) : View.canon (HS2_29 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (29 + 3 - (y 0).val) / 4) := by
  unfold HS2_29
  refine st_step (B_s28 hB hs2) (by decide) _ _ fun i0 i1 i2 => ?_
  simp only [v1041, v1042, v1046, View.readCov_eq_canon', (B_c5 hB), (B_c6 hB), (B_s28 hB hs2)]
  pointwise [k0_pay280, k0_pay279]
  try simp only [Nat.zero_add, Nat.add_zero, Nat.mul_zero, Nat.reduceMul, Nat.reduceAdd, Nat.reduceSub, Nat.reduceDiv]
  exact St_close (by omega)

theorem B_s30 (hs2 : ∀ y, xs2 y = St a b (y 0).val (y 1).val (y 2).val (8 * q)) : View.canon (HS2_30 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (30 + 3 - (y 0).val) / 4) := by
  unfold HS2_30
  refine st_step (B_s29 hB hs2) (by decide) _ _ fun i0 i1 i2 => ?_
  simp only [v1056, v1057, v1061, View.readCov_eq_canon', (B_c5 hB), (B_c6 hB), (B_s29 hB hs2)]
  pointwise [k0_pay283, k0_pay282]
  try simp only [Nat.zero_add, Nat.add_zero, Nat.mul_zero, Nat.reduceMul, Nat.reduceAdd, Nat.reduceSub, Nat.reduceDiv]
  exact St_close (by omega)

theorem B_s31 (hs2 : ∀ y, xs2 y = St a b (y 0).val (y 1).val (y 2).val (8 * q)) : View.canon (HS2_31 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (31 + 3 - (y 0).val) / 4) := by
  unfold HS2_31
  refine st_step (B_s30 hB hs2) (by decide) _ _ fun i0 i1 i2 => ?_
  simp only [v1071, v1072, v1076, View.readCov_eq_canon', (B_c5 hB), (B_c6 hB), (B_s30 hB hs2)]
  pointwise [k0_pay286, k0_pay285]
  try simp only [Nat.zero_add, Nat.add_zero, Nat.mul_zero, Nat.reduceMul, Nat.reduceAdd, Nat.reduceSub, Nat.reduceDiv]
  exact St_close (by omega)

end Cert.Mix
end
-- ==== Proof.B4.lean ====
/- The states the queries read. -/
module

public import proofs.«01_k».proof.Proof.B3

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg32 : Memref sig .tc .vmem S4x128x256 .f32}
  {arg33 : Memref sig .tc .vmem S512x2560 .f32}
  {arg36 : Memref sig .tc .vmem S32x128x256 .f32}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
  {xs2 : Vec Ideal S4x128x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole} {harg32 : arg32.IsWhole}
theorem B_c7 (hB : Blk a b q x0 x1 x2 x3 x4 x5 x6 x7 x8 x9 x10 x11 x12 x13 x14 x15 x16 x17 x18 x19 x20 x21 x22 x23 x24 x25 x26) (hs2 : ∀ y, xs2 y = St a b (y 0).val (y 1).val (y 2).val (8 * q)) : View.canon (HS7_32 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b ((y 0).val % 4) (y 1).val (y 2).val (8 * q + ((y 0).val / 4 + 1)) := by
  refine canon_of ?_ (View.cover_of_tiledL _ S1x128x256.size (by sl_kernel_rfl))
  unfold HS7_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb3 (fun p k v => St a b (p % 4) k v (8 * q + (p / 4 + 1))) _ i0 i1 i2).symm
    simp only [v1086, v1087, v1091, View.readCov_eq_canon', (B_c5 hB), (B_c6 hB), (B_s31 hB hs2)]
    pointwise [k0_pay290, k0_pay288]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1071, v1072, v1076, View.readCov_eq_canon', (B_c5 hB), (B_c6 hB), (B_s30 hB hs2)]
    pointwise [k0_pay287, k0_pay285]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1056, v1057, v1061, View.readCov_eq_canon', (B_c5 hB), (B_c6 hB), (B_s29 hB hs2)]
    pointwise [k0_pay284, k0_pay282]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1041, v1042, v1046, View.readCov_eq_canon', (B_c5 hB), (B_c6 hB), (B_s28 hB hs2)]
    pointwise [k0_pay281, k0_pay279]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1026, r_41, v1027, v1031, View.readCov_eq_canon', (B_c5 hB), (B_c6 hB), (B_s27 hB hs2)]
    pointwise [k0_pay275, k0_pay278, k0_pay276]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v1011, v1012, v1016, View.readCov_eq_canon', (B_c5 hB), (B_c6 hB), (B_s26 hB hs2)]
    pointwise [k0_pay274, k0_pay272]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_40, v996, v997, v1001, View.readCov_eq_canon', (B_c5 hB), (B_c6 hB), (B_s25 hB hs2)]
    pointwise [k0_pay268, k0_pay271, k0_pay269]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v981, v982, v986, View.readCov_eq_canon', (B_c5 hB), (B_c6 hB), (B_s24 hB hs2)]
    pointwise [k0_pay267, k0_pay265]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_39, v966, v967, v971, View.readCov_eq_canon', (B_c5 hB), (B_c6 hB), (B_s23 hB hs2)]
    pointwise [k0_pay261, k0_pay264, k0_pay262]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v951, v952, v956, View.readCov_eq_canon', (B_c5 hB), (B_c6 hB), (B_s22 hB hs2)]
    pointwise [k0_pay260, k0_pay258]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_38, v936, v937, v941, View.readCov_eq_canon', (B_c5 hB), (B_c6 hB), (B_s21 hB hs2)]
    pointwise [k0_pay254, k0_pay257, k0_pay255]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v921, v922, v926, View.readCov_eq_canon', (B_c5 hB), (B_c6 hB), (B_s20 hB hs2)]
    pointwise [k0_pay253, k0_pay251]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_37, v906, v907, v911, View.readCov_eq_canon', (B_c5 hB), (B_c6 hB), (B_s19 hB hs2)]
    pointwise [k0_pay248, k0_pay250]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v891, v892, v896, View.readCov_eq_canon', (B_c5 hB), (B_c6 hB), (B_s18 hB hs2)]
    pointwise [k0_pay247, k0_pay245]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_36, v876, v877, v881, View.readCov_eq_canon', (B_c5 hB), (B_c6 hB), (B_s17 hB hs2)]
    pointwise [k0_pay242, k0_pay244]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v861, v862, v866, View.readCov_eq_canon', (B_c5 hB), (B_c6 hB), (B_s16 hB hs2)]
    pointwise [k0_pay241, k0_pay239]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_35, v846, v847, v851, View.readCov_eq_canon', (B_c5 hB), (B_c6 hB), (B_s15 hB hs2)]
    pointwise [k0_pay236, k0_pay238]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v831, v832, v836, View.readCov_eq_canon', (B_c5 hB), (B_c6 hB), (B_s14 hB hs2)]
    pointwise [k0_pay235, k0_pay233]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_33, v816, v817, v821, View.readCov_eq_canon', (B_c5 hB), (B_c6 hB), (B_s13 hB hs2)]
    pointwise [k0_pay230, k0_pay232]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v801, v802, v806, View.readCov_eq_canon', (B_c5 hB), (B_c6 hB), (B_s12 hB hs2)]
    pointwise [k0_pay229, k0_pay227]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_32, v786, v787, v791, View.readCov_eq_canon', (B_c5 hB), (B_c6 hB), (B_s11 hB hs2)]
    pointwise [k0_pay225, k0_pay223, k0_pay226]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v771, v772, v776, View.readCov_eq_canon', (B_c5 hB), (B_c6 hB), (B_s10 hB hs2)]
    pointwise [k0_pay222, k0_pay220]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_31, v756, v757, v761, View.readCov_eq_canon', (B_c5 hB), (B_c6 hB), (B_s9 hB hs2)]
    pointwise [k0_pay218, k0_pay216, k0_pay219]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v741, v742, v746, View.readCov_eq_canon', (B_c5 hB), (B_c6 hB), (B_s8 hB hs2)]
    pointwise [k0_pay215, k0_pay213]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_30, v726, v727, v731, View.readCov_eq_canon', (B_c5 hB), (B_c6 hB), (B_s7 hB hs2)]
    pointwise [k0_pay211, k0_pay209, k0_pay212]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v711, v712, v716, View.readCov_eq_canon', (B_c5 hB), (B_c6 hB), (B_s6 hB hs2)]
    pointwise [k0_pay208, k0_pay206]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [r_29, v696, v697, v701, View.readCov_eq_canon', (B_c5 hB), (B_c6 hB), (B_s5 hB hs2)]
    pointwise [k0_pay205, k0_pay203]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    simp only [v681, v682, v686, View.readCov_eq_canon', (B_c5 hB), (B_c6 hB), (B_s4 hB hs2)]
    pointwise [k0_pay202, k0_pay200]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    have hp : xs2 = _ := funext hs2
    simp only [v666, v667, v671, View.readCov_eq_canon', (B_c5 hB), (B_c6 hB), ldu, hp]
    pointwise [k0_pay199, k0_pay197]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    have hp : xs2 = _ := funext hs2
    simp only [kernelRun0_B.sl.v, v652, v656, View.readCov_eq_canon', (B_c5 hB), (B_c6 hB), ldu, hp]
    pointwise [k0_pay196, k0_pay194]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    have hp : xs2 = _ := funext hs2
    simp only [v636, v637, v641, View.readCov_eq_canon', (B_c5 hB), (B_c6 hB), ldu, hp]
    pointwise [k0_pay193, k0_pay191]
    try simp only [Nat.zero_add, Nat.add_zero, Nat.mul_zero, Nat.reduceMul, Nat.reduceAdd, Nat.reduceSub, Nat.reduceDiv]
    exact St_close (by omega)
  · intro i
    idx_vars i
    refine Eq.trans ?_ (emb3 (fun p k v => St a b (p % 4) k v (8 * q + (p / 4 + 1))) _ i0 i1 i2).symm
    have hp : xs2 = _ := funext hs2
    simp only [v621, v626, View.readCov_eq_canon', (B_c5 hB), (B_c6 hB), ldu, hp]
    pointwise [k0_pay190, k0_pay188]
    try simp only [Nat.zero_add, Nat.add_zero, Nat.mul_zero, Nat.reduceMul, Nat.reduceAdd, Nat.reduceSub, Nat.reduceDiv]
    exact St_close (by omega)

end Cert.Mix
end
-- ==== Proof.B6.lean ====
/- The heads' outputs of a tile. -/
module

public import proofs.«01_k».proof.Proof.B4
public import proofs.«01_k».proof.Proof.Base2

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 : Memref sig .tc .vmem S512x1024 .f32}
  {arg5 : Memref sig .tc .vmem S1024x512 .bf16}
  {arg6 : Memref sig .tc .vmem S1x512 .f32}
  {arg7 : Memref sig .tc .vmem S1024x2048 .bf16}
  {arg8 : Memref sig .tc .vmem S1x2048 .f32}
  {arg9 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg21 : Memref sig .tc .vmem S512x128 .bf16}
  {arg23 : Memref sig .tc .vmem S4x256 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
  {xs2 : Vec Ideal S4x128x256 .f32}
variable {harg2 : arg2.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg21 : arg21.IsWhole} {harg22 : arg22.IsWhole} {harg23 : arg23.IsWhole} {harg32 : arg32.IsWhole}
theorem B_c8 (hB : Blk a b q x0 x1 x2 x3 x4 x5 x6 x7 x8 x9 x10 x11 x12 x13 x14 x15 x16 x17 x18 x19 x20 x21 x22 x23 x24 x25 x26) (hs2 : ∀ y, xs2 y = St a b (y 0).val (y 1).val (y 2).val (8 * q)) : View.canon (HS8_32 c arg2 harg2 arg5 harg5 arg6 harg6 arg7 harg7 arg8 harg8 arg9 harg9 arg10 harg10 arg11 harg11 arg12 harg12 arg21 harg21 arg22 harg22 arg23 harg23 arg32 harg32 arg33 arg34 arg35 arg36 arg37 x0 x3 x4 x5 x6 x7 x8 x9 x10 x19 x20 x21 xs2) = fun y => Og a b (512 * q + (y 0).val) ((y 1).val / 256) ((y 1).val % 256) := by
  refine canon_of ?_ (View.cover_of_tiledL _ S64x256.size (by sl_kernel_rfl))
  have hx : x21 = fun y => a.Ng (y 0).val (y 1).val := funext fun y => by idx_vars y; exact hB.h21 _ _
  unfold HS8_32
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro i
    idx_vars i
    refine Eq.trans ?_ (emb2 (fun r l => Og a b (512 * q + r) (l / 256) (l % 256)) _ i0 i1).symm
    simp only [r_19, v230, v1908, v1925, View.readCov_eq_canon', ldu, (B_c3 hB), (B_c7 hB hs2), hx]
    pointwise [k0_pay144, k0_pay353]
    simpa only [Nat.zero_add, Nat.add_zero, Nat.mul_zero, Nat.reduceMul, Nat.reduceAdd, Nat.reduceMod, Nat.reduceDiv] using
      og_close a b q 7 3 (by decide) (by decide) i0 i1
  · intro i
    idx_vars i
    refine Eq.trans ?_ (emb2 (fun r l => Og a b (512 * q + r) (l / 256) (l % 256)) _ i0 i1).symm
    simp only [r_72, r_19, v230, v1882, v1899, View.readCov_eq_canon', ldu, (B_c3 hB), (B_c7 hB hs2), hx]
    pointwise [k0_pay144, k0_pay351, k0_pay352]
    simpa only [Nat.zero_add, Nat.add_zero, Nat.mul_zero, Nat.reduceMul, Nat.reduceAdd, Nat.reduceMod, Nat.reduceDiv] using
      og_close a b q 7 2 (by decide) (by decide) i0 i1
  · intro i
    idx_vars i
    refine Eq.trans ?_ (emb2 (fun r l => Og a b (512 * q + r) (l / 256) (l % 256)) _ i0 i1).symm
    simp only [r_70, r_19, v230, v1856, r_71, cst_891, v1873, View.readCov_eq_canon', ldu, (B_c3 hB), (B_c7 hB hs2), hx]
    pointwise [k0_pay144, k0_pay348, k0_pay349, k0_pay350]
    simpa only [Nat.zero_add, Nat.add_zero, Nat.mul_zero, Nat.reduceMul, Nat.reduceAdd, Nat.reduceMod, Nat.reduceDiv] using
      og_close a b q 7 1 (by decide) (by decide) i0 i1
  · intro i
    idx_vars i
    refine Eq.trans ?_ (emb2 (fun r l => Og a b (512 * q + r) (l / 256) (l % 256)) _ i0 i1).symm
    simp only [r_19, v230, v1830, v1847, View.readCov_eq_canon', ldu, (B_c3 hB), (B_c7 hB hs2), hx]
    pointwise [k0_pay144, k0_pay347]
    simpa only [Nat.zero_add, Nat.add_zero, Nat.mul_zero, Nat.reduceMul, Nat.reduceAdd, Nat.reduceMod, Nat.reduceDiv] using
      og_close a b q 7 0 (by decide) (by decide) i0 i1
  · intro i
    idx_vars i
    refine Eq.trans ?_ (emb2 (fun r l => Og a b (512 * q + r) (l / 256) (l % 256)) _ i0 i1).symm
    simp only [r_69, r_19, v230, v1804, v1821, View.readCov_eq_canon', ldu, (B_c3 hB), (B_c7 hB hs2), hx]
    pointwise [k0_pay144, k0_pay345, k0_pay346]
    simpa only [Nat.zero_add, Nat.add_zero, Nat.mul_zero, Nat.reduceMul, Nat.reduceAdd, Nat.reduceMod, Nat.reduceDiv] using
      og_close a b q 6 3 (by decide) (by decide) i0 i1
  · intro i
    idx_vars i
    refine Eq.trans ?_ (emb2 (fun r l => Og a b (512 * q + r) (l / 256) (l % 256)) _ i0 i1).symm
    simp only [r_67, r_19, v230, v1778, r_68, cst_891, v1795, View.readCov_eq_canon', ldu, (B_c3 hB), (B_c7 hB hs2), hx]
    pointwise [k0_pay144, k0_pay342, k0_pay343, k0_pay344]
    simpa only [Nat.zero_add, Nat.add_zero, Nat.mul_zero, Nat.reduceMul, Nat.reduceAdd, Nat.reduceMod, Nat.reduceDiv] using
      og_close a b q 6 2 (by decide) (by decide) i0 i1
  · intro i
    idx_vars i
    refine Eq.trans ?_ (emb2 (fun r l => Og a b (512 * q + r) (l / 256) (l % 256)) _ i0 i1).symm
    simp only [r_19, v230, v1752, v1769, View.readCov_eq_canon', ldu, (B_c3 hB), (B_c7 hB hs2), hx]
    pointwise [k0_pay144, k0_pay341]
    simpa only [Nat.zero_add, Nat.add_zero, Nat.mul_zero, Nat.reduceMul, Nat.reduceAdd, Nat.reduceMod, Nat.reduceDiv] using
      og_close a b q 6 1 (by decide) (by decide) i0 i1
  · intro i
    idx_vars i
    refine Eq.trans ?_ (emb2 (fun r l => Og a b (512 * q + r) (l / 256) (l % 256)) _ i0 i1).symm
    simp only [r_66, r_19, v230, v1726, v1743, View.readCov_eq_canon', ldu, (B_c3 hB), (B_c7 hB hs2), hx]
    pointwise [k0_pay144, k0_pay339, k0_pay340]
    simpa only [Nat.zero_add, Nat.add_zero, Nat.mul_zero, Nat.reduceMul, Nat.reduceAdd, Nat.reduceMod, Nat.reduceDiv] using
      og_close a b q 6 0 (by decide) (by decide) i0 i1
  · intro i
    idx_vars i
    refine Eq.trans ?_ (emb2 (fun r l => Og a b (512 * q + r) (l / 256) (l % 256)) _ i0 i1).symm
    simp only [r_64, r_19, v230, v1700, r_65, cst_891, v1717, View.readCov_eq_canon', ldu, (B_c3 hB), (B_c7 hB hs2), hx]
    pointwise [k0_pay144, k0_pay336, k0_pay337, k0_pay338]
    simpa only [Nat.zero_add, Nat.add_zero, Nat.mul_zero, Nat.reduceMul, Nat.reduceAdd, Nat.reduceMod, Nat.reduceDiv] using
      og_close a b q 5 3 (by decide) (by decide) i0 i1
  · intro i
    idx_vars i
    refine Eq.trans ?_ (emb2 (fun r l => Og a b (512 * q + r) (l / 256) (l % 256)) _ i0 i1).symm
    simp only [r_19, v230, v1674, v1691, View.readCov_eq_canon', ldu, (B_c3 hB), (B_c7 hB hs2), hx]
    pointwise [k0_pay144, k0_pay335]
    simpa only [Nat.zero_add, Nat.add_zero, Nat.mul_zero, Nat.reduceMul, Nat.reduceAdd, Nat.reduceMod, Nat.reduceDiv] using
      og_close a b q 5 2 (by decide) (by decide) i0 i1
  · intro i
    idx_vars i
    refine Eq.trans ?_ (emb2 (fun r l => Og a b (512 * q + r) (l / 256) (l % 256)) _ i0 i1).symm
    simp only [r_63, r_19, v230, v1648, v1665, View.readCov_eq_canon', ldu, (B_c3 hB), (B_c7 hB hs2), hx]
    pointwise [k0_pay144, k0_pay333, k0_pay334]
    simpa only [Nat.zero_add, Nat.add_zero, Nat.mul_zero, Nat.reduceMul, Nat.reduceAdd, Nat.reduceMod, Nat.reduceDiv] using
      og_close a b q 5 1 (by decide) (by decide) i0 i1
  · intro i
    idx_vars i
    refine Eq.trans ?_ (emb2 (fun r l => Og a b (512 * q + r) (l / 256) (l % 256)) _ i0 i1).symm
    simp only [r_61, r_19, v230, v1622, r_62, cst_891, v1639, View.readCov_eq_canon', ldu, (B_c3 hB), (B_c7 hB hs2), hx]
    pointwise [k0_pay144, k0_pay330, k0_pay331, k0_pay332]
    simpa only [Nat.zero_add, Nat.add_zero, Nat.mul_zero, Nat.reduceMul, Nat.reduceAdd, Nat.reduceMod, Nat.reduceDiv] using
      og_close a b q 5 0 (by decide) (by decide) i0 i1
  · intro i
    idx_vars i
    refine Eq.trans ?_ (emb2 (fun r l => Og a b (512 * q + r) (l / 256) (l % 256)) _ i0 i1).symm
    simp only [r_19, v230, v1596, v1613, View.readCov_eq_canon', ldu, (B_c3 hB), (B_c7 hB hs2), hx]
    pointwise [k0_pay144, k0_pay329]
    simpa only [Nat.zero_add, Nat.add_zero, Nat.mul_zero, Nat.reduceMul, Nat.reduceAdd, Nat.reduceMod, Nat.reduceDiv] using
      og_close a b q 4 3 (by decide) (by decide) i0 i1
  · intro i
    idx_vars i
    refine Eq.trans ?_ (emb2 (fun r l => Og a b (512 * q + r) (l / 256) (l % 256)) _ i0 i1).symm
    simp only [r_60, r_19, v230, v1570, v1587, View.readCov_eq_canon', ldu, (B_c3 hB), (B_c7 hB hs2), hx]
    pointwise [k0_pay144, k0_pay327, k0_pay328]
    simpa only [Nat.zero_add, Nat.add_zero, Nat.mul_zero, Nat.reduceMul, Nat.reduceAdd, Nat.reduceMod, Nat.reduceDiv] using
      og_close a b q 4 2 (by decide) (by decide) i0 i1
  · intro i
    idx_vars i
    refine Eq.trans ?_ (emb2 (fun r l => Og a b (512 * q + r) (l / 256) (l % 256)) _ i0 i1).symm
    simp only [r_58, r_19, v230, v1544, r_59, cst_891, v1561, View.readCov_eq_canon', ldu, (B_c3 hB), (B_c7 hB hs2), hx]
    pointwise [k0_pay144, k0_pay324, k0_pay325, k0_pay326]
    simpa only [Nat.zero_add, Nat.add_zero, Nat.mul_zero, Nat.reduceMul, Nat.reduceAdd, Nat.reduceMod, Nat.reduceDiv] using
      og_close a b q 4 1 (by decide) (by decide) i0 i1
  · intro i
    idx_vars i
    refine Eq.trans ?_ (emb2 (fun r l => Og a b (512 * q + r) (l / 256) (l % 256)) _ i0 i1).symm
    simp only [r_19, v230, v1518, v1535, View.readCov_eq_canon', ldu, (B_c3 hB), (B_c7 hB hs2), hx]
    pointwise [k0_pay144, k0_pay323]
    simpa only [Nat.zero_add, Nat.add_zero, Nat.mul_zero, Nat.reduceMul, Nat.reduceAdd, Nat.reduceMod, Nat.reduceDiv] using
      og_close a b q 4 0 (by decide) (by decide) i0 i1
  · intro i
    idx_vars i
    refine Eq.trans ?_ (emb2 (fun r l => Og a b (512 * q + r) (l / 256) (l % 256)) _ i0 i1).symm
    simp only [r_57, r_19, v230, v1492, v1509, View.readCov_eq_canon', ldu, (B_c3 hB), (B_c7 hB hs2), hx]
    pointwise [k0_pay144, k0_pay321, k0_pay322]
    simpa only [Nat.zero_add, Nat.add_zero, Nat.mul_zero, Nat.reduceMul, Nat.reduceAdd, Nat.reduceMod, Nat.reduceDiv] using
      og_close a b q 3 3 (by decide) (by decide) i0 i1
  · intro i
    idx_vars i
    refine Eq.trans ?_ (emb2 (fun r l => Og a b (512 * q + r) (l / 256) (l % 256)) _ i0 i1).symm
    simp only [r_55, r_19, v230, v1466, r_56, cst_891, v1483, View.readCov_eq_canon', ldu, (B_c3 hB), (B_c7 hB hs2), hx]
    pointwise [k0_pay144, k0_pay318, k0_pay319, k0_pay320]
    simpa only [Nat.zero_add, Nat.add_zero, Nat.mul_zero, Nat.reduceMul, Nat.reduceAdd, Nat.reduceMod, Nat.reduceDiv] using
      og_close a b q 3 2 (by decide) (by decide) i0 i1
  · intro i
    idx_vars i
    refine Eq.trans ?_ (emb2 (fun r l => Og a b (512 * q + r) (l / 256) (l % 256)) _ i0 i1).symm
    simp only [r_19, v230, v1440, v1457, View.readCov_eq_canon', ldu, (B_c3 hB), (B_c7 hB hs2), hx]
    pointwise [k0_pay144, k0_pay317]
    simpa only [Nat.zero_add, Nat.add_zero, Nat.mul_zero, Nat.reduceMul, Nat.reduceAdd, Nat.reduceMod, Nat.reduceDiv] using
      og_close a b q 3 1 (by decide) (by decide) i0 i1
  · intro i
    idx_vars i
    refine Eq.trans ?_ (emb2 (fun r l => Og a b (512 * q + r) (l / 256) (l % 256)) _ i0 i1).symm
    simp only [r_54, r_19, v230, v1414, v1431, View.readCov_eq_canon', ldu, (B_c3 hB), (B_c7 hB hs2), hx]
    pointwise [k0_pay144, k0_pay315, k0_pay316]
    simpa only [Nat.zero_add, Nat.add_zero, Nat.mul_zero, Nat.reduceMul, Nat.reduceAdd, Nat.reduceMod, Nat.reduceDiv] using
      og_close a b q 3 0 (by decide) (by decide) i0 i1
  · intro i
    idx_vars i
    refine Eq.trans ?_ (emb2 (fun r l => Og a b (512 * q + r) (l / 256) (l % 256)) _ i0 i1).symm
    simp only [r_52, r_19, v230, v1388, r_53, cst_891, v1405, View.readCov_eq_canon', ldu, (B_c3 hB), (B_c7 hB hs2), hx]
    pointwise [k0_pay144, k0_pay312, k0_pay313, k0_pay314]
    simpa only [Nat.zero_add, Nat.add_zero, Nat.mul_zero, Nat.reduceMul, Nat.reduceAdd, Nat.reduceMod, Nat.reduceDiv] using
      og_close a b q 2 3 (by decide) (by decide) i0 i1
  · intro i
    idx_vars i
    refine Eq.trans ?_ (emb2 (fun r l => Og a b (512 * q + r) (l / 256) (l % 256)) _ i0 i1).symm
    simp only [r_19, v230, v1362, v1379, View.readCov_eq_canon', ldu, (B_c3 hB), (B_c7 hB hs2), hx]
    pointwise [k0_pay144, k0_pay311]
    simpa only [Nat.zero_add, Nat.add_zero, Nat.mul_zero, Nat.reduceMul, Nat.reduceAdd, Nat.reduceMod, Nat.reduceDiv] using
      og_close a b q 2 2 (by decide) (by decide) i0 i1
  · intro i
    idx_vars i
    refine Eq.trans ?_ (emb2 (fun r l => Og a b (512 * q + r) (l / 256) (l % 256)) _ i0 i1).symm
    simp only [r_51, r_19, v230, v1336, v1353, View.readCov_eq_canon', ldu, (B_c3 hB), (B_c7 hB hs2), hx]
    pointwise [k0_pay144, k0_pay309, k0_pay310]
    simpa only [Nat.zero_add, Nat.add_zero, Nat.mul_zero, Nat.reduceMul, Nat.reduceAdd, Nat.reduceMod, Nat.reduceDiv] using
      og_close a b q 2 1 (by decide) (by decide) i0 i1
  · intro i
    idx_vars i
    refine Eq.trans ?_ (emb2 (fun r l => Og a b (512 * q + r) (l / 256) (l % 256)) _ i0 i1).symm
    simp only [r_49, r_19, v230, v1310, r_50, cst_891, v1327, View.readCov_eq_canon', ldu, (B_c3 hB), (B_c7 hB hs2), hx]
    pointwise [k0_pay144, k0_pay306, k0_pay307, k0_pay308]
    simpa only [Nat.zero_add, Nat.add_zero, Nat.mul_zero, Nat.reduceMul, Nat.reduceAdd, Nat.reduceMod, Nat.reduceDiv] using
      og_close a b q 2 0 (by decide) (by decide) i0 i1
  · intro i
    idx_vars i
    refine Eq.trans ?_ (emb2 (fun r l => Og a b (512 * q + r) (l / 256) (l % 256)) _ i0 i1).symm
    simp only [r_19, v230, v1284, v1301, View.readCov_eq_canon', ldu, (B_c3 hB), (B_c7 hB hs2), hx]
    pointwise [k0_pay144, k0_pay305]
    simpa only [Nat.zero_add, Nat.add_zero, Nat.mul_zero, Nat.reduceMul, Nat.reduceAdd, Nat.reduceMod, Nat.reduceDiv] using
      og_close a b q 1 3 (by decide) (by decide) i0 i1
  · intro i
    idx_vars i
    refine Eq.trans ?_ (emb2 (fun r l => Og a b (512 * q + r) (l / 256) (l % 256)) _ i0 i1).symm
    simp only [r_48, r_19, v230, v1258, v1275, View.readCov_eq_canon', ldu, (B_c3 hB), (B_c7 hB hs2), hx]
    pointwise [k0_pay144, k0_pay303, k0_pay304]
    simpa only [Nat.zero_add, Nat.add_zero, Nat.mul_zero, Nat.reduceMul, Nat.reduceAdd, Nat.reduceMod, Nat.reduceDiv] using
      og_close a b q 1 2 (by decide) (by decide) i0 i1
  · intro i
    idx_vars i
    refine Eq.trans ?_ (emb2 (fun r l => Og a b (512 * q + r) (l / 256) (l % 256)) _ i0 i1).symm
    simp only [r_46, r_19, v230, v1232, r_47, cst_891, v1249, View.readCov_eq_canon', ldu, (B_c3 hB), (B_c7 hB hs2), hx]
    pointwise [k0_pay144, k0_pay300, k0_pay301, k0_pay302]
    simpa only [Nat.zero_add, Nat.add_zero, Nat.mul_zero, Nat.reduceMul, Nat.reduceAdd, Nat.reduceMod, Nat.reduceDiv] using
      og_close a b q 1 1 (by decide) (by decide) i0 i1
  · intro i
    idx_vars i
    refine Eq.trans ?_ (emb2 (fun r l => Og a b (512 * q + r) (l / 256) (l % 256)) _ i0 i1).symm
    simp only [r_19, v230, v1206, v1223, View.readCov_eq_canon', ldu, (B_c3 hB), (B_c7 hB hs2), hx]
    pointwise [k0_pay144, k0_pay299]
    simpa only [Nat.zero_add, Nat.add_zero, Nat.mul_zero, Nat.reduceMul, Nat.reduceAdd, Nat.reduceMod, Nat.reduceDiv] using
      og_close a b q 1 0 (by decide) (by decide) i0 i1
  · intro i
    idx_vars i
    refine Eq.trans ?_ (emb2 (fun r l => Og a b (512 * q + r) (l / 256) (l % 256)) _ i0 i1).symm
    simp only [r_45, r_19, v230, v1180, v1197, View.readCov_eq_canon', ldu, (B_c3 hB), (B_c7 hB hs2), hx]
    pointwise [k0_pay144, k0_pay297, k0_pay298]
    simpa only [Nat.zero_add, Nat.add_zero, Nat.mul_zero, Nat.reduceMul, Nat.reduceAdd, Nat.reduceMod, Nat.reduceDiv] using
      og_close a b q 0 3 (by decide) (by decide) i0 i1
  · intro i
    idx_vars i
    refine Eq.trans ?_ (emb2 (fun r l => Og a b (512 * q + r) (l / 256) (l % 256)) _ i0 i1).symm
    simp only [r_43, r_19, v230, v1154, r_44, cst_891, v1171, View.readCov_eq_canon', ldu, (B_c3 hB), (B_c7 hB hs2), hx]
    pointwise [k0_pay144, k0_pay294, k0_pay295, k0_pay296]
    simpa only [Nat.zero_add, Nat.add_zero, Nat.mul_zero, Nat.reduceMul, Nat.reduceAdd, Nat.reduceMod, Nat.reduceDiv] using
      og_close a b q 0 2 (by decide) (by decide) i0 i1
  · intro i
    idx_vars i
    refine Eq.trans ?_ (emb2 (fun r l => Og a b (512 * q + r) (l / 256) (l % 256)) _ i0 i1).symm
    simp only [r_19, v230, v1128, v1145, View.readCov_eq_canon', ldu, (B_c3 hB), (B_c7 hB hs2), hx]
    pointwise [k0_pay144, k0_pay293]
    simpa only [Nat.zero_add, Nat.add_zero, Nat.mul_zero, Nat.reduceMul, Nat.reduceAdd, Nat.reduceMod, Nat.reduceDiv] using
      og_close a b q 0 1 (by decide) (by decide) i0 i1
  · intro i
    idx_vars i
    refine Eq.trans ?_ (emb2 (fun r l => Og a b (512 * q + r) (l / 256) (l % 256)) _ i0 i1).symm
    simp only [r_42, r_19, v230, v1102, v1119, View.readCov_eq_canon', ldu, (B_c3 hB), (B_c7 hB hs2), hx]
    pointwise [k0_pay144, k0_pay291, k0_pay292]
    simpa only [Nat.zero_add, Nat.add_zero, Nat.mul_zero, Nat.reduceMul, Nat.reduceAdd, Nat.reduceMod, Nat.reduceDiv] using
      og_close a b q 0 0 (by decide) (by decide) i0 i1

end Cert.Mix
end
-- ==== Proof.B7.lean ====
/- What one tile leaves: its rows of the result, the halo and the states. -/
module

public import proofs.«01_k».proof.Proof.B5
public import proofs.«01_k».proof.Proof.B6

@[expose] public section

set_option maxHeartbeats 4000000
set_option maxRecDepth 16384

noncomputable section

namespace Cert.Mix

open Idealize.ShloMosaic Idealize.ShloMosaic.TcCoe Idealize.SL.Sem
open Cert.KernelIdeal Cert.KernelIdeal.Gen Cert.KernelIdeal.Gen.kernelRun0_B.sl
variable {c : Dev nD} {i : grid0.Coords} {a : Args} {b q : ℕ}
  {arg2 arg29 arg39 arg40 : Memref sig .tc .vmem S512x1024 .f32}
  {arg3 arg7 arg13 : Memref sig .tc .vmem S1024x2048 .bf16}
  {arg4 arg8 arg14 : Memref sig .tc .vmem S1x2048 .f32}
  {arg5 : Memref sig .tc .vmem S1024x512 .bf16}
  {arg6 : Memref sig .tc .vmem S1x512 .f32}
  {arg9 arg38 : Memref sig .tc .vmem S512x1024 .bf16}
  {arg10 arg22 arg34 arg35 : Memref sig .tc .vmem S512x512 .f32}
  {arg11 : Memref sig .tc .vmem S1024x128 .bf16}
  {arg12 : Memref sig .tc .vmem S1x128 .f32}
  {arg15 : Memref sig .tc .vmem S8x32x128 .f32}
  {arg16 arg17 arg18 arg20 arg26 arg27 arg28 : Memref sig .tc .vmem S1x1024 .f32}
  {arg19 arg24 arg25 : Memref sig .tc .vmem S1024x1024 .bf16}
  {arg21 : Memref sig .tc .vmem S512x128 .bf16}
  {arg23 : Memref sig .tc .vmem S4x256 .f32}
  {arg30 : Memref sig .tc .vmem S8x544x128 .f32}
  {arg31 : Memref sig .tc .vmem S8x512x128 .f32}
  {arg32 : Memref sig .tc .vmem S4x128x256 .f32}
  {arg33 : Memref sig .tc .vmem S512x2560 .f32}
  {arg36 : Memref sig .tc .vmem S32x128x256 .f32}
  {arg37 : Memref sig .tc .vmem S32x128x256 .bf16}
  {x0 : Vec Ideal S512x1024 .f32}
  {x1 x5 x11 : Vec Ideal S1024x2048 .bf16}
  {x2 x6 x12 : Vec Ideal S1x2048 .f32}
  {x3 : Vec Ideal S1024x512 .bf16}
  {x4 : Vec Ideal S1x512 .f32}
  {x7 : Vec Ideal S512x1024 .bf16}
  {x8 x20 : Vec Ideal S512x512 .f32}
  {x9 : Vec Ideal S1024x128 .bf16}
  {x10 : Vec Ideal S1x128 .f32}
  {x13 : Vec Ideal S8x32x128 .f32}
  {x14 x15 x16 x18 x24 x25 x26 : Vec Ideal S1x1024 .f32}
  {x17 x22 x23 : Vec Ideal S1024x1024 .bf16}
  {x19 : Vec Ideal S512x128 .bf16}
  {x21 : Vec Ideal S4x256 .f32}
  {xs0 : Vec Ideal S8x544x128 .f32}
  {xs2 : Vec Ideal S4x128x256 .f32}
variable {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole} {harg38 : arg38.IsWhole} {harg39 : arg39.IsWhole} {harg40 : arg40.IsWhole}
variable (hB : Blk a b q x0 x1 x2 x3 x4 x5 x6 x7 x8 x9 x10 x11 x12 x13 x14 x15 x16 x17 x18 x19 x20 x21 x22 x23 x24 x25 x26)
include hB
theorem B_f2 (hs2 : ∀ y, xs2 y = St a b (y 0).val (y 1).val (y 2).val (8 * q)) : View.canon ((⟨Rect.unit (s := S4x128x256) ![3, 0, 0] S1x128x256.size inb_S4x128x256_S1x128x256_3_0_0, k0_pay289 (F := Ideal) (v1086 c arg2 harg2 arg11 harg11 arg12 harg12 arg21 harg21 arg22 harg22 arg35 x0 x9 x10 x19 x20) (v1087 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) (v1091 c arg2 harg2 arg5 harg5 arg6 harg6 arg7 harg7 arg8 harg8 arg9 harg9 arg10 harg10 arg11 harg11 arg12 harg12 arg21 harg21 arg22 harg22 arg33 arg34 arg36 x0 x3 x4 x5 x6 x7 x8 x9 x10 x19 x20)⟩ : View.Piece (Elt Ideal) S4x128x256 .f32) :: HS2_31 c arg2 harg2 arg5 harg5 arg6 harg6 arg7 harg7 arg8 harg8 arg9 harg9 arg10 harg10 arg11 harg11 arg12 harg12 arg21 harg21 arg22 harg22 arg32 harg32 arg33 arg34 arg35 arg36 x0 x3 x4 x5 x6 x7 x8 x9 x10 x19 x20 xs2) = fun y => St a b (y 0).val (y 1).val (y 2).val (8 * q + (32 + 3 - (y 0).val) / 4) := by
  refine st_step (B_s31 hB hs2) (by decide) _ _ fun i0 i1 i2 => ?_
  simp only [v1086, v1087, v1091, View.readCov_eq_canon', (B_c5 hB), (B_c6 hB), (B_s31 hB hs2)]
  pointwise [k0_pay289, k0_pay288]
  try simp only [Nat.zero_add, Nat.add_zero, Nat.mul_zero, Nat.reduceMul, Nat.reduceAdd, Nat.reduceSub, Nat.reduceDiv]
  exact St_close (by omega)

theorem B_r73 (hs2 : ∀ y, xs2 y = St a b (y 0).val (y 1).val (y 2).val (8 * q)) (r : Fin 512) (e : Fin 1024) : r_73 c arg2 harg2 arg5 harg5 arg6 harg6 arg7 harg7 arg8 harg8 arg9 harg9 arg10 harg10 arg11 harg11 arg12 harg12 arg21 harg21 arg22 harg22 arg23 harg23 arg24 harg24 arg32 harg32 arg33 arg34 arg35 arg36 arg37 arg38 x0 x3 x4 x5 x6 x7 x8 x9 x10 x19 x20 x21 x22 xs2 (ix2 r e) = Yg a b (512 * q + r.val) e.val := by
  unfold r_73 v1933
  rw [View.readCov_eq_canon', (B_c8 hB hs2)]
  refine pay354_eq (g := fun r l => Og a b (512 * q + r) (l / 256) (l % 256)) ?_ (fun _ _ => (ldw harg24 _ x22 _).trans (hB.h22 _ _)) r e
  intro r l
  pointwise []
  try exact congrArg₂ (fun r l => Og a b (512 * q + r) (l / 256) (l % 256)) (by omega) (by omega)

theorem B_r74 (hs2 : ∀ y, xs2 y = St a b (y 0).val (y 1).val (y 2).val (8 * q)) (r : Fin 512) (e : Fin 1024) : r_74 c arg2 harg2 arg5 harg5 arg6 harg6 arg7 harg7 arg8 harg8 arg9 harg9 arg10 harg10 arg11 harg11 arg12 harg12 arg13 harg13 arg14 harg14 arg21 harg21 arg22 harg22 arg23 harg23 arg24 harg24 arg32 harg32 arg33 arg34 arg35 arg36 arg37 arg38 arg40 x0 x3 x4 x5 x6 x7 x8 x9 x10 x11 x12 x19 x20 x21 x22 xs2 (ix2 r e) = Ideal.logistic (H a b (512 * q + r.val) (6160 + e.val)) * Yg a b (512 * q + r.val) e.val := by
  unfold r_74 v1938
  rw [View.readCov_eq_canon', (B_c10 hB)]
  pointwise [k0_pay355]
  refine congrArg₂ (· * ·) (congrArg₂ (fun r l => Ideal.logistic (H a b (512 * q + r) (6160 + l))) (by omega) (by omega)) (B_r73 hB hs2 r e)

theorem B_v9 (hs0 : ∀ y, (y 1).val < 32 → xs0 y = Uh a b (512 * q + (y 1).val) (128 * (y 0).val + (y 2).val)) (r : Fin 512) (e : Fin 1024) : v1937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18 xs0 (ix2 r e) = Ideal.logistic (H a b (512 * q + r.val) (5136 + e.val)) * Yc a b (512 * q + r.val) e.val := by
  unfold v1937
  rw [View.readCov_eq_canon', (B_c9 hB hs0)]
  pointwise []
  try exact congrArg₂ (fun r l => Ideal.logistic (H a b (512 * q + r) (5136 + l)) * Yc a b (512 * q + r) l) (by omega) (by omega)

theorem B_co (hs0 : ∀ y, (y 1).val < 32 → xs0 y = Uh a b (512 * q + (y 1).val) (128 * (y 0).val + (y 2).val)) (hs2 : ∀ y, xs2 y = St a b (y 0).val (y 1).val (y 2).val (8 * q)) : View.canon (([⟨Rect.unit (s := S512x1024) ![0, 0] S512x1024.size inb_S512x1024_S512x1024_0_0, k0_pay1 (F := Ideal) (kernelRun0_B.sl.r c arg2 harg2 x0) (v1937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 x0 x1 x2 x11 x12 x13 x14 x15 x16 x17 x18 xs0) (r_74 c arg2 harg2 arg5 harg5 arg6 harg6 arg7 harg7 arg8 harg8 arg9 harg9 arg10 harg10 arg11 harg11 arg12 harg12 arg13 harg13 arg14 harg14 arg21 harg21 arg22 harg22 arg23 harg23 arg24 harg24 arg32 harg32 arg33 arg34 arg35 arg36 arg37 arg38 arg40 x0 x3 x4 x5 x6 x7 x8 x9 x10 x11 x12 x19 x20 x21 x22 xs2) (View.readAt (Elt Ideal) arg25.view (Rect.unit (s := S1024x1024) ![0, 0] S1024x1024.size inb_S1024x1024_S1024x1024_0_0).toLoadRect (harg25.unread x23)) (View.readAt (Elt Ideal) arg26.view (Rect.unit (s := S1x1024) ![0, 0] S1x1024.size inb_S1x1024_S1x1024_0_0).toLoadRect (harg26.unread x24)) (View.readAt (Elt Ideal) arg27.view (Rect.unit (s := S1x1024) ![0, 0] S1x1024.size inb_S1x1024_S1x1024_0_0).toLoadRect (harg27.unread x25)) (View.readAt (Elt Ideal) arg28.view (Rect.unit (s := S1x1024) ![0, 0] S1x1024.size inb_S1x1024_S1x1024_0_0).toLoadRect (harg28.unread x26))⟩] : List (View.Piece (Elt Ideal) S512x1024 .f32))) = fun y => Out a b (512 * q + (y 0).val) (y 1).val := by
  refine canon_of ?_ (View.cover_of_tiledL _ S512x1024.size (by sl_kernel_rfl))
  simp only [View.PiecesOf]
  refine ⟨fun i => ?_, trivial⟩
  idx_vars i
  refine Eq.trans ?_ (emb2 (fun r l => Out a b (512 * q + r) l) _ i0 i1).symm
  rw [Nat.zero_add, Nat.zero_add]
  exact pay1_eq (B_r0 hB) (fun r d => congrArg₂ (· + ·) (B_v9 hB hs0 r d) (B_r74 hB hs2 r d)) (fun _ _ => (ldw harg25 _ x23 _).trans (hB.h23 _ _)) (fun _ _ => (ldw harg26 _ x24 _).trans (hB.h24 _ _)) (fun _ _ => (ldw harg27 _ x25 _).trans (hB.h25 _ _)) (fun _ _ => (ldw harg28 _ x26 _).trans (hB.h26 _ _)) i0 i1

theorem B_fo {hc0 : ¬cond0_0 i} (hs0 : ∀ y, (y 1).val < 32 → xs0 y = Uh a b (512 * q + (y 1).val) (128 * (y 0).val + (y 2).val)) (hs2 : ∀ y, xs2 y = St a b (y 0).val (y 1).val (y 2).val (8 * q)) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).1 = fun y => Out a b (512 * q + (y 0).val) (y 1).val := by
  exact B_co hB hs0 hs2

theorem B_fu {hc0 : ¬cond0_0 i} (hs0 : ∀ y, (y 1).val < 32 → xs0 y = Uh a b (512 * q + (y 1).val) (128 * (y 0).val + (y 2).val)) (hs2 : ∀ y, xs2 y = St a b (y 0).val (y 1).val (y 2).val (8 * q)) (y : S8x544x128.Idx) (hy : (y 1).val < 32) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.1 y = Uh a b (512 * (q + 1) + (y 1).val) (128 * (y 0).val + (y 2).val) := by
  exact B_sd hB y hy

theorem B_fs {hc0 : ¬cond0_0 i} (hs0 : ∀ y, (y 1).val < 32 → xs0 y = Uh a b (512 * q + (y 1).val) (128 * (y 0).val + (y 2).val)) (hs2 : ∀ y, xs2 y = St a b (y 0).val (y 1).val (y 2).val (8 * q)) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 xs0 xs2).2.2.1 = fun y => St a b (y 0).val (y 1).val (y 2).val (8 * (q + 1)) := by
  refine Eq.trans (B_f2 hB hs2) (funext fun y => ?_)
  have hy : (y 0).val < 4 := (y 0).isLt
  exact congrArg (St a b _ _ _) (by omega)

end Cert.Mix
end
-- ==== Proof.Args.lean ====
/- The arguments of both programs by plain indices. -/
module

public import proofs.«01_k».proof.Proof.Spec

@[expose] public section

set_option maxRecDepth 16384

noncomputable section

namespace Cert.Mix

open Idealize.ShloMosaic Idealize.ShloMosaic.TcCoe Idealize.SL.Sem
open Idealize.ShloMosaic
/-- A vector read at a plain index. -/
def at1 {n : ℕ} (f : Fin n → EReal) (i : ℕ) : EReal := if h : i < n then f ⟨i, h⟩ else 0
/-- A matrix read at plain indices. -/
def at2 {m n : ℕ} (f : Fin m → Fin n → EReal) (i j : ℕ) : EReal := if h : i < m ∧ j < n then f ⟨i, h.1⟩ ⟨j, h.2⟩ else 0
/-- An array of three axes read at plain indices. -/
def at3 {l m n : ℕ} (f : Fin l → Fin m → Fin n → EReal) (i j k : ℕ) : EReal :=
  if h : i < l ∧ j < m ∧ k < n then f ⟨i, h.1⟩ ⟨j, h.2.1⟩ ⟨k, h.2.2⟩ else 0

theorem at1_eq {n : ℕ} {f : Fin n → EReal} {i : ℕ} (h : i < n) : at1 f i = f ⟨i, h⟩ := dif_pos h
theorem at2_eq {m n : ℕ} {f : Fin m → Fin n → EReal} {i j : ℕ} (hi : i < m) (hj : j < n) : at2 f i j = f ⟨i, hi⟩ ⟨j, hj⟩ := dif_pos ⟨hi, hj⟩
theorem at3_eq {l m n : ℕ} {f : Fin l → Fin m → Fin n → EReal} {i j k : ℕ} (hi : i < l) (hj : j < m) (hk : k < n) :
    at3 f i j k = f ⟨i, hi⟩ ⟨j, hj⟩ ⟨k, hk⟩ := dif_pos ⟨hi, hj, hk⟩

/-- The arguments by plain indices, from the arrays both programs take. -/
def argsOf (x0 : Fin 8 → Fin 2048 → Fin 1024 → EReal) (x1 : Fin 1024 → Fin 7184 → EReal) (x2 : Fin 7184 → EReal) (x3 : Fin 31 → Fin 1024 → EReal) (x4 : Fin 1024 → EReal) (x5 : Fin 1024 → EReal) (x6 : Fin 1024 → EReal) (x7 : Fin 1024 → Fin 1024 → EReal) (x8 : Fin 1024 → EReal) (x9 : Fin 16 → Fin 512 → EReal) (x10 : Fin 512 → EReal) (x11 : Fin 4 → Fin 256 → EReal) (x12 : Fin 1024 → Fin 1024 → EReal) (x13 : Fin 1024 → Fin 1024 → EReal) (x14 : Fin 1024 → EReal) (x15 : Fin 1024 → EReal) (x16 : Fin 1024 → EReal) : Args where
  X := at3 x0
  Win := at2 x1
  Bin := at1 x2
  Cw := at2 x3
  Cb := at1 x4
  Clg := at1 x5
  Clb := at1 x6
  Wco := at2 x7
  Bco := at1 x8
  Wgu := at2 x9
  Bgu := at1 x10
  Ng := at2 x11
  Wgo := at2 x12
  Wout := at2 x13
  Bout := at1 x14
  L1g := at1 x15
  L1b := at1 x16

end Cert.Mix

end
-- ==== Proof.Inputs.lean ====
/- What each grid point's blocks hold: the arguments of its batch and tile. -/
module

public import Idealize.ShloMosaic.Lib.Claim
public import Idealize.ShloMosaic.Lib.Pipeline.ValueKit
public import proofs.«01_k».proof.Proof.Args
public import proofs.«01_k».proof.Proof.Base
public import proofs.«01_k».proof.Proof.Gen.KernelIdeal.Frame.Runs

@[expose] public section

set_option maxHeartbeats 2000000
set_option maxRecDepth 16384

noncomputable section

namespace Cert.Mix

open Idealize.ShloMosaic Idealize.ShloMosaic.TcCoe Idealize.SL.Sem
open Cert.KernelIdeal Cert.KernelIdeal.Gen
variable (m : (ℓ : Loc nD τ sig) → Buf (Elt Ideal) ℓ) (c : Dev nD)

/-- The launch arguments by plain indices. -/
def argsK : Args := argsOf
  (fun i j k => m ((c : Thread nD τ).loc main_arg0) (ix3 i j k))
  (fun i j => m ((c : Thread nD τ).loc main_arg1) (ix3 0 i j))
  (fun i => m ((c : Thread nD τ).loc main_arg2) (ix2 0 i))
  (fun i j => m ((c : Thread nD τ).loc main_arg3) (ix3 0 i j))
  (fun i => m ((c : Thread nD τ).loc main_arg4) (ix2 0 i))
  (fun i => m ((c : Thread nD τ).loc main_arg5) (ix2 0 i))
  (fun i => m ((c : Thread nD τ).loc main_arg6) (ix2 0 i))
  (fun i j => m ((c : Thread nD τ).loc main_arg7) (ix3 0 i j))
  (fun i => m ((c : Thread nD τ).loc main_arg8) (ix2 0 i))
  (fun i j => m ((c : Thread nD τ).loc main_arg9) (ix3 0 i j))
  (fun i => m ((c : Thread nD τ).loc main_arg10) (ix2 0 i))
  (fun i j => m ((c : Thread nD τ).loc main_arg11) (ix3 0 i j))
  (fun i j => m ((c : Thread nD τ).loc main_arg12) (ix3 0 i j))
  (fun i j => m ((c : Thread nD τ).loc main_arg13) (ix3 0 i j))
  (fun i => m ((c : Thread nD τ).loc main_arg14) (ix2 0 i))
  (fun i => m ((c : Thread nD τ).loc main_arg15) (ix2 0 i))
  (fun i => m ((c : Thread nD τ).loc main_arg16) (ix2 0 i))

theorem kX {i j k : ℕ} (hi : i < 8) (hj : j < 2048) (hk : k < 1024) : (argsK m c).X i j k = m ((c : Thread nD τ).loc main_arg0) (ix3 ⟨i, hi⟩ ⟨j, hj⟩ ⟨k, hk⟩) := by
  show at3 (fun i j k => m ((c : Thread nD τ).loc main_arg0) (ix3 i j k)) i j k = _
  exact at3_eq hi hj hk
theorem kWin {i j : ℕ} (hi : i < 1024) (hj : j < 7184) : (argsK m c).Win i j = m ((c : Thread nD τ).loc main_arg1) (ix3 0 ⟨i, hi⟩ ⟨j, hj⟩) := by
  show at2 (fun i j => m ((c : Thread nD τ).loc main_arg1) (ix3 0 i j)) i j = _
  exact at2_eq hi hj
theorem kBin {i : ℕ} (hi : i < 7184) : (argsK m c).Bin i = m ((c : Thread nD τ).loc main_arg2) (ix2 0 ⟨i, hi⟩) := by
  show at1 (fun i => m ((c : Thread nD τ).loc main_arg2) (ix2 0 i)) i = _
  exact at1_eq hi
theorem kCw {i j : ℕ} (hi : i < 31) (hj : j < 1024) : (argsK m c).Cw i j = m ((c : Thread nD τ).loc main_arg3) (ix3 0 ⟨i, hi⟩ ⟨j, hj⟩) := by
  show at2 (fun i j => m ((c : Thread nD τ).loc main_arg3) (ix3 0 i j)) i j = _
  exact at2_eq hi hj
theorem kCb {i : ℕ} (hi : i < 1024) : (argsK m c).Cb i = m ((c : Thread nD τ).loc main_arg4) (ix2 0 ⟨i, hi⟩) := by
  show at1 (fun i => m ((c : Thread nD τ).loc main_arg4) (ix2 0 i)) i = _
  exact at1_eq hi
theorem kClg {i : ℕ} (hi : i < 1024) : (argsK m c).Clg i = m ((c : Thread nD τ).loc main_arg5) (ix2 0 ⟨i, hi⟩) := by
  show at1 (fun i => m ((c : Thread nD τ).loc main_arg5) (ix2 0 i)) i = _
  exact at1_eq hi
theorem kClb {i : ℕ} (hi : i < 1024) : (argsK m c).Clb i = m ((c : Thread nD τ).loc main_arg6) (ix2 0 ⟨i, hi⟩) := by
  show at1 (fun i => m ((c : Thread nD τ).loc main_arg6) (ix2 0 i)) i = _
  exact at1_eq hi
theorem kWco {i j : ℕ} (hi : i < 1024) (hj : j < 1024) : (argsK m c).Wco i j = m ((c : Thread nD τ).loc main_arg7) (ix3 0 ⟨i, hi⟩ ⟨j, hj⟩) := by
  show at2 (fun i j => m ((c : Thread nD τ).loc main_arg7) (ix3 0 i j)) i j = _
  exact at2_eq hi hj
theorem kBco {i : ℕ} (hi : i < 1024) : (argsK m c).Bco i = m ((c : Thread nD τ).loc main_arg8) (ix2 0 ⟨i, hi⟩) := by
  show at1 (fun i => m ((c : Thread nD τ).loc main_arg8) (ix2 0 i)) i = _
  exact at1_eq hi
theorem kWgu {i j : ℕ} (hi : i < 16) (hj : j < 512) : (argsK m c).Wgu i j = m ((c : Thread nD τ).loc main_arg9) (ix3 0 ⟨i, hi⟩ ⟨j, hj⟩) := by
  show at2 (fun i j => m ((c : Thread nD τ).loc main_arg9) (ix3 0 i j)) i j = _
  exact at2_eq hi hj
theorem kBgu {i : ℕ} (hi : i < 512) : (argsK m c).Bgu i = m ((c : Thread nD τ).loc main_arg10) (ix2 0 ⟨i, hi⟩) := by
  show at1 (fun i => m ((c : Thread nD τ).loc main_arg10) (ix2 0 i)) i = _
  exact at1_eq hi
theorem kNg {i j : ℕ} (hi : i < 4) (hj : j < 256) : (argsK m c).Ng i j = m ((c : Thread nD τ).loc main_arg11) (ix3 0 ⟨i, hi⟩ ⟨j, hj⟩) := by
  show at2 (fun i j => m ((c : Thread nD τ).loc main_arg11) (ix3 0 i j)) i j = _
  exact at2_eq hi hj
theorem kWgo {i j : ℕ} (hi : i < 1024) (hj : j < 1024) : (argsK m c).Wgo i j = m ((c : Thread nD τ).loc main_arg12) (ix3 0 ⟨i, hi⟩ ⟨j, hj⟩) := by
  show at2 (fun i j => m ((c : Thread nD τ).loc main_arg12) (ix3 0 i j)) i j = _
  exact at2_eq hi hj
theorem kWout {i j : ℕ} (hi : i < 1024) (hj : j < 1024) : (argsK m c).Wout i j = m ((c : Thread nD τ).loc main_arg13) (ix3 0 ⟨i, hi⟩ ⟨j, hj⟩) := by
  show at2 (fun i j => m ((c : Thread nD τ).loc main_arg13) (ix3 0 i j)) i j = _
  exact at2_eq hi hj
theorem kBout {i : ℕ} (hi : i < 1024) : (argsK m c).Bout i = m ((c : Thread nD τ).loc main_arg14) (ix2 0 ⟨i, hi⟩) := by
  show at1 (fun i => m ((c : Thread nD τ).loc main_arg14) (ix2 0 i)) i = _
  exact at1_eq hi
theorem kL1g {i : ℕ} (hi : i < 1024) : (argsK m c).L1g i = m ((c : Thread nD τ).loc main_arg15) (ix2 0 ⟨i, hi⟩) := by
  show at1 (fun i => m ((c : Thread nD τ).loc main_arg15) (ix2 0 i)) i = _
  exact at1_eq hi
theorem kL1b {i : ℕ} (hi : i < 1024) : (argsK m c).L1b i = m ((c : Thread nD τ).loc main_arg16) (ix2 0 ⟨i, hi⟩) := by
  show at1 (fun i => m ((c : Thread nD τ).loc main_arg16) (ix2 0 i)) i = _
  exact at1_eq hi
theorem sitofp_zero : (FloatOps.sitofp (F := Ideal) FTy.f32 0#32 : EReal) = 0 := by
  simp [FloatOps.sitofp]

theorem w0_eq (x : Fin 16384) (y : Fin 1024) : (V m c main_v62 : Vec Ideal S16384x1024 .f32) (ix2 x y) = (argsK m c).X (x.val / 2048) (x.val % 2048) y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kX m c (by omega) (by omega) (by omega)]
  pointwise []
  try rfl

theorem w1_eq (x : Fin 1024) (y : Fin 2048) : (V m c main_v18 : Vec Ideal S1024x2048 .bf16) (ix2 x y) = (argsK m c).Win x.val y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWin m c (by omega) (by omega)]
  pointwise []
  try rfl

theorem w2_eq (x : Fin 1) (y : Fin 2048) : (V m c main_v20 : Vec Ideal S1x2048 .f32) (ix2 x y) = (argsK m c).Bin y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBin m c (by omega)]
  pointwise []
  try rfl

theorem w3_eq (x : Fin 1024) (y : Fin 512) : (V m c main_v22 : Vec Ideal S1024x512 .bf16) (ix2 x y) = (argsK m c).Win x.val (2048 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWin m c (by omega) (by omega)]
  pointwise []
  try rfl

theorem w4_eq (x : Fin 1) (y : Fin 512) : (V m c main_v24 : Vec Ideal S1x512 .f32) (ix2 x y) = (argsK m c).Bin (2048 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBin m c (by omega)]
  pointwise []
  try rfl

theorem w5_eq (x : Fin 1024) (y : Fin 2048) : (V m c main_v26 : Vec Ideal S1024x2048 .bf16) (ix2 x y) = (argsK m c).Win x.val (3072 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWin m c (by omega) (by omega)]
  pointwise []
  try rfl

theorem w6_eq (x : Fin 1) (y : Fin 2048) : (V m c main_v28 : Vec Ideal S1x2048 .f32) (ix2 x y) = (argsK m c).Bin (3072 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBin m c (by omega)]
  pointwise []
  try rfl

theorem w7_eq (x : Fin 512) (y : Fin 1024) : (V m c main_v29 : Vec Ideal S512x1024 .bf16) (ix2 x y) = (argsK m c).Win y.val (2560 + x.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWin m c (by omega) (by omega)]
  pointwise []
  try rfl

theorem w8_eq (x : Fin 512) (y : Fin 512) : (V m c main_v6 : Vec Ideal S512x512 .f32) (ix2 x y) = (argsK m c).Bin (2560 + x.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBin m c (by omega)]
  pointwise []
  try rfl

theorem w9_eq (x : Fin 1024) (y : Fin 128) : (V m c main_v30 : Vec Ideal S1024x128 .bf16) (ix2 x y) = if y.val < 16 then (argsK m c).Win x.val (5120 + y.val) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  change truncf .bf16 (pad S1024x128 ![0, 0] ![0, 112] ![0, 0] (extractStridedSlice S1024x16 ![0, 5120] (fun i => shapeCast (s := S1x1024x7184) S1024x7184 (m (c, Proc.tc.devRef main_arg1)) shapeCasts_S1x1024x7184_S1024x7184 i) slices_S1024x7184_S1024x16_0_5120) (sitofp (F := Ideal) FTy.f32 (constantI S_ 32 0#32)) pads_S1024x16_S1024x128_000_01120 h_S_) bitsLt_bf16_f32 (ix2 x y) = _
  pointwise []
  by_cases h : y.val < 16
  · rw [dif_pos h, if_pos h, kWin m c (by omega) (by omega)]
    try rfl
  · rw [dif_neg h, if_neg h]
    exact sitofp_zero

theorem w10_eq (x : Fin 1) (y : Fin 128) : (V m c main_v31 : Vec Ideal S1x128 .f32) (ix2 x y) = if y.val < 16 then (argsK m c).Bin (5120 + y.val) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  change shapeCast (s := S128) S1x128 (pad S128 ![0] ![112] ![0] (extractStridedSlice S16 ![5120] (fun i => shapeCast (s := S1x7184) S7184 (m (c, Proc.tc.devRef main_arg2)) shapeCasts_S1x7184_S7184 i) slices_S7184_S16_5120) (sitofp (F := Ideal) FTy.f32 (constantI S_ 32 0#32)) pads_S16_S128_01120 h_S_) shapeCasts_S128_S1x128 (ix2 x y) = _
  pointwise []
  by_cases h : y.val < 16
  · rw [dif_pos h, if_pos h, kBin m c (by omega)]
    try rfl
  · rw [dif_neg h, if_neg h]
    exact sitofp_zero

theorem w11_eq (x : Fin 1024) (y : Fin 2048) : (V m c main_v33 : Vec Ideal S1024x2048 .bf16) (ix2 x y) = (argsK m c).Win x.val (5136 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWin m c (by omega) (by omega)]
  pointwise []
  try rfl

theorem w12_eq (x : Fin 1) (y : Fin 2048) : (V m c main_v35 : Vec Ideal S1x2048 .f32) (ix2 x y) = (argsK m c).Bin (5136 + y.val) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBin m c (by omega)]
  pointwise []
  try rfl

theorem w13_eq (x : Fin 8) (y : Fin 32) (z : Fin 128) : (V m c main_v39 : Vec Ideal S8x32x128 .f32) (ix3 x y z) = if y.val < 31 then (argsK m c).Cw y.val (128 * x.val + z.val) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  change transpose S8x32x128 [1, 0, 2] (fun i => shapeCast (s := S32x1024) S32x8x128 (pad S32x1024 ![0, 0] ![1, 0] ![0, 0] (shapeCast (s := S1x31x1024) S31x1024 (m (c, Proc.tc.devRef main_arg3)) shapeCasts_S1x31x1024_S31x1024) (sitofp (F := Ideal) FTy.f32 (constantI S_ 32 0#32)) pads_S31x1024_S32x1024_010_000 h_S_) shapeCasts_S32x1024_S32x8x128 i) transposes_S32x8x128_S8x32x128_1_0_2 (ix3 x y z) = _
  pointwise []
  by_cases h : y.val < 31
  · rw [if_pos h, kCw m c (by omega) (by omega)]
    refine (dif_pos (show y.val < 31 ∧ x.val * 128 + z.val < 1024 by omega)).trans ?_
    have e : (⟨x.val * 128 + z.val, by omega⟩ : Fin 1024) = ⟨128 * x.val + z.val, by omega⟩ := Fin.ext (show x.val * 128 + z.val = 128 * x.val + z.val by omega)
    show m ((c : Thread nD τ).loc main_arg3) (ix3 0 ⟨y.val, h⟩ ⟨x.val * 128 + z.val, _⟩) = _
    rw [e]
  · rw [if_neg h]
    exact (dif_neg (show ¬ (y.val < 31 ∧ x.val * 128 + z.val < 1024) by omega)).trans sitofp_zero

theorem w14_eq (x : Fin 1) (y : Fin 1024) : (V m c main_v41 : Vec Ideal S1x1024 .f32) (ix2 x y) = (argsK m c).Cb y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kCb m c (by omega)]
  pointwise []
  try rfl

theorem w15_eq (x : Fin 1) (y : Fin 1024) : (V m c main_v43 : Vec Ideal S1x1024 .f32) (ix2 x y) = (argsK m c).Clg y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kClg m c (by omega)]
  pointwise []
  try rfl

theorem w16_eq (x : Fin 1) (y : Fin 1024) : (V m c main_v45 : Vec Ideal S1x1024 .f32) (ix2 x y) = (argsK m c).Clb y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kClb m c (by omega)]
  pointwise []
  try rfl

theorem w17_eq (x : Fin 1024) (y : Fin 1024) : (V m c main_v47 : Vec Ideal S1024x1024 .bf16) (ix2 x y) = (argsK m c).Wco x.val y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWco m c (by omega) (by omega)]
  pointwise []
  try rfl

theorem w18_eq (x : Fin 1) (y : Fin 1024) : (V m c main_v49 : Vec Ideal S1x1024 .f32) (ix2 x y) = (argsK m c).Bco y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBco m c (by omega)]
  pointwise []
  try rfl

theorem w19_eq (x : Fin 512) (y : Fin 128) : (V m c main_v50 : Vec Ideal S512x128 .bf16) (ix2 x y) = if y.val < 16 then (argsK m c).Wgu y.val x.val else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  change truncf .bf16 (transpose S512x128 [1, 0] (pad S128x512 ![0, 0] ![112, 0] ![0, 0] (shapeCast (s := S1x16x512) S16x512 (m (c, Proc.tc.devRef main_arg9)) shapeCasts_S1x16x512_S16x512) (sitofp (F := Ideal) FTy.f32 (constantI S_ 32 0#32)) pads_S16x512_S128x512_01120_000 h_S_) transposes_S128x512_S512x128_1_0) bitsLt_bf16_f32 (ix2 x y) = _
  pointwise []
  by_cases h : y.val < 16
  · rw [dif_pos h, if_pos h, kWgu m c (by omega) (by omega)]
    try rfl
  · rw [dif_neg h, if_neg h]
    exact sitofp_zero

theorem w20_eq (x : Fin 512) (y : Fin 512) : (V m c main_v16 : Vec Ideal S512x512 .f32) (ix2 x y) = (argsK m c).Bgu x.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBgu m c (by omega)]
  pointwise []
  try rfl

theorem w21_eq (x : Fin 4) (y : Fin 256) : (V m c main_v51 : Vec Ideal S4x256 .f32) (ix2 x y) = (argsK m c).Ng x.val y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kNg m c (by omega) (by omega)]
  pointwise []
  try rfl

theorem w22_eq (x : Fin 1024) (y : Fin 1024) : (V m c main_v53 : Vec Ideal S1024x1024 .bf16) (ix2 x y) = (argsK m c).Wgo x.val y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWgo m c (by omega) (by omega)]
  pointwise []
  try rfl

theorem w23_eq (x : Fin 1024) (y : Fin 1024) : (V m c main_v55 : Vec Ideal S1024x1024 .bf16) (ix2 x y) = (argsK m c).Wout x.val y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kWout m c (by omega) (by omega)]
  pointwise []
  try rfl

theorem w24_eq (x : Fin 1) (y : Fin 1024) : (V m c main_v57 : Vec Ideal S1x1024 .f32) (ix2 x y) = (argsK m c).Bout y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kBout m c (by omega)]
  pointwise []
  try rfl

theorem w25_eq (x : Fin 1) (y : Fin 1024) : (V m c main_v59 : Vec Ideal S1x1024 .f32) (ix2 x y) = (argsK m c).L1g y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kL1g m c (by omega)]
  pointwise []
  try rfl

theorem w26_eq (x : Fin 1) (y : Fin 1024) : (V m c main_v61 : Vec Ideal S1x1024 .f32) (ix2 x y) = (argsK m c).L1b y.val := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [kL1b m c (by omega)]
  pointwise []
  try rfl

theorem ix_0 : ∀ t : Fin cfg0.N, win0_0.index t (0 : Fin 2) = t.val ∧ win0_0.index t (1 : Fin 2) = 0 :=
  (by decide +kernel : ∀ t : Fin grid0.N, _)

theorem b_0 (t : Fin cfg0.N) (r : Fin 512) (d : Fin 1024) (h : 512 * t.val + r.val < 16384) : (iblk m c 0 t : Vec Ideal S512x1024 .f32) (ix2 r d)
    = (V m c main_v62 : Vec Ideal S16384x1024 .f32) (ix2 ⟨512 * t.val + r.val, h⟩ d) := by
  show (V m c main_v62 : Vec Ideal S16384x1024 .f32) ((win0_0.blk t).view.emb (ix2 r d)) = _
  congr 1
  funext a
  apply Fin.ext
  obtain ⟨e0, e1⟩ := ix_0 t
  match a with
  | ⟨0, _⟩ => show win0_0.index t (0 : Fin 2) * 512 + 1 * r.val = 512 * t.val + r.val; omega
  | ⟨1, _⟩ => show win0_0.index t (1 : Fin 2) * 1024 + 1 * d.val = d.val; omega

theorem ix_1 : ∀ t : Fin cfg0.N, win0_1.index t (0 : Fin 2) = 0 ∧ win0_1.index t (1 : Fin 2) = 0 :=
  (by decide +kernel : ∀ t : Fin grid0.N, _)

theorem b_1 (t : Fin cfg0.N) (y : S1024x2048.Idx) : (iblk m c 1 t : Vec Ideal S1024x2048 .bf16) y = (V m c main_v18 : Vec Ideal S1024x2048 .bf16) y := by
  show (V m c main_v18 : Vec Ideal S1024x2048 .bf16) ((win0_1.blk t).view.emb y) = _
  congr 1
  funext a
  apply Fin.ext
  obtain ⟨e0, e1⟩ := ix_1 t
  match a with
  | ⟨0, _⟩ => show win0_1.index t (0 : Fin 2) * 1024 + 1 * (y 0).val = (y 0).val; omega
  | ⟨1, _⟩ => show win0_1.index t (1 : Fin 2) * 2048 + 1 * (y 1).val = (y 1).val; omega

theorem ix_2 : ∀ t : Fin cfg0.N, win0_2.index t (0 : Fin 2) = 0 ∧ win0_2.index t (1 : Fin 2) = 0 :=
  (by decide +kernel : ∀ t : Fin grid0.N, _)

theorem b_2 (t : Fin cfg0.N) (y : S1x2048.Idx) : (iblk m c 2 t : Vec Ideal S1x2048 .f32) y = (V m c main_v20 : Vec Ideal S1x2048 .f32) y := by
  show (V m c main_v20 : Vec Ideal S1x2048 .f32) ((win0_2.blk t).view.emb y) = _
  congr 1
  funext a
  apply Fin.ext
  obtain ⟨e0, e1⟩ := ix_2 t
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem ix_3 : ∀ t : Fin cfg0.N, win0_3.index t (0 : Fin 2) = 0 ∧ win0_3.index t (1 : Fin 2) = 0 :=
  (by decide +kernel : ∀ t : Fin grid0.N, _)

theorem b_3 (t : Fin cfg0.N) (y : S1024x512.Idx) : (iblk m c 3 t : Vec Ideal S1024x512 .bf16) y = (V m c main_v22 : Vec Ideal S1024x512 .bf16) y := by
  show (V m c main_v22 : Vec Ideal S1024x512 .bf16) ((win0_3.blk t).view.emb y) = _
  congr 1
  funext a
  apply Fin.ext
  obtain ⟨e0, e1⟩ := ix_3 t
  match a with
  | ⟨0, _⟩ => show win0_3.index t (0 : Fin 2) * 1024 + 1 * (y 0).val = (y 0).val; omega
  | ⟨1, _⟩ => show win0_3.index t (1 : Fin 2) * 512 + 1 * (y 1).val = (y 1).val; omega

theorem ix_4 : ∀ t : Fin cfg0.N, win0_4.index t (0 : Fin 2) = 0 ∧ win0_4.index t (1 : Fin 2) = 0 :=
  (by decide +kernel : ∀ t : Fin grid0.N, _)

theorem b_4 (t : Fin cfg0.N) (y : S1x512.Idx) : (iblk m c 4 t : Vec Ideal S1x512 .f32) y = (V m c main_v24 : Vec Ideal S1x512 .f32) y := by
  show (V m c main_v24 : Vec Ideal S1x512 .f32) ((win0_4.blk t).view.emb y) = _
  congr 1
  funext a
  apply Fin.ext
  obtain ⟨e0, e1⟩ := ix_4 t
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem ix_5 : ∀ t : Fin cfg0.N, win0_5.index t (0 : Fin 2) = 0 ∧ win0_5.index t (1 : Fin 2) = 0 :=
  (by decide +kernel : ∀ t : Fin grid0.N, _)

theorem b_5 (t : Fin cfg0.N) (y : S1024x2048.Idx) : (iblk m c 5 t : Vec Ideal S1024x2048 .bf16) y = (V m c main_v26 : Vec Ideal S1024x2048 .bf16) y := by
  show (V m c main_v26 : Vec Ideal S1024x2048 .bf16) ((win0_5.blk t).view.emb y) = _
  congr 1
  funext a
  apply Fin.ext
  obtain ⟨e0, e1⟩ := ix_5 t
  match a with
  | ⟨0, _⟩ => show win0_5.index t (0 : Fin 2) * 1024 + 1 * (y 0).val = (y 0).val; omega
  | ⟨1, _⟩ => show win0_5.index t (1 : Fin 2) * 2048 + 1 * (y 1).val = (y 1).val; omega

theorem ix_6 : ∀ t : Fin cfg0.N, win0_6.index t (0 : Fin 2) = 0 ∧ win0_6.index t (1 : Fin 2) = 0 :=
  (by decide +kernel : ∀ t : Fin grid0.N, _)

theorem b_6 (t : Fin cfg0.N) (y : S1x2048.Idx) : (iblk m c 6 t : Vec Ideal S1x2048 .f32) y = (V m c main_v28 : Vec Ideal S1x2048 .f32) y := by
  show (V m c main_v28 : Vec Ideal S1x2048 .f32) ((win0_6.blk t).view.emb y) = _
  congr 1
  funext a
  apply Fin.ext
  obtain ⟨e0, e1⟩ := ix_6 t
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem ix_7 : ∀ t : Fin cfg0.N, win0_7.index t (0 : Fin 2) = 0 ∧ win0_7.index t (1 : Fin 2) = 0 :=
  (by decide +kernel : ∀ t : Fin grid0.N, _)

theorem b_7 (t : Fin cfg0.N) (y : S512x1024.Idx) : (iblk m c 7 t : Vec Ideal S512x1024 .bf16) y = (V m c main_v29 : Vec Ideal S512x1024 .bf16) y := by
  show (V m c main_v29 : Vec Ideal S512x1024 .bf16) ((win0_7.blk t).view.emb y) = _
  congr 1
  funext a
  apply Fin.ext
  obtain ⟨e0, e1⟩ := ix_7 t
  match a with
  | ⟨0, _⟩ => show win0_7.index t (0 : Fin 2) * 512 + 1 * (y 0).val = (y 0).val; omega
  | ⟨1, _⟩ => show win0_7.index t (1 : Fin 2) * 1024 + 1 * (y 1).val = (y 1).val; omega

theorem ix_8 : ∀ t : Fin cfg0.N, win0_8.index t (0 : Fin 2) = 0 ∧ win0_8.index t (1 : Fin 2) = 0 :=
  (by decide +kernel : ∀ t : Fin grid0.N, _)

theorem b_8 (t : Fin cfg0.N) (y : S512x512.Idx) : (iblk m c 8 t : Vec Ideal S512x512 .f32) y = (V m c main_v6 : Vec Ideal S512x512 .f32) y := by
  show (V m c main_v6 : Vec Ideal S512x512 .f32) ((win0_8.blk t).view.emb y) = _
  congr 1
  funext a
  apply Fin.ext
  obtain ⟨e0, e1⟩ := ix_8 t
  match a with
  | ⟨0, _⟩ => show win0_8.index t (0 : Fin 2) * 512 + 1 * (y 0).val = (y 0).val; omega
  | ⟨1, _⟩ => show win0_8.index t (1 : Fin 2) * 512 + 1 * (y 1).val = (y 1).val; omega

theorem ix_9 : ∀ t : Fin cfg0.N, win0_9.index t (0 : Fin 2) = 0 ∧ win0_9.index t (1 : Fin 2) = 0 :=
  (by decide +kernel : ∀ t : Fin grid0.N, _)

theorem b_9 (t : Fin cfg0.N) (y : S1024x128.Idx) : (iblk m c 9 t : Vec Ideal S1024x128 .bf16) y = (V m c main_v30 : Vec Ideal S1024x128 .bf16) y := by
  show (V m c main_v30 : Vec Ideal S1024x128 .bf16) ((win0_9.blk t).view.emb y) = _
  congr 1
  funext a
  apply Fin.ext
  obtain ⟨e0, e1⟩ := ix_9 t
  match a with
  | ⟨0, _⟩ => show win0_9.index t (0 : Fin 2) * 1024 + 1 * (y 0).val = (y 0).val; omega
  | ⟨1, _⟩ => show win0_9.index t (1 : Fin 2) * 128 + 1 * (y 1).val = (y 1).val; omega

theorem ix_10 : ∀ t : Fin cfg0.N, win0_10.index t (0 : Fin 2) = 0 ∧ win0_10.index t (1 : Fin 2) = 0 :=
  (by decide +kernel : ∀ t : Fin grid0.N, _)

theorem b_10 (t : Fin cfg0.N) (y : S1x128.Idx) : (iblk m c 10 t : Vec Ideal S1x128 .f32) y = (V m c main_v31 : Vec Ideal S1x128 .f32) y := by
  show (V m c main_v31 : Vec Ideal S1x128 .f32) ((win0_10.blk t).view.emb y) = _
  congr 1
  funext a
  apply Fin.ext
  obtain ⟨e0, e1⟩ := ix_10 t
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem ix_11 : ∀ t : Fin cfg0.N, win0_11.index t (0 : Fin 2) = 0 ∧ win0_11.index t (1 : Fin 2) = 0 :=
  (by decide +kernel : ∀ t : Fin grid0.N, _)

theorem b_11 (t : Fin cfg0.N) (y : S1024x2048.Idx) : (iblk m c 11 t : Vec Ideal S1024x2048 .bf16) y = (V m c main_v33 : Vec Ideal S1024x2048 .bf16) y := by
  show (V m c main_v33 : Vec Ideal S1024x2048 .bf16) ((win0_11.blk t).view.emb y) = _
  congr 1
  funext a
  apply Fin.ext
  obtain ⟨e0, e1⟩ := ix_11 t
  match a with
  | ⟨0, _⟩ => show win0_11.index t (0 : Fin 2) * 1024 + 1 * (y 0).val = (y 0).val; omega
  | ⟨1, _⟩ => show win0_11.index t (1 : Fin 2) * 2048 + 1 * (y 1).val = (y 1).val; omega

theorem ix_12 : ∀ t : Fin cfg0.N, win0_12.index t (0 : Fin 2) = 0 ∧ win0_12.index t (1 : Fin 2) = 0 :=
  (by decide +kernel : ∀ t : Fin grid0.N, _)

theorem b_12 (t : Fin cfg0.N) (y : S1x2048.Idx) : (iblk m c 12 t : Vec Ideal S1x2048 .f32) y = (V m c main_v35 : Vec Ideal S1x2048 .f32) y := by
  show (V m c main_v35 : Vec Ideal S1x2048 .f32) ((win0_12.blk t).view.emb y) = _
  congr 1
  funext a
  apply Fin.ext
  obtain ⟨e0, e1⟩ := ix_12 t
  match a with
  | ⟨0, _⟩ => show win0_12.index t (0 : Fin 2) * 1 + 1 * (y 0).val = (y 0).val; omega
  | ⟨1, _⟩ => show win0_12.index t (1 : Fin 2) * 2048 + 1 * (y 1).val = (y 1).val; omega

theorem ix_13 : ∀ t : Fin cfg0.N, win0_13.index t (0 : Fin 3) = 0 ∧ win0_13.index t (1 : Fin 3) = 0 ∧ win0_13.index t (2 : Fin 3) = 0 :=
  (by decide +kernel : ∀ t : Fin grid0.N, _)

theorem b_13 (t : Fin cfg0.N) (y : S8x32x128.Idx) : (iblk m c 13 t : Vec Ideal S8x32x128 .f32) y = (V m c main_v39 : Vec Ideal S8x32x128 .f32) y := by
  show (V m c main_v39 : Vec Ideal S8x32x128 .f32) ((win0_13.blk t).view.emb y) = _
  congr 1
  funext a
  apply Fin.ext
  obtain ⟨e0, e1, e2⟩ := ix_13 t
  match a with
  | ⟨0, _⟩ => show win0_13.index t (0 : Fin 3) * 8 + 1 * (y 0).val = (y 0).val; omega
  | ⟨1, _⟩ => show win0_13.index t (1 : Fin 3) * 32 + 1 * (y 1).val = (y 1).val; omega
  | ⟨2, _⟩ => show win0_13.index t (2 : Fin 3) * 128 + 1 * (y 2).val = (y 2).val; omega

theorem ix_14 : ∀ t : Fin cfg0.N, win0_14.index t (0 : Fin 2) = 0 ∧ win0_14.index t (1 : Fin 2) = 0 :=
  (by decide +kernel : ∀ t : Fin grid0.N, _)

theorem b_14 (t : Fin cfg0.N) (y : S1x1024.Idx) : (iblk m c 14 t : Vec Ideal S1x1024 .f32) y = (V m c main_v41 : Vec Ideal S1x1024 .f32) y := by
  show (V m c main_v41 : Vec Ideal S1x1024 .f32) ((win0_14.blk t).view.emb y) = _
  congr 1
  funext a
  apply Fin.ext
  obtain ⟨e0, e1⟩ := ix_14 t
  match a with
  | ⟨0, _⟩ => show win0_14.index t (0 : Fin 2) * 1 + 1 * (y 0).val = (y 0).val; omega
  | ⟨1, _⟩ => show win0_14.index t (1 : Fin 2) * 1024 + 1 * (y 1).val = (y 1).val; omega

theorem ix_15 : ∀ t : Fin cfg0.N, win0_15.index t (0 : Fin 2) = 0 ∧ win0_15.index t (1 : Fin 2) = 0 :=
  (by decide +kernel : ∀ t : Fin grid0.N, _)

theorem b_15 (t : Fin cfg0.N) (y : S1x1024.Idx) : (iblk m c 15 t : Vec Ideal S1x1024 .f32) y = (V m c main_v43 : Vec Ideal S1x1024 .f32) y := by
  show (V m c main_v43 : Vec Ideal S1x1024 .f32) ((win0_15.blk t).view.emb y) = _
  congr 1
  funext a
  apply Fin.ext
  obtain ⟨e0, e1⟩ := ix_15 t
  match a with
  | ⟨0, _⟩ => show win0_15.index t (0 : Fin 2) * 1 + 1 * (y 0).val = (y 0).val; omega
  | ⟨1, _⟩ => show win0_15.index t (1 : Fin 2) * 1024 + 1 * (y 1).val = (y 1).val; omega

theorem ix_16 : ∀ t : Fin cfg0.N, win0_16.index t (0 : Fin 2) = 0 ∧ win0_16.index t (1 : Fin 2) = 0 :=
  (by decide +kernel : ∀ t : Fin grid0.N, _)

theorem b_16 (t : Fin cfg0.N) (y : S1x1024.Idx) : (iblk m c 16 t : Vec Ideal S1x1024 .f32) y = (V m c main_v45 : Vec Ideal S1x1024 .f32) y := by
  show (V m c main_v45 : Vec Ideal S1x1024 .f32) ((win0_16.blk t).view.emb y) = _
  congr 1
  funext a
  apply Fin.ext
  obtain ⟨e0, e1⟩ := ix_16 t
  match a with
  | ⟨0, _⟩ => show win0_16.index t (0 : Fin 2) * 1 + 1 * (y 0).val = (y 0).val; omega
  | ⟨1, _⟩ => show win0_16.index t (1 : Fin 2) * 1024 + 1 * (y 1).val = (y 1).val; omega

theorem ix_17 : ∀ t : Fin cfg0.N, win0_17.index t (0 : Fin 2) = 0 ∧ win0_17.index t (1 : Fin 2) = 0 :=
  (by decide +kernel : ∀ t : Fin grid0.N, _)

theorem b_17 (t : Fin cfg0.N) (y : S1024x1024.Idx) : (iblk m c 17 t : Vec Ideal S1024x1024 .bf16) y = (V m c main_v47 : Vec Ideal S1024x1024 .bf16) y := by
  show (V m c main_v47 : Vec Ideal S1024x1024 .bf16) ((win0_17.blk t).view.emb y) = _
  congr 1
  funext a
  apply Fin.ext
  obtain ⟨e0, e1⟩ := ix_17 t
  match a with
  | ⟨0, _⟩ => show win0_17.index t (0 : Fin 2) * 1024 + 1 * (y 0).val = (y 0).val; omega
  | ⟨1, _⟩ => show win0_17.index t (1 : Fin 2) * 1024 + 1 * (y 1).val = (y 1).val; omega

theorem ix_18 : ∀ t : Fin cfg0.N, win0_18.index t (0 : Fin 2) = 0 ∧ win0_18.index t (1 : Fin 2) = 0 :=
  (by decide +kernel : ∀ t : Fin grid0.N, _)

theorem b_18 (t : Fin cfg0.N) (y : S1x1024.Idx) : (iblk m c 18 t : Vec Ideal S1x1024 .f32) y = (V m c main_v49 : Vec Ideal S1x1024 .f32) y := by
  show (V m c main_v49 : Vec Ideal S1x1024 .f32) ((win0_18.blk t).view.emb y) = _
  congr 1
  funext a
  apply Fin.ext
  obtain ⟨e0, e1⟩ := ix_18 t
  match a with
  | ⟨0, _⟩ => show win0_18.index t (0 : Fin 2) * 1 + 1 * (y 0).val = (y 0).val; omega
  | ⟨1, _⟩ => show win0_18.index t (1 : Fin 2) * 1024 + 1 * (y 1).val = (y 1).val; omega

theorem ix_19 : ∀ t : Fin cfg0.N, win0_19.index t (0 : Fin 2) = 0 ∧ win0_19.index t (1 : Fin 2) = 0 :=
  (by decide +kernel : ∀ t : Fin grid0.N, _)

theorem b_19 (t : Fin cfg0.N) (y : S512x128.Idx) : (iblk m c 19 t : Vec Ideal S512x128 .bf16) y = (V m c main_v50 : Vec Ideal S512x128 .bf16) y := by
  show (V m c main_v50 : Vec Ideal S512x128 .bf16) ((win0_19.blk t).view.emb y) = _
  congr 1
  funext a
  apply Fin.ext
  obtain ⟨e0, e1⟩ := ix_19 t
  match a with
  | ⟨0, _⟩ => show win0_19.index t (0 : Fin 2) * 512 + 1 * (y 0).val = (y 0).val; omega
  | ⟨1, _⟩ => show win0_19.index t (1 : Fin 2) * 128 + 1 * (y 1).val = (y 1).val; omega

theorem ix_20 : ∀ t : Fin cfg0.N, win0_20.index t (0 : Fin 2) = 0 ∧ win0_20.index t (1 : Fin 2) = 0 :=
  (by decide +kernel : ∀ t : Fin grid0.N, _)

theorem b_20 (t : Fin cfg0.N) (y : S512x512.Idx) : (iblk m c 20 t : Vec Ideal S512x512 .f32) y = (V m c main_v16 : Vec Ideal S512x512 .f32) y := by
  show (V m c main_v16 : Vec Ideal S512x512 .f32) ((win0_20.blk t).view.emb y) = _
  congr 1
  funext a
  apply Fin.ext
  obtain ⟨e0, e1⟩ := ix_20 t
  match a with
  | ⟨0, _⟩ => show win0_20.index t (0 : Fin 2) * 512 + 1 * (y 0).val = (y 0).val; omega
  | ⟨1, _⟩ => show win0_20.index t (1 : Fin 2) * 512 + 1 * (y 1).val = (y 1).val; omega

theorem ix_21 : ∀ t : Fin cfg0.N, win0_21.index t (0 : Fin 2) = 0 ∧ win0_21.index t (1 : Fin 2) = 0 :=
  (by decide +kernel : ∀ t : Fin grid0.N, _)

theorem b_21 (t : Fin cfg0.N) (y : S4x256.Idx) : (iblk m c 21 t : Vec Ideal S4x256 .f32) y = (V m c main_v51 : Vec Ideal S4x256 .f32) y := by
  show (V m c main_v51 : Vec Ideal S4x256 .f32) ((win0_21.blk t).view.emb y) = _
  congr 1
  funext a
  apply Fin.ext
  obtain ⟨e0, e1⟩ := ix_21 t
  match a with
  | ⟨0, _⟩ => show win0_21.index t (0 : Fin 2) * 4 + 1 * (y 0).val = (y 0).val; omega
  | ⟨1, _⟩ => show win0_21.index t (1 : Fin 2) * 256 + 1 * (y 1).val = (y 1).val; omega

theorem ix_22 : ∀ t : Fin cfg0.N, win0_22.index t (0 : Fin 2) = 0 ∧ win0_22.index t (1 : Fin 2) = 0 :=
  (by decide +kernel : ∀ t : Fin grid0.N, _)

theorem b_22 (t : Fin cfg0.N) (y : S1024x1024.Idx) : (iblk m c 22 t : Vec Ideal S1024x1024 .bf16) y = (V m c main_v53 : Vec Ideal S1024x1024 .bf16) y := by
  show (V m c main_v53 : Vec Ideal S1024x1024 .bf16) ((win0_22.blk t).view.emb y) = _
  congr 1
  funext a
  apply Fin.ext
  obtain ⟨e0, e1⟩ := ix_22 t
  match a with
  | ⟨0, _⟩ => show win0_22.index t (0 : Fin 2) * 1024 + 1 * (y 0).val = (y 0).val; omega
  | ⟨1, _⟩ => show win0_22.index t (1 : Fin 2) * 1024 + 1 * (y 1).val = (y 1).val; omega

theorem ix_23 : ∀ t : Fin cfg0.N, win0_23.index t (0 : Fin 2) = 0 ∧ win0_23.index t (1 : Fin 2) = 0 :=
  (by decide +kernel : ∀ t : Fin grid0.N, _)

theorem b_23 (t : Fin cfg0.N) (y : S1024x1024.Idx) : (iblk m c 23 t : Vec Ideal S1024x1024 .bf16) y = (V m c main_v55 : Vec Ideal S1024x1024 .bf16) y := by
  show (V m c main_v55 : Vec Ideal S1024x1024 .bf16) ((win0_23.blk t).view.emb y) = _
  congr 1
  funext a
  apply Fin.ext
  obtain ⟨e0, e1⟩ := ix_23 t
  match a with
  | ⟨0, _⟩ => show win0_23.index t (0 : Fin 2) * 1024 + 1 * (y 0).val = (y 0).val; omega
  | ⟨1, _⟩ => show win0_23.index t (1 : Fin 2) * 1024 + 1 * (y 1).val = (y 1).val; omega

theorem ix_24 : ∀ t : Fin cfg0.N, win0_24.index t (0 : Fin 2) = 0 ∧ win0_24.index t (1 : Fin 2) = 0 :=
  (by decide +kernel : ∀ t : Fin grid0.N, _)

theorem b_24 (t : Fin cfg0.N) (y : S1x1024.Idx) : (iblk m c 24 t : Vec Ideal S1x1024 .f32) y = (V m c main_v57 : Vec Ideal S1x1024 .f32) y := by
  show (V m c main_v57 : Vec Ideal S1x1024 .f32) ((win0_24.blk t).view.emb y) = _
  congr 1
  funext a
  apply Fin.ext
  obtain ⟨e0, e1⟩ := ix_24 t
  match a with
  | ⟨0, _⟩ => show win0_24.index t (0 : Fin 2) * 1 + 1 * (y 0).val = (y 0).val; omega
  | ⟨1, _⟩ => show win0_24.index t (1 : Fin 2) * 1024 + 1 * (y 1).val = (y 1).val; omega

theorem ix_25 : ∀ t : Fin cfg0.N, win0_25.index t (0 : Fin 2) = 0 ∧ win0_25.index t (1 : Fin 2) = 0 :=
  (by decide +kernel : ∀ t : Fin grid0.N, _)

theorem b_25 (t : Fin cfg0.N) (y : S1x1024.Idx) : (iblk m c 25 t : Vec Ideal S1x1024 .f32) y = (V m c main_v59 : Vec Ideal S1x1024 .f32) y := by
  show (V m c main_v59 : Vec Ideal S1x1024 .f32) ((win0_25.blk t).view.emb y) = _
  congr 1
  funext a
  apply Fin.ext
  obtain ⟨e0, e1⟩ := ix_25 t
  match a with
  | ⟨0, _⟩ => show win0_25.index t (0 : Fin 2) * 1 + 1 * (y 0).val = (y 0).val; omega
  | ⟨1, _⟩ => show win0_25.index t (1 : Fin 2) * 1024 + 1 * (y 1).val = (y 1).val; omega

theorem ix_26 : ∀ t : Fin cfg0.N, win0_26.index t (0 : Fin 2) = 0 ∧ win0_26.index t (1 : Fin 2) = 0 :=
  (by decide +kernel : ∀ t : Fin grid0.N, _)

theorem b_26 (t : Fin cfg0.N) (y : S1x1024.Idx) : (iblk m c 26 t : Vec Ideal S1x1024 .f32) y = (V m c main_v61 : Vec Ideal S1x1024 .f32) y := by
  show (V m c main_v61 : Vec Ideal S1x1024 .f32) ((win0_26.blk t).view.emb y) = _
  congr 1
  funext a
  apply Fin.ext
  obtain ⟨e0, e1⟩ := ix_26 t
  match a with
  | ⟨0, _⟩ => show win0_26.index t (0 : Fin 2) * 1 + 1 * (y 0).val = (y 0).val; omega
  | ⟨1, _⟩ => show win0_26.index t (1 : Fin 2) * 1024 + 1 * (y 1).val = (y 1).val; omega

/-- The blocks a grid point stages hold the arguments of its batch and tile. -/
theorem blk_args (t : Fin cfg0.N) : Blk (argsK m c) (t.val / 4) (t.val % 4) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) where
  h0 r d := by
    have hN : cfg0.N = 32 := N_0
    have ht := t.isLt
    refine (b_0 m c t r d (by omega)).trans ((w0_eq m c _ _).trans ?_)
    show (argsK m c).X ((512 * t.val + r.val) / 2048) ((512 * t.val + r.val) % 2048) d.val = _
    rw [show (512 * t.val + r.val) / 2048 = t.val / 4 by omega, show (512 * t.val + r.val) % 2048 = 512 * (t.val % 4) + r.val by omega]
  h1 x y := (b_1 m c t _).trans (w1_eq m c x y)
  h2 x y := (b_2 m c t _).trans (w2_eq m c x y)
  h3 x y := (b_3 m c t _).trans (w3_eq m c x y)
  h4 x y := (b_4 m c t _).trans (w4_eq m c x y)
  h5 x y := (b_5 m c t _).trans (w5_eq m c x y)
  h6 x y := (b_6 m c t _).trans (w6_eq m c x y)
  h7 x y := (b_7 m c t _).trans (w7_eq m c x y)
  h8 x y := (b_8 m c t _).trans (w8_eq m c x y)
  h9 x y := (b_9 m c t _).trans (w9_eq m c x y)
  h10 x y := (b_10 m c t _).trans (w10_eq m c x y)
  h11 x y := (b_11 m c t _).trans (w11_eq m c x y)
  h12 x y := (b_12 m c t _).trans (w12_eq m c x y)
  h13 y := by
    idx_vars y
    exact (b_13 m c t _).trans (w13_eq m c _ _ _)
  h14 x y := (b_14 m c t _).trans (w14_eq m c x y)
  h15 x y := (b_15 m c t _).trans (w15_eq m c x y)
  h16 x y := (b_16 m c t _).trans (w16_eq m c x y)
  h17 x y := (b_17 m c t _).trans (w17_eq m c x y)
  h18 x y := (b_18 m c t _).trans (w18_eq m c x y)
  h19 x y := (b_19 m c t _).trans (w19_eq m c x y)
  h20 x y := (b_20 m c t _).trans (w20_eq m c x y)
  h21 x y := (b_21 m c t _).trans (w21_eq m c x y)
  h22 x y := (b_22 m c t _).trans (w22_eq m c x y)
  h23 x y := (b_23 m c t _).trans (w23_eq m c x y)
  h24 x y := (b_24 m c t _).trans (w24_eq m c x y)
  h25 x y := (b_25 m c t _).trans (w25_eq m c x y)
  h26 x y := (b_26 m c t _).trans (w26_eq m c x y)

end Cert.Mix

end
-- ==== Proof.Points.lean ====
/- What every grid point leaves, by induction over the points. -/
module

public import proofs.«01_k».proof.Proof.A7
public import proofs.«01_k».proof.Proof.B7
public import proofs.«01_k».proof.Proof.KFrame
public import proofs.«01_k».proof.Proof.Inputs

@[expose] public section

set_option maxHeartbeats 2000000
set_option maxRecDepth 16384

noncomputable section

namespace Cert.Mix

open Idealize.ShloMosaic Idealize.ShloMosaic.TcCoe Idealize.SL.Sem
open Cert.KernelIdeal Cert.KernelIdeal.Gen
variable (m : (ℓ : Loc nD τ sig) → Buf (Elt Ideal) ℓ) (c : Dev nD)

/-- After each grid point: the written tile, and the two carried scratches. -/
theorem points : ∀ (n : ℕ) (hn : n < cfg0.N),
    ((outsAt0 m c n hn).1 = fun y => Out (argsK m c) (n / 4) (512 * (n % 4) + (y 0).val) (y 1).val)
    ∧ (∀ y, (y 1).val < 32 → (outsAt0 m c n hn).2.1 y = Uh (argsK m c) (n / 4) (512 * (n % 4 + 1) + (y 1).val) (128 * (y 0).val + (y 2).val))
    ∧ ((outsAt0 m c n hn).2.2 = fun y => St (argsK m c) (n / 4) (y 0).val (y 1).val (y 2).val (8 * (n % 4 + 1))) := by
  intro n
  induction n with
  | zero =>
    intro hn
    rw [show outsAt0 m c 0 hn = _ from outsAt0_A m c ⟨0, hn⟩ rfl]
    unfold stepA out0_A_27 sout0_A_0 sout0_A_2
    dsimp only
    refine ⟨?_, ?_, ?_⟩
    · exact (View.read_writes_junk_eq_canon VO0_27 _).trans (A_fo (blk_args m c ⟨0, hn⟩) rfl)
    · intro y hy
      exact (congrFun (View.read_writes_junk_eq_canon VS0_0 _) y).trans (A_fu (blk_args m c ⟨0, hn⟩) rfl y hy)
    · exact (View.read_writes_junk_eq_canon VS0_2 _).trans (A_fs (blk_args m c ⟨0, hn⟩) rfl)
  | succ k ih =>
    intro hn
    by_cases h0 : (k + 1) % 4 = 0
    · rw [show outsAt0 m c (k + 1) hn = _ from outsAt0_A m c ⟨k + 1, hn⟩ h0]
      unfold stepA out0_A_27 sout0_A_0 sout0_A_2
      dsimp only
      refine ⟨?_, ?_, ?_⟩
      · exact (View.read_writes_junk_eq_canon VO0_27 _).trans (A_fo (blk_args m c ⟨k + 1, hn⟩) h0)
      · intro y hy
        exact (congrFun (View.read_writes_junk_eq_canon VS0_0 _) y).trans (A_fu (blk_args m c ⟨k + 1, hn⟩) h0 y hy)
      · exact (View.read_writes_junk_eq_canon VS0_2 _).trans (A_fs (blk_args m c ⟨k + 1, hn⟩) h0)
    · obtain ⟨-, i0, i2⟩ := ih (by omega)
      have e1 : k / 4 = (k + 1) / 4 := by omega
      have e2 : k % 4 + 1 = (k + 1) % 4 := by omega
      rw [e1, e2] at i0 i2
      have j2 := fun y => congrFun i2 y
      rw [show outsAt0 m c (k + 1) hn = _ from outsAt0_B m c ⟨k + 1, hn⟩ h0]
      unfold stepB out0_B_27 sout0_B_0 sout0_B_2
      dsimp only
      refine ⟨?_, ?_, ?_⟩
      · exact (View.read_writes_junk_eq_canon VO0_27 _).trans (B_fo (blk_args m c ⟨k + 1, hn⟩) i0 j2)
      · intro y hy
        exact (congrFun (View.read_writes_junk_eq_canon VS0_0 _) y).trans (B_fu (blk_args m c ⟨k + 1, hn⟩) i0 j2 y hy)
      · exact (View.read_writes_junk_eq_canon VS0_2 _).trans (B_fs (blk_args m c ⟨k + 1, hn⟩) i0 j2)

/-- The mixing output as one array over the flattened rows. -/
def outArr (a : Args) : S16384x1024.Idx → EReal := fun i => Out a ((i 0).val / 2048) ((i 0).val % 2048) (i 1).val

theorem idx27 : ∀ t : Fin cfg0.N, win0_27.index t (0 : Fin 2) = t.val ∧ win0_27.index t (1 : Fin 2) = 0 :=
  (by decide +kernel : ∀ t : Fin grid0.N, _)

theorem emb27 (t : Fin cfg0.N) (y : S512x1024.Idx) :
    (((cfg0.win 27).blk t).view.emb y 0).val = 512 * t.val + (y 0).val ∧ (((cfg0.win 27).blk t).view.emb y 1).val = (y 1).val := by
  obtain ⟨e0, e1⟩ := idx27 t
  constructor
  · show win0_27.index t (0 : Fin 2) * 512 + 1 * (y 0).val = _; omega
  · show win0_27.index t (1 : Fin 2) * 1024 + 1 * (y 1).val = _; omega

theorem flushed_out (t : Fin cfg0.N) :
    (dats m 0 c).flushed 27 t = ((cfg0.win 27).blk t).view.read (Elt Ideal) (outArr (argsK m c)) := by
  show (cfg0.win 27).cut (grid0.coords t) ((dats m 0 c).after 27 t) = _
  rw [after0_27, (points m c t.val t.isLt).1]
  funext y
  obtain ⟨e0, e1⟩ := emb27 t y
  have h0 : (y 0).val < 512 := (y 0).isLt
  have hN : cfg0.N = 32 := N_0
  have ht := t.isLt
  show Out _ _ (512 * (t.val % 4) + (y 0).val) (y 1).val
    = Out _ ((((cfg0.win 27).blk t).view.emb y 0).val / 2048) ((((cfg0.win 27).blk t).view.emb y 0).val % 2048) (((cfg0.win 27).blk t).view.emb y 1).val
  rw [e0, e1]
  rw [show (512 * t.val + (y 0).val) / 2048 = t.val / 4 by omega, show (512 * t.val + (y 0).val) % 2048 = 512 * (t.val % 4) + (y 0).val by omega]

end Cert.Mix

end
-- ==== Proof.KRun.lean ====
/- The kernel's run, its result named. -/
module

public import Idealize.ShloMosaic.Lib.Pipeline.Value
public import proofs.«01_k».proof.Proof.Points

@[expose] public section

set_option maxRecDepth 16384

noncomputable section

namespace Cert.Mix

open Idealize.ShloMosaic Idealize.ShloMosaic.TcCoe Idealize.SL.Sem
open Idealize.ShloMosaic Idealize.ShloMosaic.TcCoe Idealize.SL.Sem
open Cert.KernelIdeal Cert.KernelIdeal.Gen

variable (m : (ℓ : Loc nD τ sig) → Buf (Elt Ideal) ℓ)

/-- Every row block is some grid point's. -/
theorem onto27 : ∀ q : Fin 32, ∃ t : Fin cfg0.N, (cfg0.win 27).flush t = true ∧ win0_27.index t = ![q.val, 0] :=
  fun q => ⟨⟨q.val, lt_of_lt_of_eq q.isLt N_0.symm⟩, (by decide +kernel : ∀ q : Fin 32, win0_27.flush ⟨q.val, lt_of_lt_of_eq q.isLt N_0.symm⟩ = true ∧ win0_27.index ⟨q.val, lt_of_lt_of_eq q.isLt N_0.symm⟩ = ![q.val, 0]) q⟩

theorem mem27 (t : Fin cfg0.N) (i : S16384x1024.Idx) :
    i ∈ ((cfg0.win 27).blk t).view.set ↔ ∀ a : Fin 2, win0_27.index t a * S512x1024.size a ≤ (i a).val ∧ (i a).val < win0_27.index t a * S512x1024.size a + S512x1024.size a := by
  show i ∈ ((View.whole main_v63).slice (win0_27.rect t)).set ↔ _
  rw [View.set_slice_whole, Rect.mem_set_unit]
  exact Iff.rfl

/-- The written blocks tile the result. -/
theorem cover27 (i : S16384x1024.Idx) : ∃ t : Fin cfg0.N, (cfg0.win 27).flush t = true ∧ i ∈ ((cfg0.win 27).blk t).view.set := by
  have h0 : (i 0).val < 16384 := (i 0).isLt
  have h1 : (i 1).val < 1024 := (i 1).isLt
  obtain ⟨t, hf, ht⟩ := onto27 ⟨(i 0).val / 512, by omega⟩
  have q0 : win0_27.index t (0 : Fin 2) = (i 0).val / 512 := congrFun ht 0
  have q1 : win0_27.index t (1 : Fin 2) = 0 := congrFun ht 1
  refine ⟨t, hf, (mem27 t i).2 fun a => ?_⟩
  match a with
  | ⟨0, _⟩ => show win0_27.index t (0 : Fin 2) * 512 ≤ (i 0).val ∧ (i 0).val < win0_27.index t (0 : Fin 2) * 512 + 512; omega
  | ⟨1, _⟩ => show win0_27.index t (1 : Fin 2) * 1024 ≤ (i 1).val ∧ (i 1).val < win0_27.index t (1 : Fin 2) * 1024 + 1024; omega

/-- The result array after the run. -/
theorem final_out (c : Dev nD) : (dats m 0 c).arrAt 27 cfg0.N = outArr (argsK m c) :=
  (dats m 0 c).arrAt_eq_of_cover 27 _ (fun t _ => flushed_out m c t) cover27

/-- The kernel's run: the result is the specification's, the arguments are kept. -/
theorem run_kernel (ρ : Dev nD → PrngReg) : θ_run defs (onTc (τ := τ) (main (F := Ideal))) ⟨m, fun _ => 0, ρ⟩ fun r => ∀ c : Dev nD,
    r.2.mem ((c.tc : Thread nD τ).loc main_v63) = outArr (argsK m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  (θ_run defs _ _).mono (fun r h c => ⟨((h c).1 27).trans (final_out m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c)⟩)
    (run_main m ρ)

end Cert.Mix

end
-- ==== Proof.R1.lean ====
/- The reference read stage by stage: the projection and the convolution. -/
module

public import Idealize.ShloMosaic.Lib.KernelVsHost
public import Idealize.ShloMosaic.Lib.IdealHost
public import proofs.«01_k».proof.Proof.Gen.ReferenceIdeal.Read
public import proofs.«01_k».proof.Proof.Args
public import proofs.«01_k».proof.Proof.Sums

@[expose] public section

set_option maxRecDepth 16384

noncomputable section

namespace Cert.MixRef

open Cert.Mix

open Idealize.ShloMosaic Idealize.ShloMosaic.TcCoe Idealize.SL.Sem
open Cert.ReferenceIdeal Cert.ReferenceIdeal.Gen Cert.ReferenceIdeal.Read
/-- The seventeen argument arrays of the reference. -/
structure Ops where
  x0 : (⟨S8x2048x1024, .f32⟩ : BufTy).Contents (Elt Ideal)
  x1 : (⟨S1x1024x7184, .f32⟩ : BufTy).Contents (Elt Ideal)
  x2 : (⟨S1x7184, .f32⟩ : BufTy).Contents (Elt Ideal)
  x3 : (⟨S1x31x1024, .f32⟩ : BufTy).Contents (Elt Ideal)
  x4 : (⟨S1x1024, .f32⟩ : BufTy).Contents (Elt Ideal)
  x5 : (⟨S1x1024, .f32⟩ : BufTy).Contents (Elt Ideal)
  x6 : (⟨S1x1024, .f32⟩ : BufTy).Contents (Elt Ideal)
  x7 : (⟨S1x1024x1024, .f32⟩ : BufTy).Contents (Elt Ideal)
  x8 : (⟨S1x1024, .f32⟩ : BufTy).Contents (Elt Ideal)
  x9 : (⟨S1x16x512, .f32⟩ : BufTy).Contents (Elt Ideal)
  x10 : (⟨S1x512, .f32⟩ : BufTy).Contents (Elt Ideal)
  x11 : (⟨S1x4x256, .f32⟩ : BufTy).Contents (Elt Ideal)
  x12 : (⟨S1x1024x1024, .f32⟩ : BufTy).Contents (Elt Ideal)
  x13 : (⟨S1x1024x1024, .f32⟩ : BufTy).Contents (Elt Ideal)
  x14 : (⟨S1x1024, .f32⟩ : BufTy).Contents (Elt Ideal)
  x15 : (⟨S1x1024, .f32⟩ : BufTy).Contents (Elt Ideal)
  x16 : (⟨S1x1024, .f32⟩ : BufTy).Contents (Elt Ideal)

/-- The arguments by plain indices. -/
def argsR (o : Ops) : Args := argsOf
  (fun i j k => o.x0 (ix3 i j k))
  (fun i j => o.x1 (ix3 0 i j))
  (fun i => o.x2 (ix2 0 i))
  (fun i j => o.x3 (ix3 0 i j))
  (fun i => o.x4 (ix2 0 i))
  (fun i => o.x5 (ix2 0 i))
  (fun i => o.x6 (ix2 0 i))
  (fun i j => o.x7 (ix3 0 i j))
  (fun i => o.x8 (ix2 0 i))
  (fun i j => o.x9 (ix3 0 i j))
  (fun i => o.x10 (ix2 0 i))
  (fun i j => o.x11 (ix3 0 i j))
  (fun i j => o.x12 (ix3 0 i j))
  (fun i j => o.x13 (ix3 0 i j))
  (fun i => o.x14 (ix2 0 i))
  (fun i => o.x15 (ix2 0 i))
  (fun i => o.x16 (ix2 0 i))

theorem a_x0 (o : Ops) (i : S8x2048x1024.Idx) : o.x0 i = (argsR o).X (i 0).val (i 1).val (i 2).val := by
  have e : i = ix3 (i 0) (i 1) (i 2) := funext fun a => match a with
    | ⟨0, _⟩ => rfl
    | ⟨1, _⟩ => rfl
    | ⟨2, _⟩ => rfl
  exact (congrArg o.x0 e).trans (at3_eq (f := (fun i j k => o.x0 (ix3 i j k))) (i 0).isLt (i 1).isLt (i 2).isLt).symm

theorem a_x1 (o : Ops) (i : S1x1024x7184.Idx) : o.x1 i = (argsR o).Win (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x1 e).trans (at2_eq (f := (fun i j => o.x1 (ix3 0 i j))) (i 1).isLt (i 2).isLt).symm

theorem a_x2 (o : Ops) (i : S1x7184.Idx) : o.x2 i = (argsR o).Bin (i 1).val := by
  have e : i = ix2 0 (i 1) := funext fun a => match a with
    | ⟨0, _⟩ => Fin.ext (show (i 0).val = 0 from Nat.lt_one_iff.mp (i 0).isLt)
    | ⟨1, _⟩ => rfl
  exact (congrArg o.x2 e).trans (at1_eq (f := (fun i => o.x2 (ix2 0 i))) (i 1).isLt).symm

theorem a_x3 (o : Ops) (i : S1x31x1024.Idx) : o.x3 i = (argsR o).Cw (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x3 e).trans (at2_eq (f := (fun i j => o.x3 (ix3 0 i j))) (i 1).isLt (i 2).isLt).symm

theorem a_x4 (o : Ops) (i : S1x1024.Idx) : o.x4 i = (argsR o).Cb (i 1).val := by
  have e : i = ix2 0 (i 1) := funext fun a => match a with
    | ⟨0, _⟩ => Fin.ext (show (i 0).val = 0 from Nat.lt_one_iff.mp (i 0).isLt)
    | ⟨1, _⟩ => rfl
  exact (congrArg o.x4 e).trans (at1_eq (f := (fun i => o.x4 (ix2 0 i))) (i 1).isLt).symm

theorem a_x5 (o : Ops) (i : S1x1024.Idx) : o.x5 i = (argsR o).Clg (i 1).val := by
  have e : i = ix2 0 (i 1) := funext fun a => match a with
    | ⟨0, _⟩ => Fin.ext (show (i 0).val = 0 from Nat.lt_one_iff.mp (i 0).isLt)
    | ⟨1, _⟩ => rfl
  exact (congrArg o.x5 e).trans (at1_eq (f := (fun i => o.x5 (ix2 0 i))) (i 1).isLt).symm

theorem a_x6 (o : Ops) (i : S1x1024.Idx) : o.x6 i = (argsR o).Clb (i 1).val := by
  have e : i = ix2 0 (i 1) := funext fun a => match a with
    | ⟨0, _⟩ => Fin.ext (show (i 0).val = 0 from Nat.lt_one_iff.mp (i 0).isLt)
    | ⟨1, _⟩ => rfl
  exact (congrArg o.x6 e).trans (at1_eq (f := (fun i => o.x6 (ix2 0 i))) (i 1).isLt).symm

theorem a_x7 (o : Ops) (i : S1x1024x1024.Idx) : o.x7 i = (argsR o).Wco (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x7 e).trans (at2_eq (f := (fun i j => o.x7 (ix3 0 i j))) (i 1).isLt (i 2).isLt).symm

theorem a_x8 (o : Ops) (i : S1x1024.Idx) : o.x8 i = (argsR o).Bco (i 1).val := by
  have e : i = ix2 0 (i 1) := funext fun a => match a with
    | ⟨0, _⟩ => Fin.ext (show (i 0).val = 0 from Nat.lt_one_iff.mp (i 0).isLt)
    | ⟨1, _⟩ => rfl
  exact (congrArg o.x8 e).trans (at1_eq (f := (fun i => o.x8 (ix2 0 i))) (i 1).isLt).symm

theorem a_x9 (o : Ops) (i : S1x16x512.Idx) : o.x9 i = (argsR o).Wgu (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x9 e).trans (at2_eq (f := (fun i j => o.x9 (ix3 0 i j))) (i 1).isLt (i 2).isLt).symm

theorem a_x10 (o : Ops) (i : S1x512.Idx) : o.x10 i = (argsR o).Bgu (i 1).val := by
  have e : i = ix2 0 (i 1) := funext fun a => match a with
    | ⟨0, _⟩ => Fin.ext (show (i 0).val = 0 from Nat.lt_one_iff.mp (i 0).isLt)
    | ⟨1, _⟩ => rfl
  exact (congrArg o.x10 e).trans (at1_eq (f := (fun i => o.x10 (ix2 0 i))) (i 1).isLt).symm

theorem a_x11 (o : Ops) (i : S1x4x256.Idx) : o.x11 i = (argsR o).Ng (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x11 e).trans (at2_eq (f := (fun i j => o.x11 (ix3 0 i j))) (i 1).isLt (i 2).isLt).symm

theorem a_x12 (o : Ops) (i : S1x1024x1024.Idx) : o.x12 i = (argsR o).Wgo (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x12 e).trans (at2_eq (f := (fun i j => o.x12 (ix3 0 i j))) (i 1).isLt (i 2).isLt).symm

theorem a_x13 (o : Ops) (i : S1x1024x1024.Idx) : o.x13 i = (argsR o).Wout (i 1).val (i 2).val := by
  have e : i = ix3 0 (i 1) (i 2) := funext fun a => match a with
    | ⟨0, _⟩ => Fin.ext (show (i 0).val = 0 from Nat.lt_one_iff.mp (i 0).isLt)
    | ⟨1, _⟩ => rfl
    | ⟨2, _⟩ => rfl
  exact (congrArg o.x13 e).trans (at2_eq (f := (fun i j => o.x13 (ix3 0 i j))) (i 1).isLt (i 2).isLt).symm

theorem a_x14 (o : Ops) (i : S1x1024.Idx) : o.x14 i = (argsR o).Bout (i 1).val := by
  have e : i = ix2 0 (i 1) := funext fun a => match a with
    | ⟨0, _⟩ => Fin.ext (show (i 0).val = 0 from Nat.lt_one_iff.mp (i 0).isLt)
    | ⟨1, _⟩ => rfl
  exact (congrArg o.x14 e).trans (at1_eq (f := (fun i => o.x14 (ix2 0 i))) (i 1).isLt).symm

theorem a_x15 (o : Ops) (i : S1x1024.Idx) : o.x15 i = (argsR o).L1g (i 1).val := by
  have e : i = ix2 0 (i 1) := funext fun a => match a with
    | ⟨0, _⟩ => Fin.ext (show (i 0).val = 0 from Nat.lt_one_iff.mp (i 0).isLt)
    | ⟨1, _⟩ => rfl
  exact (congrArg o.x15 e).trans (at1_eq (f := (fun i => o.x15 (ix2 0 i))) (i 1).isLt).symm

theorem a_x16 (o : Ops) (i : S1x1024.Idx) : o.x16 i = (argsR o).L1b (i 1).val := by
  have e : i = ix2 0 (i 1) := funext fun a => match a with
    | ⟨0, _⟩ => Fin.ext (show (i 0).val = 0 from Nat.lt_one_iff.mp (i 0).isLt)
    | ⟨1, _⟩ => rfl
  exact (congrArg o.x16 e).trans (at1_eq (f := (fun i => o.x16 (ix2 0 i))) (i 1).isLt).symm

theorem one_bits : (FloatOps.ofBits (F := Ideal) FTy.f32 0x3F800000#32 : EReal) = 1 := by
  show Ideal.ofBits FTy.f32 0x3F800000#32 = 1
  simp

theorem zero_bits : (FloatOps.ofBits (F := Ideal) FTy.f32 0x00000000#32 : EReal) = 0 := by
  show Ideal.ofBits FTy.f32 0x00000000#32 = 0
  simp

theorem sitofp_zero' : (FloatOps.sitofp (F := Ideal) FTy.f32 0#32 : EReal) = 0 := by
  simp [FloatOps.sitofp]

/-- The convolution's first `n` taps. -/
def Cp (a : Args) (b s c n : ℕ) : EReal := ∑ x ∈ Finset.range n, Uh a b (s + 2 + x) c * a.Cw x c

theorem Cp_one (a : Args) (b s c : ℕ) : a.Cb c + Uh a b (s + 2 + 0) c * a.Cw 0 c = a.Cb c + Cp a b s c 1 := by
  unfold Cp
  rw [Finset.sum_range_one]

theorem Cp_step (a : Args) (b s c n : ℕ) (z : EReal) : (z + Cp a b s c n) + Uh a b (s + 2 + n) c * a.Cw n c = z + Cp a b s c (n + 1) := by
  unfold Cp
  rw [Finset.sum_range_succ, ← add_assoc]

theorem Cp_all (a : Args) (b s c : ℕ) : a.Cb c + Cp a b s c 31 = Cv a b s c + a.Cb c := by
  unfold Cp Cv
  rw [add_comm, ← Fin.sum_univ_eq_sum_range]

theorem r_v0 (o : Ops) (i : S1024x7184.Idx) : val_main_v0 (F := Ideal) o.x1 i = (argsR o).Win (i 0).val (i 1).val := by
  rw [val_main_v0_apply, a_x1 o]
  have h0 : (i 0).val < 1024 := (i 0).isLt
  have h1 : (i 1).val < 7184 := (i 1).isLt
  show (argsR o).Win (((i 0).val * 7184 + (i 1).val) / 7184 % 1024) (((i 0).val * 7184 + (i 1).val) % 7184) = _
  rw [show ((i 0).val * 7184 + (i 1).val) / 7184 % 1024 = (i 0).val from by omega, show ((i 0).val * 7184 + (i 1).val) % 7184 = (i 1).val from by omega]
  all_goals rfl

theorem r_v1 (o : Ops) (i : S8x2048x7184.Idx) : val_main_v1 (F := Ideal) o.x0 o.x1 i = ∑ k : Fin 1024, ((argsR o).X (i 0).val (i 1).val k.val) * ((argsR o).Win k.val (i 2).val) := by
  rw [val_main_v1_apply]
  show _ = ∑ k : Fin 1024, ((argsR o).X (i 0).val (i 1).val k.val) * ((argsR o).Win k.val (i 2).val)
  refine Finset.sum_congr rfl fun k _ => ?_
  rw [a_x0 o, r_v0 o]
  all_goals rfl

theorem r_v2 (o : Ops) (i : S7184.Idx) : val_main_v2 (F := Ideal) o.x2 i = (argsR o).Bin (i 0).val := by
  rw [val_main_v2_apply, a_x2 o]
  have h0 : (i 0).val < 7184 := (i 0).isLt
  show (argsR o).Bin (((i 0).val) % 7184) = _
  rw [show ((i 0).val) % 7184 = (i 0).val from by omega]
  all_goals rfl

theorem r_v3 (o : Ops) (i : S1x1x7184.Idx) : val_main_v3 (F := Ideal) o.x2 i = (argsR o).Bin (i 2).val := by
  rw [val_main_v3_apply, r_v2 o]
  all_goals rfl

theorem r_v4 (o : Ops) (i : S8x2048x7184.Idx) : val_main_v4 (F := Ideal) o.x2 i = (argsR o).Bin (i 2).val := by
  rw [val_main_v4_apply, r_v3 o]
  all_goals rfl

theorem r_v5 (o : Ops) (i : S8x2048x7184.Idx) : val_main_v5 (F := Ideal) o.x0 o.x1 o.x2 i = H (argsR o) (i 0).val (i 1).val (i 2).val := by
  rw [val_main_v5_apply, r_v1 o, r_v4 o]
  all_goals rfl

theorem r_v6 (o : Ops) (i : S8x2048x1024.Idx) : val_main_v6 (F := Ideal) o.x0 o.x1 o.x2 i = H (argsR o) (i 0).val (i 1).val (i 2).val := by
  rw [val_main_v6_apply, r_v5 o]
  all_goals rfl

theorem r_v7 (o : Ops) (i : S8x2048x1024.Idx) : val_main_v7 (F := Ideal) o.x0 o.x1 o.x2 i = H (argsR o) (i 0).val (i 1).val (1024 + (i 2).val) := by
  rw [val_main_v7_apply, r_v5 o]
  all_goals rfl

theorem r_v8 (o : Ops) (i : S8x2048x512.Idx) : val_main_v8 (F := Ideal) o.x0 o.x1 o.x2 i = H (argsR o) (i 0).val (i 1).val (2048 + (i 2).val) := by
  rw [val_main_v8_apply, r_v5 o]
  all_goals rfl

theorem r_v9 (o : Ops) (i : S8x2048x512.Idx) : val_main_v9 (F := Ideal) o.x0 o.x1 o.x2 i = H (argsR o) (i 0).val (i 1).val (2560 + (i 2).val) := by
  rw [val_main_v9_apply, r_v5 o]
  all_goals rfl

theorem r_v10 (o : Ops) (i : S8x2048x1024.Idx) : val_main_v10 (F := Ideal) o.x0 o.x1 o.x2 i = H (argsR o) (i 0).val (i 1).val (3072 + (i 2).val) := by
  rw [val_main_v10_apply, r_v5 o]
  all_goals rfl

theorem r_v11 (o : Ops) (i : S8x2048x1024.Idx) : val_main_v11 (F := Ideal) o.x0 o.x1 o.x2 i = H (argsR o) (i 0).val (i 1).val (4096 + (i 2).val) := by
  rw [val_main_v11_apply, r_v5 o]
  all_goals rfl

theorem r_v12 (o : Ops) (i : S8x2048x16.Idx) : val_main_v12 (F := Ideal) o.x0 o.x1 o.x2 i = H (argsR o) (i 0).val (i 1).val (5120 + (i 2).val) := by
  rw [val_main_v12_apply, r_v5 o]
  all_goals rfl

theorem r_v13 (o : Ops) (i : S8x2048x1024.Idx) : val_main_v13 (F := Ideal) o.x0 o.x1 o.x2 i = H (argsR o) (i 0).val (i 1).val (5136 + (i 2).val) := by
  rw [val_main_v13_apply, r_v5 o]
  all_goals rfl

theorem r_v14 (o : Ops) (i : S8x2048x1024.Idx) : val_main_v14 (F := Ideal) o.x0 o.x1 o.x2 i = H (argsR o) (i 0).val (i 1).val (6160 + (i 2).val) := by
  rw [val_main_v14_apply, r_v5 o]
  all_goals rfl

theorem r_v15 (o : Ops) (i : S31x1024.Idx) : val_main_v15 (F := Ideal) o.x3 i = (argsR o).Cw (i 0).val (i 1).val := by
  rw [val_main_v15_apply, a_x3 o]
  have h0 : (i 0).val < 31 := (i 0).isLt
  have h1 : (i 1).val < 1024 := (i 1).isLt
  show (argsR o).Cw (((i 0).val * 1024 + (i 1).val) / 1024 % 31) (((i 0).val * 1024 + (i 1).val) % 1024) = _
  rw [show ((i 0).val * 1024 + (i 1).val) / 1024 % 31 = (i 0).val from by omega, show ((i 0).val * 1024 + (i 1).val) % 1024 = (i 1).val from by omega]
  all_goals rfl

theorem r_v16 (o : Ops) (i : S1024.Idx) : val_main_v16 (F := Ideal) o.x4 i = (argsR o).Cb (i 0).val := by
  rw [val_main_v16_apply, a_x4 o]
  have h0 : (i 0).val < 1024 := (i 0).isLt
  show (argsR o).Cb (((i 0).val) % 1024) = _
  rw [show ((i 0).val) % 1024 = (i 0).val from by omega]
  all_goals rfl

theorem r_v17 (o : Ops) (i : S1024.Idx) : val_main_v17 (F := Ideal) o.x5 i = (argsR o).Clg (i 0).val := by
  rw [val_main_v17_apply, a_x5 o]
  have h0 : (i 0).val < 1024 := (i 0).isLt
  show (argsR o).Clg (((i 0).val) % 1024) = _
  rw [show ((i 0).val) % 1024 = (i 0).val from by omega]
  all_goals rfl

theorem r_v18 (o : Ops) (i : S1024.Idx) : val_main_v18 (F := Ideal) o.x6 i = (argsR o).Clb (i 0).val := by
  rw [val_main_v18_apply, a_x6 o]
  have h0 : (i 0).val < 1024 := (i 0).isLt
  show (argsR o).Clb (((i 0).val) % 1024) = _
  rw [show ((i 0).val) % 1024 = (i 0).val from by omega]
  all_goals rfl

theorem r_v19 (o : Ops) (i : S1024x1024.Idx) : val_main_v19 (F := Ideal) o.x7 i = (argsR o).Wco (i 0).val (i 1).val := by
  rw [val_main_v19_apply, a_x7 o]
  have h0 : (i 0).val < 1024 := (i 0).isLt
  have h1 : (i 1).val < 1024 := (i 1).isLt
  show (argsR o).Wco (((i 0).val * 1024 + (i 1).val) / 1024 % 1024) (((i 0).val * 1024 + (i 1).val) % 1024) = _
  rw [show ((i 0).val * 1024 + (i 1).val) / 1024 % 1024 = (i 0).val from by omega, show ((i 0).val * 1024 + (i 1).val) % 1024 = (i 1).val from by omega]
  all_goals rfl

theorem r_v20 (o : Ops) (i : S1024.Idx) : val_main_v20 (F := Ideal) o.x8 i = (argsR o).Bco (i 0).val := by
  rw [val_main_v20_apply, a_x8 o]
  have h0 : (i 0).val < 1024 := (i 0).isLt
  show (argsR o).Bco (((i 0).val) % 1024) = _
  rw [show ((i 0).val) % 1024 = (i 0).val from by omega]
  all_goals rfl

theorem r_cst (o : Ops) (i : S_.Idx) : val_main_cst (F := Ideal) i = 1 := by
  exact one_bits

theorem r_cst_0 (o : Ops) (i : S_.Idx) : val_main_cst_0 (F := Ideal) i = 1 := by
  exact one_bits

theorem r_v23 (o : Ops) (i : S8x2048x1024.Idx) : val_main_v23 (F := Ideal) i = 1 := by
  rw [val_main_v23_apply, r_cst o]
  all_goals rfl

theorem r_v25 (o : Ops) (i : S8x2048x1024.Idx) : val_main_v25 (F := Ideal) i = 1 := by
  rw [val_main_v25_apply, r_cst_0 o]
  all_goals rfl

theorem r_v26 (o : Ops) (i : S8x2048x1024.Idx) : val_main_v26 (F := Ideal) o.x0 o.x1 o.x2 i = Ideal.logistic (H (argsR o) (i 0).val (i 1).val (1024 + (i 2).val)) := by
  rw [val_main_v26_apply, val_main_v24_apply, val_main_v22_apply, val_main_v21_apply, r_v25 o, r_v23 o, r_v7 o]
  all_goals rfl

theorem r_v27 (o : Ops) (i : S8x2048x1024.Idx) : val_main_v27 (F := Ideal) o.x0 o.x1 o.x2 i = U (argsR o) (i 0).val (i 1).val (i 2).val := by
  rw [val_main_v27_apply, r_v6 o, r_v26 o]
  all_goals rfl

theorem r_v28 (o : Ops) (i : S8x2078x1024.Idx) : val_main_v28 (F := Ideal) o.x0 o.x1 o.x2 i = Uh (argsR o) (i 0).val ((i 1).val + 2) (i 2).val := by
  unfold val_main_v28
  have h0 : (i 0).val < 8 := (i 0).isLt
  have h1 : (i 1).val < 2078 := (i 1).isLt
  have h2 : (i 2).val < 1024 := (i 2).isLt
  by_cases h : (i 1).val < 30
  · refine (pad_apply_of_not_inside _ _ _ _ _ _ _ i (1 : Fin 3) ?_).trans ?_
    · intro hh
      have := hh.1
      change 30 ≤ (i 1).val at this
      omega
    · unfold Uh
      rw [if_pos (by omega)]
      exact sitofp_zero'
  · refine (pad_apply_of_inside _ _ _ _ _ _ _ i (ix3 ⟨(i 0).val, h0⟩ ⟨(i 1).val - 30, by omega⟩ ⟨(i 2).val, h2⟩) ?_).trans ?_
    · intro a
      match a with
      | ⟨0, _⟩ => show (i 0).val = 0 + (i 0).val * (0 + 1); omega
      | ⟨1, _⟩ => show (i 1).val = 30 + ((i 1).val - 30) * (0 + 1); omega
      | ⟨2, _⟩ => show (i 2).val = 0 + (i 2).val * (0 + 1); omega
    · rw [r_v27]
      unfold Uh
      rw [if_neg (by omega), show (i 1).val + 2 - 32 = (i 1).val - 30 by omega]
      rfl

theorem r_v35 (o : Ops) (i : S1x1x1024.Idx) : val_main_v35 (F := Ideal) o.x4 i = (argsR o).Cb (i 2).val := by
  rw [val_main_v35_apply, r_v16 o]
  all_goals rfl

theorem r_v36 (o : Ops) (i : S8x2048x1024.Idx) : val_main_v36 (F := Ideal) o.x4 i = (argsR o).Cb (i 2).val := by
  rw [val_main_v36_apply, r_v35 o]
  all_goals rfl

theorem q0 (i : S8x2048x1024.Idx) : ((i 2).val) % 1024 = (i 2).val := by
  have h0 : (i 0).val < 8 := (i 0).isLt
  have h1 : (i 1).val < 2048 := (i 1).isLt
  have h2 : (i 2).val < 1024 := (i 2).isLt
  omega

theorem r_v37 (o : Ops) (i : S8x2048x1024.Idx) : val_main_v37 (F := Ideal) o.x0 o.x1 o.x2 o.x3 o.x4 i = (argsR o).Cb (i 2).val + Cp (argsR o) (i 0).val (i 1).val (i 2).val 1 := by
  rw [val_main_v37_apply, val_main_v34_apply, val_main_v29_apply, val_main_v33_apply, val_main_v32_apply, val_main_v31_apply, val_main_v30_apply]
  rw [r_v36 o, r_v28 o, r_v15 o]
  show ((argsR o).Cb (i 2).val) + ((Uh (argsR o) (i 0).val ((i 1).val + 2) (i 2).val) * ((argsR o).Cw 0 (((i 2).val) % 1024))) = _
  rw [q0 i]
  exact Cp_one _ _ _ _

theorem r_v44 (o : Ops) (i : S8x2048x1024.Idx) : val_main_v44 (F := Ideal) o.x0 o.x1 o.x2 o.x3 o.x4 i = (argsR o).Cb (i 2).val + Cp (argsR o) (i 0).val (i 1).val (i 2).val 2 := by
  rw [val_main_v44_apply, val_main_v43_apply, val_main_v38_apply, val_main_v42_apply, val_main_v41_apply, val_main_v40_apply, val_main_v39_apply]
  rw [r_v37 o, r_v28 o, r_v15 o]
  show ((argsR o).Cb (i 2).val + Cp (argsR o) (i 0).val (i 1).val (i 2).val 1) + ((Uh (argsR o) (i 0).val (1 + (i 1).val + 2) (i 2).val) * ((argsR o).Cw 1 (((i 2).val) % 1024))) = _
  rw [q0 i]
  rw [show 1 + (i 1).val + 2 = (i 1).val + 2 + 1 from by omega]
  exact Cp_step _ _ _ _ 1 _

theorem r_v51 (o : Ops) (i : S8x2048x1024.Idx) : val_main_v51 (F := Ideal) o.x0 o.x1 o.x2 o.x3 o.x4 i = (argsR o).Cb (i 2).val + Cp (argsR o) (i 0).val (i 1).val (i 2).val 3 := by
  rw [val_main_v51_apply, val_main_v50_apply, val_main_v45_apply, val_main_v49_apply, val_main_v48_apply, val_main_v47_apply, val_main_v46_apply]
  rw [r_v44 o, r_v28 o, r_v15 o]
  show ((argsR o).Cb (i 2).val + Cp (argsR o) (i 0).val (i 1).val (i 2).val 2) + ((Uh (argsR o) (i 0).val (2 + (i 1).val + 2) (i 2).val) * ((argsR o).Cw 2 (((i 2).val) % 1024))) = _
  rw [q0 i]
  rw [show 2 + (i 1).val + 2 = (i 1).val + 2 + 2 from by omega]
  exact Cp_step _ _ _ _ 2 _

theorem r_v58 (o : Ops) (i : S8x2048x1024.Idx) : val_main_v58 (F := Ideal) o.x0 o.x1 o.x2 o.x3 o.x4 i = (argsR o).Cb (i 2).val + Cp (argsR o) (i 0).val (i 1).val (i 2).val 4 := by
  rw [val_main_v58_apply, val_main_v57_apply, val_main_v52_apply, val_main_v56_apply, val_main_v55_apply, val_main_v54_apply, val_main_v53_apply]
  rw [r_v51 o, r_v28 o, r_v15 o]
  show ((argsR o).Cb (i 2).val + Cp (argsR o) (i 0).val (i 1).val (i 2).val 3) + ((Uh (argsR o) (i 0).val (3 + (i 1).val + 2) (i 2).val) * ((argsR o).Cw 3 (((i 2).val) % 1024))) = _
  rw [q0 i]
  rw [show 3 + (i 1).val + 2 = (i 1).val + 2 + 3 from by omega]
  exact Cp_step _ _ _ _ 3 _

theorem r_v65 (o : Ops) (i : S8x2048x1024.Idx) : val_main_v65 (F := Ideal) o.x0 o.x1 o.x2 o.x3 o.x4 i = (argsR o).Cb (i 2).val + Cp (argsR o) (i 0).val (i 1).val (i 2).val 5 := by
  rw [val_main_v65_apply, val_main_v64_apply, val_main_v59_apply, val_main_v63_apply, val_main_v62_apply, val_main_v61_apply, val_main_v60_apply]
  rw [r_v58 o, r_v28 o, r_v15 o]
  show ((argsR o).Cb (i 2).val + Cp (argsR o) (i 0).val (i 1).val (i 2).val 4) + ((Uh (argsR o) (i 0).val (4 + (i 1).val + 2) (i 2).val) * ((argsR o).Cw 4 (((i 2).val) % 1024))) = _
  rw [q0 i]
  rw [show 4 + (i 1).val + 2 = (i 1).val + 2 + 4 from by omega]
  exact Cp_step _ _ _ _ 4 _

theorem r_v72 (o : Ops) (i : S8x2048x1024.Idx) : val_main_v72 (F := Ideal) o.x0 o.x1 o.x2 o.x3 o.x4 i = (argsR o).Cb (i 2).val + Cp (argsR o) (i 0).val (i 1).val (i 2).val 6 := by
  rw [val_main_v72_apply, val_main_v71_apply, val_main_v66_apply, val_main_v70_apply, val_main_v69_apply, val_main_v68_apply, val_main_v67_apply]
  rw [r_v65 o, r_v28 o, r_v15 o]
  show ((argsR o).Cb (i 2).val + Cp (argsR o) (i 0).val (i 1).val (i 2).val 5) + ((Uh (argsR o) (i 0).val (5 + (i 1).val + 2) (i 2).val) * ((argsR o).Cw 5 (((i 2).val) % 1024))) = _
  rw [q0 i]
  rw [show 5 + (i 1).val + 2 = (i 1).val + 2 + 5 from by omega]
  exact Cp_step _ _ _ _ 5 _

theorem r_v79 (o : Ops) (i : S8x2048x1024.Idx) : val_main_v79 (F := Ideal) o.x0 o.x1 o.x2 o.x3 o.x4 i = (argsR o).Cb (i 2).val + Cp (argsR o) (i 0).val (i 1).val (i 2).val 7 := by
  rw [val_main_v79_apply, val_main_v78_apply, val_main_v73_apply, val_main_v77_apply, val_main_v76_apply, val_main_v75_apply, val_main_v74_apply]
  rw [r_v72 o, r_v28 o, r_v15 o]
  show ((argsR o).Cb (i 2).val + Cp (argsR o) (i 0).val (i 1).val (i 2).val 6) + ((Uh (argsR o) (i 0).val (6 + (i 1).val + 2) (i 2).val) * ((argsR o).Cw 6 (((i 2).val) % 1024))) = _
  rw [q0 i]
  rw [show 6 + (i 1).val + 2 = (i 1).val + 2 + 6 from by omega]
  exact Cp_step _ _ _ _ 6 _

theorem r_v86 (o : Ops) (i : S8x2048x1024.Idx) : val_main_v86 (F := Ideal) o.x0 o.x1 o.x2 o.x3 o.x4 i = (argsR o).Cb (i 2).val + Cp (argsR o) (i 0).val (i 1).val (i 2).val 8 := by
  rw [val_main_v86_apply, val_main_v85_apply, val_main_v80_apply, val_main_v84_apply, val_main_v83_apply, val_main_v82_apply, val_main_v81_apply]
  rw [r_v79 o, r_v28 o, r_v15 o]
  show ((argsR o).Cb (i 2).val + Cp (argsR o) (i 0).val (i 1).val (i 2).val 7) + ((Uh (argsR o) (i 0).val (7 + (i 1).val + 2) (i 2).val) * ((argsR o).Cw 7 (((i 2).val) % 1024))) = _
  rw [q0 i]
  rw [show 7 + (i 1).val + 2 = (i 1).val + 2 + 7 from by omega]
  exact Cp_step _ _ _ _ 7 _

theorem r_v93 (o : Ops) (i : S8x2048x1024.Idx) : val_main_v93 (F := Ideal) o.x0 o.x1 o.x2 o.x3 o.x4 i = (argsR o).Cb (i 2).val + Cp (argsR o) (i 0).val (i 1).val (i 2).val 9 := by
  rw [val_main_v93_apply, val_main_v92_apply, val_main_v87_apply, val_main_v91_apply, val_main_v90_apply, val_main_v89_apply, val_main_v88_apply]
  rw [r_v86 o, r_v28 o, r_v15 o]
  show ((argsR o).Cb (i 2).val + Cp (argsR o) (i 0).val (i 1).val (i 2).val 8) + ((Uh (argsR o) (i 0).val (8 + (i 1).val + 2) (i 2).val) * ((argsR o).Cw 8 (((i 2).val) % 1024))) = _
  rw [q0 i]
  rw [show 8 + (i 1).val + 2 = (i 1).val + 2 + 8 from by omega]
  exact Cp_step _ _ _ _ 8 _

theorem r_v100 (o : Ops) (i : S8x2048x1024.Idx) : val_main_v100 (F := Ideal) o.x0 o.x1 o.x2 o.x3 o.x4 i = (argsR o).Cb (i 2).val + Cp (argsR o) (i 0).val (i 1).val (i 2).val 10 := by
  rw [val_main_v100_apply, val_main_v99_apply, val_main_v94_apply, val_main_v98_apply, val_main_v97_apply, val_main_v96_apply, val_main_v95_apply]
  rw [r_v93 o, r_v28 o, r_v15 o]
  show ((argsR o).Cb (i 2).val + Cp (argsR o) (i 0).val (i 1).val (i 2).val 9) + ((Uh (argsR o) (i 0).val (9 + (i 1).val + 2) (i 2).val) * ((argsR o).Cw 9 (((i 2).val) % 1024))) = _
  rw [q0 i]
  rw [show 9 + (i 1).val + 2 = (i 1).val + 2 + 9 from by omega]
  exact Cp_step _ _ _ _ 9 _

theorem r_v107 (o : Ops) (i : S8x2048x1024.Idx) : val_main_v107 (F := Ideal) o.x0 o.x1 o.x2 o.x3 o.x4 i = (argsR o).Cb (i 2).val + Cp (argsR o) (i 0).val (i 1).val (i 2).val 11 := by
  rw [val_main_v107_apply, val_main_v106_apply, val_main_v101_apply, val_main_v105_apply, val_main_v104_apply, val_main_v103_apply, val_main_v102_apply]
  rw [r_v100 o, r_v28 o, r_v15 o]
  show ((argsR o).Cb (i 2).val + Cp (argsR o) (i 0).val (i 1).val (i 2).val 10) + ((Uh (argsR o) (i 0).val (10 + (i 1).val + 2) (i 2).val) * ((argsR o).Cw 10 (((i 2).val) % 1024))) = _
  rw [q0 i]
  rw [show 10 + (i 1).val + 2 = (i 1).val + 2 + 10 from by omega]
  exact Cp_step _ _ _ _ 10 _

theorem r_v114 (o : Ops) (i : S8x2048x1024.Idx) : val_main_v114 (F := Ideal) o.x0 o.x1 o.x2 o.x3 o.x4 i = (argsR o).Cb (i 2).val + Cp (argsR o) (i 0).val (i 1).val (i 2).val 12 := by
  rw [val_main_v114_apply, val_main_v113_apply, val_main_v108_apply, val_main_v112_apply, val_main_v111_apply, val_main_v110_apply, val_main_v109_apply]
  rw [r_v107 o, r_v28 o, r_v15 o]
  show ((argsR o).Cb (i 2).val + Cp (argsR o) (i 0).val (i 1).val (i 2).val 11) + ((Uh (argsR o) (i 0).val (11 + (i 1).val + 2) (i 2).val) * ((argsR o).Cw 11 (((i 2).val) % 1024))) = _
  rw [q0 i]
  rw [show 11 + (i 1).val + 2 = (i 1).val + 2 + 11 from by omega]
  exact Cp_step _ _ _ _ 11 _

theorem r_v121 (o : Ops) (i : S8x2048x1024.Idx) : val_main_v121 (F := Ideal) o.x0 o.x1 o.x2 o.x3 o.x4 i = (argsR o).Cb (i 2).val + Cp (argsR o) (i 0).val (i 1).val (i 2).val 13 := by
  rw [val_main_v121_apply, val_main_v120_apply, val_main_v115_apply, val_main_v119_apply, val_main_v118_apply, val_main_v117_apply, val_main_v116_apply]
  rw [r_v114 o, r_v28 o, r_v15 o]
  show ((argsR o).Cb (i 2).val + Cp (argsR o) (i 0).val (i 1).val (i 2).val 12) + ((Uh (argsR o) (i 0).val (12 + (i 1).val + 2) (i 2).val) * ((argsR o).Cw 12 (((i 2).val) % 1024))) = _
  rw [q0 i]
  rw [show 12 + (i 1).val + 2 = (i 1).val + 2 + 12 from by omega]
  exact Cp_step _ _ _ _ 12 _

theorem r_v128 (o : Ops) (i : S8x2048x1024.Idx) : val_main_v128 (F := Ideal) o.x0 o.x1 o.x2 o.x3 o.x4 i = (argsR o).Cb (i 2).val + Cp (argsR o) (i 0).val (i 1).val (i 2).val 14 := by
  rw [val_main_v128_apply, val_main_v127_apply, val_main_v122_apply, val_main_v126_apply, val_main_v125_apply, val_main_v124_apply, val_main_v123_apply]
  rw [r_v121 o, r_v28 o, r_v15 o]
  show ((argsR o).Cb (i 2).val + Cp (argsR o) (i 0).val (i 1).val (i 2).val 13) + ((Uh (argsR o) (i 0).val (13 + (i 1).val + 2) (i 2).val) * ((argsR o).Cw 13 (((i 2).val) % 1024))) = _
  rw [q0 i]
  rw [show 13 + (i 1).val + 2 = (i 1).val + 2 + 13 from by omega]
  exact Cp_step _ _ _ _ 13 _

theorem r_v135 (o : Ops) (i : S8x2048x1024.Idx) : val_main_v135 (F := Ideal) o.x0 o.x1 o.x2 o.x3 o.x4 i = (argsR o).Cb (i 2).val + Cp (argsR o) (i 0).val (i 1).val (i 2).val 15 := by
  rw [val_main_v135_apply, val_main_v134_apply, val_main_v129_apply, val_main_v133_apply, val_main_v132_apply, val_main_v131_apply, val_main_v130_apply]
  rw [r_v128 o, r_v28 o, r_v15 o]
  show ((argsR o).Cb (i 2).val + Cp (argsR o) (i 0).val (i 1).val (i 2).val 14) + ((Uh (argsR o) (i 0).val (14 + (i 1).val + 2) (i 2).val) * ((argsR o).Cw 14 (((i 2).val) % 1024))) = _
  rw [q0 i]
  rw [show 14 + (i 1).val + 2 = (i 1).val + 2 + 14 from by omega]
  exact Cp_step _ _ _ _ 14 _

theorem r_v142 (o : Ops) (i : S8x2048x1024.Idx) : val_main_v142 (F := Ideal) o.x0 o.x1 o.x2 o.x3 o.x4 i = (argsR o).Cb (i 2).val + Cp (argsR o) (i 0).val (i 1).val (i 2).val 16 := by
  rw [val_main_v142_apply, val_main_v141_apply, val_main_v136_apply, val_main_v140_apply, val_main_v139_apply, val_main_v138_apply, val_main_v137_apply]
  rw [r_v135 o, r_v28 o, r_v15 o]
  show ((argsR o).Cb (i 2).val + Cp (argsR o) (i 0).val (i 1).val (i 2).val 15) + ((Uh (argsR o) (i 0).val (15 + (i 1).val + 2) (i 2).val) * ((argsR o).Cw 15 (((i 2).val) % 1024))) = _
  rw [q0 i]
  rw [show 15 + (i 1).val + 2 = (i 1).val + 2 + 15 from by omega]
  exact Cp_step _ _ _ _ 15 _

theorem r_v149 (o : Ops) (i : S8x2048x1024.Idx) : val_main_v149 (F := Ideal) o.x0 o.x1 o.x2 o.x3 o.x4 i = (argsR o).Cb (i 2).val + Cp (argsR o) (i 0).val (i 1).val (i 2).val 17 := by
  rw [val_main_v149_apply, val_main_v148_apply, val_main_v143_apply, val_main_v147_apply, val_main_v146_apply, val_main_v145_apply, val_main_v144_apply]
  rw [r_v142 o, r_v28 o, r_v15 o]
  show ((argsR o).Cb (i 2).val + Cp (argsR o) (i 0).val (i 1).val (i 2).val 16) + ((Uh (argsR o) (i 0).val (16 + (i 1).val + 2) (i 2).val) * ((argsR o).Cw 16 (((i 2).val) % 1024))) = _
  rw [q0 i]
  rw [show 16 + (i 1).val + 2 = (i 1).val + 2 + 16 from by omega]
  exact Cp_step _ _ _ _ 16 _

theorem r_v156 (o : Ops) (i : S8x2048x1024.Idx) : val_main_v156 (F := Ideal) o.x0 o.x1 o.x2 o.x3 o.x4 i = (argsR o).Cb (i 2).val + Cp (argsR o) (i 0).val (i 1).val (i 2).val 18 := by
  rw [val_main_v156_apply, val_main_v155_apply, val_main_v150_apply, val_main_v154_apply, val_main_v153_apply, val_main_v152_apply, val_main_v151_apply]
  rw [r_v149 o, r_v28 o, r_v15 o]
  show ((argsR o).Cb (i 2).val + Cp (argsR o) (i 0).val (i 1).val (i 2).val 17) + ((Uh (argsR o) (i 0).val (17 + (i 1).val + 2) (i 2).val) * ((argsR o).Cw 17 (((i 2).val) % 1024))) = _
  rw [q0 i]
  rw [show 17 + (i 1).val + 2 = (i 1).val + 2 + 17 from by omega]
  exact Cp_step _ _ _ _ 17 _

theorem r_v163 (o : Ops) (i : S8x2048x1024.Idx) : val_main_v163 (F := Ideal) o.x0 o.x1 o.x2 o.x3 o.x4 i = (argsR o).Cb (i 2).val + Cp (argsR o) (i 0).val (i 1).val (i 2).val 19 := by
  rw [val_main_v163_apply, val_main_v162_apply, val_main_v157_apply, val_main_v161_apply, val_main_v160_apply, val_main_v159_apply, val_main_v158_apply]
  rw [r_v156 o, r_v28 o, r_v15 o]
  show ((argsR o).Cb (i 2).val + Cp (argsR o) (i 0).val (i 1).val (i 2).val 18) + ((Uh (argsR o) (i 0).val (18 + (i 1).val + 2) (i 2).val) * ((argsR o).Cw 18 (((i 2).val) % 1024))) = _
  rw [q0 i]
  rw [show 18 + (i 1).val + 2 = (i 1).val + 2 + 18 from by omega]
  exact Cp_step _ _ _ _ 18 _

theorem r_v170 (o : Ops) (i : S8x2048x1024.Idx) : val_main_v170 (F := Ideal) o.x0 o.x1 o.x2 o.x3 o.x4 i = (argsR o).Cb (i 2).val + Cp (argsR o) (i 0).val (i 1).val (i 2).val 20 := by
  rw [val_main_v170_apply, val_main_v169_apply, val_main_v164_apply, val_main_v168_apply, val_main_v167_apply, val_main_v166_apply, val_main_v165_apply]
  rw [r_v163 o, r_v28 o, r_v15 o]
  show ((argsR o).Cb (i 2).val + Cp (argsR o) (i 0).val (i 1).val (i 2).val 19) + ((Uh (argsR o) (i 0).val (19 + (i 1).val + 2) (i 2).val) * ((argsR o).Cw 19 (((i 2).val) % 1024))) = _
  rw [q0 i]
  rw [show 19 + (i 1).val + 2 = (i 1).val + 2 + 19 from by omega]
  exact Cp_step _ _ _ _ 19 _

theorem r_v177 (o : Ops) (i : S8x2048x1024.Idx) : val_main_v177 (F := Ideal) o.x0 o.x1 o.x2 o.x3 o.x4 i = (argsR o).Cb (i 2).val + Cp (argsR o) (i 0).val (i 1).val (i 2).val 21 := by
  rw [val_main_v177_apply, val_main_v176_apply, val_main_v171_apply, val_main_v175_apply, val_main_v174_apply, val_main_v173_apply, val_main_v172_apply]
  rw [r_v170 o, r_v28 o, r_v15 o]
  show ((argsR o).Cb (i 2).val + Cp (argsR o) (i 0).val (i 1).val (i 2).val 20) + ((Uh (argsR o) (i 0).val (20 + (i 1).val + 2) (i 2).val) * ((argsR o).Cw 20 (((i 2).val) % 1024))) = _
  rw [q0 i]
  rw [show 20 + (i 1).val + 2 = (i 1).val + 2 + 20 from by omega]
  exact Cp_step _ _ _ _ 20 _

theorem r_v184 (o : Ops) (i : S8x2048x1024.Idx) : val_main_v184 (F := Ideal) o.x0 o.x1 o.x2 o.x3 o.x4 i = (argsR o).Cb (i 2).val + Cp (argsR o) (i 0).val (i 1).val (i 2).val 22 := by
  rw [val_main_v184_apply, val_main_v183_apply, val_main_v178_apply, val_main_v182_apply, val_main_v181_apply, val_main_v180_apply, val_main_v179_apply]
  rw [r_v177 o, r_v28 o, r_v15 o]
  show ((argsR o).Cb (i 2).val + Cp (argsR o) (i 0).val (i 1).val (i 2).val 21) + ((Uh (argsR o) (i 0).val (21 + (i 1).val + 2) (i 2).val) * ((argsR o).Cw 21 (((i 2).val) % 1024))) = _
  rw [q0 i]
  rw [show 21 + (i 1).val + 2 = (i 1).val + 2 + 21 from by omega]
  exact Cp_step _ _ _ _ 21 _

theorem r_v191 (o : Ops) (i : S8x2048x1024.Idx) : val_main_v191 (F := Ideal) o.x0 o.x1 o.x2 o.x3 o.x4 i = (argsR o).Cb (i 2).val + Cp (argsR o) (i 0).val (i 1).val (i 2).val 23 := by
  rw [val_main_v191_apply, val_main_v190_apply, val_main_v185_apply, val_main_v189_apply, val_main_v188_apply, val_main_v187_apply, val_main_v186_apply]
  rw [r_v184 o, r_v28 o, r_v15 o]
  show ((argsR o).Cb (i 2).val + Cp (argsR o) (i 0).val (i 1).val (i 2).val 22) + ((Uh (argsR o) (i 0).val (22 + (i 1).val + 2) (i 2).val) * ((argsR o).Cw 22 (((i 2).val) % 1024))) = _
  rw [q0 i]
  rw [show 22 + (i 1).val + 2 = (i 1).val + 2 + 22 from by omega]
  exact Cp_step _ _ _ _ 22 _

theorem r_v198 (o : Ops) (i : S8x2048x1024.Idx) : val_main_v198 (F := Ideal) o.x0 o.x1 o.x2 o.x3 o.x4 i = (argsR o).Cb (i 2).val + Cp (argsR o) (i 0).val (i 1).val (i 2).val 24 := by
  rw [val_main_v198_apply, val_main_v197_apply, val_main_v192_apply, val_main_v196_apply, val_main_v195_apply, val_main_v194_apply, val_main_v193_apply]
  rw [r_v191 o, r_v28 o, r_v15 o]
  show ((argsR o).Cb (i 2).val + Cp (argsR o) (i 0).val (i 1).val (i 2).val 23) + ((Uh (argsR o) (i 0).val (23 + (i 1).val + 2) (i 2).val) * ((argsR o).Cw 23 (((i 2).val) % 1024))) = _
  rw [q0 i]
  rw [show 23 + (i 1).val + 2 = (i 1).val + 2 + 23 from by omega]
  exact Cp_step _ _ _ _ 23 _

theorem r_v205 (o : Ops) (i : S8x2048x1024.Idx) : val_main_v205 (F := Ideal) o.x0 o.x1 o.x2 o.x3 o.x4 i = (argsR o).Cb (i 2).val + Cp (argsR o) (i 0).val (i 1).val (i 2).val 25 := by
  rw [val_main_v205_apply, val_main_v204_apply, val_main_v199_apply, val_main_v203_apply, val_main_v202_apply, val_main_v201_apply, val_main_v200_apply]
  rw [r_v198 o, r_v28 o, r_v15 o]
  show ((argsR o).Cb (i 2).val + Cp (argsR o) (i 0).val (i 1).val (i 2).val 24) + ((Uh (argsR o) (i 0).val (24 + (i 1).val + 2) (i 2).val) * ((argsR o).Cw 24 (((i 2).val) % 1024))) = _
  rw [q0 i]
  rw [show 24 + (i 1).val + 2 = (i 1).val + 2 + 24 from by omega]
  exact Cp_step _ _ _ _ 24 _

theorem r_v212 (o : Ops) (i : S8x2048x1024.Idx) : val_main_v212 (F := Ideal) o.x0 o.x1 o.x2 o.x3 o.x4 i = (argsR o).Cb (i 2).val + Cp (argsR o) (i 0).val (i 1).val (i 2).val 26 := by
  rw [val_main_v212_apply, val_main_v211_apply, val_main_v206_apply, val_main_v210_apply, val_main_v209_apply, val_main_v208_apply, val_main_v207_apply]
  rw [r_v205 o, r_v28 o, r_v15 o]
  show ((argsR o).Cb (i 2).val + Cp (argsR o) (i 0).val (i 1).val (i 2).val 25) + ((Uh (argsR o) (i 0).val (25 + (i 1).val + 2) (i 2).val) * ((argsR o).Cw 25 (((i 2).val) % 1024))) = _
  rw [q0 i]
  rw [show 25 + (i 1).val + 2 = (i 1).val + 2 + 25 from by omega]
  exact Cp_step _ _ _ _ 25 _

theorem r_v219 (o : Ops) (i : S8x2048x1024.Idx) : val_main_v219 (F := Ideal) o.x0 o.x1 o.x2 o.x3 o.x4 i = (argsR o).Cb (i 2).val + Cp (argsR o) (i 0).val (i 1).val (i 2).val 27 := by
  rw [val_main_v219_apply, val_main_v218_apply, val_main_v213_apply, val_main_v217_apply, val_main_v216_apply, val_main_v215_apply, val_main_v214_apply]
  rw [r_v212 o, r_v28 o, r_v15 o]
  show ((argsR o).Cb (i 2).val + Cp (argsR o) (i 0).val (i 1).val (i 2).val 26) + ((Uh (argsR o) (i 0).val (26 + (i 1).val + 2) (i 2).val) * ((argsR o).Cw 26 (((i 2).val) % 1024))) = _
  rw [q0 i]
  rw [show 26 + (i 1).val + 2 = (i 1).val + 2 + 26 from by omega]
  exact Cp_step _ _ _ _ 26 _

theorem r_v226 (o : Ops) (i : S8x2048x1024.Idx) : val_main_v226 (F := Ideal) o.x0 o.x1 o.x2 o.x3 o.x4 i = (argsR o).Cb (i 2).val + Cp (argsR o) (i 0).val (i 1).val (i 2).val 28 := by
  rw [val_main_v226_apply, val_main_v225_apply, val_main_v220_apply, val_main_v224_apply, val_main_v223_apply, val_main_v222_apply, val_main_v221_apply]
  rw [r_v219 o, r_v28 o, r_v15 o]
  show ((argsR o).Cb (i 2).val + Cp (argsR o) (i 0).val (i 1).val (i 2).val 27) + ((Uh (argsR o) (i 0).val (27 + (i 1).val + 2) (i 2).val) * ((argsR o).Cw 27 (((i 2).val) % 1024))) = _
  rw [q0 i]
  rw [show 27 + (i 1).val + 2 = (i 1).val + 2 + 27 from by omega]
  exact Cp_step _ _ _ _ 27 _

theorem r_v233 (o : Ops) (i : S8x2048x1024.Idx) : val_main_v233 (F := Ideal) o.x0 o.x1 o.x2 o.x3 o.x4 i = (argsR o).Cb (i 2).val + Cp (argsR o) (i 0).val (i 1).val (i 2).val 29 := by
  rw [val_main_v233_apply, val_main_v232_apply, val_main_v227_apply, val_main_v231_apply, val_main_v230_apply, val_main_v229_apply, val_main_v228_apply]
  rw [r_v226 o, r_v28 o, r_v15 o]
  show ((argsR o).Cb (i 2).val + Cp (argsR o) (i 0).val (i 1).val (i 2).val 28) + ((Uh (argsR o) (i 0).val (28 + (i 1).val + 2) (i 2).val) * ((argsR o).Cw 28 (((i 2).val) % 1024))) = _
  rw [q0 i]
  rw [show 28 + (i 1).val + 2 = (i 1).val + 2 + 28 from by omega]
  exact Cp_step _ _ _ _ 28 _

theorem r_v240 (o : Ops) (i : S8x2048x1024.Idx) : val_main_v240 (F := Ideal) o.x0 o.x1 o.x2 o.x3 o.x4 i = (argsR o).Cb (i 2).val + Cp (argsR o) (i 0).val (i 1).val (i 2).val 30 := by
  rw [val_main_v240_apply, val_main_v239_apply, val_main_v234_apply, val_main_v238_apply, val_main_v237_apply, val_main_v236_apply, val_main_v235_apply]
  rw [r_v233 o, r_v28 o, r_v15 o]
  show ((argsR o).Cb (i 2).val + Cp (argsR o) (i 0).val (i 1).val (i 2).val 29) + ((Uh (argsR o) (i 0).val (29 + (i 1).val + 2) (i 2).val) * ((argsR o).Cw 29 (((i 2).val) % 1024))) = _
  rw [q0 i]
  rw [show 29 + (i 1).val + 2 = (i 1).val + 2 + 29 from by omega]
  exact Cp_step _ _ _ _ 29 _

theorem r_v247 (o : Ops) (i : S8x2048x1024.Idx) : val_main_v247 (F := Ideal) o.x0 o.x1 o.x2 o.x3 o.x4 i = (argsR o).Cb (i 2).val + Cp (argsR o) (i 0).val (i 1).val (i 2).val 31 := by
  rw [val_main_v247_apply, val_main_v246_apply, val_main_v241_apply, val_main_v245_apply, val_main_v244_apply, val_main_v243_apply, val_main_v242_apply]
  rw [r_v240 o, r_v28 o, r_v15 o]
  show ((argsR o).Cb (i 2).val + Cp (argsR o) (i 0).val (i 1).val (i 2).val 30) + ((Uh (argsR o) (i 0).val (30 + (i 1).val + 2) (i 2).val) * ((argsR o).Cw 30 (((i 2).val) % 1024))) = _
  rw [q0 i]
  rw [show 30 + (i 1).val + 2 = (i 1).val + 2 + 30 from by omega]
  exact Cp_step _ _ _ _ 30 _

end Cert.MixRef

end
-- ==== Proof.R2.lean ====
/- The reference read stage by stage: the convolution branch. -/
module

public import proofs.«01_k».proof.Proof.R1

@[expose] public section

set_option maxRecDepth 16384

noncomputable section

namespace Cert.MixRef

open Cert.Mix

open Idealize.ShloMosaic Idealize.ShloMosaic.TcCoe Idealize.SL.Sem
open Cert.ReferenceIdeal Cert.ReferenceIdeal.Gen Cert.ReferenceIdeal.Read
theorem r_cst_1 (o : Ops) (i : S_.Idx) : val_main_cst_1 (F := Ideal) i = 0 := by
  exact zero_bits

theorem r_cst_2 (o : Ops) (i : S_.Idx) : val_main_cst_2 (F := Ideal) i = Ideal.ofBits FTy.f32 1149239296#32 := by
  rfl

theorem r_cst_3 (o : Ops) (i : S_.Idx) : val_main_cst_3 (F := Ideal) i = 0 := by
  exact zero_bits

theorem r_cst_4 (o : Ops) (i : S_.Idx) : val_main_cst_4 (F := Ideal) i = Ideal.ofBits FTy.f32 1149239296#32 := by
  rfl

theorem r_cst_5 (o : Ops) (i : S_.Idx) : val_main_cst_5 (F := Ideal) i = Ideal.ofBits FTy.f32 925353388#32 := by
  rfl

theorem r_c247 (o : Ops) (i : S8x2048x1024.Idx) : val_main_v247 (F := Ideal) o.x0 o.x1 o.x2 o.x3 o.x4 i = Cv (argsR o) (i 0).val (i 1).val (i 2).val + (argsR o).Cb (i 2).val :=
  (r_v247 o i).trans (Cp_all (argsR o) _ _ _)

theorem r_v248 (o : Ops) (i : S8x2048.Idx) : val_main_v248 (F := Ideal) o.x0 o.x1 o.x2 o.x3 o.x4 i = ∑ k : Fin 1024, (Cv (argsR o) (i 0).val (i 1).val k.val + (argsR o).Cb k.val) := by
  rw [val_main_v248_apply, r_cst_1 o, zero_add]
  show _ = ∑ k : Fin 1024, (Cv (argsR o) (i 0).val (i 1).val k.val + (argsR o).Cb k.val)
  refine Finset.sum_congr rfl fun k _ => ?_
  rw [r_c247 o]
  all_goals rfl

theorem r_v249 (o : Ops) (i : S8x2048x1.Idx) : val_main_v249 (F := Ideal) o.x0 o.x1 o.x2 o.x3 o.x4 i = ∑ k : Fin 1024, (Cv (argsR o) (i 0).val (i 1).val k.val + (argsR o).Cb k.val) := by
  rw [val_main_v249_apply, r_v248 o]
  all_goals rfl

theorem r_v250 (o : Ops) (i : S8x2048x1.Idx) : val_main_v250 (F := Ideal) i = Ideal.ofBits FTy.f32 1149239296#32 := by
  rw [val_main_v250_apply, r_cst_2 o]
  all_goals rfl

theorem r_v251 (o : Ops) (i : S8x2048x1.Idx) : val_main_v251 (F := Ideal) o.x0 o.x1 o.x2 o.x3 o.x4 i = mean (fun l => Cv (argsR o) (i 0).val (i 1).val l + (argsR o).Cb l) := by
  rw [val_main_v251_apply, r_v249 o, r_v250 o]
  all_goals rfl

theorem r_v252 (o : Ops) (i : S8x2048x1024.Idx) : val_main_v252 (F := Ideal) o.x0 o.x1 o.x2 o.x3 o.x4 i = mean (fun l => Cv (argsR o) (i 0).val (i 1).val l + (argsR o).Cb l) := by
  rw [val_main_v252_apply, r_v251 o]
  all_goals rfl

theorem r_v253 (o : Ops) (i : S8x2048x1024.Idx) : val_main_v253 (F := Ideal) o.x0 o.x1 o.x2 o.x3 o.x4 i = (Cv (argsR o) (i 0).val (i 1).val (i 2).val + (argsR o).Cb (i 2).val) - mean (fun l => Cv (argsR o) (i 0).val (i 1).val l + (argsR o).Cb l) := by
  rw [val_main_v253_apply, r_c247 o, r_v252 o]
  all_goals rfl

theorem r_v254 (o : Ops) (i : S8x2048x1024.Idx) : val_main_v254 (F := Ideal) o.x0 o.x1 o.x2 o.x3 o.x4 i = ((Cv (argsR o) (i 0).val (i 1).val (i 2).val + (argsR o).Cb (i 2).val) - mean (fun l => Cv (argsR o) (i 0).val (i 1).val l + (argsR o).Cb l)) * ((Cv (argsR o) (i 0).val (i 1).val (i 2).val + (argsR o).Cb (i 2).val) - mean (fun l => Cv (argsR o) (i 0).val (i 1).val l + (argsR o).Cb l)) := by
  rw [val_main_v254_apply, r_v253 o]
  all_goals rfl

theorem r_v255 (o : Ops) (i : S8x2048.Idx) : val_main_v255 (F := Ideal) o.x0 o.x1 o.x2 o.x3 o.x4 i = ∑ k : Fin 1024, (((Cv (argsR o) (i 0).val (i 1).val k.val + (argsR o).Cb k.val) - mean (fun l => Cv (argsR o) (i 0).val (i 1).val l + (argsR o).Cb l)) * ((Cv (argsR o) (i 0).val (i 1).val k.val + (argsR o).Cb k.val) - mean (fun l => Cv (argsR o) (i 0).val (i 1).val l + (argsR o).Cb l))) := by
  rw [val_main_v255_apply, r_cst_3 o, zero_add]
  show _ = ∑ k : Fin 1024, (((Cv (argsR o) (i 0).val (i 1).val k.val + (argsR o).Cb k.val) - mean (fun l => Cv (argsR o) (i 0).val (i 1).val l + (argsR o).Cb l)) * ((Cv (argsR o) (i 0).val (i 1).val k.val + (argsR o).Cb k.val) - mean (fun l => Cv (argsR o) (i 0).val (i 1).val l + (argsR o).Cb l)))
  refine Finset.sum_congr rfl fun k _ => ?_
  rw [r_v254 o]
  all_goals rfl

theorem r_v256 (o : Ops) (i : S8x2048x1.Idx) : val_main_v256 (F := Ideal) o.x0 o.x1 o.x2 o.x3 o.x4 i = ∑ k : Fin 1024, (((Cv (argsR o) (i 0).val (i 1).val k.val + (argsR o).Cb k.val) - mean (fun l => Cv (argsR o) (i 0).val (i 1).val l + (argsR o).Cb l)) * ((Cv (argsR o) (i 0).val (i 1).val k.val + (argsR o).Cb k.val) - mean (fun l => Cv (argsR o) (i 0).val (i 1).val l + (argsR o).Cb l))) := by
  rw [val_main_v256_apply, r_v255 o]
  all_goals rfl

theorem r_v257 (o : Ops) (i : S8x2048x1.Idx) : val_main_v257 (F := Ideal) i = Ideal.ofBits FTy.f32 1149239296#32 := by
  rw [val_main_v257_apply, r_cst_4 o]
  all_goals rfl

theorem r_v258 (o : Ops) (i : S8x2048x1.Idx) : val_main_v258 (F := Ideal) o.x0 o.x1 o.x2 o.x3 o.x4 i = var (fun l => Cv (argsR o) (i 0).val (i 1).val l + (argsR o).Cb l) (mean (fun l => Cv (argsR o) (i 0).val (i 1).val l + (argsR o).Cb l)) := by
  rw [val_main_v258_apply, r_v256 o, r_v257 o]
  all_goals rfl

theorem r_v259 (o : Ops) (i : S8x2048x1024.Idx) : val_main_v259 (F := Ideal) o.x0 o.x1 o.x2 o.x3 o.x4 i = mean (fun l => Cv (argsR o) (i 0).val (i 1).val l + (argsR o).Cb l) := by
  rw [val_main_v259_apply, r_v251 o]
  all_goals rfl

theorem r_v260 (o : Ops) (i : S8x2048x1024.Idx) : val_main_v260 (F := Ideal) o.x0 o.x1 o.x2 o.x3 o.x4 i = (Cv (argsR o) (i 0).val (i 1).val (i 2).val + (argsR o).Cb (i 2).val) - mean (fun l => Cv (argsR o) (i 0).val (i 1).val l + (argsR o).Cb l) := by
  rw [val_main_v260_apply, r_c247 o, r_v259 o]
  all_goals rfl

theorem r_v261 (o : Ops) (i : S8x2048x1.Idx) : val_main_v261 (F := Ideal) i = Ideal.ofBits FTy.f32 925353388#32 := by
  rw [val_main_v261_apply, r_cst_5 o]
  all_goals rfl

theorem r_v263 (o : Ops) (i : S8x2048x1.Idx) : val_main_v263 (F := Ideal) o.x0 o.x1 o.x2 o.x3 o.x4 i = Ideal.rsqrt (var (fun l => Cv (argsR o) (i 0).val (i 1).val l + (argsR o).Cb l) (mean (fun l => Cv (argsR o) (i 0).val (i 1).val l + (argsR o).Cb l)) + Ideal.ofBits FTy.f32 925353388#32) := by
  rw [val_main_v263_apply, val_main_v262_apply, r_v258 o, r_v261 o]
  all_goals rfl

theorem r_v264 (o : Ops) (i : S8x2048x1024.Idx) : val_main_v264 (F := Ideal) o.x0 o.x1 o.x2 o.x3 o.x4 i = Ideal.rsqrt (var (fun l => Cv (argsR o) (i 0).val (i 1).val l + (argsR o).Cb l) (mean (fun l => Cv (argsR o) (i 0).val (i 1).val l + (argsR o).Cb l)) + Ideal.ofBits FTy.f32 925353388#32) := by
  rw [val_main_v264_apply, r_v263 o]
  all_goals rfl

theorem r_v265 (o : Ops) (i : S8x2048x1024.Idx) : val_main_v265 (F := Ideal) o.x0 o.x1 o.x2 o.x3 o.x4 i = ((Cv (argsR o) (i 0).val (i 1).val (i 2).val + (argsR o).Cb (i 2).val) - mean (fun l => Cv (argsR o) (i 0).val (i 1).val l + (argsR o).Cb l)) * Ideal.rsqrt (var (fun l => Cv (argsR o) (i 0).val (i 1).val l + (argsR o).Cb l) (mean (fun l => Cv (argsR o) (i 0).val (i 1).val l + (argsR o).Cb l)) + Ideal.ofBits FTy.f32 925353388#32) := by
  rw [val_main_v265_apply, r_v260 o, r_v264 o]
  all_goals rfl

theorem r_v266 (o : Ops) (i : S1x1x1024.Idx) : val_main_v266 (F := Ideal) o.x5 i = (argsR o).Clg (i 2).val := by
  rw [val_main_v266_apply, r_v17 o]
  all_goals rfl

theorem r_v267 (o : Ops) (i : S8x2048x1024.Idx) : val_main_v267 (F := Ideal) o.x5 i = (argsR o).Clg (i 2).val := by
  rw [val_main_v267_apply, r_v266 o]
  all_goals rfl

theorem r_v268 (o : Ops) (i : S8x2048x1024.Idx) : val_main_v268 (F := Ideal) o.x0 o.x1 o.x2 o.x3 o.x4 o.x5 i = ((Cv (argsR o) (i 0).val (i 1).val (i 2).val + (argsR o).Cb (i 2).val) - mean (fun l => Cv (argsR o) (i 0).val (i 1).val l + (argsR o).Cb l)) * Ideal.rsqrt (var (fun l => Cv (argsR o) (i 0).val (i 1).val l + (argsR o).Cb l) (mean (fun l => Cv (argsR o) (i 0).val (i 1).val l + (argsR o).Cb l)) + Ideal.ofBits FTy.f32 925353388#32) * (argsR o).Clg (i 2).val := by
  rw [val_main_v268_apply, r_v265 o, r_v267 o]
  all_goals rfl

theorem r_v269 (o : Ops) (i : S1x1x1024.Idx) : val_main_v269 (F := Ideal) o.x6 i = (argsR o).Clb (i 2).val := by
  rw [val_main_v269_apply, r_v18 o]
  all_goals rfl

theorem r_v270 (o : Ops) (i : S8x2048x1024.Idx) : val_main_v270 (F := Ideal) o.x6 i = (argsR o).Clb (i 2).val := by
  rw [val_main_v270_apply, r_v269 o]
  all_goals rfl

theorem r_v271 (o : Ops) (i : S8x2048x1024.Idx) : val_main_v271 (F := Ideal) o.x0 o.x1 o.x2 o.x3 o.x4 o.x5 o.x6 i = Cn (argsR o) (i 0).val (i 1).val (i 2).val := by
  rw [val_main_v271_apply, r_v268 o, r_v270 o]
  all_goals rfl

theorem r_call1_cst (o : Ops) (i : S_.Idx) : val_main_call1_cst (F := Ideal) i = 1 := by
  exact one_bits

theorem r_call1_cst_0 (o : Ops) (i : S_.Idx) : val_main_call1_cst_0 (F := Ideal) i = 1 := by
  exact one_bits

theorem r_call1_v2 (o : Ops) (i : S8x2048x1024.Idx) : val_main_call1_v2 (F := Ideal) i = 1 := by
  rw [val_main_call1_v2_apply, r_call1_cst o]
  all_goals rfl

theorem r_call1_v4 (o : Ops) (i : S8x2048x1024.Idx) : val_main_call1_v4 (F := Ideal) i = 1 := by
  rw [val_main_call1_v4_apply, r_call1_cst_0 o]
  all_goals rfl

theorem r_call1_v5 (o : Ops) (i : S8x2048x1024.Idx) : val_main_call1_v5 (F := Ideal) o.x0 o.x1 o.x2 o.x3 o.x4 o.x5 o.x6 i = Ideal.logistic (Cn (argsR o) (i 0).val (i 1).val (i 2).val) := by
  rw [val_main_call1_v5_apply, val_main_call1_v3_apply, val_main_call1_v1_apply, val_main_call1_v0_apply, r_call1_v4 o, r_call1_v2 o, r_v271 o]
  all_goals rfl

theorem r_v272 (o : Ops) (i : S8x2048x1024.Idx) : val_main_v272 (F := Ideal) o.x0 o.x1 o.x2 o.x3 o.x4 o.x5 o.x6 i = Cn (argsR o) (i 0).val (i 1).val (i 2).val * Ideal.logistic (Cn (argsR o) (i 0).val (i 1).val (i 2).val) := by
  rw [val_main_v272_apply, r_v271 o, r_call1_v5 o]
  all_goals rfl

theorem r_v273 (o : Ops) (i : S8x2048x1024.Idx) : val_main_v273 (F := Ideal) o.x0 o.x1 o.x2 o.x3 o.x4 o.x5 o.x6 o.x7 i = ∑ k : Fin 1024, (Cn (argsR o) (i 0).val (i 1).val k.val * Ideal.logistic (Cn (argsR o) (i 0).val (i 1).val k.val)) * ((argsR o).Wco k.val (i 2).val) := by
  rw [val_main_v273_apply]
  show _ = ∑ k : Fin 1024, (Cn (argsR o) (i 0).val (i 1).val k.val * Ideal.logistic (Cn (argsR o) (i 0).val (i 1).val k.val)) * ((argsR o).Wco k.val (i 2).val)
  refine Finset.sum_congr rfl fun k _ => ?_
  rw [r_v272 o, r_v19 o]
  all_goals rfl

theorem r_v274 (o : Ops) (i : S1x1x1024.Idx) : val_main_v274 (F := Ideal) o.x8 i = (argsR o).Bco (i 2).val := by
  rw [val_main_v274_apply, r_v20 o]
  all_goals rfl

theorem r_v275 (o : Ops) (i : S8x2048x1024.Idx) : val_main_v275 (F := Ideal) o.x8 i = (argsR o).Bco (i 2).val := by
  rw [val_main_v275_apply, r_v274 o]
  all_goals rfl

theorem r_v276 (o : Ops) (i : S8x2048x1024.Idx) : val_main_v276 (F := Ideal) o.x0 o.x1 o.x2 o.x3 o.x4 o.x5 o.x6 o.x7 o.x8 i = Yc (argsR o) (i 0).val (i 1).val (i 2).val := by
  rw [val_main_v276_apply, r_v273 o, r_v275 o]
  all_goals rfl

end Cert.MixRef

end
-- ==== Proof.R3.lean ====
/- The reference read stage by stage: the gates, decayed keys and chunk sums. -/
module

public import proofs.«01_k».proof.Proof.R1

@[expose] public section

set_option maxRecDepth 16384

noncomputable section

namespace Cert.MixRef

open Cert.Mix

open Idealize.ShloMosaic Idealize.ShloMosaic.TcCoe Idealize.SL.Sem
open Cert.ReferenceIdeal Cert.ReferenceIdeal.Gen Cert.ReferenceIdeal.Read
/-- The logarithm in the host's formula is a real number. -/
theorem log_exp_real (y : EReal) (hy : y ≤ 0) : ∃ r : ℝ, Ideal.log (1 + Ideal.exp y) = (r : EReal) := by
  have hl : ∀ q : ℝ, 0 < q → Ideal.log ((q : ℝ) : EReal) = (Real.log q : EReal) := fun q hq => by
    show (if q ≤ 0 then (⊥ : EReal) else (Real.log q : EReal)) = _
    rw [if_neg (not_le.mpr hq)]
  induction y with
  | bot =>
    refine ⟨Real.log 1, ?_⟩
    show Ideal.log (1 + 0) = _
    rw [add_zero]
    exact hl 1 one_pos
  | top => exact absurd hy (not_le.mpr EReal.zero_lt_top)
  | coe q =>
    refine ⟨Real.log (1 + Real.exp q), ?_⟩
    show Ideal.log (((1 : ℝ) : EReal) + (Real.exp q : EReal)) = _
    rw [← EReal.coe_add]
    exact hl _ (by positivity)

theorem lsg_host (x : EReal) :
    -(Scalar.select (FloatOps.cmpf (F := Ideal) (φ := .f32) .une (-x - 0) (-x - 0)) (-x + 0)
      (max (-x) 0 + Ideal.log1p (Ideal.exp (-(FloatOps.absf (F := Ideal) (φ := .f32) (-x - 0)))))) = lsg x := by
  have hc : FloatOps.cmpf (F := Ideal) (φ := .f32) .une (-x - 0) (-x - 0) = 0#1 := by
    show Ideal.cmp .une (-x - 0) (-x - 0) = 0#1
    simp [Ideal.cmp]
  have ha : FloatOps.absf (F := Ideal) (φ := .f32) (-x - 0) = FloatOps.absf (F := Ideal) (φ := .f32) x := by
    show max (-x - 0) (-(-x - 0)) = max x (-x)
    rw [sub_zero, neg_neg, max_comm]
  rw [hc, ha]
  show -(max (-x) 0 + Ideal.log (1 + Ideal.exp (-(max x (-x))))) = min x 0 - Ideal.log (1 + Ideal.exp (0 - (max x (-x))))
  rw [zero_sub]
  have hm : -(max (-x) 0) = min x 0 := by
    rcases le_total x 0 with h | h
    · rw [min_eq_left h, max_eq_left (EReal.le_neg_of_le_neg (by rwa [neg_zero])), neg_neg]
    · rw [min_eq_right h, max_eq_right (EReal.neg_le_of_neg_le (by rwa [neg_zero])), neg_zero]
  have hn : -(max x (-x)) ≤ 0 := by
    refine EReal.neg_le_of_neg_le ?_
    rw [neg_zero]
    rcases le_total x 0 with h | h
    · exact le_max_of_le_right (EReal.le_neg_of_le_neg (by rwa [neg_zero]))
    · exact le_max_of_le_left h
  obtain ⟨r, hr⟩ := log_exp_real _ hn
  rw [hr, EReal.neg_add (Or.inr (EReal.coe_ne_top r)) (Or.inr (EReal.coe_ne_bot r)), hm]

theorem foldl_add_sum {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The window: 64 positions along the third axis. -/
abbrev W64 : Shape := ⟨5, ![1, 1, 64, 1, 1]⟩

/-- A position of the window is its third coordinate. -/
def w64 : W64.Idx ≃ Fin 64 where
  toFun q := q 2
  invFun t := ix5 (0 : Fin 1) (0 : Fin 1) t (0 : Fin 1) (0 : Fin 1)
  left_inv q := by
    funext a
    fin_cases a
    · exact Subsingleton.elim (α := Fin 1) _ _
    · exact Subsingleton.elim (α := Fin 1) _ _
    · rfl
    · exact Subsingleton.elim (α := Fin 1) _ _
    · exact Subsingleton.elim (α := Fin 1) _ _
  right_inv _ := rfl

/-- A running window ending at `T` sums the first `T + 1` entries. -/
theorem window_shift (f : ℕ → EReal) (T : ℕ) (hT : T < 64) :
    (∑ n : Fin 64, if 63 ≤ T + n.val then f (T + n.val - 63) else 0) = ∑ t : Fin 64, if t.val ≤ T then f t.val else 0 := by
  rw [← Finset.sum_filter, ← Finset.sum_filter]
  refine Finset.sum_bij' (fun n hn => ⟨T + n.val - 63, by have := n.isLt; omega⟩)
    (fun t ht => ⟨t.val + 63 - T, by have := (Finset.mem_filter.mp ht).2; omega⟩) ?_ ?_ ?_ ?_ ?_
  · intro n hn
    have := n.isLt
    exact Finset.mem_filter.mpr ⟨Finset.mem_univ _, show T + n.val - 63 ≤ T by omega⟩
  · intro t ht
    have := (Finset.mem_filter.mp ht).2
    exact Finset.mem_filter.mpr ⟨Finset.mem_univ _, show 63 ≤ T + (t.val + 63 - T) by omega⟩
  · intro n hn
    have := (Finset.mem_filter.mp hn).2
    exact Fin.ext (show T + n.val - 63 + 63 - T = n.val by omega)
  · intro t ht
    have := (Finset.mem_filter.mp ht).2
    exact Fin.ext (show T + (t.val + 63 - T) - 63 = t.val by omega)
  · intro n hn
    rfl

theorem window_sum (x : FVec Ideal S8x32x64x4x128 .f32) (init : FVec Ideal S_ .f32) (h hu) (i : S8x32x64x4x128.Idx) (h0 : init (Shape.Idx.first hu) = 0) :
    Host.reduceWindowAdd ![1, 1, 64, 1, 1] ![1, 1, 1, 1, 1] ![0, 0, 63, 0, 0] ![0, 0, 0, 0, 0] x init h hu i
      = ∑ t : Fin 64, if t.val ≤ (i 2).val then x (ix5 (i 0) (i 1) t (i 3) (i 4)) else 0 := by
  have hT : (i 2).val < 64 := (i 2).isLt
  refine (foldl_add_sum _ _ _).trans ?_
  rw [h0, zero_add, ← Fin.sum_univ_def]
  refine (Fintype.sum_equiv (W64.rowMajor.symm.trans w64) _ (fun n : Fin 64 => if 63 ≤ (i 2).val + n.val then (fun t => if ht : t < 64 then x (ix5 (i 0) (i 1) ⟨t, ht⟩ (i 3) (i 4)) else 0) ((i 2).val + n.val - 63) else (0 : EReal)) fun n => ?_).trans ?_
  · have q0 : (W64.rowMajor.symm n 0).val < 1 := (W64.rowMajor.symm n 0).isLt
    have q1 : (W64.rowMajor.symm n 1).val < 1 := (W64.rowMajor.symm n 1).isLt
    have q2 : (W64.rowMajor.symm n 2).val < 64 := (W64.rowMajor.symm n 2).isLt
    have q3 : (W64.rowMajor.symm n 3).val < 1 := (W64.rowMajor.symm n 3).isLt
    have q4 : (W64.rowMajor.symm n 4).val < 1 := (W64.rowMajor.symm n 4).isLt
    have i0 : (i 0).val < 8 := (i 0).isLt
    have i1 : (i 1).val < 32 := (i 1).isLt
    have i3 : (i 3).val < 4 := (i 3).isLt
    have i4 : (i 4).val < 128 := (i 4).isLt
    by_cases hc : 63 ≤ (i 2).val + (W64.rowMajor.symm n 2).val
    · rw [if_pos (show 63 ≤ (i 2).val + ((W64.rowMajor.symm.trans w64) n).val from hc), dif_pos]
      · refine Eq.trans ?_ (dif_pos (show (i 2).val + ((W64.rowMajor.symm.trans w64) n).val - 63 < 64 from by show (i 2).val + (W64.rowMajor.symm n 2).val - 63 < 64; omega)).symm
        refine congrArg x (funext fun a => Fin.ext ?_)
        fin_cases a
        · show (i 0).val * 1 + (W64.rowMajor.symm n 0).val - 0 = (i 0).val
          omega
        · show (i 1).val * 1 + (W64.rowMajor.symm n 1).val - 0 = (i 1).val
          omega
        · show (i 2).val * 1 + (W64.rowMajor.symm n 2).val - 63 = (i 2).val + (W64.rowMajor.symm n 2).val - 63
          omega
        · show (i 3).val * 1 + (W64.rowMajor.symm n 3).val - 0 = (i 3).val
          omega
        · show (i 4).val * 1 + (W64.rowMajor.symm n 4).val - 0 = (i 4).val
          omega
      · intro a
        fin_cases a
        · show 0 ≤ (i 0).val * 1 + (W64.rowMajor.symm n 0).val ∧ (i 0).val * 1 + (W64.rowMajor.symm n 0).val - 0 < 8
          omega
        · show 0 ≤ (i 1).val * 1 + (W64.rowMajor.symm n 1).val ∧ (i 1).val * 1 + (W64.rowMajor.symm n 1).val - 0 < 32
          omega
        · show 63 ≤ (i 2).val * 1 + (W64.rowMajor.symm n 2).val ∧ (i 2).val * 1 + (W64.rowMajor.symm n 2).val - 63 < 64
          omega
        · show 0 ≤ (i 3).val * 1 + (W64.rowMajor.symm n 3).val ∧ (i 3).val * 1 + (W64.rowMajor.symm n 3).val - 0 < 4
          omega
        · show 0 ≤ (i 4).val * 1 + (W64.rowMajor.symm n 4).val ∧ (i 4).val * 1 + (W64.rowMajor.symm n 4).val - 0 < 128
          omega
    · rw [if_neg (show ¬ 63 ≤ (i 2).val + ((W64.rowMajor.symm.trans w64) n).val from hc), dif_neg]
      intro hin
      have := (hin 2).1
      change 63 ≤ (i 2).val * 1 + (W64.rowMajor.symm n 2).val at this
      omega
  · refine (window_shift (fun t => if ht : t < 64 then x (ix5 (i 0) (i 1) ⟨t, ht⟩ (i 3) (i 4)) else (0 : EReal)) _ hT).trans (Finset.sum_congr rfl fun t _ => ?_)
    by_cases ht : t.val ≤ (i 2).val
    · rw [if_pos ht, if_pos ht]
      exact dif_pos t.isLt
    · rw [if_neg ht, if_neg ht]

theorem Cum_end (a : Args) (b n k : ℕ) : Cum a b n 63 k = Cend a b n k := by
  unfold Cum Cend
  exact Finset.sum_congr rfl fun x _ => if_pos (by omega)

theorem r_v277 (o : Ops) (i : S16x512.Idx) : val_main_v277 (F := Ideal) o.x9 i = (argsR o).Wgu (i 0).val (i 1).val := by
  rw [val_main_v277_apply, a_x9 o]
  have h0 : (i 0).val < 16 := (i 0).isLt
  have h1 : (i 1).val < 512 := (i 1).isLt
  show (argsR o).Wgu (((i 0).val * 512 + (i 1).val) / 512 % 16) (((i 0).val * 512 + (i 1).val) % 512) = _
  rw [show ((i 0).val * 512 + (i 1).val) / 512 % 16 = (i 0).val from by omega, show ((i 0).val * 512 + (i 1).val) % 512 = (i 1).val from by omega]
  all_goals rfl

theorem r_v278 (o : Ops) (i : S512.Idx) : val_main_v278 (F := Ideal) o.x10 i = (argsR o).Bgu (i 0).val := by
  rw [val_main_v278_apply, a_x10 o]
  have h0 : (i 0).val < 512 := (i 0).isLt
  show (argsR o).Bgu (((i 0).val) % 512) = _
  rw [show ((i 0).val) % 512 = (i 0).val from by omega]
  all_goals rfl

theorem r_v279 (o : Ops) (i : S4x256.Idx) : val_main_v279 (F := Ideal) o.x11 i = (argsR o).Ng (i 0).val (i 1).val := by
  rw [val_main_v279_apply, a_x11 o]
  have h0 : (i 0).val < 4 := (i 0).isLt
  have h1 : (i 1).val < 256 := (i 1).isLt
  show (argsR o).Ng (((i 0).val * 256 + (i 1).val) / 256 % 4) (((i 0).val * 256 + (i 1).val) % 256) = _
  rw [show ((i 0).val * 256 + (i 1).val) / 256 % 4 = (i 0).val from by omega, show ((i 0).val * 256 + (i 1).val) % 256 = (i 1).val from by omega]
  all_goals rfl

theorem r_v280 (o : Ops) (i : S1024x1024.Idx) : val_main_v280 (F := Ideal) o.x12 i = (argsR o).Wgo (i 0).val (i 1).val := by
  rw [val_main_v280_apply, a_x12 o]
  have h0 : (i 0).val < 1024 := (i 0).isLt
  have h1 : (i 1).val < 1024 := (i 1).isLt
  show (argsR o).Wgo (((i 0).val * 1024 + (i 1).val) / 1024 % 1024) (((i 0).val * 1024 + (i 1).val) % 1024) = _
  rw [show ((i 0).val * 1024 + (i 1).val) / 1024 % 1024 = (i 0).val from by omega, show ((i 0).val * 1024 + (i 1).val) % 1024 = (i 1).val from by omega]
  all_goals rfl

theorem r_v281 (o : Ops) (i : S8x2048x512.Idx) : val_main_v281 (F := Ideal) o.x0 o.x1 o.x2 o.x9 i = ∑ k : Fin 16, ((argsR o).Wgu k.val (i 2).val) * (H (argsR o) (i 0).val (i 1).val (5120 + k.val)) := by
  rw [val_main_v281_apply]
  show _ = ∑ k : Fin 16, ((argsR o).Wgu k.val (i 2).val) * (H (argsR o) (i 0).val (i 1).val (5120 + k.val))
  refine Finset.sum_congr rfl fun k _ => ?_
  rw [r_v12 o, r_v277 o, mul_comm]
  all_goals rfl

theorem r_v282 (o : Ops) (i : S1x1x512.Idx) : val_main_v282 (F := Ideal) o.x10 i = (argsR o).Bgu (i 2).val := by
  rw [val_main_v282_apply, r_v278 o]
  all_goals rfl

theorem r_v283 (o : Ops) (i : S8x2048x512.Idx) : val_main_v283 (F := Ideal) o.x10 i = (argsR o).Bgu (i 2).val := by
  rw [val_main_v283_apply, r_v282 o]
  all_goals rfl

theorem r_v284 (o : Ops) (i : S8x2048x512.Idx) : val_main_v284 (F := Ideal) o.x0 o.x1 o.x2 o.x9 o.x10 i = ∑ k : Fin 16, ((argsR o).Wgu k.val (i 2).val) * (H (argsR o) (i 0).val (i 1).val (5120 + k.val)) + (argsR o).Bgu (i 2).val := by
  rw [val_main_v284_apply, r_v281 o, r_v283 o]
  all_goals rfl

theorem r_call2_call0_cst (o : Ops) (i : S_.Idx) : val_main_call2_call0_cst (F := Ideal) i = 0 := by
  exact zero_bits

theorem r_call2_call0_v0 (o : Ops) (i : S8x2048x512.Idx) : val_main_call2_call0_v0 (F := Ideal) i = 0 := by
  rw [val_main_call2_call0_v0_apply, r_call2_call0_cst o]
  all_goals rfl

theorem r_call2_call0_v2 (o : Ops) (i : S8x2048x512.Idx) : val_main_call2_call0_v2 (F := Ideal) i = 0 := by
  rw [val_main_call2_call0_v2_apply, r_call2_call0_cst o]
  all_goals rfl

theorem r_call2_call0_v5 (o : Ops) (i : S8x2048x512.Idx) : val_main_call2_call0_v5 (F := Ideal) i = 0 := by
  rw [val_main_call2_call0_v5_apply, r_call2_call0_cst o]
  all_goals rfl

theorem r_v285 (o : Ops) (i : S8x2048x512.Idx) : val_main_v285 (F := Ideal) o.x0 o.x1 o.x2 o.x9 o.x10 i = lsg (∑ k : Fin 16, ((argsR o).Wgu k.val (i 2).val) * (H (argsR o) (i 0).val (i 1).val (5120 + k.val)) + (argsR o).Bgu (i 2).val) := by
  rw [val_main_v285_apply, val_main_call2_v1_apply, val_main_call2_call0_v4_apply, val_main_call2_call0_v6_apply, val_main_call2_call0_v11_apply, val_main_call2_call0_v10_apply, val_main_call2_call0_v9_apply, val_main_call2_call0_v8_apply, val_main_call2_call0_v7_apply, val_main_call2_call0_v1_apply, val_main_call2_call0_v3_apply, val_main_call2_v0_apply, r_call2_call0_v5 o, r_call2_call0_v0 o, r_call2_call0_v2 o, r_v284 o]
  exact lsg_host _
  all_goals rfl

theorem r_cst_6 (o : Ops) (i : S_.Idx) : val_main_cst_6 (F := Ideal) i = Ideal.ofBits FTy.f32 1098907648#32 := by
  rfl

theorem r_v286 (o : Ops) (i : S8x2048x512.Idx) : val_main_v286 (F := Ideal) i = Ideal.ofBits FTy.f32 1098907648#32 := by
  rw [val_main_v286_apply, r_cst_6 o]
  all_goals rfl

theorem r_v287 (o : Ops) (i : S8x2048x512.Idx) : val_main_v287 (F := Ideal) o.x0 o.x1 o.x2 o.x9 o.x10 i = La (argsR o) (i 0).val (i 1).val (i 2).val := by
  rw [val_main_v287_apply, r_v285 o, r_v286 o]
  all_goals rfl

theorem r_v288 (o : Ops) (i : S8x32x64x4x128.Idx) : val_main_v288 (F := Ideal) o.x0 o.x1 o.x2 i = H (argsR o) (i 0).val (64 * ((i 1).val) + (i 2).val) (2048 + (128 * ((i 3).val) + (i 4).val)) := by
  rw [val_main_v288_apply, r_v8 o]
  have h0 : (i 0).val < 8 := (i 0).isLt
  have h1 : (i 1).val < 32 := (i 1).isLt
  have h2 : (i 2).val < 64 := (i 2).isLt
  have h3 : (i 3).val < 4 := (i 3).isLt
  have h4 : (i 4).val < 128 := (i 4).isLt
  show H (argsR o) ((((((i 0).val * 32 + (i 1).val) * 64 + (i 2).val) * 4 + (i 3).val) * 128 + (i 4).val) / 1048576) ((((((i 0).val * 32 + (i 1).val) * 64 + (i 2).val) * 4 + (i 3).val) * 128 + (i 4).val) / 512 % 2048) (2048 + (((((i 0).val * 32 + (i 1).val) * 64 + (i 2).val) * 4 + (i 3).val) * 128 + (i 4).val) % 512) = _
  rw [show (((((i 0).val * 32 + (i 1).val) * 64 + (i 2).val) * 4 + (i 3).val) * 128 + (i 4).val) / 1048576 = (i 0).val from by omega, show (((((i 0).val * 32 + (i 1).val) * 64 + (i 2).val) * 4 + (i 3).val) * 128 + (i 4).val) / 512 % 2048 = 64 * ((i 1).val) + (i 2).val from by omega, show (((((i 0).val * 32 + (i 1).val) * 64 + (i 2).val) * 4 + (i 3).val) * 128 + (i 4).val) % 512 = (128 * ((i 3).val) + (i 4).val) from by omega]
  all_goals rfl

theorem r_cst_7 (o : Ops) (i : S_.Idx) : val_main_cst_7 (F := Ideal) i = Ideal.ofBits FTy.f32 1035273459#32 := by
  rfl

theorem r_v289 (o : Ops) (i : S8x32x64x4x128.Idx) : val_main_v289 (F := Ideal) i = Ideal.ofBits FTy.f32 1035273459#32 := by
  rw [val_main_v289_apply, r_cst_7 o]
  all_goals rfl

theorem r_v290 (o : Ops) (i : S8x32x64x4x128.Idx) : val_main_v290 (F := Ideal) o.x0 o.x1 o.x2 i = H (argsR o) (i 0).val (64 * ((i 1).val) + (i 2).val) (2048 + (128 * ((i 3).val) + (i 4).val)) * Ideal.ofBits FTy.f32 1035273459#32 := by
  rw [val_main_v290_apply, r_v288 o, r_v289 o]
  all_goals rfl

theorem r_v291 (o : Ops) (i : S8x32x64x4x128.Idx) : val_main_v291 (F := Ideal) o.x0 o.x1 o.x2 i = H (argsR o) (i 0).val (64 * ((i 1).val) + (i 2).val) (2560 + (128 * ((i 3).val) + (i 4).val)) := by
  rw [val_main_v291_apply, r_v9 o]
  have h0 : (i 0).val < 8 := (i 0).isLt
  have h1 : (i 1).val < 32 := (i 1).isLt
  have h2 : (i 2).val < 64 := (i 2).isLt
  have h3 : (i 3).val < 4 := (i 3).isLt
  have h4 : (i 4).val < 128 := (i 4).isLt
  show H (argsR o) ((((((i 0).val * 32 + (i 1).val) * 64 + (i 2).val) * 4 + (i 3).val) * 128 + (i 4).val) / 1048576) ((((((i 0).val * 32 + (i 1).val) * 64 + (i 2).val) * 4 + (i 3).val) * 128 + (i 4).val) / 512 % 2048) (2560 + (((((i 0).val * 32 + (i 1).val) * 64 + (i 2).val) * 4 + (i 3).val) * 128 + (i 4).val) % 512) = _
  rw [show (((((i 0).val * 32 + (i 1).val) * 64 + (i 2).val) * 4 + (i 3).val) * 128 + (i 4).val) / 1048576 = (i 0).val from by omega, show (((((i 0).val * 32 + (i 1).val) * 64 + (i 2).val) * 4 + (i 3).val) * 128 + (i 4).val) / 512 % 2048 = 64 * ((i 1).val) + (i 2).val from by omega, show (((((i 0).val * 32 + (i 1).val) * 64 + (i 2).val) * 4 + (i 3).val) * 128 + (i 4).val) % 512 = (128 * ((i 3).val) + (i 4).val) from by omega]
  all_goals rfl

theorem r_v292 (o : Ops) (i : S8x32x64x4x256.Idx) : val_main_v292 (F := Ideal) o.x0 o.x1 o.x2 i = H (argsR o) (i 0).val (64 * ((i 1).val) + (i 2).val) (3072 + (256 * ((i 3).val) + (i 4).val)) := by
  rw [val_main_v292_apply, r_v10 o]
  have h0 : (i 0).val < 8 := (i 0).isLt
  have h1 : (i 1).val < 32 := (i 1).isLt
  have h2 : (i 2).val < 64 := (i 2).isLt
  have h3 : (i 3).val < 4 := (i 3).isLt
  have h4 : (i 4).val < 256 := (i 4).isLt
  show H (argsR o) ((((((i 0).val * 32 + (i 1).val) * 64 + (i 2).val) * 4 + (i 3).val) * 256 + (i 4).val) / 2097152) ((((((i 0).val * 32 + (i 1).val) * 64 + (i 2).val) * 4 + (i 3).val) * 256 + (i 4).val) / 1024 % 2048) (3072 + (((((i 0).val * 32 + (i 1).val) * 64 + (i 2).val) * 4 + (i 3).val) * 256 + (i 4).val) % 1024) = _
  rw [show (((((i 0).val * 32 + (i 1).val) * 64 + (i 2).val) * 4 + (i 3).val) * 256 + (i 4).val) / 2097152 = (i 0).val from by omega, show (((((i 0).val * 32 + (i 1).val) * 64 + (i 2).val) * 4 + (i 3).val) * 256 + (i 4).val) / 1024 % 2048 = 64 * ((i 1).val) + (i 2).val from by omega, show (((((i 0).val * 32 + (i 1).val) * 64 + (i 2).val) * 4 + (i 3).val) * 256 + (i 4).val) % 1024 = (256 * ((i 3).val) + (i 4).val) from by omega]
  all_goals rfl

theorem r_v293 (o : Ops) (i : S8x32x64x4x128.Idx) : val_main_v293 (F := Ideal) o.x0 o.x1 o.x2 o.x9 o.x10 i = La (argsR o) (i 0).val (64 * ((i 1).val) + (i 2).val) (128 * ((i 3).val) + (i 4).val) := by
  rw [val_main_v293_apply, r_v287 o]
  have h0 : (i 0).val < 8 := (i 0).isLt
  have h1 : (i 1).val < 32 := (i 1).isLt
  have h2 : (i 2).val < 64 := (i 2).isLt
  have h3 : (i 3).val < 4 := (i 3).isLt
  have h4 : (i 4).val < 128 := (i 4).isLt
  show La (argsR o) ((((((i 0).val * 32 + (i 1).val) * 64 + (i 2).val) * 4 + (i 3).val) * 128 + (i 4).val) / 1048576) ((((((i 0).val * 32 + (i 1).val) * 64 + (i 2).val) * 4 + (i 3).val) * 128 + (i 4).val) / 512 % 2048) ((((((i 0).val * 32 + (i 1).val) * 64 + (i 2).val) * 4 + (i 3).val) * 128 + (i 4).val) % 512) = _
  rw [show (((((i 0).val * 32 + (i 1).val) * 64 + (i 2).val) * 4 + (i 3).val) * 128 + (i 4).val) / 1048576 = (i 0).val from by omega, show (((((i 0).val * 32 + (i 1).val) * 64 + (i 2).val) * 4 + (i 3).val) * 128 + (i 4).val) / 512 % 2048 = 64 * ((i 1).val) + (i 2).val from by omega, show (((((i 0).val * 32 + (i 1).val) * 64 + (i 2).val) * 4 + (i 3).val) * 128 + (i 4).val) % 512 = (128 * ((i 3).val) + (i 4).val) from by omega]
  all_goals rfl

theorem r_call3_call0_cst (o : Ops) (i : S_.Idx) : val_main_call3_call0_cst (F := Ideal) i = 0 := by
  exact zero_bits

theorem r_call3_call0_v0 (o : Ops) (i : S_.Idx) : val_main_call3_call0_v0 (F := Ideal) i = 0 := by
  rw [val_main_call3_call0_v0_apply, r_call3_call0_cst o]
  all_goals rfl

theorem r_v294 (o : Ops) (i : S8x32x64x4x128.Idx) : val_main_v294 (F := Ideal) o.x0 o.x1 o.x2 o.x9 o.x10 i = Cum (argsR o) (i 0).val (i 1).val (i 2).val (128 * (i 3).val + (i 4).val) := by
  unfold val_main_v294
  refine (window_sum _ _ _ _ i (r_call3_call0_v0 o _)).trans ?_
  refine Finset.sum_congr rfl fun x _ => ?_
  rw [r_v293]
  all_goals rfl

theorem r_v295 (o : Ops) (i : S8x32x1x4x128.Idx) : val_main_v295 (F := Ideal) o.x0 o.x1 o.x2 o.x9 o.x10 i = Cend (argsR o) (i 0).val (i 1).val (128 * (i 3).val + (i 4).val) := by
  rw [val_main_v295_apply, r_v294 o]
  have h2 : (i 2).val < 1 := (i 2).isLt
  refine Eq.trans ?_ (Cum_end (argsR o) _ _ _)
  show Cum (argsR o) (i 0).val (i 1).val (63 + (i 2).val) (128 * (i 3).val + (i 4).val) = _
  rw [show 63 + (i 2).val = 63 from by omega]
  all_goals rfl

theorem r_v296 (o : Ops) (i : S8x32x64x4x128.Idx) : val_main_v296 (F := Ideal) o.x0 o.x1 o.x2 o.x9 o.x10 i = Cend (argsR o) (i 0).val (i 1).val (128 * (i 3).val + (i 4).val) := by
  rw [val_main_v296_apply, r_v295 o]
  all_goals rfl

theorem r_v298 (o : Ops) (i : S8x32x64x4x128.Idx) : val_main_v298 (F := Ideal) o.x0 o.x1 o.x2 o.x9 o.x10 i = Ideal.exp (Cend (argsR o) (i 0).val (i 1).val (128 * (i 3).val + (i 4).val) - Cum (argsR o) (i 0).val (i 1).val (i 2).val (128 * (i 3).val + (i 4).val)) := by
  rw [val_main_v298_apply, val_main_v297_apply, r_v296 o, r_v294 o]
  all_goals rfl

theorem r_v299 (o : Ops) (i : S8x32x64x4x128.Idx) : val_main_v299 (F := Ideal) o.x0 o.x1 o.x2 o.x9 o.x10 i = Kd (argsR o) (i 0).val (i 1).val (i 2).val (128 * (i 3).val + (i 4).val) := by
  rw [val_main_v299_apply, r_v291 o, r_v298 o]
  all_goals rfl

theorem r_v300 (o : Ops) (i : S8x32x4x128x256.Idx) : val_main_v300 (F := Ideal) o.x0 o.x1 o.x2 o.x9 o.x10 i = Kv (argsR o) (i 0).val (i 1).val (i 2).val (i 3).val (i 4).val := by
  rw [val_main_v300_apply]
  show _ = ∑ k : Fin 64, (Kd (argsR o) (i 0).val (i 1).val k.val (128 * (i 2).val + (i 3).val)) * (H (argsR o) (i 0).val (64 * ((i 1).val) + k.val) (3072 + (256 * ((i 2).val) + (i 4).val)))
  refine Finset.sum_congr rfl fun k _ => ?_
  rw [r_v299 o, r_v292 o]
  all_goals rfl

theorem r_v301 (o : Ops) (i : S8x32x4x128.Idx) : val_main_v301 (F := Ideal) o.x0 o.x1 o.x2 o.x9 o.x10 i = Cend (argsR o) (i 0).val (i 1).val (128 * (i 2).val + (i 3).val) := by
  rw [val_main_v301_apply, r_v295 o]
  have h0 : (i 0).val < 8 := (i 0).isLt
  have h1 : (i 1).val < 32 := (i 1).isLt
  have h2 : (i 2).val < 4 := (i 2).isLt
  have h3 : (i 3).val < 128 := (i 3).isLt
  show Cend (argsR o) (((((i 0).val * 32 + (i 1).val) * 4 + (i 2).val) * 128 + (i 3).val) / 16384) (((((i 0).val * 32 + (i 1).val) * 4 + (i 2).val) * 128 + (i 3).val) / 512 % 32) (128 * (((((i 0).val * 32 + (i 1).val) * 4 + (i 2).val) * 128 + (i 3).val) / 128 % 4) + (((((i 0).val * 32 + (i 1).val) * 4 + (i 2).val) * 128 + (i 3).val) % 128)) = _
  rw [show ((((i 0).val * 32 + (i 1).val) * 4 + (i 2).val) * 128 + (i 3).val) / 16384 = (i 0).val from by omega, show ((((i 0).val * 32 + (i 1).val) * 4 + (i 2).val) * 128 + (i 3).val) / 512 % 32 = (i 1).val from by omega, show ((((i 0).val * 32 + (i 1).val) * 4 + (i 2).val) * 128 + (i 3).val) / 128 % 4 = (i 2).val from by omega, show ((((i 0).val * 32 + (i 1).val) * 4 + (i 2).val) * 128 + (i 3).val) % 128 = (i 3).val from by omega]
  all_goals rfl

theorem r_v302 (o : Ops) (i : S8x32x4x128.Idx) : val_main_v302 (F := Ideal) o.x0 o.x1 o.x2 o.x9 o.x10 i = Ideal.exp (Cend (argsR o) (i 0).val (i 1).val (128 * (i 2).val + (i 3).val)) := by
  rw [val_main_v302_apply, r_v301 o]
  all_goals rfl

end Cert.MixRef

end
-- ==== Proof.R4.lean ====
/- The reference read stage by stage: the chunk states. -/
module

public import proofs.«01_k».proof.Proof.R3

@[expose] public section

set_option maxRecDepth 16384

noncomputable section

namespace Cert.MixRef

open Cert.Mix

open Idealize.ShloMosaic Idealize.ShloMosaic.TcCoe Idealize.SL.Sem
open Cert.ReferenceIdeal Cert.ReferenceIdeal.Gen Cert.ReferenceIdeal.Read
theorem r_cst_8 (o : Ops) (i : S_.Idx) : val_main_cst_8 (F := Ideal) i = 0 := by
  exact zero_bits

theorem r_v303 (o : Ops) (i : S8x4x128x256.Idx) : val_main_v303 (F := Ideal) i = 0 := by
  rw [val_main_v303_apply, r_cst_8 o]
  all_goals rfl

theorem q1 (i : S8x4x128x256.Idx) : (((i 0).val * 4 + (i 1).val) * 128 + (i 2).val) / 512 = (i 0).val := by
  have h0 : (i 0).val < 8 := (i 0).isLt
  have h1 : (i 1).val < 4 := (i 1).isLt
  have h2 : (i 2).val < 128 := (i 2).isLt
  have h3 : (i 3).val < 256 := (i 3).isLt
  omega

theorem q2 (i : S8x4x128x256.Idx) : (((i 0).val * 4 + (i 1).val) * 128 + (i 2).val) / 128 % 4 = (i 1).val := by
  have h0 : (i 0).val < 8 := (i 0).isLt
  have h1 : (i 1).val < 4 := (i 1).isLt
  have h2 : (i 2).val < 128 := (i 2).isLt
  have h3 : (i 3).val < 256 := (i 3).isLt
  omega

theorem q3 (i : S8x4x128x256.Idx) : (((i 0).val * 4 + (i 1).val) * 128 + (i 2).val) % 128 = (i 2).val := by
  have h0 : (i 0).val < 8 := (i 0).isLt
  have h1 : (i 1).val < 4 := (i 1).isLt
  have h2 : (i 2).val < 128 := (i 2).isLt
  have h3 : (i 3).val < 256 := (i 3).isLt
  omega

theorem q4 (i : S8x4x128x256.Idx) : ((((i 0).val * 4 + (i 1).val) * 128 + (i 2).val) * 256 + (i 3).val) / 131072 = (i 0).val := by
  have h0 : (i 0).val < 8 := (i 0).isLt
  have h1 : (i 1).val < 4 := (i 1).isLt
  have h2 : (i 2).val < 128 := (i 2).isLt
  have h3 : (i 3).val < 256 := (i 3).isLt
  omega

theorem q5 (i : S8x4x128x256.Idx) : ((((i 0).val * 4 + (i 1).val) * 128 + (i 2).val) * 256 + (i 3).val) / 32768 % 4 = (i 1).val := by
  have h0 : (i 0).val < 8 := (i 0).isLt
  have h1 : (i 1).val < 4 := (i 1).isLt
  have h2 : (i 2).val < 128 := (i 2).isLt
  have h3 : (i 3).val < 256 := (i 3).isLt
  omega

theorem q6 (i : S8x4x128x256.Idx) : ((((i 0).val * 4 + (i 1).val) * 128 + (i 2).val) * 256 + (i 3).val) / 256 % 128 = (i 2).val := by
  have h0 : (i 0).val < 8 := (i 0).isLt
  have h1 : (i 1).val < 4 := (i 1).isLt
  have h2 : (i 2).val < 128 := (i 2).isLt
  have h3 : (i 3).val < 256 := (i 3).isLt
  omega

theorem q7 (i : S8x4x128x256.Idx) : ((((i 0).val * 4 + (i 1).val) * 128 + (i 2).val) * 256 + (i 3).val) % 256 = (i 3).val := by
  have h0 : (i 0).val < 8 := (i 0).isLt
  have h1 : (i 1).val < 4 := (i 1).isLt
  have h2 : (i 2).val < 128 := (i 2).isLt
  have h3 : (i 3).val < 256 := (i 3).isLt
  omega

theorem r_v311 (o : Ops) (i : S8x4x128x256.Idx) : val_main_v311 (F := Ideal) o.x0 o.x1 o.x2 o.x9 o.x10 i = St (argsR o) (i 0).val (i 1).val (i 2).val (i 3).val 1 := by
  rw [val_main_v311_apply, val_main_v308_apply, val_main_v307_apply, val_main_v306_apply, val_main_v305_apply, val_main_v304_apply, val_main_v310_apply, val_main_v309_apply]
  rw [r_v303 o, r_v302 o, r_v300 o]
  show ((Ideal.exp (Cend (argsR o) ((((i 0).val * 4 + (i 1).val) * 128 + (i 2).val) / 512) 0 (128 * ((((i 0).val * 4 + (i 1).val) * 128 + (i 2).val) / 128 % 4) + ((((i 0).val * 4 + (i 1).val) * 128 + (i 2).val) % 128)))) * (0)) + (Kv (argsR o) (((((i 0).val * 4 + (i 1).val) * 128 + (i 2).val) * 256 + (i 3).val) / 131072) 0 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v319 (o : Ops) (i : S8x4x128x256.Idx) : val_main_v319 (F := Ideal) o.x0 o.x1 o.x2 o.x9 o.x10 i = St (argsR o) (i 0).val (i 1).val (i 2).val (i 3).val 2 := by
  rw [val_main_v319_apply, val_main_v316_apply, val_main_v315_apply, val_main_v314_apply, val_main_v313_apply, val_main_v312_apply, val_main_v318_apply, val_main_v317_apply]
  rw [r_v311 o, r_v302 o, r_v300 o]
  show ((Ideal.exp (Cend (argsR o) ((((i 0).val * 4 + (i 1).val) * 128 + (i 2).val) / 512) 1 (128 * ((((i 0).val * 4 + (i 1).val) * 128 + (i 2).val) / 128 % 4) + ((((i 0).val * 4 + (i 1).val) * 128 + (i 2).val) % 128)))) * (St (argsR o) (i 0).val (i 1).val (i 2).val (i 3).val 1)) + (Kv (argsR o) (((((i 0).val * 4 + (i 1).val) * 128 + (i 2).val) * 256 + (i 3).val) / 131072) 1 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v327 (o : Ops) (i : S8x4x128x256.Idx) : val_main_v327 (F := Ideal) o.x0 o.x1 o.x2 o.x9 o.x10 i = St (argsR o) (i 0).val (i 1).val (i 2).val (i 3).val 3 := by
  rw [val_main_v327_apply, val_main_v324_apply, val_main_v323_apply, val_main_v322_apply, val_main_v321_apply, val_main_v320_apply, val_main_v326_apply, val_main_v325_apply]
  rw [r_v319 o, r_v302 o, r_v300 o]
  show ((Ideal.exp (Cend (argsR o) ((((i 0).val * 4 + (i 1).val) * 128 + (i 2).val) / 512) 2 (128 * ((((i 0).val * 4 + (i 1).val) * 128 + (i 2).val) / 128 % 4) + ((((i 0).val * 4 + (i 1).val) * 128 + (i 2).val) % 128)))) * (St (argsR o) (i 0).val (i 1).val (i 2).val (i 3).val 2)) + (Kv (argsR o) (((((i 0).val * 4 + (i 1).val) * 128 + (i 2).val) * 256 + (i 3).val) / 131072) 2 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v335 (o : Ops) (i : S8x4x128x256.Idx) : val_main_v335 (F := Ideal) o.x0 o.x1 o.x2 o.x9 o.x10 i = St (argsR o) (i 0).val (i 1).val (i 2).val (i 3).val 4 := by
  rw [val_main_v335_apply, val_main_v332_apply, val_main_v331_apply, val_main_v330_apply, val_main_v329_apply, val_main_v328_apply, val_main_v334_apply, val_main_v333_apply]
  rw [r_v327 o, r_v302 o, r_v300 o]
  show ((Ideal.exp (Cend (argsR o) ((((i 0).val * 4 + (i 1).val) * 128 + (i 2).val) / 512) 3 (128 * ((((i 0).val * 4 + (i 1).val) * 128 + (i 2).val) / 128 % 4) + ((((i 0).val * 4 + (i 1).val) * 128 + (i 2).val) % 128)))) * (St (argsR o) (i 0).val (i 1).val (i 2).val (i 3).val 3)) + (Kv (argsR o) (((((i 0).val * 4 + (i 1).val) * 128 + (i 2).val) * 256 + (i 3).val) / 131072) 3 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v343 (o : Ops) (i : S8x4x128x256.Idx) : val_main_v343 (F := Ideal) o.x0 o.x1 o.x2 o.x9 o.x10 i = St (argsR o) (i 0).val (i 1).val (i 2).val (i 3).val 5 := by
  rw [val_main_v343_apply, val_main_v340_apply, val_main_v339_apply, val_main_v338_apply, val_main_v337_apply, val_main_v336_apply, val_main_v342_apply, val_main_v341_apply]
  rw [r_v335 o, r_v302 o, r_v300 o]
  show ((Ideal.exp (Cend (argsR o) ((((i 0).val * 4 + (i 1).val) * 128 + (i 2).val) / 512) 4 (128 * ((((i 0).val * 4 + (i 1).val) * 128 + (i 2).val) / 128 % 4) + ((((i 0).val * 4 + (i 1).val) * 128 + (i 2).val) % 128)))) * (St (argsR o) (i 0).val (i 1).val (i 2).val (i 3).val 4)) + (Kv (argsR o) (((((i 0).val * 4 + (i 1).val) * 128 + (i 2).val) * 256 + (i 3).val) / 131072) 4 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v351 (o : Ops) (i : S8x4x128x256.Idx) : val_main_v351 (F := Ideal) o.x0 o.x1 o.x2 o.x9 o.x10 i = St (argsR o) (i 0).val (i 1).val (i 2).val (i 3).val 6 := by
  rw [val_main_v351_apply, val_main_v348_apply, val_main_v347_apply, val_main_v346_apply, val_main_v345_apply, val_main_v344_apply, val_main_v350_apply, val_main_v349_apply]
  rw [r_v343 o, r_v302 o, r_v300 o]
  show ((Ideal.exp (Cend (argsR o) ((((i 0).val * 4 + (i 1).val) * 128 + (i 2).val) / 512) 5 (128 * ((((i 0).val * 4 + (i 1).val) * 128 + (i 2).val) / 128 % 4) + ((((i 0).val * 4 + (i 1).val) * 128 + (i 2).val) % 128)))) * (St (argsR o) (i 0).val (i 1).val (i 2).val (i 3).val 5)) + (Kv (argsR o) (((((i 0).val * 4 + (i 1).val) * 128 + (i 2).val) * 256 + (i 3).val) / 131072) 5 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v359 (o : Ops) (i : S8x4x128x256.Idx) : val_main_v359 (F := Ideal) o.x0 o.x1 o.x2 o.x9 o.x10 i = St (argsR o) (i 0).val (i 1).val (i 2).val (i 3).val 7 := by
  rw [val_main_v359_apply, val_main_v356_apply, val_main_v355_apply, val_main_v354_apply, val_main_v353_apply, val_main_v352_apply, val_main_v358_apply, val_main_v357_apply]
  rw [r_v351 o, r_v302 o, r_v300 o]
  show ((Ideal.exp (Cend (argsR o) ((((i 0).val * 4 + (i 1).val) * 128 + (i 2).val) / 512) 6 (128 * ((((i 0).val * 4 + (i 1).val) * 128 + (i 2).val) / 128 % 4) + ((((i 0).val * 4 + (i 1).val) * 128 + (i 2).val) % 128)))) * (St (argsR o) (i 0).val (i 1).val (i 2).val (i 3).val 6)) + (Kv (argsR o) (((((i 0).val * 4 + (i 1).val) * 128 + (i 2).val) * 256 + (i 3).val) / 131072) 6 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v367 (o : Ops) (i : S8x4x128x256.Idx) : val_main_v367 (F := Ideal) o.x0 o.x1 o.x2 o.x9 o.x10 i = St (argsR o) (i 0).val (i 1).val (i 2).val (i 3).val 8 := by
  rw [val_main_v367_apply, val_main_v364_apply, val_main_v363_apply, val_main_v362_apply, val_main_v361_apply, val_main_v360_apply, val_main_v366_apply, val_main_v365_apply]
  rw [r_v359 o, r_v302 o, r_v300 o]
  show ((Ideal.exp (Cend (argsR o) ((((i 0).val * 4 + (i 1).val) * 128 + (i 2).val) / 512) 7 (128 * ((((i 0).val * 4 + (i 1).val) * 128 + (i 2).val) / 128 % 4) + ((((i 0).val * 4 + (i 1).val) * 128 + (i 2).val) % 128)))) * (St (argsR o) (i 0).val (i 1).val (i 2).val (i 3).val 7)) + (Kv (argsR o) (((((i 0).val * 4 + (i 1).val) * 128 + (i 2).val) * 256 + (i 3).val) / 131072) 7 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v375 (o : Ops) (i : S8x4x128x256.Idx) : val_main_v375 (F := Ideal) o.x0 o.x1 o.x2 o.x9 o.x10 i = St (argsR o) (i 0).val (i 1).val (i 2).val (i 3).val 9 := by
  rw [val_main_v375_apply, val_main_v372_apply, val_main_v371_apply, val_main_v370_apply, val_main_v369_apply, val_main_v368_apply, val_main_v374_apply, val_main_v373_apply]
  rw [r_v367 o, r_v302 o, r_v300 o]
  show ((Ideal.exp (Cend (argsR o) ((((i 0).val * 4 + (i 1).val) * 128 + (i 2).val) / 512) 8 (128 * ((((i 0).val * 4 + (i 1).val) * 128 + (i 2).val) / 128 % 4) + ((((i 0).val * 4 + (i 1).val) * 128 + (i 2).val) % 128)))) * (St (argsR o) (i 0).val (i 1).val (i 2).val (i 3).val 8)) + (Kv (argsR o) (((((i 0).val * 4 + (i 1).val) * 128 + (i 2).val) * 256 + (i 3).val) / 131072) 8 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v383 (o : Ops) (i : S8x4x128x256.Idx) : val_main_v383 (F := Ideal) o.x0 o.x1 o.x2 o.x9 o.x10 i = St (argsR o) (i 0).val (i 1).val (i 2).val (i 3).val 10 := by
  rw [val_main_v383_apply, val_main_v380_apply, val_main_v379_apply, val_main_v378_apply, val_main_v377_apply, val_main_v376_apply, val_main_v382_apply, val_main_v381_apply]
  rw [r_v375 o, r_v302 o, r_v300 o]
  show ((Ideal.exp (Cend (argsR o) ((((i 0).val * 4 + (i 1).val) * 128 + (i 2).val) / 512) 9 (128 * ((((i 0).val * 4 + (i 1).val) * 128 + (i 2).val) / 128 % 4) + ((((i 0).val * 4 + (i 1).val) * 128 + (i 2).val) % 128)))) * (St (argsR o) (i 0).val (i 1).val (i 2).val (i 3).val 9)) + (Kv (argsR o) (((((i 0).val * 4 + (i 1).val) * 128 + (i 2).val) * 256 + (i 3).val) / 131072) 9 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v391 (o : Ops) (i : S8x4x128x256.Idx) : val_main_v391 (F := Ideal) o.x0 o.x1 o.x2 o.x9 o.x10 i = St (argsR o) (i 0).val (i 1).val (i 2).val (i 3).val 11 := by
  rw [val_main_v391_apply, val_main_v388_apply, val_main_v387_apply, val_main_v386_apply, val_main_v385_apply, val_main_v384_apply, val_main_v390_apply, val_main_v389_apply]
  rw [r_v383 o, r_v302 o, r_v300 o]
  show ((Ideal.exp (Cend (argsR o) ((((i 0).val * 4 + (i 1).val) * 128 + (i 2).val) / 512) 10 (128 * ((((i 0).val * 4 + (i 1).val) * 128 + (i 2).val) / 128 % 4) + ((((i 0).val * 4 + (i 1).val) * 128 + (i 2).val) % 128)))) * (St (argsR o) (i 0).val (i 1).val (i 2).val (i 3).val 10)) + (Kv (argsR o) (((((i 0).val * 4 + (i 1).val) * 128 + (i 2).val) * 256 + (i 3).val) / 131072) 10 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v399 (o : Ops) (i : S8x4x128x256.Idx) : val_main_v399 (F := Ideal) o.x0 o.x1 o.x2 o.x9 o.x10 i = St (argsR o) (i 0).val (i 1).val (i 2).val (i 3).val 12 := by
  rw [val_main_v399_apply, val_main_v396_apply, val_main_v395_apply, val_main_v394_apply, val_main_v393_apply, val_main_v392_apply, val_main_v398_apply, val_main_v397_apply]
  rw [r_v391 o, r_v302 o, r_v300 o]
  show ((Ideal.exp (Cend (argsR o) ((((i 0).val * 4 + (i 1).val) * 128 + (i 2).val) / 512) 11 (128 * ((((i 0).val * 4 + (i 1).val) * 128 + (i 2).val) / 128 % 4) + ((((i 0).val * 4 + (i 1).val) * 128 + (i 2).val) % 128)))) * (St (argsR o) (i 0).val (i 1).val (i 2).val (i 3).val 11)) + (Kv (argsR o) (((((i 0).val * 4 + (i 1).val) * 128 + (i 2).val) * 256 + (i 3).val) / 131072) 11 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v407 (o : Ops) (i : S8x4x128x256.Idx) : val_main_v407 (F := Ideal) o.x0 o.x1 o.x2 o.x9 o.x10 i = St (argsR o) (i 0).val (i 1).val (i 2).val (i 3).val 13 := by
  rw [val_main_v407_apply, val_main_v404_apply, val_main_v403_apply, val_main_v402_apply, val_main_v401_apply, val_main_v400_apply, val_main_v406_apply, val_main_v405_apply]
  rw [r_v399 o, r_v302 o, r_v300 o]
  show ((Ideal.exp (Cend (argsR o) ((((i 0).val * 4 + (i 1).val) * 128 + (i 2).val) / 512) 12 (128 * ((((i 0).val * 4 + (i 1).val) * 128 + (i 2).val) / 128 % 4) + ((((i 0).val * 4 + (i 1).val) * 128 + (i 2).val) % 128)))) * (St (argsR o) (i 0).val (i 1).val (i 2).val (i 3).val 12)) + (Kv (argsR o) (((((i 0).val * 4 + (i 1).val) * 128 + (i 2).val) * 256 + (i 3).val) / 131072) 12 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v415 (o : Ops) (i : S8x4x128x256.Idx) : val_main_v415 (F := Ideal) o.x0 o.x1 o.x2 o.x9 o.x10 i = St (argsR o) (i 0).val (i 1).val (i 2).val (i 3).val 14 := by
  rw [val_main_v415_apply, val_main_v412_apply, val_main_v411_apply, val_main_v410_apply, val_main_v409_apply, val_main_v408_apply, val_main_v414_apply, val_main_v413_apply]
  rw [r_v407 o, r_v302 o, r_v300 o]
  show ((Ideal.exp (Cend (argsR o) ((((i 0).val * 4 + (i 1).val) * 128 + (i 2).val) / 512) 13 (128 * ((((i 0).val * 4 + (i 1).val) * 128 + (i 2).val) / 128 % 4) + ((((i 0).val * 4 + (i 1).val) * 128 + (i 2).val) % 128)))) * (St (argsR o) (i 0).val (i 1).val (i 2).val (i 3).val 13)) + (Kv (argsR o) (((((i 0).val * 4 + (i 1).val) * 128 + (i 2).val) * 256 + (i 3).val) / 131072) 13 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v423 (o : Ops) (i : S8x4x128x256.Idx) : val_main_v423 (F := Ideal) o.x0 o.x1 o.x2 o.x9 o.x10 i = St (argsR o) (i 0).val (i 1).val (i 2).val (i 3).val 15 := by
  rw [val_main_v423_apply, val_main_v420_apply, val_main_v419_apply, val_main_v418_apply, val_main_v417_apply, val_main_v416_apply, val_main_v422_apply, val_main_v421_apply]
  rw [r_v415 o, r_v302 o, r_v300 o]
  show ((Ideal.exp (Cend (argsR o) ((((i 0).val * 4 + (i 1).val) * 128 + (i 2).val) / 512) 14 (128 * ((((i 0).val * 4 + (i 1).val) * 128 + (i 2).val) / 128 % 4) + ((((i 0).val * 4 + (i 1).val) * 128 + (i 2).val) % 128)))) * (St (argsR o) (i 0).val (i 1).val (i 2).val (i 3).val 14)) + (Kv (argsR o) (((((i 0).val * 4 + (i 1).val) * 128 + (i 2).val) * 256 + (i 3).val) / 131072) 14 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v431 (o : Ops) (i : S8x4x128x256.Idx) : val_main_v431 (F := Ideal) o.x0 o.x1 o.x2 o.x9 o.x10 i = St (argsR o) (i 0).val (i 1).val (i 2).val (i 3).val 16 := by
  rw [val_main_v431_apply, val_main_v428_apply, val_main_v427_apply, val_main_v426_apply, val_main_v425_apply, val_main_v424_apply, val_main_v430_apply, val_main_v429_apply]
  rw [r_v423 o, r_v302 o, r_v300 o]
  show ((Ideal.exp (Cend (argsR o) ((((i 0).val * 4 + (i 1).val) * 128 + (i 2).val) / 512) 15 (128 * ((((i 0).val * 4 + (i 1).val) * 128 + (i 2).val) / 128 % 4) + ((((i 0).val * 4 + (i 1).val) * 128 + (i 2).val) % 128)))) * (St (argsR o) (i 0).val (i 1).val (i 2).val (i 3).val 15)) + (Kv (argsR o) (((((i 0).val * 4 + (i 1).val) * 128 + (i 2).val) * 256 + (i 3).val) / 131072) 15 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v439 (o : Ops) (i : S8x4x128x256.Idx) : val_main_v439 (F := Ideal) o.x0 o.x1 o.x2 o.x9 o.x10 i = St (argsR o) (i 0).val (i 1).val (i 2).val (i 3).val 17 := by
  rw [val_main_v439_apply, val_main_v436_apply, val_main_v435_apply, val_main_v434_apply, val_main_v433_apply, val_main_v432_apply, val_main_v438_apply, val_main_v437_apply]
  rw [r_v431 o, r_v302 o, r_v300 o]
  show ((Ideal.exp (Cend (argsR o) ((((i 0).val * 4 + (i 1).val) * 128 + (i 2).val) / 512) 16 (128 * ((((i 0).val * 4 + (i 1).val) * 128 + (i 2).val) / 128 % 4) + ((((i 0).val * 4 + (i 1).val) * 128 + (i 2).val) % 128)))) * (St (argsR o) (i 0).val (i 1).val (i 2).val (i 3).val 16)) + (Kv (argsR o) (((((i 0).val * 4 + (i 1).val) * 128 + (i 2).val) * 256 + (i 3).val) / 131072) 16 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v447 (o : Ops) (i : S8x4x128x256.Idx) : val_main_v447 (F := Ideal) o.x0 o.x1 o.x2 o.x9 o.x10 i = St (argsR o) (i 0).val (i 1).val (i 2).val (i 3).val 18 := by
  rw [val_main_v447_apply, val_main_v444_apply, val_main_v443_apply, val_main_v442_apply, val_main_v441_apply, val_main_v440_apply, val_main_v446_apply, val_main_v445_apply]
  rw [r_v439 o, r_v302 o, r_v300 o]
  show ((Ideal.exp (Cend (argsR o) ((((i 0).val * 4 + (i 1).val) * 128 + (i 2).val) / 512) 17 (128 * ((((i 0).val * 4 + (i 1).val) * 128 + (i 2).val) / 128 % 4) + ((((i 0).val * 4 + (i 1).val) * 128 + (i 2).val) % 128)))) * (St (argsR o) (i 0).val (i 1).val (i 2).val (i 3).val 17)) + (Kv (argsR o) (((((i 0).val * 4 + (i 1).val) * 128 + (i 2).val) * 256 + (i 3).val) / 131072) 17 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v455 (o : Ops) (i : S8x4x128x256.Idx) : val_main_v455 (F := Ideal) o.x0 o.x1 o.x2 o.x9 o.x10 i = St (argsR o) (i 0).val (i 1).val (i 2).val (i 3).val 19 := by
  rw [val_main_v455_apply, val_main_v452_apply, val_main_v451_apply, val_main_v450_apply, val_main_v449_apply, val_main_v448_apply, val_main_v454_apply, val_main_v453_apply]
  rw [r_v447 o, r_v302 o, r_v300 o]
  show ((Ideal.exp (Cend (argsR o) ((((i 0).val * 4 + (i 1).val) * 128 + (i 2).val) / 512) 18 (128 * ((((i 0).val * 4 + (i 1).val) * 128 + (i 2).val) / 128 % 4) + ((((i 0).val * 4 + (i 1).val) * 128 + (i 2).val) % 128)))) * (St (argsR o) (i 0).val (i 1).val (i 2).val (i 3).val 18)) + (Kv (argsR o) (((((i 0).val * 4 + (i 1).val) * 128 + (i 2).val) * 256 + (i 3).val) / 131072) 18 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v463 (o : Ops) (i : S8x4x128x256.Idx) : val_main_v463 (F := Ideal) o.x0 o.x1 o.x2 o.x9 o.x10 i = St (argsR o) (i 0).val (i 1).val (i 2).val (i 3).val 20 := by
  rw [val_main_v463_apply, val_main_v460_apply, val_main_v459_apply, val_main_v458_apply, val_main_v457_apply, val_main_v456_apply, val_main_v462_apply, val_main_v461_apply]
  rw [r_v455 o, r_v302 o, r_v300 o]
  show ((Ideal.exp (Cend (argsR o) ((((i 0).val * 4 + (i 1).val) * 128 + (i 2).val) / 512) 19 (128 * ((((i 0).val * 4 + (i 1).val) * 128 + (i 2).val) / 128 % 4) + ((((i 0).val * 4 + (i 1).val) * 128 + (i 2).val) % 128)))) * (St (argsR o) (i 0).val (i 1).val (i 2).val (i 3).val 19)) + (Kv (argsR o) (((((i 0).val * 4 + (i 1).val) * 128 + (i 2).val) * 256 + (i 3).val) / 131072) 19 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v471 (o : Ops) (i : S8x4x128x256.Idx) : val_main_v471 (F := Ideal) o.x0 o.x1 o.x2 o.x9 o.x10 i = St (argsR o) (i 0).val (i 1).val (i 2).val (i 3).val 21 := by
  rw [val_main_v471_apply, val_main_v468_apply, val_main_v467_apply, val_main_v466_apply, val_main_v465_apply, val_main_v464_apply, val_main_v470_apply, val_main_v469_apply]
  rw [r_v463 o, r_v302 o, r_v300 o]
  show ((Ideal.exp (Cend (argsR o) ((((i 0).val * 4 + (i 1).val) * 128 + (i 2).val) / 512) 20 (128 * ((((i 0).val * 4 + (i 1).val) * 128 + (i 2).val) / 128 % 4) + ((((i 0).val * 4 + (i 1).val) * 128 + (i 2).val) % 128)))) * (St (argsR o) (i 0).val (i 1).val (i 2).val (i 3).val 20)) + (Kv (argsR o) (((((i 0).val * 4 + (i 1).val) * 128 + (i 2).val) * 256 + (i 3).val) / 131072) 20 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v479 (o : Ops) (i : S8x4x128x256.Idx) : val_main_v479 (F := Ideal) o.x0 o.x1 o.x2 o.x9 o.x10 i = St (argsR o) (i 0).val (i 1).val (i 2).val (i 3).val 22 := by
  rw [val_main_v479_apply, val_main_v476_apply, val_main_v475_apply, val_main_v474_apply, val_main_v473_apply, val_main_v472_apply, val_main_v478_apply, val_main_v477_apply]
  rw [r_v471 o, r_v302 o, r_v300 o]
  show ((Ideal.exp (Cend (argsR o) ((((i 0).val * 4 + (i 1).val) * 128 + (i 2).val) / 512) 21 (128 * ((((i 0).val * 4 + (i 1).val) * 128 + (i 2).val) / 128 % 4) + ((((i 0).val * 4 + (i 1).val) * 128 + (i 2).val) % 128)))) * (St (argsR o) (i 0).val (i 1).val (i 2).val (i 3).val 21)) + (Kv (argsR o) (((((i 0).val * 4 + (i 1).val) * 128 + (i 2).val) * 256 + (i 3).val) / 131072) 21 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v487 (o : Ops) (i : S8x4x128x256.Idx) : val_main_v487 (F := Ideal) o.x0 o.x1 o.x2 o.x9 o.x10 i = St (argsR o) (i 0).val (i 1).val (i 2).val (i 3).val 23 := by
  rw [val_main_v487_apply, val_main_v484_apply, val_main_v483_apply, val_main_v482_apply, val_main_v481_apply, val_main_v480_apply, val_main_v486_apply, val_main_v485_apply]
  rw [r_v479 o, r_v302 o, r_v300 o]
  show ((Ideal.exp (Cend (argsR o) ((((i 0).val * 4 + (i 1).val) * 128 + (i 2).val) / 512) 22 (128 * ((((i 0).val * 4 + (i 1).val) * 128 + (i 2).val) / 128 % 4) + ((((i 0).val * 4 + (i 1).val) * 128 + (i 2).val) % 128)))) * (St (argsR o) (i 0).val (i 1).val (i 2).val (i 3).val 22)) + (Kv (argsR o) (((((i 0).val * 4 + (i 1).val) * 128 + (i 2).val) * 256 + (i 3).val) / 131072) 22 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v495 (o : Ops) (i : S8x4x128x256.Idx) : val_main_v495 (F := Ideal) o.x0 o.x1 o.x2 o.x9 o.x10 i = St (argsR o) (i 0).val (i 1).val (i 2).val (i 3).val 24 := by
  rw [val_main_v495_apply, val_main_v492_apply, val_main_v491_apply, val_main_v490_apply, val_main_v489_apply, val_main_v488_apply, val_main_v494_apply, val_main_v493_apply]
  rw [r_v487 o, r_v302 o, r_v300 o]
  show ((Ideal.exp (Cend (argsR o) ((((i 0).val * 4 + (i 1).val) * 128 + (i 2).val) / 512) 23 (128 * ((((i 0).val * 4 + (i 1).val) * 128 + (i 2).val) / 128 % 4) + ((((i 0).val * 4 + (i 1).val) * 128 + (i 2).val) % 128)))) * (St (argsR o) (i 0).val (i 1).val (i 2).val (i 3).val 23)) + (Kv (argsR o) (((((i 0).val * 4 + (i 1).val) * 128 + (i 2).val) * 256 + (i 3).val) / 131072) 23 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v503 (o : Ops) (i : S8x4x128x256.Idx) : val_main_v503 (F := Ideal) o.x0 o.x1 o.x2 o.x9 o.x10 i = St (argsR o) (i 0).val (i 1).val (i 2).val (i 3).val 25 := by
  rw [val_main_v503_apply, val_main_v500_apply, val_main_v499_apply, val_main_v498_apply, val_main_v497_apply, val_main_v496_apply, val_main_v502_apply, val_main_v501_apply]
  rw [r_v495 o, r_v302 o, r_v300 o]
  show ((Ideal.exp (Cend (argsR o) ((((i 0).val * 4 + (i 1).val) * 128 + (i 2).val) / 512) 24 (128 * ((((i 0).val * 4 + (i 1).val) * 128 + (i 2).val) / 128 % 4) + ((((i 0).val * 4 + (i 1).val) * 128 + (i 2).val) % 128)))) * (St (argsR o) (i 0).val (i 1).val (i 2).val (i 3).val 24)) + (Kv (argsR o) (((((i 0).val * 4 + (i 1).val) * 128 + (i 2).val) * 256 + (i 3).val) / 131072) 24 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v511 (o : Ops) (i : S8x4x128x256.Idx) : val_main_v511 (F := Ideal) o.x0 o.x1 o.x2 o.x9 o.x10 i = St (argsR o) (i 0).val (i 1).val (i 2).val (i 3).val 26 := by
  rw [val_main_v511_apply, val_main_v508_apply, val_main_v507_apply, val_main_v506_apply, val_main_v505_apply, val_main_v504_apply, val_main_v510_apply, val_main_v509_apply]
  rw [r_v503 o, r_v302 o, r_v300 o]
  show ((Ideal.exp (Cend (argsR o) ((((i 0).val * 4 + (i 1).val) * 128 + (i 2).val) / 512) 25 (128 * ((((i 0).val * 4 + (i 1).val) * 128 + (i 2).val) / 128 % 4) + ((((i 0).val * 4 + (i 1).val) * 128 + (i 2).val) % 128)))) * (St (argsR o) (i 0).val (i 1).val (i 2).val (i 3).val 25)) + (Kv (argsR o) (((((i 0).val * 4 + (i 1).val) * 128 + (i 2).val) * 256 + (i 3).val) / 131072) 25 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v519 (o : Ops) (i : S8x4x128x256.Idx) : val_main_v519 (F := Ideal) o.x0 o.x1 o.x2 o.x9 o.x10 i = St (argsR o) (i 0).val (i 1).val (i 2).val (i 3).val 27 := by
  rw [val_main_v519_apply, val_main_v516_apply, val_main_v515_apply, val_main_v514_apply, val_main_v513_apply, val_main_v512_apply, val_main_v518_apply, val_main_v517_apply]
  rw [r_v511 o, r_v302 o, r_v300 o]
  show ((Ideal.exp (Cend (argsR o) ((((i 0).val * 4 + (i 1).val) * 128 + (i 2).val) / 512) 26 (128 * ((((i 0).val * 4 + (i 1).val) * 128 + (i 2).val) / 128 % 4) + ((((i 0).val * 4 + (i 1).val) * 128 + (i 2).val) % 128)))) * (St (argsR o) (i 0).val (i 1).val (i 2).val (i 3).val 26)) + (Kv (argsR o) (((((i 0).val * 4 + (i 1).val) * 128 + (i 2).val) * 256 + (i 3).val) / 131072) 26 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v527 (o : Ops) (i : S8x4x128x256.Idx) : val_main_v527 (F := Ideal) o.x0 o.x1 o.x2 o.x9 o.x10 i = St (argsR o) (i 0).val (i 1).val (i 2).val (i 3).val 28 := by
  rw [val_main_v527_apply, val_main_v524_apply, val_main_v523_apply, val_main_v522_apply, val_main_v521_apply, val_main_v520_apply, val_main_v526_apply, val_main_v525_apply]
  rw [r_v519 o, r_v302 o, r_v300 o]
  show ((Ideal.exp (Cend (argsR o) ((((i 0).val * 4 + (i 1).val) * 128 + (i 2).val) / 512) 27 (128 * ((((i 0).val * 4 + (i 1).val) * 128 + (i 2).val) / 128 % 4) + ((((i 0).val * 4 + (i 1).val) * 128 + (i 2).val) % 128)))) * (St (argsR o) (i 0).val (i 1).val (i 2).val (i 3).val 27)) + (Kv (argsR o) (((((i 0).val * 4 + (i 1).val) * 128 + (i 2).val) * 256 + (i 3).val) / 131072) 27 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v535 (o : Ops) (i : S8x4x128x256.Idx) : val_main_v535 (F := Ideal) o.x0 o.x1 o.x2 o.x9 o.x10 i = St (argsR o) (i 0).val (i 1).val (i 2).val (i 3).val 29 := by
  rw [val_main_v535_apply, val_main_v532_apply, val_main_v531_apply, val_main_v530_apply, val_main_v529_apply, val_main_v528_apply, val_main_v534_apply, val_main_v533_apply]
  rw [r_v527 o, r_v302 o, r_v300 o]
  show ((Ideal.exp (Cend (argsR o) ((((i 0).val * 4 + (i 1).val) * 128 + (i 2).val) / 512) 28 (128 * ((((i 0).val * 4 + (i 1).val) * 128 + (i 2).val) / 128 % 4) + ((((i 0).val * 4 + (i 1).val) * 128 + (i 2).val) % 128)))) * (St (argsR o) (i 0).val (i 1).val (i 2).val (i 3).val 28)) + (Kv (argsR o) (((((i 0).val * 4 + (i 1).val) * 128 + (i 2).val) * 256 + (i 3).val) / 131072) 28 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v543 (o : Ops) (i : S8x4x128x256.Idx) : val_main_v543 (F := Ideal) o.x0 o.x1 o.x2 o.x9 o.x10 i = St (argsR o) (i 0).val (i 1).val (i 2).val (i 3).val 30 := by
  rw [val_main_v543_apply, val_main_v540_apply, val_main_v539_apply, val_main_v538_apply, val_main_v537_apply, val_main_v536_apply, val_main_v542_apply, val_main_v541_apply]
  rw [r_v535 o, r_v302 o, r_v300 o]
  show ((Ideal.exp (Cend (argsR o) ((((i 0).val * 4 + (i 1).val) * 128 + (i 2).val) / 512) 29 (128 * ((((i 0).val * 4 + (i 1).val) * 128 + (i 2).val) / 128 % 4) + ((((i 0).val * 4 + (i 1).val) * 128 + (i 2).val) % 128)))) * (St (argsR o) (i 0).val (i 1).val (i 2).val (i 3).val 29)) + (Kv (argsR o) (((((i 0).val * 4 + (i 1).val) * 128 + (i 2).val) * 256 + (i 3).val) / 131072) 29 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v551 (o : Ops) (i : S8x4x128x256.Idx) : val_main_v551 (F := Ideal) o.x0 o.x1 o.x2 o.x9 o.x10 i = St (argsR o) (i 0).val (i 1).val (i 2).val (i 3).val 31 := by
  rw [val_main_v551_apply, val_main_v548_apply, val_main_v547_apply, val_main_v546_apply, val_main_v545_apply, val_main_v544_apply, val_main_v550_apply, val_main_v549_apply]
  rw [r_v543 o, r_v302 o, r_v300 o]
  show ((Ideal.exp (Cend (argsR o) ((((i 0).val * 4 + (i 1).val) * 128 + (i 2).val) / 512) 30 (128 * ((((i 0).val * 4 + (i 1).val) * 128 + (i 2).val) / 128 % 4) + ((((i 0).val * 4 + (i 1).val) * 128 + (i 2).val) % 128)))) * (St (argsR o) (i 0).val (i 1).val (i 2).val (i 3).val 30)) + (Kv (argsR o) (((((i 0).val * 4 + (i 1).val) * 128 + (i 2).val) * 256 + (i 3).val) / 131072) 30 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

theorem r_v559 (o : Ops) (i : S8x4x128x256.Idx) : val_main_v559 (F := Ideal) o.x0 o.x1 o.x2 o.x9 o.x10 i = St (argsR o) (i 0).val (i 1).val (i 2).val (i 3).val 32 := by
  rw [val_main_v559_apply, val_main_v556_apply, val_main_v555_apply, val_main_v554_apply, val_main_v553_apply, val_main_v552_apply, val_main_v558_apply, val_main_v557_apply]
  rw [r_v551 o, r_v302 o, r_v300 o]
  show ((Ideal.exp (Cend (argsR o) ((((i 0).val * 4 + (i 1).val) * 128 + (i 2).val) / 512) 31 (128 * ((((i 0).val * 4 + (i 1).val) * 128 + (i 2).val) / 128 % 4) + ((((i 0).val * 4 + (i 1).val) * 128 + (i 2).val) % 128)))) * (St (argsR o) (i 0).val (i 1).val (i 2).val (i 3).val 31)) + (Kv (argsR o) (((((i 0).val * 4 + (i 1).val) * 128 + (i 2).val) * 256 + (i 3).val) / 131072) 31 (((((i 0).val * 4 + (i 1).val) * 128 + (i 2).val) * 256 + (i 3).val) / 32768 % 4) (((((i 0).val * 4 + (i 1).val) * 128 + (i 2).val) * 256 + (i 3).val) / 256 % 128) (((((i 0).val * 4 + (i 1).val) * 128 + (i 2).val) * 256 + (i 3).val) % 256)) = _
  rw [q1 i, q2 i, q3 i, q4 i, q5 i, q6 i, q7 i]
  rfl

end Cert.MixRef

end
-- ==== Proof.R5.lean ====
/- The reference read stage by stage: the read-out, the merge and the result. -/
module

public import Idealize.ShloMosaic.Lib.Pipeline.Value
public import Idealize.ShloMosaic.Lib.Pipeline.ValueKit
public import proofs.«01_k».proof.Proof.R2
public import proofs.«01_k».proof.Proof.R4

@[expose] public section

set_option maxRecDepth 16384

noncomputable section

namespace Cert.MixRef

open Cert.Mix

open Idealize.ShloMosaic Idealize.ShloMosaic.TcCoe Idealize.SL.Sem
open Cert.ReferenceIdeal Cert.ReferenceIdeal.Gen Cert.ReferenceIdeal.Read
theorem st_at (a : Args) {b b' h h' k k' v v' : ℕ} (n n' : ℕ) (h0 : b = b') (h2 : h = h') (h3 : k = k') (h4 : v = v') (hn : n = n') :
    St a b h k v n = St a b' h' k' v' n' := by
  subst h0 h2 h3 h4 hn
  rfl

theorem r_v592 (o : Ops) (i : S8x16x4x128x256.Idx) : val_main_v592 (F := Ideal) o.x0 o.x1 o.x2 o.x9 o.x10 i = St (argsR o) (i 0).val (i 2).val (i 3).val (i 4).val ((i 1).val + 1) := by
  unfold val_main_v592
  concat_tiles x h
  · exact ((val_main_v560_apply _ _ _ _ _ x).trans (r_v311 o _)).trans (st_at (argsR o) _ _ (by assumption) (by assumption) (by assumption) (by assumption) (by omega))
  · exact ((val_main_v561_apply _ _ _ _ _ x).trans (r_v319 o _)).trans (st_at (argsR o) _ _ (by assumption) (by assumption) (by assumption) (by assumption) (by omega))
  · exact ((val_main_v562_apply _ _ _ _ _ x).trans (r_v327 o _)).trans (st_at (argsR o) _ _ (by assumption) (by assumption) (by assumption) (by assumption) (by omega))
  · exact ((val_main_v563_apply _ _ _ _ _ x).trans (r_v335 o _)).trans (st_at (argsR o) _ _ (by assumption) (by assumption) (by assumption) (by assumption) (by omega))
  · exact ((val_main_v564_apply _ _ _ _ _ x).trans (r_v343 o _)).trans (st_at (argsR o) _ _ (by assumption) (by assumption) (by assumption) (by assumption) (by omega))
  · exact ((val_main_v565_apply _ _ _ _ _ x).trans (r_v351 o _)).trans (st_at (argsR o) _ _ (by assumption) (by assumption) (by assumption) (by assumption) (by omega))
  · exact ((val_main_v566_apply _ _ _ _ _ x).trans (r_v359 o _)).trans (st_at (argsR o) _ _ (by assumption) (by assumption) (by assumption) (by assumption) (by omega))
  · exact ((val_main_v567_apply _ _ _ _ _ x).trans (r_v367 o _)).trans (st_at (argsR o) _ _ (by assumption) (by assumption) (by assumption) (by assumption) (by omega))
  · exact ((val_main_v568_apply _ _ _ _ _ x).trans (r_v375 o _)).trans (st_at (argsR o) _ _ (by assumption) (by assumption) (by assumption) (by assumption) (by omega))
  · exact ((val_main_v569_apply _ _ _ _ _ x).trans (r_v383 o _)).trans (st_at (argsR o) _ _ (by assumption) (by assumption) (by assumption) (by assumption) (by omega))
  · exact ((val_main_v570_apply _ _ _ _ _ x).trans (r_v391 o _)).trans (st_at (argsR o) _ _ (by assumption) (by assumption) (by assumption) (by assumption) (by omega))
  · exact ((val_main_v571_apply _ _ _ _ _ x).trans (r_v399 o _)).trans (st_at (argsR o) _ _ (by assumption) (by assumption) (by assumption) (by assumption) (by omega))
  · exact ((val_main_v572_apply _ _ _ _ _ x).trans (r_v407 o _)).trans (st_at (argsR o) _ _ (by assumption) (by assumption) (by assumption) (by assumption) (by omega))
  · exact ((val_main_v573_apply _ _ _ _ _ x).trans (r_v415 o _)).trans (st_at (argsR o) _ _ (by assumption) (by assumption) (by assumption) (by assumption) (by omega))
  · exact ((val_main_v574_apply _ _ _ _ _ x).trans (r_v423 o _)).trans (st_at (argsR o) _ _ (by assumption) (by assumption) (by assumption) (by assumption) (by omega))
  · exact ((val_main_v575_apply _ _ _ _ _ x).trans (r_v431 o _)).trans (st_at (argsR o) _ _ (by assumption) (by assumption) (by assumption) (by assumption) (by omega))

theorem r_v593 (o : Ops) (i : S8x16x4x128x256.Idx) : val_main_v593 (F := Ideal) o.x0 o.x1 o.x2 o.x9 o.x10 i = St (argsR o) (i 0).val (i 2).val (i 3).val (i 4).val ((i 1).val + 17) := by
  unfold val_main_v593
  concat_tiles x h
  · exact ((val_main_v576_apply _ _ _ _ _ x).trans (r_v439 o _)).trans (st_at (argsR o) _ _ (by assumption) (by assumption) (by assumption) (by assumption) (by omega))
  · exact ((val_main_v577_apply _ _ _ _ _ x).trans (r_v447 o _)).trans (st_at (argsR o) _ _ (by assumption) (by assumption) (by assumption) (by assumption) (by omega))
  · exact ((val_main_v578_apply _ _ _ _ _ x).trans (r_v455 o _)).trans (st_at (argsR o) _ _ (by assumption) (by assumption) (by assumption) (by assumption) (by omega))
  · exact ((val_main_v579_apply _ _ _ _ _ x).trans (r_v463 o _)).trans (st_at (argsR o) _ _ (by assumption) (by assumption) (by assumption) (by assumption) (by omega))
  · exact ((val_main_v580_apply _ _ _ _ _ x).trans (r_v471 o _)).trans (st_at (argsR o) _ _ (by assumption) (by assumption) (by assumption) (by assumption) (by omega))
  · exact ((val_main_v581_apply _ _ _ _ _ x).trans (r_v479 o _)).trans (st_at (argsR o) _ _ (by assumption) (by assumption) (by assumption) (by assumption) (by omega))
  · exact ((val_main_v582_apply _ _ _ _ _ x).trans (r_v487 o _)).trans (st_at (argsR o) _ _ (by assumption) (by assumption) (by assumption) (by assumption) (by omega))
  · exact ((val_main_v583_apply _ _ _ _ _ x).trans (r_v495 o _)).trans (st_at (argsR o) _ _ (by assumption) (by assumption) (by assumption) (by assumption) (by omega))
  · exact ((val_main_v584_apply _ _ _ _ _ x).trans (r_v503 o _)).trans (st_at (argsR o) _ _ (by assumption) (by assumption) (by assumption) (by assumption) (by omega))
  · exact ((val_main_v585_apply _ _ _ _ _ x).trans (r_v511 o _)).trans (st_at (argsR o) _ _ (by assumption) (by assumption) (by assumption) (by assumption) (by omega))
  · exact ((val_main_v586_apply _ _ _ _ _ x).trans (r_v519 o _)).trans (st_at (argsR o) _ _ (by assumption) (by assumption) (by assumption) (by assumption) (by omega))
  · exact ((val_main_v587_apply _ _ _ _ _ x).trans (r_v527 o _)).trans (st_at (argsR o) _ _ (by assumption) (by assumption) (by assumption) (by assumption) (by omega))
  · exact ((val_main_v588_apply _ _ _ _ _ x).trans (r_v535 o _)).trans (st_at (argsR o) _ _ (by assumption) (by assumption) (by assumption) (by assumption) (by omega))
  · exact ((val_main_v589_apply _ _ _ _ _ x).trans (r_v543 o _)).trans (st_at (argsR o) _ _ (by assumption) (by assumption) (by assumption) (by assumption) (by omega))
  · exact ((val_main_v590_apply _ _ _ _ _ x).trans (r_v551 o _)).trans (st_at (argsR o) _ _ (by assumption) (by assumption) (by assumption) (by assumption) (by omega))
  · exact ((val_main_v591_apply _ _ _ _ _ x).trans (r_v559 o _)).trans (st_at (argsR o) _ _ (by assumption) (by assumption) (by assumption) (by assumption) (by omega))

theorem r_v594 (o : Ops) (i : S8x32x4x128x256.Idx) : val_main_v594 (F := Ideal) o.x0 o.x1 o.x2 o.x9 o.x10 i = St (argsR o) (i 0).val (i 2).val (i 3).val (i 4).val ((i 1).val + 1) := by
  unfold val_main_v594
  have h1 : (i 1).val < 32 := (i 1).isLt
  by_cases h : (i 1).val < 16
  · refine (concatenate_pair_apply_left (s₁ := S8x16x4x128x256) (s₂ := S8x16x4x128x256) (1 : Fin 5) _ _ _ i rfl (ix5 (i 0) (⟨(i 1).val, h⟩ : Fin 16) (i 2) (i 3) (i 4)) fun b => ?_).trans ((r_v592 o _).trans rfl)
    fin_cases b <;> rfl
  · refine (concatenate_pair_apply_right (s₁ := S8x16x4x128x256) (s₂ := S8x16x4x128x256) (1 : Fin 5) _ _ _ i rfl rfl (ix5 (i 0) (⟨(i 1).val - 16, by omega⟩ : Fin 16) (i 2) (i 3) (i 4)) (fun b hb => ?_) ?_).trans ((r_v593 o _).trans ?_)
    · fin_cases b
      · rfl
      · exact absurd rfl hb
      · rfl
      · rfl
      · rfl
    · show (i 1).val - 16 + 16 = (i 1).val
      omega
    · show St (argsR o) (i 0).val (i 2).val (i 3).val (i 4).val ((i 1).val - 16 + 17) = _
      rw [show (i 1).val - 16 + 17 = (i 1).val + 1 by omega]

theorem r_v595 (o : Ops) (i : S8x32x4x256x64.Idx) : val_main_v595 (F := Ideal) o.x0 o.x1 o.x2 o.x9 o.x10 i = ∑ k : Fin 128, (H (argsR o) (i 0).val (64 * ((i 1).val) + (i 4).val) (2048 + (128 * ((i 2).val) + k.val)) * Ideal.ofBits FTy.f32 1035273459#32) * (St (argsR o) (i 0).val (i 2).val k.val (i 3).val ((i 1).val + 1)) := by
  rw [val_main_v595_apply]
  show _ = ∑ k : Fin 128, (H (argsR o) (i 0).val (64 * ((i 1).val) + (i 4).val) (2048 + (128 * ((i 2).val) + k.val)) * Ideal.ofBits FTy.f32 1035273459#32) * (St (argsR o) (i 0).val (i 2).val k.val (i 3).val ((i 1).val + 1))
  refine Finset.sum_congr rfl fun k _ => ?_
  rw [r_v594 o, r_v290 o, mul_comm]
  all_goals rfl

theorem r_v596 (o : Ops) (i : S8x32x64x4x256.Idx) : val_main_v596 (F := Ideal) o.x0 o.x1 o.x2 o.x9 o.x10 i = ∑ k : Fin 128, (H (argsR o) (i 0).val (64 * ((i 1).val) + (i 2).val) (2048 + (128 * ((i 3).val) + k.val)) * Ideal.ofBits FTy.f32 1035273459#32) * (St (argsR o) (i 0).val (i 3).val k.val (i 4).val ((i 1).val + 1)) := by
  rw [val_main_v596_apply, r_v595 o]
  all_goals rfl

theorem r_v597 (o : Ops) (i : S8x2048x4x256.Idx) : val_main_v597 (F := Ideal) o.x0 o.x1 o.x2 o.x9 o.x10 i = O (argsR o) (i 0).val (i 1).val (i 2).val (i 3).val := by
  rw [val_main_v597_apply, r_v596 o]
  have h0 : (i 0).val < 8 := (i 0).isLt
  have h1 : (i 1).val < 2048 := (i 1).isLt
  have h2 : (i 2).val < 4 := (i 2).isLt
  have h3 : (i 3).val < 256 := (i 3).isLt
  show ∑ k : Fin 128, (H (argsR o) (((((i 0).val * 2048 + (i 1).val) * 4 + (i 2).val) * 256 + (i 3).val) / 2097152) (64 * (((((i 0).val * 2048 + (i 1).val) * 4 + (i 2).val) * 256 + (i 3).val) / 65536 % 32) + ((((i 0).val * 2048 + (i 1).val) * 4 + (i 2).val) * 256 + (i 3).val) / 1024 % 64) (2048 + (128 * (((((i 0).val * 2048 + (i 1).val) * 4 + (i 2).val) * 256 + (i 3).val) / 256 % 4) + k.val)) * Ideal.ofBits FTy.f32 1035273459#32) * (St (argsR o) (((((i 0).val * 2048 + (i 1).val) * 4 + (i 2).val) * 256 + (i 3).val) / 2097152) (((((i 0).val * 2048 + (i 1).val) * 4 + (i 2).val) * 256 + (i 3).val) / 256 % 4) k.val (((((i 0).val * 2048 + (i 1).val) * 4 + (i 2).val) * 256 + (i 3).val) % 256) (((((i 0).val * 2048 + (i 1).val) * 4 + (i 2).val) * 256 + (i 3).val) / 65536 % 32 + 1)) = _
  rw [show ((((i 0).val * 2048 + (i 1).val) * 4 + (i 2).val) * 256 + (i 3).val) / 2097152 = (i 0).val from by omega, show ((((i 0).val * 2048 + (i 1).val) * 4 + (i 2).val) * 256 + (i 3).val) / 65536 % 32 = (i 1).val / 64 from by omega, show ((((i 0).val * 2048 + (i 1).val) * 4 + (i 2).val) * 256 + (i 3).val) / 1024 % 64 = (i 1).val % 64 from by omega, show ((((i 0).val * 2048 + (i 1).val) * 4 + (i 2).val) * 256 + (i 3).val) / 256 % 4 = (i 2).val from by omega, show ((((i 0).val * 2048 + (i 1).val) * 4 + (i 2).val) * 256 + (i 3).val) % 256 = (i 3).val from by omega]
  rw [show 64 * ((i 1).val / 64) + (i 1).val % 64 = (i 1).val from by omega]
  all_goals rfl

theorem r_v598 (o : Ops) (i : S8x2048x4x256.Idx) : val_main_v598 (F := Ideal) o.x0 o.x1 o.x2 o.x9 o.x10 i = O (argsR o) (i 0).val (i 1).val (i 2).val (i 3).val * O (argsR o) (i 0).val (i 1).val (i 2).val (i 3).val := by
  rw [val_main_v598_apply, r_v597 o]
  all_goals rfl

theorem r_cst_9 (o : Ops) (i : S_.Idx) : val_main_cst_9 (F := Ideal) i = 0 := by
  exact zero_bits

theorem r_cst_10 (o : Ops) (i : S_.Idx) : val_main_cst_10 (F := Ideal) i = Ideal.ofBits FTy.f32 1132462080#32 := by
  rfl

theorem r_cst_11 (o : Ops) (i : S_.Idx) : val_main_cst_11 (F := Ideal) i = Ideal.ofBits FTy.f32 897988541#32 := by
  rfl

theorem r_cst_12 (o : Ops) (i : S_.Idx) : val_main_cst_12 (F := Ideal) i = 1 := by
  exact one_bits

theorem r_cst_13 (o : Ops) (i : S_.Idx) : val_main_cst_13 (F := Ideal) i = 1 := by
  exact one_bits

theorem r_cst_14 (o : Ops) (i : S_.Idx) : val_main_cst_14 (F := Ideal) i = 1 := by
  exact one_bits

theorem r_cst_15 (o : Ops) (i : S_.Idx) : val_main_cst_15 (F := Ideal) i = 1 := by
  exact one_bits

theorem r_cst_16 (o : Ops) (i : S_.Idx) : val_main_cst_16 (F := Ideal) i = Ideal.ofBits FTy.f32 1066940400#32 := by
  rfl

theorem r_cst_17 (o : Ops) (i : S_.Idx) : val_main_cst_17 (F := Ideal) i = 0 := by
  exact zero_bits

theorem r_cst_18 (o : Ops) (i : S_.Idx) : val_main_cst_18 (F := Ideal) i = Ideal.ofBits FTy.f32 1149239296#32 := by
  rfl

theorem r_cst_19 (o : Ops) (i : S_.Idx) : val_main_cst_19 (F := Ideal) i = 0 := by
  exact zero_bits

theorem r_cst_20 (o : Ops) (i : S_.Idx) : val_main_cst_20 (F := Ideal) i = Ideal.ofBits FTy.f32 1149239296#32 := by
  rfl

theorem r_cst_21 (o : Ops) (i : S_.Idx) : val_main_cst_21 (F := Ideal) i = Ideal.ofBits FTy.f32 925353388#32 := by
  rfl

theorem r_v599 (o : Ops) (i : S8x2048x4.Idx) : val_main_v599 (F := Ideal) o.x0 o.x1 o.x2 o.x9 o.x10 i = ∑ k : Fin 256, (O (argsR o) (i 0).val (i 1).val (i 2).val k.val * O (argsR o) (i 0).val (i 1).val (i 2).val k.val) := by
  rw [val_main_v599_apply, r_cst_9 o, zero_add]
  show _ = ∑ k : Fin 256, (O (argsR o) (i 0).val (i 1).val (i 2).val k.val * O (argsR o) (i 0).val (i 1).val (i 2).val k.val)
  refine Finset.sum_congr rfl fun k _ => ?_
  rw [r_v598 o]
  all_goals rfl

theorem r_v600 (o : Ops) (i : S8x2048x4x1.Idx) : val_main_v600 (F := Ideal) o.x0 o.x1 o.x2 o.x9 o.x10 i = ∑ k : Fin 256, (O (argsR o) (i 0).val (i 1).val (i 2).val k.val * O (argsR o) (i 0).val (i 1).val (i 2).val k.val) := by
  rw [val_main_v600_apply, r_v599 o]
  all_goals rfl

theorem r_v601 (o : Ops) (i : S8x2048x4x1.Idx) : val_main_v601 (F := Ideal) i = Ideal.ofBits FTy.f32 1132462080#32 := by
  rw [val_main_v601_apply, r_cst_10 o]
  all_goals rfl

theorem r_v602 (o : Ops) (i : S8x2048x4x1.Idx) : val_main_v602 (F := Ideal) o.x0 o.x1 o.x2 o.x9 o.x10 i = Ideal.div (∑ k : Fin 256, (O (argsR o) (i 0).val (i 1).val (i 2).val k.val * O (argsR o) (i 0).val (i 1).val (i 2).val k.val)) (Ideal.ofBits FTy.f32 1132462080#32) := by
  rw [val_main_v602_apply, r_v600 o, r_v601 o]
  all_goals rfl

theorem r_v603 (o : Ops) (i : S8x2048x4x1.Idx) : val_main_v603 (F := Ideal) i = Ideal.ofBits FTy.f32 897988541#32 := by
  rw [val_main_v603_apply, r_cst_11 o]
  all_goals rfl

theorem r_v605 (o : Ops) (i : S8x2048x4x1.Idx) : val_main_v605 (F := Ideal) o.x0 o.x1 o.x2 o.x9 o.x10 i = Ideal.rsqrt (Ideal.div (∑ k : Fin 256, (O (argsR o) (i 0).val (i 1).val (i 2).val k.val * O (argsR o) (i 0).val (i 1).val (i 2).val k.val)) (Ideal.ofBits FTy.f32 1132462080#32) + Ideal.ofBits FTy.f32 897988541#32) := by
  rw [val_main_v605_apply, val_main_v604_apply, r_v602 o, r_v603 o]
  all_goals rfl

theorem r_v606 (o : Ops) (i : S8x2048x4x256.Idx) : val_main_v606 (F := Ideal) o.x0 o.x1 o.x2 o.x9 o.x10 i = Ideal.rsqrt (Ideal.div (∑ k : Fin 256, (O (argsR o) (i 0).val (i 1).val (i 2).val k.val * O (argsR o) (i 0).val (i 1).val (i 2).val k.val)) (Ideal.ofBits FTy.f32 1132462080#32) + Ideal.ofBits FTy.f32 897988541#32) := by
  rw [val_main_v606_apply, r_v605 o]
  all_goals rfl

theorem r_v607 (o : Ops) (i : S8x2048x4x256.Idx) : val_main_v607 (F := Ideal) o.x0 o.x1 o.x2 o.x9 o.x10 i = O (argsR o) (i 0).val (i 1).val (i 2).val (i 3).val * Ideal.rsqrt (Ideal.div (∑ k : Fin 256, (O (argsR o) (i 0).val (i 1).val (i 2).val k.val * O (argsR o) (i 0).val (i 1).val (i 2).val k.val)) (Ideal.ofBits FTy.f32 1132462080#32) + Ideal.ofBits FTy.f32 897988541#32) := by
  rw [val_main_v607_apply, r_v597 o, r_v606 o]
  all_goals rfl

theorem r_v608 (o : Ops) (i : S1x1x4x256.Idx) : val_main_v608 (F := Ideal) o.x11 i = (argsR o).Ng (i 2).val (i 3).val := by
  rw [val_main_v608_apply, r_v279 o]
  all_goals rfl

theorem r_v609 (o : Ops) (i : S8x2048x4x256.Idx) : val_main_v609 (F := Ideal) o.x11 i = (argsR o).Ng (i 2).val (i 3).val := by
  rw [val_main_v609_apply, r_v608 o]
  all_goals rfl

theorem r_v610 (o : Ops) (i : S8x2048x4x256.Idx) : val_main_v610 (F := Ideal) o.x0 o.x1 o.x2 o.x9 o.x10 o.x11 i = O (argsR o) (i 0).val (i 1).val (i 2).val (i 3).val * Ideal.rsqrt (Ideal.div (∑ k : Fin 256, (O (argsR o) (i 0).val (i 1).val (i 2).val k.val * O (argsR o) (i 0).val (i 1).val (i 2).val k.val)) (Ideal.ofBits FTy.f32 1132462080#32) + Ideal.ofBits FTy.f32 897988541#32) * (argsR o).Ng (i 2).val (i 3).val := by
  rw [val_main_v610_apply, r_v607 o, r_v609 o]
  all_goals rfl

theorem r_call4_cst (o : Ops) (i : S_.Idx) : val_main_call4_cst (F := Ideal) i = 1 := by
  exact one_bits

theorem r_call4_cst_0 (o : Ops) (i : S_.Idx) : val_main_call4_cst_0 (F := Ideal) i = 1 := by
  exact one_bits

theorem r_call4_v2 (o : Ops) (i : S8x2048x1024.Idx) : val_main_call4_v2 (F := Ideal) i = 1 := by
  rw [val_main_call4_v2_apply, r_call4_cst o]
  all_goals rfl

theorem r_call4_v4 (o : Ops) (i : S8x2048x1024.Idx) : val_main_call4_v4 (F := Ideal) i = 1 := by
  rw [val_main_call4_v4_apply, r_call4_cst_0 o]
  all_goals rfl

theorem r_call4_v5 (o : Ops) (i : S8x2048x1024.Idx) : val_main_call4_v5 (F := Ideal) o.x0 o.x1 o.x2 i = Ideal.logistic (H (argsR o) (i 0).val (i 1).val (4096 + (i 2).val)) := by
  rw [val_main_call4_v5_apply, val_main_call4_v3_apply, val_main_call4_v1_apply, val_main_call4_v0_apply, r_call4_v4 o, r_call4_v2 o, r_v11 o]
  all_goals rfl

theorem r_v611 (o : Ops) (i : S8x2048x1024.Idx) : val_main_v611 (F := Ideal) o.x0 o.x1 o.x2 i = H (argsR o) (i 0).val (i 1).val (4096 + (i 2).val) * Ideal.logistic (H (argsR o) (i 0).val (i 1).val (4096 + (i 2).val)) := by
  rw [val_main_v611_apply, r_v11 o, r_call4_v5 o]
  all_goals rfl

theorem r_v612 (o : Ops) (i : S8x2048x4x256.Idx) : val_main_v612 (F := Ideal) o.x0 o.x1 o.x2 i = H (argsR o) (i 0).val (i 1).val (4096 + (256 * (i 2).val + (i 3).val)) * Ideal.logistic (H (argsR o) (i 0).val (i 1).val (4096 + (256 * (i 2).val + (i 3).val))) := by
  rw [val_main_v612_apply, r_v611 o]
  have h0 : (i 0).val < 8 := (i 0).isLt
  have h1 : (i 1).val < 2048 := (i 1).isLt
  have h2 : (i 2).val < 4 := (i 2).isLt
  have h3 : (i 3).val < 256 := (i 3).isLt
  show H (argsR o) (((((i 0).val * 2048 + (i 1).val) * 4 + (i 2).val) * 256 + (i 3).val) / 2097152) (((((i 0).val * 2048 + (i 1).val) * 4 + (i 2).val) * 256 + (i 3).val) / 1024 % 2048) (4096 + ((((i 0).val * 2048 + (i 1).val) * 4 + (i 2).val) * 256 + (i 3).val) % 1024) * Ideal.logistic (H (argsR o) (((((i 0).val * 2048 + (i 1).val) * 4 + (i 2).val) * 256 + (i 3).val) / 2097152) (((((i 0).val * 2048 + (i 1).val) * 4 + (i 2).val) * 256 + (i 3).val) / 1024 % 2048) (4096 + ((((i 0).val * 2048 + (i 1).val) * 4 + (i 2).val) * 256 + (i 3).val) % 1024)) = _
  rw [show ((((i 0).val * 2048 + (i 1).val) * 4 + (i 2).val) * 256 + (i 3).val) / 2097152 = (i 0).val from by omega, show ((((i 0).val * 2048 + (i 1).val) * 4 + (i 2).val) * 256 + (i 3).val) / 1024 % 2048 = (i 1).val from by omega, show ((((i 0).val * 2048 + (i 1).val) * 4 + (i 2).val) * 256 + (i 3).val) % 1024 = (256 * (i 2).val + (i 3).val) from by omega]
  all_goals rfl

theorem r_v613 (o : Ops) (i : S8x2048x4x256.Idx) : val_main_v613 (F := Ideal) o.x0 o.x1 o.x2 o.x9 o.x10 o.x11 i = Og (argsR o) (i 0).val (i 1).val (i 2).val (i 3).val := by
  rw [val_main_v613_apply, r_v610 o, r_v612 o]
  all_goals rfl

theorem r_v614 (o : Ops) (i : S8x2048x1024.Idx) : val_main_v614 (F := Ideal) o.x0 o.x1 o.x2 o.x9 o.x10 o.x11 i = Og (argsR o) (i 0).val (i 1).val ((i 2).val / 256) ((i 2).val % 256) := by
  rw [val_main_v614_apply, r_v613 o]
  have h0 : (i 0).val < 8 := (i 0).isLt
  have h1 : (i 1).val < 2048 := (i 1).isLt
  have h2 : (i 2).val < 1024 := (i 2).isLt
  show Og (argsR o) ((((i 0).val * 2048 + (i 1).val) * 1024 + (i 2).val) / 2097152) ((((i 0).val * 2048 + (i 1).val) * 1024 + (i 2).val) / 1024 % 2048) ((((i 0).val * 2048 + (i 1).val) * 1024 + (i 2).val) / 256 % 4) ((((i 0).val * 2048 + (i 1).val) * 1024 + (i 2).val) % 256) = _
  rw [show (((i 0).val * 2048 + (i 1).val) * 1024 + (i 2).val) / 2097152 = (i 0).val from by omega, show (((i 0).val * 2048 + (i 1).val) * 1024 + (i 2).val) / 1024 % 2048 = (i 1).val from by omega, show (((i 0).val * 2048 + (i 1).val) * 1024 + (i 2).val) / 256 % 4 = (i 2).val / 256 from by omega, show (((i 0).val * 2048 + (i 1).val) * 1024 + (i 2).val) % 256 = (i 2).val % 256 from by omega]
  all_goals rfl

theorem r_v615 (o : Ops) (i : S8x2048x1024.Idx) : val_main_v615 (F := Ideal) o.x0 o.x1 o.x2 o.x9 o.x10 o.x11 o.x12 i = Yg (argsR o) (i 0).val (i 1).val (i 2).val := by
  rw [val_main_v615_apply]
  show _ = ∑ k : Fin 1024, (Og (argsR o) (i 0).val (i 1).val (k.val / 256) (k.val % 256)) * ((argsR o).Wgo k.val (i 2).val)
  refine Finset.sum_congr rfl fun k _ => ?_
  rw [r_v614 o, r_v280 o]
  all_goals rfl

theorem r_v618 (o : Ops) (i : S8x2048x1024.Idx) : val_main_v618 (F := Ideal) i = 1 := by
  rw [val_main_v618_apply, r_cst_12 o]
  all_goals rfl

theorem r_v620 (o : Ops) (i : S8x2048x1024.Idx) : val_main_v620 (F := Ideal) i = 1 := by
  rw [val_main_v620_apply, r_cst_13 o]
  all_goals rfl

theorem r_v621 (o : Ops) (i : S8x2048x1024.Idx) : val_main_v621 (F := Ideal) o.x0 o.x1 o.x2 i = Ideal.logistic (H (argsR o) (i 0).val (i 1).val (5136 + (i 2).val)) := by
  rw [val_main_v621_apply, val_main_v619_apply, val_main_v617_apply, val_main_v616_apply, r_v620 o, r_v618 o, r_v13 o]
  all_goals rfl

theorem r_v622 (o : Ops) (i : S8x2048x1024.Idx) : val_main_v622 (F := Ideal) o.x0 o.x1 o.x2 o.x3 o.x4 o.x5 o.x6 o.x7 o.x8 i = Ideal.logistic (H (argsR o) (i 0).val (i 1).val (5136 + (i 2).val)) * Yc (argsR o) (i 0).val (i 1).val (i 2).val := by
  rw [val_main_v622_apply, r_v621 o, r_v276 o]
  all_goals rfl

theorem r_v625 (o : Ops) (i : S8x2048x1024.Idx) : val_main_v625 (F := Ideal) i = 1 := by
  rw [val_main_v625_apply, r_cst_14 o]
  all_goals rfl

theorem r_v627 (o : Ops) (i : S8x2048x1024.Idx) : val_main_v627 (F := Ideal) i = 1 := by
  rw [val_main_v627_apply, r_cst_15 o]
  all_goals rfl

theorem r_v628 (o : Ops) (i : S8x2048x1024.Idx) : val_main_v628 (F := Ideal) o.x0 o.x1 o.x2 i = Ideal.logistic (H (argsR o) (i 0).val (i 1).val (6160 + (i 2).val)) := by
  rw [val_main_v628_apply, val_main_v626_apply, val_main_v624_apply, val_main_v623_apply, r_v627 o, r_v625 o, r_v14 o]
  all_goals rfl

theorem r_v629 (o : Ops) (i : S8x2048x1024.Idx) : val_main_v629 (F := Ideal) o.x0 o.x1 o.x2 o.x9 o.x10 o.x11 o.x12 i = Ideal.logistic (H (argsR o) (i 0).val (i 1).val (6160 + (i 2).val)) * Yg (argsR o) (i 0).val (i 1).val (i 2).val := by
  rw [val_main_v629_apply, r_v628 o, r_v615 o]
  all_goals rfl

theorem r_v630 (o : Ops) (i : S8x2048x1024.Idx) : val_main_v630 (F := Ideal) o.x0 o.x1 o.x2 o.x3 o.x4 o.x5 o.x6 o.x7 o.x8 o.x9 o.x10 o.x11 o.x12 i = Mg (argsR o) (i 0).val (i 1).val (i 2).val := by
  rw [val_main_v630_apply, r_v622 o, r_v629 o]
  all_goals rfl

theorem r_v631 (o : Ops) (i : S1024x1024.Idx) : val_main_v631 (F := Ideal) o.x13 i = (argsR o).Wout (i 0).val (i 1).val := by
  rw [val_main_v631_apply, a_x13 o]
  have h0 : (i 0).val < 1024 := (i 0).isLt
  have h1 : (i 1).val < 1024 := (i 1).isLt
  show (argsR o).Wout (((i 0).val * 1024 + (i 1).val) / 1024 % 1024) (((i 0).val * 1024 + (i 1).val) % 1024) = _
  rw [show ((i 0).val * 1024 + (i 1).val) / 1024 % 1024 = (i 0).val from by omega, show ((i 0).val * 1024 + (i 1).val) % 1024 = (i 1).val from by omega]
  all_goals rfl

theorem r_v632 (o : Ops) (i : S8x2048x1024.Idx) : val_main_v632 (F := Ideal) o.x0 o.x1 o.x2 o.x3 o.x4 o.x5 o.x6 o.x7 o.x8 o.x9 o.x10 o.x11 o.x12 o.x13 i = ∑ k : Fin 1024, (Mg (argsR o) (i 0).val (i 1).val k.val) * ((argsR o).Wout k.val (i 2).val) := by
  rw [val_main_v632_apply]
  show _ = ∑ k : Fin 1024, (Mg (argsR o) (i 0).val (i 1).val k.val) * ((argsR o).Wout k.val (i 2).val)
  refine Finset.sum_congr rfl fun k _ => ?_
  rw [r_v630 o, r_v631 o]
  all_goals rfl

theorem r_v633 (o : Ops) (i : S1024.Idx) : val_main_v633 (F := Ideal) o.x14 i = (argsR o).Bout (i 0).val := by
  rw [val_main_v633_apply, a_x14 o]
  have h0 : (i 0).val < 1024 := (i 0).isLt
  show (argsR o).Bout (((i 0).val) % 1024) = _
  rw [show ((i 0).val) % 1024 = (i 0).val from by omega]
  all_goals rfl

theorem r_v634 (o : Ops) (i : S1x1x1024.Idx) : val_main_v634 (F := Ideal) o.x14 i = (argsR o).Bout (i 2).val := by
  rw [val_main_v634_apply, r_v633 o]
  all_goals rfl

theorem r_v635 (o : Ops) (i : S8x2048x1024.Idx) : val_main_v635 (F := Ideal) o.x14 i = (argsR o).Bout (i 2).val := by
  rw [val_main_v635_apply, r_v634 o]
  all_goals rfl

theorem r_v636 (o : Ops) (i : S8x2048x1024.Idx) : val_main_v636 (F := Ideal) o.x0 o.x1 o.x2 o.x3 o.x4 o.x5 o.x6 o.x7 o.x8 o.x9 o.x10 o.x11 o.x12 o.x13 o.x14 i = Mix (argsR o) (i 0).val (i 1).val (i 2).val := by
  rw [val_main_v636_apply, r_v632 o, r_v635 o]
  all_goals rfl

theorem r_v637 (o : Ops) (i : S8x2048x1024.Idx) : val_main_v637 (F := Ideal) i = Ideal.ofBits FTy.f32 1066940400#32 := by
  rw [val_main_v637_apply, r_cst_16 o]
  all_goals rfl

theorem r_v638 (o : Ops) (i : S8x2048x1024.Idx) : val_main_v638 (F := Ideal) o.x0 i = Ideal.ofBits FTy.f32 1066940400#32 * (argsR o).X (i 0).val (i 1).val (i 2).val := by
  rw [val_main_v638_apply, r_v637 o, a_x0 o]
  all_goals rfl

theorem r_v639 (o : Ops) (i : S8x2048x1024.Idx) : val_main_v639 (F := Ideal) o.x0 o.x1 o.x2 o.x3 o.x4 o.x5 o.x6 o.x7 o.x8 o.x9 o.x10 o.x11 o.x12 o.x13 o.x14 i = Ideal.ofBits FTy.f32 1066940400#32 * (argsR o).X (i 0).val (i 1).val (i 2).val + Mix (argsR o) (i 0).val (i 1).val (i 2).val := by
  rw [val_main_v639_apply, r_v638 o, r_v636 o]
  all_goals rfl

theorem r_v640 (o : Ops) (i : S1024.Idx) : val_main_v640 (F := Ideal) o.x15 i = (argsR o).L1g (i 0).val := by
  rw [val_main_v640_apply, a_x15 o]
  have h0 : (i 0).val < 1024 := (i 0).isLt
  show (argsR o).L1g (((i 0).val) % 1024) = _
  rw [show ((i 0).val) % 1024 = (i 0).val from by omega]
  all_goals rfl

theorem r_v641 (o : Ops) (i : S1024.Idx) : val_main_v641 (F := Ideal) o.x16 i = (argsR o).L1b (i 0).val := by
  rw [val_main_v641_apply, a_x16 o]
  have h0 : (i 0).val < 1024 := (i 0).isLt
  show (argsR o).L1b (((i 0).val) % 1024) = _
  rw [show ((i 0).val) % 1024 = (i 0).val from by omega]
  all_goals rfl

theorem r_v642 (o : Ops) (i : S8x2048.Idx) : val_main_v642 (F := Ideal) o.x0 o.x1 o.x2 o.x3 o.x4 o.x5 o.x6 o.x7 o.x8 o.x9 o.x10 o.x11 o.x12 o.x13 o.x14 i = ∑ k : Fin 1024, (Ideal.ofBits FTy.f32 1066940400#32 * (argsR o).X (i 0).val (i 1).val k.val + Mix (argsR o) (i 0).val (i 1).val k.val) := by
  rw [val_main_v642_apply, r_cst_17 o, zero_add]
  show _ = ∑ k : Fin 1024, (Ideal.ofBits FTy.f32 1066940400#32 * (argsR o).X (i 0).val (i 1).val k.val + Mix (argsR o) (i 0).val (i 1).val k.val)
  refine Finset.sum_congr rfl fun k _ => ?_
  rw [r_v639 o]
  all_goals rfl

theorem r_v643 (o : Ops) (i : S8x2048x1.Idx) : val_main_v643 (F := Ideal) o.x0 o.x1 o.x2 o.x3 o.x4 o.x5 o.x6 o.x7 o.x8 o.x9 o.x10 o.x11 o.x12 o.x13 o.x14 i = ∑ k : Fin 1024, (Ideal.ofBits FTy.f32 1066940400#32 * (argsR o).X (i 0).val (i 1).val k.val + Mix (argsR o) (i 0).val (i 1).val k.val) := by
  rw [val_main_v643_apply, r_v642 o]
  all_goals rfl

theorem r_v644 (o : Ops) (i : S8x2048x1.Idx) : val_main_v644 (F := Ideal) i = Ideal.ofBits FTy.f32 1149239296#32 := by
  rw [val_main_v644_apply, r_cst_18 o]
  all_goals rfl

theorem r_v645 (o : Ops) (i : S8x2048x1.Idx) : val_main_v645 (F := Ideal) o.x0 o.x1 o.x2 o.x3 o.x4 o.x5 o.x6 o.x7 o.x8 o.x9 o.x10 o.x11 o.x12 o.x13 o.x14 i = mean (fun l => Ideal.ofBits FTy.f32 1066940400#32 * (argsR o).X (i 0).val (i 1).val l + Mix (argsR o) (i 0).val (i 1).val l) := by
  rw [val_main_v645_apply, r_v643 o, r_v644 o]
  all_goals rfl

theorem r_v646 (o : Ops) (i : S8x2048x1024.Idx) : val_main_v646 (F := Ideal) o.x0 o.x1 o.x2 o.x3 o.x4 o.x5 o.x6 o.x7 o.x8 o.x9 o.x10 o.x11 o.x12 o.x13 o.x14 i = mean (fun l => Ideal.ofBits FTy.f32 1066940400#32 * (argsR o).X (i 0).val (i 1).val l + Mix (argsR o) (i 0).val (i 1).val l) := by
  rw [val_main_v646_apply, r_v645 o]
  all_goals rfl

theorem r_v647 (o : Ops) (i : S8x2048x1024.Idx) : val_main_v647 (F := Ideal) o.x0 o.x1 o.x2 o.x3 o.x4 o.x5 o.x6 o.x7 o.x8 o.x9 o.x10 o.x11 o.x12 o.x13 o.x14 i = (Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l) := by
  rw [val_main_v647_apply, r_v639 o, r_v646 o]
  all_goals rfl

theorem r_v648 (o : Ops) (i : S8x2048x1024.Idx) : val_main_v648 (F := Ideal) o.x0 o.x1 o.x2 o.x3 o.x4 o.x5 o.x6 o.x7 o.x8 o.x9 o.x10 o.x11 o.x12 o.x13 o.x14 i = ((Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l)) * ((Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l)) := by
  rw [val_main_v648_apply, r_v647 o]
  all_goals rfl

theorem r_v649 (o : Ops) (i : S8x2048.Idx) : val_main_v649 (F := Ideal) o.x0 o.x1 o.x2 o.x3 o.x4 o.x5 o.x6 o.x7 o.x8 o.x9 o.x10 o.x11 o.x12 o.x13 o.x14 i = ∑ k : Fin 1024, (((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l)) * ((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l))) := by
  rw [val_main_v649_apply, r_cst_19 o, zero_add]
  show _ = ∑ k : Fin 1024, (((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l)) * ((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l)))
  refine Finset.sum_congr rfl fun k _ => ?_
  rw [r_v648 o]
  all_goals rfl

theorem r_v650 (o : Ops) (i : S8x2048x1.Idx) : val_main_v650 (F := Ideal) o.x0 o.x1 o.x2 o.x3 o.x4 o.x5 o.x6 o.x7 o.x8 o.x9 o.x10 o.x11 o.x12 o.x13 o.x14 i = ∑ k : Fin 1024, (((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l)) * ((Ideal.ofBits FTy.f32 1066940400#32 * (argsR o).X (i 0).val (i 1).val k.val + Mix (argsR o) (i 0).val (i 1).val k.val) - mean (fun l => Ideal.ofBits FTy.f32 1066940400#32 * (argsR o).X (i 0).val (i 1).val l + Mix (argsR o) (i 0).val (i 1).val l))) := by
  rw [val_main_v650_apply, r_v649 o]
  all_goals rfl

theorem r_v651 (o : Ops) (i : S8x2048x1.Idx) : val_main_v651 (F := Ideal) i = Ideal.ofBits FTy.f32 1149239296#32 := by
  rw [val_main_v651_apply, r_cst_20 o]
  all_goals rfl

theorem r_v652 (o : Ops) (i : S8x2048x1.Idx) : val_main_v652 (F := Ideal) o.x0 o.x1 o.x2 o.x3 o.x4 o.x5 o.x6 o.x7 o.x8 o.x9 o.x10 o.x11 o.x12 o.x13 o.x14 i = var (fun l => Ideal.ofBits FTy.f32 1066940400#32 * (argsR o).X (i 0).val (i 1).val l + Mix (argsR o) (i 0).val (i 1).val l) (mean (fun l => Ideal.ofBits FTy.f32 1066940400#32 * (argsR o).X (i 0).val (i 1).val l + Mix (argsR o) (i 0).val (i 1).val l)) := by
  rw [val_main_v652_apply, r_v650 o, r_v651 o]
  all_goals rfl

theorem r_v653 (o : Ops) (i : S8x2048x1024.Idx) : val_main_v653 (F := Ideal) o.x0 o.x1 o.x2 o.x3 o.x4 o.x5 o.x6 o.x7 o.x8 o.x9 o.x10 o.x11 o.x12 o.x13 o.x14 i = mean (fun l => Ideal.ofBits FTy.f32 1066940400#32 * (argsR o).X (i 0).val (i 1).val l + Mix (argsR o) (i 0).val (i 1).val l) := by
  rw [val_main_v653_apply, r_v645 o]
  all_goals rfl

theorem r_v654 (o : Ops) (i : S8x2048x1024.Idx) : val_main_v654 (F := Ideal) o.x0 o.x1 o.x2 o.x3 o.x4 o.x5 o.x6 o.x7 o.x8 o.x9 o.x10 o.x11 o.x12 o.x13 o.x14 i = (Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l) := by
  rw [val_main_v654_apply, r_v639 o, r_v653 o]
  all_goals rfl

theorem r_v655 (o : Ops) (i : S8x2048x1.Idx) : val_main_v655 (F := Ideal) i = Ideal.ofBits FTy.f32 925353388#32 := by
  rw [val_main_v655_apply, r_cst_21 o]
  all_goals rfl

theorem r_v657 (o : Ops) (i : S8x2048x1.Idx) : val_main_v657 (F := Ideal) o.x0 o.x1 o.x2 o.x3 o.x4 o.x5 o.x6 o.x7 o.x8 o.x9 o.x10 o.x11 o.x12 o.x13 o.x14 i = Ideal.rsqrt (var (fun l => Ideal.ofBits FTy.f32 1066940400#32 * (argsR o).X (i 0).val (i 1).val l + Mix (argsR o) (i 0).val (i 1).val l) (mean (fun l => Ideal.ofBits FTy.f32 1066940400#32 * (argsR o).X (i 0).val (i 1).val l + Mix (argsR o) (i 0).val (i 1).val l)) + Ideal.ofBits FTy.f32 925353388#32) := by
  rw [val_main_v657_apply, val_main_v656_apply, r_v652 o, r_v655 o]
  all_goals rfl

theorem r_v658 (o : Ops) (i : S8x2048x1024.Idx) : val_main_v658 (F := Ideal) o.x0 o.x1 o.x2 o.x3 o.x4 o.x5 o.x6 o.x7 o.x8 o.x9 o.x10 o.x11 o.x12 o.x13 o.x14 i = Ideal.rsqrt (var (fun l => Ideal.ofBits FTy.f32 1066940400#32 * (argsR o).X (i 0).val (i 1).val l + Mix (argsR o) (i 0).val (i 1).val l) (mean (fun l => Ideal.ofBits FTy.f32 1066940400#32 * (argsR o).X (i 0).val (i 1).val l + Mix (argsR o) (i 0).val (i 1).val l)) + Ideal.ofBits FTy.f32 925353388#32) := by
  rw [val_main_v658_apply, r_v657 o]
  all_goals rfl

theorem r_v659 (o : Ops) (i : S8x2048x1024.Idx) : val_main_v659 (F := Ideal) o.x0 o.x1 o.x2 o.x3 o.x4 o.x5 o.x6 o.x7 o.x8 o.x9 o.x10 o.x11 o.x12 o.x13 o.x14 i = ((Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l)) * Ideal.rsqrt (var (fun l => Ideal.ofBits FTy.f32 1066940400#32 * (argsR o).X (i 0).val (i 1).val l + Mix (argsR o) (i 0).val (i 1).val l) (mean (fun l => Ideal.ofBits FTy.f32 1066940400#32 * (argsR o).X (i 0).val (i 1).val l + Mix (argsR o) (i 0).val (i 1).val l)) + Ideal.ofBits FTy.f32 925353388#32) := by
  rw [val_main_v659_apply, r_v654 o, r_v658 o]
  all_goals rfl

theorem r_v660 (o : Ops) (i : S1x1x1024.Idx) : val_main_v660 (F := Ideal) o.x15 i = (argsR o).L1g (i 2).val := by
  rw [val_main_v660_apply, r_v640 o]
  all_goals rfl

theorem r_v661 (o : Ops) (i : S8x2048x1024.Idx) : val_main_v661 (F := Ideal) o.x15 i = (argsR o).L1g (i 2).val := by
  rw [val_main_v661_apply, r_v660 o]
  all_goals rfl

theorem r_v662 (o : Ops) (i : S8x2048x1024.Idx) : val_main_v662 (F := Ideal) o.x0 o.x1 o.x2 o.x3 o.x4 o.x5 o.x6 o.x7 o.x8 o.x9 o.x10 o.x11 o.x12 o.x13 o.x14 o.x15 i = ((Ideal.ofBits FTy.f32 1066940400#32 * (argsR o).X (i 0).val (i 1).val (i 2).val + Mix (argsR o) (i 0).val (i 1).val (i 2).val) - mean (fun l => Ideal.ofBits FTy.f32 1066940400#32 * (argsR o).X (i 0).val (i 1).val l + Mix (argsR o) (i 0).val (i 1).val l)) * Ideal.rsqrt (var (fun l => Ideal.ofBits FTy.f32 1066940400#32 * (argsR o).X (i 0).val (i 1).val l + Mix (argsR o) (i 0).val (i 1).val l) (mean (fun l => Ideal.ofBits FTy.f32 1066940400#32 * (argsR o).X (i 0).val (i 1).val l + Mix (argsR o) (i 0).val (i 1).val l)) + Ideal.ofBits FTy.f32 925353388#32) * (argsR o).L1g (i 2).val := by
  rw [val_main_v662_apply, r_v659 o, r_v661 o]
  all_goals rfl

theorem r_v663 (o : Ops) (i : S1x1x1024.Idx) : val_main_v663 (F := Ideal) o.x16 i = (argsR o).L1b (i 2).val := by
  rw [val_main_v663_apply, r_v641 o]
  all_goals rfl

theorem r_v664 (o : Ops) (i : S8x2048x1024.Idx) : val_main_v664 (F := Ideal) o.x16 i = (argsR o).L1b (i 2).val := by
  rw [val_main_v664_apply, r_v663 o]
  all_goals rfl

theorem r_v665 (o : Ops) (i : S8x2048x1024.Idx) : val_main_v665 (F := Ideal) o.x0 o.x1 o.x2 o.x3 o.x4 o.x5 o.x6 o.x7 o.x8 o.x9 o.x10 o.x11 o.x12 o.x13 o.x14 o.x15 o.x16 i = Out (argsR o) (i 0).val (i 1).val (i 2).val := by
  rw [val_main_v665_apply, r_v662 o, r_v664 o]
  all_goals rfl

theorem r_v666 (o : Ops) (i : S16384x1024.Idx) : val_main_v666 (F := Ideal) o.x0 o.x1 o.x2 o.x3 o.x4 o.x5 o.x6 o.x7 o.x8 o.x9 o.x10 o.x11 o.x12 o.x13 o.x14 o.x15 o.x16 i = Out (argsR o) ((i 0).val / 2048) ((i 0).val % 2048) (i 1).val := by
  rw [val_main_v666_apply, r_v665 o]
  have h0 : (i 0).val < 16384 := (i 0).isLt
  have h1 : (i 1).val < 1024 := (i 1).isLt
  show Out (argsR o) (((i 0).val * 1024 + (i 1).val) / 2097152) (((i 0).val * 1024 + (i 1).val) / 1024 % 2048) (((i 0).val * 1024 + (i 1).val) % 1024) = _
  rw [show ((i 0).val * 1024 + (i 1).val) / 2097152 = (i 0).val / 2048 from by omega, show ((i 0).val * 1024 + (i 1).val) / 1024 % 2048 = (i 0).val % 2048 from by omega, show ((i 0).val * 1024 + (i 1).val) % 1024 = (i 1).val from by omega]
  all_goals rfl

end Cert.MixRef

end
-- ==== Proof.Same.lean ====
/- The kernel and the reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.R5

@[expose] public section

set_option maxRecDepth 16384

noncomputable section

namespace Cert.Mix

open Idealize.ShloMosaic Idealize.ShloMosaic.TcCoe Idealize.SL.Sem
open Idealize.ShloMosaic Idealize.ShloMosaic.TcCoe Idealize.SL.Sem
open Cert.MixRef

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments on a device. -/
def opsOf (c : Dev Cert.ReferenceIdeal.nD) : Ops := ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16)⟩

/-- Equal argument arrays are equal arguments. -/
theorem args_eq (c : Dev Cert.KernelIdeal.nD) (o : Ops)
    (e0 : o.x0 = m ((c.tc : Thread Cert.KernelIdeal.nD Cert.KernelIdeal.τ).loc Cert.KernelIdeal.main_arg0))
    (e1 : o.x1 = m ((c.tc : Thread Cert.KernelIdeal.nD Cert.KernelIdeal.τ).loc Cert.KernelIdeal.main_arg1))
    (e2 : o.x2 = m ((c.tc : Thread Cert.KernelIdeal.nD Cert.KernelIdeal.τ).loc Cert.KernelIdeal.main_arg2))
    (e3 : o.x3 = m ((c.tc : Thread Cert.KernelIdeal.nD Cert.KernelIdeal.τ).loc Cert.KernelIdeal.main_arg3))
    (e4 : o.x4 = m ((c.tc : Thread Cert.KernelIdeal.nD Cert.KernelIdeal.τ).loc Cert.KernelIdeal.main_arg4))
    (e5 : o.x5 = m ((c.tc : Thread Cert.KernelIdeal.nD Cert.KernelIdeal.τ).loc Cert.KernelIdeal.main_arg5))
    (e6 : o.x6 = m ((c.tc : Thread Cert.KernelIdeal.nD Cert.KernelIdeal.τ).loc Cert.KernelIdeal.main_arg6))
    (e7 : o.x7 = m ((c.tc : Thread Cert.KernelIdeal.nD Cert.KernelIdeal.τ).loc Cert.KernelIdeal.main_arg7))
    (e8 : o.x8 = m ((c.tc : Thread Cert.KernelIdeal.nD Cert.KernelIdeal.τ).loc Cert.KernelIdeal.main_arg8))
    (e9 : o.x9 = m ((c.tc : Thread Cert.KernelIdeal.nD Cert.KernelIdeal.τ).loc Cert.KernelIdeal.main_arg9))
    (e10 : o.x10 = m ((c.tc : Thread Cert.KernelIdeal.nD Cert.KernelIdeal.τ).loc Cert.KernelIdeal.main_arg10))
    (e11 : o.x11 = m ((c.tc : Thread Cert.KernelIdeal.nD Cert.KernelIdeal.τ).loc Cert.KernelIdeal.main_arg11))
    (e12 : o.x12 = m ((c.tc : Thread Cert.KernelIdeal.nD Cert.KernelIdeal.τ).loc Cert.KernelIdeal.main_arg12))
    (e13 : o.x13 = m ((c.tc : Thread Cert.KernelIdeal.nD Cert.KernelIdeal.τ).loc Cert.KernelIdeal.main_arg13))
    (e14 : o.x14 = m ((c.tc : Thread Cert.KernelIdeal.nD Cert.KernelIdeal.τ).loc Cert.KernelIdeal.main_arg14))
    (e15 : o.x15 = m ((c.tc : Thread Cert.KernelIdeal.nD Cert.KernelIdeal.τ).loc Cert.KernelIdeal.main_arg15))
    (e16 : o.x16 = m ((c.tc : Thread Cert.KernelIdeal.nD Cert.KernelIdeal.τ).loc Cert.KernelIdeal.main_arg16))
    : argsR o = argsK m c := by
  unfold argsR argsK
  rw [e0, e1, e2, e3, e4, e5, e6, e7, e8, e9, e10, e11, e12, e13, e14, e15, e16]

/-- The two programs end with one result. -/
theorem same_result : Cert.algebraic_KernelIdeal_ReferenceIdeal := by
  intro m g m' g' _ he
  refine ⟨fun c => outArr (argsK m c), run_kernel m g, ?_⟩
  refine (θ_run Cert.ReferenceIdeal.defs _ _).mono (fun r h c => ⟨(h c).1.trans ((Cert.ReferenceIdeal.Read.val_main_v666_eq _).trans ?_), (h c).2⟩) (Cert.ReferenceIdeal.Value.run (F := Ideal) m' g')
  obtain ⟨e0, e1, e2, e3, e4, e5, e6, e7, e8, e9, e10, e11, e12, e13, e14, e15, e16⟩ := he c
  have ea : argsR (opsOf m' c) = argsK m c := args_eq m c _ e0 e1 e2 e3 e4 e5 e6 e7 e8 e9 e10 e11 e12 e13 e14 e15 e16
  refine Eq.trans (b := outArr (argsR (opsOf m' c))) (funext fun i => ?_) (congrArg outArr ea)
  exact r_v666 (opsOf m' c) i

end Cert.Mix

end
-- ==== Proof.lean ====
module

public import proofs.«01_k».proof.Proof.Frames
public import proofs.«01_k».proof.Proof.Gen.ReferenceIdeal.Read
public import proofs.«01_k».proof.Proof.Same

@[expose] public section

noncomputable section

namespace Cert.Proof

theorem claim : Cert.Claim := ⟨Cert.Kernel.Gen.facts, Cert.KernelIdeal.Gen.facts, Cert.ReferenceIdeal.Gen.facts,
  frame_kernel, frame_ideal, frame_reference, trivial, Cert.Mix.same_result⟩

end Cert.Proof

end
